-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnReferenceIdeal (m : (ℓ : Loc Cert.FfnReferenceIdeal.nD Cert.FfnReferenceIdeal.τ Cert.FfnReferenceIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeReferenceIdeal (m : (ℓ : Loc Cert.MergeReferenceIdeal.nD Cert.MergeReferenceIdeal.τ Cert.MergeReferenceIdeal.sig) → Buf (Elt Ideal) ℓ) : Prop :=
  True

def Pre_OutLn (m : (ℓ : Loc Cert.OutLn.nD Cert.OutLn.τ Cert.OutLn.sig) → Buf (Elt Bits) ℓ) : Prop :=
  True

def Pre_OutLnIdeal (m : (ℓ : Loc Cert.OutLnIdeal.nD Cert.OutLnIdeal.τ Cert.OutLnIdeal.sig) → Buf (Elt Ideal) ℓ) : Prop :=
  True

def Pre_OutLnReferenceIdeal (m : (ℓ : Loc Cert.OutLnReferenceIdeal.nD Cert.OutLnReferenceIdeal.τ Cert.OutLnReferenceIdeal.sig) → Buf (Elt Ideal) ℓ) : Prop :=
  True

def Pre_ProjV (m : (ℓ : Loc Cert.ProjV.nD Cert.ProjV.τ Cert.ProjV.sig) → Buf (Elt Bits) ℓ) : Prop :=
  True

def Pre_ProjVIdeal (m : (ℓ : Loc Cert.ProjVIdeal.nD Cert.ProjVIdeal.τ Cert.ProjVIdeal.sig) → Buf (Elt Ideal) ℓ) : Prop :=
  True

def Pre_ProjVReferenceIdeal (m : (ℓ : Loc Cert.ProjVReferenceIdeal.nD Cert.ProjVReferenceIdeal.τ Cert.ProjVReferenceIdeal.sig) → Buf (Elt Ideal) ℓ) : Prop :=
  True

def Pre_Gates (m : (ℓ : Loc Cert.Gates.nD Cert.Gates.τ Cert.Gates.sig) → Buf (Elt Bits) ℓ) : Prop :=
  True

def Pre_GatesIdeal (m : (ℓ : Loc Cert.GatesIdeal.nD Cert.GatesIdeal.τ Cert.GatesIdeal.sig) → Buf (Elt Ideal) ℓ) : Prop :=
  True

def Pre_GatesReferenceIdeal (m : (ℓ : Loc Cert.GatesReferenceIdeal.nD Cert.GatesReferenceIdeal.τ Cert.GatesReferenceIdeal.sig) → Buf (Elt Ideal) ℓ) : Prop :=
  True

def Pre_Lat (m : (ℓ : Loc Cert.Lat.nD Cert.Lat.τ Cert.Lat.sig) → Buf (Elt Bits) ℓ) : Prop :=
  True

def Pre_LatIdeal (m : (ℓ : Loc Cert.LatIdeal.nD Cert.LatIdeal.τ Cert.LatIdeal.sig) → Buf (Elt Ideal) ℓ) : Prop :=
  True

def Pre_LatReferenceIdeal (m : (ℓ : Loc Cert.LatReferenceIdeal.nD Cert.LatReferenceIdeal.τ Cert.LatReferenceIdeal.sig) → Buf (Elt Ideal) ℓ) : Prop :=
  True

def Pre_Krope (m : (ℓ : Loc Cert.Krope.nD Cert.Krope.τ Cert.Krope.sig) → Buf (Elt Bits) ℓ) : Prop :=
  True

def Pre_KropeIdeal (m : (ℓ : Loc Cert.KropeIdeal.nD Cert.KropeIdeal.τ Cert.KropeIdeal.sig) → Buf (Elt Ideal) ℓ) : Prop :=
  True

def Pre_KropeReferenceIdeal (m : (ℓ : Loc Cert.KropeReferenceIdeal.nD Cert.KropeReferenceIdeal.τ Cert.KropeReferenceIdeal.sig) → Buf (Elt Ideal) ℓ) : Prop :=
  True

def Pre_QHeads (m : (ℓ : Loc Cert.QHeads.nD Cert.QHeads.τ Cert.QHeads.sig) → Buf (Elt Bits) ℓ) : Prop :=
  True

def Pre_QHeadsIdeal (m : (ℓ : Loc Cert.QHeadsIdeal.nD Cert.QHeadsIdeal.τ Cert.QHeadsIdeal.sig) → Buf (Elt Ideal) ℓ) : Prop :=
  True

def Pre_QHeadsReferenceIdeal (m : (ℓ : Loc Cert.QHeadsReferenceIdeal.nD Cert.QHeadsReferenceIdeal.τ Cert.QHeadsReferenceIdeal.sig) → Buf (Elt Ideal) ℓ) : Prop :=
  True

def Pre_KvUp (m : (ℓ : Loc Cert.KvUp.nD Cert.KvUp.τ Cert.KvUp.sig) → Buf (Elt Bits) ℓ) : Prop :=
  True

def Pre_KvUpIdeal (m : (ℓ : Loc Cert.KvUpIdeal.nD Cert.KvUpIdeal.τ Cert.KvUpIdeal.sig) → Buf (Elt Ideal) ℓ) : Prop :=
  True

def Pre_KvUpReferenceIdeal (m : (ℓ : Loc Cert.KvUpReferenceIdeal.nD Cert.KvUpReferenceIdeal.τ Cert.KvUpReferenceIdeal.sig) → Buf (Elt Ideal) ℓ) : Prop :=
  True

def Pre_Tail (m : (ℓ : Loc Cert.Tail.nD Cert.Tail.τ Cert.Tail.sig) → Buf (Elt Bits) ℓ) : Prop :=
  True

def Pre_TailIdeal (m : (ℓ : Loc Cert.TailIdeal.nD Cert.TailIdeal.τ Cert.TailIdeal.sig) → Buf (Elt Ideal) ℓ) : Prop :=
  True

def Pre_TailReferenceIdeal (m : (ℓ : Loc Cert.TailReferenceIdeal.nD Cert.TailReferenceIdeal.τ Cert.TailReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ r.2.sem = fun _ => 0)

def quiescent_FfnReferenceIdeal [hFfnReferenceIdeal : Cert.FfnReferenceIdeal.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3)
      ∧ r.2.mem ((c.tc : Thread Cert.FfnReferenceIdeal.nD Cert.FfnReferenceIdeal.τ).loc Cert.FfnReferenceIdeal.main_arg4) = m ((c.tc : Thread Cert.FfnReferenceIdeal.nD Cert.FfnReferenceIdeal.τ).loc Cert.FfnReferenceIdeal.main_arg4))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4))
      ∧ r.2.sem = fun _ => 0)

def quiescent_MergeReferenceIdeal [hMergeReferenceIdeal : Cert.MergeReferenceIdeal.Facts] : Prop :=
  ∀ (m : (ℓ : Loc Cert.MergeReferenceIdeal.nD Cert.MergeReferenceIdeal.τ Cert.MergeReferenceIdeal.sig) → Buf (Elt Ideal) ℓ) (g : Dev Cert.MergeReferenceIdeal.nD → PrngReg), Pre_MergeReferenceIdeal m →
    θ_run (Cert.MergeReferenceIdeal.defs (F := Ideal)) (onTc (τ := Cert.MergeReferenceIdeal.τ) (Cert.MergeReferenceIdeal.main (F := Ideal))) ⟨m, fun _ => 0, g⟩ (fun r => (∀ c : Dev Cert.MergeReferenceIdeal.nD,
      r.2.mem ((c.tc : Thread Cert.MergeReferenceIdeal.nD Cert.MergeReferenceIdeal.τ).loc Cert.MergeReferenceIdeal.main_arg0) = m ((c.tc : Thread Cert.MergeReferenceIdeal.nD Cert.MergeReferenceIdeal.τ).loc Cert.MergeReferenceIdeal.main_arg0)
      ∧ r.2.mem ((c.tc : Thread Cert.MergeReferenceIdeal.nD Cert.MergeReferenceIdeal.τ).loc Cert.MergeReferenceIdeal.main_arg1) = m ((c.tc : Thread Cert.MergeReferenceIdeal.nD Cert.MergeReferenceIdeal.τ).loc Cert.MergeReferenceIdeal.main_arg1)
      ∧ r.2.mem ((c.tc : Thread Cert.MergeReferenceIdeal.nD Cert.MergeReferenceIdeal.τ).loc Cert.MergeReferenceIdeal.main_arg2) = m ((c.tc : Thread Cert.MergeReferenceIdeal.nD Cert.MergeReferenceIdeal.τ).loc Cert.MergeReferenceIdeal.main_arg2)
      ∧ r.2.mem ((c.tc : Thread Cert.MergeReferenceIdeal.nD Cert.MergeReferenceIdeal.τ).loc Cert.MergeReferenceIdeal.main_arg3) = m ((c.tc : Thread Cert.MergeReferenceIdeal.nD Cert.MergeReferenceIdeal.τ).loc Cert.MergeReferenceIdeal.main_arg3)
      ∧ r.2.mem ((c.tc : Thread Cert.MergeReferenceIdeal.nD Cert.MergeReferenceIdeal.τ).loc Cert.MergeReferenceIdeal.main_arg4) = m ((c.tc : Thread Cert.MergeReferenceIdeal.nD Cert.MergeReferenceIdeal.τ).loc Cert.MergeReferenceIdeal.main_arg4))
      ∧ r.2.sem = fun _ => 0)

def quiescent_OutLn [hOutLn : Cert.OutLn.Facts] : Prop :=
  ∀ (m : (ℓ : Loc Cert.OutLn.nD Cert.OutLn.τ Cert.OutLn.sig) → Buf (Elt Bits) ℓ) (g : Dev Cert.OutLn.nD → PrngReg), Pre_OutLn m →
    θ_run (Cert.OutLn.defs (F := Bits)) (onTc (τ := Cert.OutLn.τ) (Cert.OutLn.main (F := Bits))) ⟨m, fun _ => 0, g⟩ (fun r => (∀ c : Dev Cert.OutLn.nD,
      r.2.mem ((c.tc : Thread Cert.OutLn.nD Cert.OutLn.τ).loc Cert.OutLn.main_arg0) = m ((c.tc : Thread Cert.OutLn.nD Cert.OutLn.τ).loc Cert.OutLn.main_arg0)
      ∧ r.2.mem ((c.tc : Thread Cert.OutLn.nD Cert.OutLn.τ).loc Cert.OutLn.main_arg1) = m ((c.tc : Thread Cert.OutLn.nD Cert.OutLn.τ).loc Cert.OutLn.main_arg1)
      ∧ r.2.mem ((c.tc : Thread Cert.OutLn.nD Cert.OutLn.τ).loc Cert.OutLn.main_arg2) = m ((c.tc : Thread Cert.OutLn.nD Cert.OutLn.τ).loc Cert.OutLn.main_arg2)
      ∧ r.2.mem ((c.tc : Thread Cert.OutLn.nD Cert.OutLn.τ).loc Cert.OutLn.main_arg3) = m ((c.tc : Thread Cert.OutLn.nD Cert.OutLn.τ).loc Cert.OutLn.main_arg3)
      ∧ r.2.mem ((c.tc : Thread Cert.OutLn.nD Cert.OutLn.τ).loc Cert.OutLn.main_arg4) = m ((c.tc : Thread Cert.OutLn.nD Cert.OutLn.τ).loc Cert.OutLn.main_arg4))
      ∧ r.2.sem = fun _ => 0)

def quiescent_OutLnIdeal [hOutLnIdeal : Cert.OutLnIdeal.Facts] : Prop :=
  ∀ (m : (ℓ : Loc Cert.OutLnIdeal.nD Cert.OutLnIdeal.τ Cert.OutLnIdeal.sig) → Buf (Elt Ideal) ℓ) (g : Dev Cert.OutLnIdeal.nD → PrngReg), Pre_OutLnIdeal m →
    θ_run (Cert.OutLnIdeal.defs (F := Ideal)) (onTc (τ := Cert.OutLnIdeal.τ) (Cert.OutLnIdeal.main (F := Ideal))) ⟨m, fun _ => 0, g⟩ (fun r => (∀ c : Dev Cert.OutLnIdeal.nD,
      r.2.mem ((c.tc : Thread Cert.OutLnIdeal.nD Cert.OutLnIdeal.τ).loc Cert.OutLnIdeal.main_arg0) = m ((c.tc : Thread Cert.OutLnIdeal.nD Cert.OutLnIdeal.τ).loc Cert.OutLnIdeal.main_arg0)
      ∧ r.2.mem ((c.tc : Thread Cert.OutLnIdeal.nD Cert.OutLnIdeal.τ).loc Cert.OutLnIdeal.main_arg1) = m ((c.tc : Thread Cert.OutLnIdeal.nD Cert.OutLnIdeal.τ).loc Cert.OutLnIdeal.main_arg1)
      ∧ r.2.mem ((c.tc : Thread Cert.OutLnIdeal.nD Cert.OutLnIdeal.τ).loc Cert.OutLnIdeal.main_arg2) = m ((c.tc : Thread Cert.OutLnIdeal.nD Cert.OutLnIdeal.τ).loc Cert.OutLnIdeal.main_arg2)
      ∧ r.2.mem ((c.tc : Thread Cert.OutLnIdeal.nD Cert.OutLnIdeal.τ).loc Cert.OutLnIdeal.main_arg3) = m ((c.tc : Thread Cert.OutLnIdeal.nD Cert.OutLnIdeal.τ).loc Cert.OutLnIdeal.main_arg3)
      ∧ r.2.mem ((c.tc : Thread Cert.OutLnIdeal.nD Cert.OutLnIdeal.τ).loc Cert.OutLnIdeal.main_arg4) = m ((c.tc : Thread Cert.OutLnIdeal.nD Cert.OutLnIdeal.τ).loc Cert.OutLnIdeal.main_arg4))
      ∧ r.2.sem = fun _ => 0)

def quiescent_OutLnReferenceIdeal [hOutLnReferenceIdeal : Cert.OutLnReferenceIdeal.Facts] : Prop :=
  ∀ (m : (ℓ : Loc Cert.OutLnReferenceIdeal.nD Cert.OutLnReferenceIdeal.τ Cert.OutLnReferenceIdeal.sig) → Buf (Elt Ideal) ℓ) (g : Dev Cert.OutLnReferenceIdeal.nD → PrngReg), Pre_OutLnReferenceIdeal m →
    θ_run (Cert.OutLnReferenceIdeal.defs (F := Ideal)) (onTc (τ := Cert.OutLnReferenceIdeal.τ) (Cert.OutLnReferenceIdeal.main (F := Ideal))) ⟨m, fun _ => 0, g⟩ (fun r => (∀ c : Dev Cert.OutLnReferenceIdeal.nD,
      r.2.mem ((c.tc : Thread Cert.OutLnReferenceIdeal.nD Cert.OutLnReferenceIdeal.τ).loc Cert.OutLnReferenceIdeal.main_arg0) = m ((c.tc : Thread Cert.OutLnReferenceIdeal.nD Cert.OutLnReferenceIdeal.τ).loc Cert.OutLnReferenceIdeal.main_arg0)
      ∧ r.2.mem ((c.tc : Thread Cert.OutLnReferenceIdeal.nD Cert.OutLnReferenceIdeal.τ).loc Cert.OutLnReferenceIdeal.main_arg1) = m ((c.tc : Thread Cert.OutLnReferenceIdeal.nD Cert.OutLnReferenceIdeal.τ).loc Cert.OutLnReferenceIdeal.main_arg1)
      ∧ r.2.mem ((c.tc : Thread Cert.OutLnReferenceIdeal.nD Cert.OutLnReferenceIdeal.τ).loc Cert.OutLnReferenceIdeal.main_arg2) = m ((c.tc : Thread Cert.OutLnReferenceIdeal.nD Cert.OutLnReferenceIdeal.τ).loc Cert.OutLnReferenceIdeal.main_arg2)
      ∧ r.2.mem ((c.tc : Thread Cert.OutLnReferenceIdeal.nD Cert.OutLnReferenceIdeal.τ).loc Cert.OutLnReferenceIdeal.main_arg3) = m ((c.tc : Thread Cert.OutLnReferenceIdeal.nD Cert.OutLnReferenceIdeal.τ).loc Cert.OutLnReferenceIdeal.main_arg3)
      ∧ r.2.mem ((c.tc : Thread Cert.OutLnReferenceIdeal.nD Cert.OutLnReferenceIdeal.τ).loc Cert.OutLnReferenceIdeal.main_arg4) = m ((c.tc : Thread Cert.OutLnReferenceIdeal.nD Cert.OutLnReferenceIdeal.τ).loc Cert.OutLnReferenceIdeal.main_arg4))
      ∧ r.2.sem = fun _ => 0)

def quiescent_ProjV [hProjV : Cert.ProjV.Facts] : Prop :=
  ∀ (m : (ℓ : Loc Cert.ProjV.nD Cert.ProjV.τ Cert.ProjV.sig) → Buf (Elt Bits) ℓ) (g : Dev Cert.ProjV.nD → PrngReg), Pre_ProjV m →
    θ_run (Cert.ProjV.defs (F := Bits)) (onTc (τ := Cert.ProjV.τ) (Cert.ProjV.main (F := Bits))) ⟨m, fun _ => 0, g⟩ (fun r => (∀ c : Dev Cert.ProjV.nD,
      r.2.mem ((c.tc : Thread Cert.ProjV.nD Cert.ProjV.τ).loc Cert.ProjV.main_arg0) = m ((c.tc : Thread Cert.ProjV.nD Cert.ProjV.τ).loc Cert.ProjV.main_arg0)
      ∧ r.2.mem ((c.tc : Thread Cert.ProjV.nD Cert.ProjV.τ).loc Cert.ProjV.main_arg1) = m ((c.tc : Thread Cert.ProjV.nD Cert.ProjV.τ).loc Cert.ProjV.main_arg1))
      ∧ r.2.sem = fun _ => 0)

def quiescent_ProjVIdeal [hProjVIdeal : Cert.ProjVIdeal.Facts] : Prop :=
  ∀ (m : (ℓ : Loc Cert.ProjVIdeal.nD Cert.ProjVIdeal.τ Cert.ProjVIdeal.sig) → Buf (Elt Ideal) ℓ) (g : Dev Cert.ProjVIdeal.nD → PrngReg), Pre_ProjVIdeal m →
    θ_run (Cert.ProjVIdeal.defs (F := Ideal)) (onTc (τ := Cert.ProjVIdeal.τ) (Cert.ProjVIdeal.main (F := Ideal))) ⟨m, fun _ => 0, g⟩ (fun r => (∀ c : Dev Cert.ProjVIdeal.nD,
      r.2.mem ((c.tc : Thread Cert.ProjVIdeal.nD Cert.ProjVIdeal.τ).loc Cert.ProjVIdeal.main_arg0) = m ((c.tc : Thread Cert.ProjVIdeal.nD Cert.ProjVIdeal.τ).loc Cert.ProjVIdeal.main_arg0)
      ∧ r.2.mem ((c.tc : Thread Cert.ProjVIdeal.nD Cert.ProjVIdeal.τ).loc Cert.ProjVIdeal.main_arg1) = m ((c.tc : Thread Cert.ProjVIdeal.nD Cert.ProjVIdeal.τ).loc Cert.ProjVIdeal.main_arg1))
      ∧ r.2.sem = fun _ => 0)

def quiescent_ProjVReferenceIdeal [hProjVReferenceIdeal : Cert.ProjVReferenceIdeal.Facts] : Prop :=
  ∀ (m : (ℓ : Loc Cert.ProjVReferenceIdeal.nD Cert.ProjVReferenceIdeal.τ Cert.ProjVReferenceIdeal.sig) → Buf (Elt Ideal) ℓ) (g : Dev Cert.ProjVReferenceIdeal.nD → PrngReg), Pre_ProjVReferenceIdeal m →
    θ_run (Cert.ProjVReferenceIdeal.defs (F := Ideal)) (onTc (τ := Cert.ProjVReferenceIdeal.τ) (Cert.ProjVReferenceIdeal.main (F := Ideal))) ⟨m, fun _ => 0, g⟩ (fun r => (∀ c : Dev Cert.ProjVReferenceIdeal.nD,
      r.2.mem ((c.tc : Thread Cert.ProjVReferenceIdeal.nD Cert.ProjVReferenceIdeal.τ).loc Cert.ProjVReferenceIdeal.main_arg0) = m ((c.tc : Thread Cert.ProjVReferenceIdeal.nD Cert.ProjVReferenceIdeal.τ).loc Cert.ProjVReferenceIdeal.main_arg0)
      ∧ r.2.mem ((c.tc : Thread Cert.ProjVReferenceIdeal.nD Cert.ProjVReferenceIdeal.τ).loc Cert.ProjVReferenceIdeal.main_arg1) = m ((c.tc : Thread Cert.ProjVReferenceIdeal.nD Cert.ProjVReferenceIdeal.τ).loc Cert.ProjVReferenceIdeal.main_arg1))
      ∧ r.2.sem = fun _ => 0)

def quiescent_Gates [hGates : Cert.Gates.Facts] : Prop :=
  ∀ (m : (ℓ : Loc Cert.Gates.nD Cert.Gates.τ Cert.Gates.sig) → Buf (Elt Bits) ℓ) (g : Dev Cert.Gates.nD → PrngReg), Pre_Gates m →
    θ_run (Cert.Gates.defs (F := Bits)) (onTc (τ := Cert.Gates.τ) (Cert.Gates.main (F := Bits))) ⟨m, fun _ => 0, g⟩ (fun r => (∀ c : Dev Cert.Gates.nD,
      r.2.mem ((c.tc : Thread Cert.Gates.nD Cert.Gates.τ).loc Cert.Gates.main_arg0) = m ((c.tc : Thread Cert.Gates.nD Cert.Gates.τ).loc Cert.Gates.main_arg0)
      ∧ r.2.mem ((c.tc : Thread Cert.Gates.nD Cert.Gates.τ).loc Cert.Gates.main_arg1) = m ((c.tc : Thread Cert.Gates.nD Cert.Gates.τ).loc Cert.Gates.main_arg1))
      ∧ r.2.sem = fun _ => 0)

def quiescent_GatesIdeal [hGatesIdeal : Cert.GatesIdeal.Facts] : Prop :=
  ∀ (m : (ℓ : Loc Cert.GatesIdeal.nD Cert.GatesIdeal.τ Cert.GatesIdeal.sig) → Buf (Elt Ideal) ℓ) (g : Dev Cert.GatesIdeal.nD → PrngReg), Pre_GatesIdeal m →
    θ_run (Cert.GatesIdeal.defs (F := Ideal)) (onTc (τ := Cert.GatesIdeal.τ) (Cert.GatesIdeal.main (F := Ideal))) ⟨m, fun _ => 0, g⟩ (fun r => (∀ c : Dev Cert.GatesIdeal.nD,
      r.2.mem ((c.tc : Thread Cert.GatesIdeal.nD Cert.GatesIdeal.τ).loc Cert.GatesIdeal.main_arg0) = m ((c.tc : Thread Cert.GatesIdeal.nD Cert.GatesIdeal.τ).loc Cert.GatesIdeal.main_arg0)
      ∧ r.2.mem ((c.tc : Thread Cert.GatesIdeal.nD Cert.GatesIdeal.τ).loc Cert.GatesIdeal.main_arg1) = m ((c.tc : Thread Cert.GatesIdeal.nD Cert.GatesIdeal.τ).loc Cert.GatesIdeal.main_arg1))
      ∧ r.2.sem = fun _ => 0)

def quiescent_GatesReferenceIdeal [hGatesReferenceIdeal : Cert.GatesReferenceIdeal.Facts] : Prop :=
  ∀ (m : (ℓ : Loc Cert.GatesReferenceIdeal.nD Cert.GatesReferenceIdeal.τ Cert.GatesReferenceIdeal.sig) → Buf (Elt Ideal) ℓ) (g : Dev Cert.GatesReferenceIdeal.nD → PrngReg), Pre_GatesReferenceIdeal m →
    θ_run (Cert.GatesReferenceIdeal.defs (F := Ideal)) (onTc (τ := Cert.GatesReferenceIdeal.τ) (Cert.GatesReferenceIdeal.main (F := Ideal))) ⟨m, fun _ => 0, g⟩ (fun r => (∀ c : Dev Cert.GatesReferenceIdeal.nD,
      r.2.mem ((c.tc : Thread Cert.GatesReferenceIdeal.nD Cert.GatesReferenceIdeal.τ).loc Cert.GatesReferenceIdeal.main_arg0) = m ((c.tc : Thread Cert.GatesReferenceIdeal.nD Cert.GatesReferenceIdeal.τ).loc Cert.GatesReferenceIdeal.main_arg0)
      ∧ r.2.mem ((c.tc : Thread Cert.GatesReferenceIdeal.nD Cert.GatesReferenceIdeal.τ).loc Cert.GatesReferenceIdeal.main_arg1) = m ((c.tc : Thread Cert.GatesReferenceIdeal.nD Cert.GatesReferenceIdeal.τ).loc Cert.GatesReferenceIdeal.main_arg1))
      ∧ r.2.sem = fun _ => 0)

def quiescent_Lat [hLat : Cert.Lat.Facts] : Prop :=
  ∀ (m : (ℓ : Loc Cert.Lat.nD Cert.Lat.τ Cert.Lat.sig) → Buf (Elt Bits) ℓ) (g : Dev Cert.Lat.nD → PrngReg), Pre_Lat m →
    θ_run (Cert.Lat.defs (F := Bits)) (onTc (τ := Cert.Lat.τ) (Cert.Lat.main (F := Bits))) ⟨m, fun _ => 0, g⟩ (fun r => (∀ c : Dev Cert.Lat.nD,
      r.2.mem ((c.tc : Thread Cert.Lat.nD Cert.Lat.τ).loc Cert.Lat.main_arg0) = m ((c.tc : Thread Cert.Lat.nD Cert.Lat.τ).loc Cert.Lat.main_arg0)
      ∧ r.2.mem ((c.tc : Thread Cert.Lat.nD Cert.Lat.τ).loc Cert.Lat.main_arg1) = m ((c.tc : Thread Cert.Lat.nD Cert.Lat.τ).loc Cert.Lat.main_arg1)
      ∧ r.2.mem ((c.tc : Thread Cert.Lat.nD Cert.Lat.τ).loc Cert.Lat.main_arg2) = m ((c.tc : Thread Cert.Lat.nD Cert.Lat.τ).loc Cert.Lat.main_arg2)
      ∧ r.2.mem ((c.tc : Thread Cert.Lat.nD Cert.Lat.τ).loc Cert.Lat.main_arg3) = m ((c.tc : Thread Cert.Lat.nD Cert.Lat.τ).loc Cert.Lat.main_arg3))
      ∧ r.2.sem = fun _ => 0)

def quiescent_LatIdeal [hLatIdeal : Cert.LatIdeal.Facts] : Prop :=
  ∀ (m : (ℓ : Loc Cert.LatIdeal.nD Cert.LatIdeal.τ Cert.LatIdeal.sig) → Buf (Elt Ideal) ℓ) (g : Dev Cert.LatIdeal.nD → PrngReg), Pre_LatIdeal m →
    θ_run (Cert.LatIdeal.defs (F := Ideal)) (onTc (τ := Cert.LatIdeal.τ) (Cert.LatIdeal.main (F := Ideal))) ⟨m, fun _ => 0, g⟩ (fun r => (∀ c : Dev Cert.LatIdeal.nD,
      r.2.mem ((c.tc : Thread Cert.LatIdeal.nD Cert.LatIdeal.τ).loc Cert.LatIdeal.main_arg0) = m ((c.tc : Thread Cert.LatIdeal.nD Cert.LatIdeal.τ).loc Cert.LatIdeal.main_arg0)
      ∧ r.2.mem ((c.tc : Thread Cert.LatIdeal.nD Cert.LatIdeal.τ).loc Cert.LatIdeal.main_arg1) = m ((c.tc : Thread Cert.LatIdeal.nD Cert.LatIdeal.τ).loc Cert.LatIdeal.main_arg1)
      ∧ r.2.mem ((c.tc : Thread Cert.LatIdeal.nD Cert.LatIdeal.τ).loc Cert.LatIdeal.main_arg2) = m ((c.tc : Thread Cert.LatIdeal.nD Cert.LatIdeal.τ).loc Cert.LatIdeal.main_arg2)
      ∧ r.2.mem ((c.tc : Thread Cert.LatIdeal.nD Cert.LatIdeal.τ).loc Cert.LatIdeal.main_arg3) = m ((c.tc : Thread Cert.LatIdeal.nD Cert.LatIdeal.τ).loc Cert.LatIdeal.main_arg3))
      ∧ r.2.sem = fun _ => 0)

def quiescent_LatReferenceIdeal [hLatReferenceIdeal : Cert.LatReferenceIdeal.Facts] : Prop :=
  ∀ (m : (ℓ : Loc Cert.LatReferenceIdeal.nD Cert.LatReferenceIdeal.τ Cert.LatReferenceIdeal.sig) → Buf (Elt Ideal) ℓ) (g : Dev Cert.LatReferenceIdeal.nD → PrngReg), Pre_LatReferenceIdeal m →
    θ_run (Cert.LatReferenceIdeal.defs (F := Ideal)) (onTc (τ := Cert.LatReferenceIdeal.τ) (Cert.LatReferenceIdeal.main (F := Ideal))) ⟨m, fun _ => 0, g⟩ (fun r => (∀ c : Dev Cert.LatReferenceIdeal.nD,
      r.2.mem ((c.tc : Thread Cert.LatReferenceIdeal.nD Cert.LatReferenceIdeal.τ).loc Cert.LatReferenceIdeal.main_arg0) = m ((c.tc : Thread Cert.LatReferenceIdeal.nD Cert.LatReferenceIdeal.τ).loc Cert.LatReferenceIdeal.main_arg0)
      ∧ r.2.mem ((c.tc : Thread Cert.LatReferenceIdeal.nD Cert.LatReferenceIdeal.τ).loc Cert.LatReferenceIdeal.main_arg1) = m ((c.tc : Thread Cert.LatReferenceIdeal.nD Cert.LatReferenceIdeal.τ).loc Cert.LatReferenceIdeal.main_arg1)
      ∧ r.2.mem ((c.tc : Thread Cert.LatReferenceIdeal.nD Cert.LatReferenceIdeal.τ).loc Cert.LatReferenceIdeal.main_arg2) = m ((c.tc : Thread Cert.LatReferenceIdeal.nD Cert.LatReferenceIdeal.τ).loc Cert.LatReferenceIdeal.main_arg2)
      ∧ r.2.mem ((c.tc : Thread Cert.LatReferenceIdeal.nD Cert.LatReferenceIdeal.τ).loc Cert.LatReferenceIdeal.main_arg3) = m ((c.tc : Thread Cert.LatReferenceIdeal.nD Cert.LatReferenceIdeal.τ).loc Cert.LatReferenceIdeal.main_arg3))
      ∧ r.2.sem = fun _ => 0)

def quiescent_Krope [hKrope : Cert.Krope.Facts] : Prop :=
  ∀ (m : (ℓ : Loc Cert.Krope.nD Cert.Krope.τ Cert.Krope.sig) → Buf (Elt Bits) ℓ) (g : Dev Cert.Krope.nD → PrngReg), Pre_Krope m →
    θ_run (Cert.Krope.defs (F := Bits)) (onTc (τ := Cert.Krope.τ) (Cert.Krope.main (F := Bits))) ⟨m, fun _ => 0, g⟩ (fun r => (∀ c : Dev Cert.Krope.nD,
      r.2.mem ((c.tc : Thread Cert.Krope.nD Cert.Krope.τ).loc Cert.Krope.main_arg0) = m ((c.tc : Thread Cert.Krope.nD Cert.Krope.τ).loc Cert.Krope.main_arg0)
      ∧ r.2.mem ((c.tc : Thread Cert.Krope.nD Cert.Krope.τ).loc Cert.Krope.main_arg1) = m ((c.tc : Thread Cert.Krope.nD Cert.Krope.τ).loc Cert.Krope.main_arg1))
      ∧ r.2.sem = fun _ => 0)

def quiescent_KropeIdeal [hKropeIdeal : Cert.KropeIdeal.Facts] : Prop :=
  ∀ (m : (ℓ : Loc Cert.KropeIdeal.nD Cert.KropeIdeal.τ Cert.KropeIdeal.sig) → Buf (Elt Ideal) ℓ) (g : Dev Cert.KropeIdeal.nD → PrngReg), Pre_KropeIdeal m →
    θ_run (Cert.KropeIdeal.defs (F := Ideal)) (onTc (τ := Cert.KropeIdeal.τ) (Cert.KropeIdeal.main (F := Ideal))) ⟨m, fun _ => 0, g⟩ (fun r => (∀ c : Dev Cert.KropeIdeal.nD,
      r.2.mem ((c.tc : Thread Cert.KropeIdeal.nD Cert.KropeIdeal.τ).loc Cert.KropeIdeal.main_arg0) = m ((c.tc : Thread Cert.KropeIdeal.nD Cert.KropeIdeal.τ).loc Cert.KropeIdeal.main_arg0)
      ∧ r.2.mem ((c.tc : Thread Cert.KropeIdeal.nD Cert.KropeIdeal.τ).loc Cert.KropeIdeal.main_arg1) = m ((c.tc : Thread Cert.KropeIdeal.nD Cert.KropeIdeal.τ).loc Cert.KropeIdeal.main_arg1))
      ∧ r.2.sem = fun _ => 0)

def quiescent_KropeReferenceIdeal [hKropeReferenceIdeal : Cert.KropeReferenceIdeal.Facts] : Prop :=
  ∀ (m : (ℓ : Loc Cert.KropeReferenceIdeal.nD Cert.KropeReferenceIdeal.τ Cert.KropeReferenceIdeal.sig) → Buf (Elt Ideal) ℓ) (g : Dev Cert.KropeReferenceIdeal.nD → PrngReg), Pre_KropeReferenceIdeal m →
    θ_run (Cert.KropeReferenceIdeal.defs (F := Ideal)) (onTc (τ := Cert.KropeReferenceIdeal.τ) (Cert.KropeReferenceIdeal.main (F := Ideal))) ⟨m, fun _ => 0, g⟩ (fun r => (∀ c : Dev Cert.KropeReferenceIdeal.nD,
      r.2.mem ((c.tc : Thread Cert.KropeReferenceIdeal.nD Cert.KropeReferenceIdeal.τ).loc Cert.KropeReferenceIdeal.main_arg0) = m ((c.tc : Thread Cert.KropeReferenceIdeal.nD Cert.KropeReferenceIdeal.τ).loc Cert.KropeReferenceIdeal.main_arg0)
      ∧ r.2.mem ((c.tc : Thread Cert.KropeReferenceIdeal.nD Cert.KropeReferenceIdeal.τ).loc Cert.KropeReferenceIdeal.main_arg1) = m ((c.tc : Thread Cert.KropeReferenceIdeal.nD Cert.KropeReferenceIdeal.τ).loc Cert.KropeReferenceIdeal.main_arg1))
      ∧ r.2.sem = fun _ => 0)

def quiescent_QHeads [hQHeads : Cert.QHeads.Facts] : Prop :=
  ∀ (m : (ℓ : Loc Cert.QHeads.nD Cert.QHeads.τ Cert.QHeads.sig) → Buf (Elt Bits) ℓ) (g : Dev Cert.QHeads.nD → PrngReg), Pre_QHeads m →
    θ_run (Cert.QHeads.defs (F := Bits)) (onTc (τ := Cert.QHeads.τ) (Cert.QHeads.main (F := Bits))) ⟨m, fun _ => 0, g⟩ (fun r => (∀ c : Dev Cert.QHeads.nD,
      r.2.mem ((c.tc : Thread Cert.QHeads.nD Cert.QHeads.τ).loc Cert.QHeads.main_arg0) = m ((c.tc : Thread Cert.QHeads.nD Cert.QHeads.τ).loc Cert.QHeads.main_arg0)
      ∧ r.2.mem ((c.tc : Thread Cert.QHeads.nD Cert.QHeads.τ).loc Cert.QHeads.main_arg1) = m ((c.tc : Thread Cert.QHeads.nD Cert.QHeads.τ).loc Cert.QHeads.main_arg1))
      ∧ r.2.sem = fun _ => 0)

def quiescent_QHeadsIdeal [hQHeadsIdeal : Cert.QHeadsIdeal.Facts] : Prop :=
  ∀ (m : (ℓ : Loc Cert.QHeadsIdeal.nD Cert.QHeadsIdeal.τ Cert.QHeadsIdeal.sig) → Buf (Elt Ideal) ℓ) (g : Dev Cert.QHeadsIdeal.nD → PrngReg), Pre_QHeadsIdeal m →
    θ_run (Cert.QHeadsIdeal.defs (F := Ideal)) (onTc (τ := Cert.QHeadsIdeal.τ) (Cert.QHeadsIdeal.main (F := Ideal))) ⟨m, fun _ => 0, g⟩ (fun r => (∀ c : Dev Cert.QHeadsIdeal.nD,
      r.2.mem ((c.tc : Thread Cert.QHeadsIdeal.nD Cert.QHeadsIdeal.τ).loc Cert.QHeadsIdeal.main_arg0) = m ((c.tc : Thread Cert.QHeadsIdeal.nD Cert.QHeadsIdeal.τ).loc Cert.QHeadsIdeal.main_arg0)
      ∧ r.2.mem ((c.tc : Thread Cert.QHeadsIdeal.nD Cert.QHeadsIdeal.τ).loc Cert.QHeadsIdeal.main_arg1) = m ((c.tc : Thread Cert.QHeadsIdeal.nD Cert.QHeadsIdeal.τ).loc Cert.QHeadsIdeal.main_arg1))
      ∧ r.2.sem = fun _ => 0)

def quiescent_QHeadsReferenceIdeal [hQHeadsReferenceIdeal : Cert.QHeadsReferenceIdeal.Facts] : Prop :=
  ∀ (m : (ℓ : Loc Cert.QHeadsReferenceIdeal.nD Cert.QHeadsReferenceIdeal.τ Cert.QHeadsReferenceIdeal.sig) → Buf (Elt Ideal) ℓ) (g : Dev Cert.QHeadsReferenceIdeal.nD → PrngReg), Pre_QHeadsReferenceIdeal m →
    θ_run (Cert.QHeadsReferenceIdeal.defs (F := Ideal)) (onTc (τ := Cert.QHeadsReferenceIdeal.τ) (Cert.QHeadsReferenceIdeal.main (F := Ideal))) ⟨m, fun _ => 0, g⟩ (fun r => (∀ c : Dev Cert.QHeadsReferenceIdeal.nD,
      r.2.mem ((c.tc : Thread Cert.QHeadsReferenceIdeal.nD Cert.QHeadsReferenceIdeal.τ).loc Cert.QHeadsReferenceIdeal.main_arg0) = m ((c.tc : Thread Cert.QHeadsReferenceIdeal.nD Cert.QHeadsReferenceIdeal.τ).loc Cert.QHeadsReferenceIdeal.main_arg0)
      ∧ r.2.mem ((c.tc : Thread Cert.QHeadsReferenceIdeal.nD Cert.QHeadsReferenceIdeal.τ).loc Cert.QHeadsReferenceIdeal.main_arg1) = m ((c.tc : Thread Cert.QHeadsReferenceIdeal.nD Cert.QHeadsReferenceIdeal.τ).loc Cert.QHeadsReferenceIdeal.main_arg1))
      ∧ r.2.sem = fun _ => 0)

def quiescent_KvUp [hKvUp : Cert.KvUp.Facts] : Prop :=
  ∀ (m : (ℓ : Loc Cert.KvUp.nD Cert.KvUp.τ Cert.KvUp.sig) → Buf (Elt Bits) ℓ) (g : Dev Cert.KvUp.nD → PrngReg), Pre_KvUp m →
    θ_run (Cert.KvUp.defs (F := Bits)) (onTc (τ := Cert.KvUp.τ) (Cert.KvUp.main (F := Bits))) ⟨m, fun _ => 0, g⟩ (fun r => (∀ c : Dev Cert.KvUp.nD,
      r.2.mem ((c.tc : Thread Cert.KvUp.nD Cert.KvUp.τ).loc Cert.KvUp.main_arg0) = m ((c.tc : Thread Cert.KvUp.nD Cert.KvUp.τ).loc Cert.KvUp.main_arg0)
      ∧ r.2.mem ((c.tc : Thread Cert.KvUp.nD Cert.KvUp.τ).loc Cert.KvUp.main_arg1) = m ((c.tc : Thread Cert.KvUp.nD Cert.KvUp.τ).loc Cert.KvUp.main_arg1)
      ∧ r.2.mem ((c.tc : Thread Cert.KvUp.nD Cert.KvUp.τ).loc Cert.KvUp.main_arg2) = m ((c.tc : Thread Cert.KvUp.nD Cert.KvUp.τ).loc Cert.KvUp.main_arg2))
      ∧ r.2.sem = fun _ => 0)

def quiescent_KvUpIdeal [hKvUpIdeal : Cert.KvUpIdeal.Facts] : Prop :=
  ∀ (m : (ℓ : Loc Cert.KvUpIdeal.nD Cert.KvUpIdeal.τ Cert.KvUpIdeal.sig) → Buf (Elt Ideal) ℓ) (g : Dev Cert.KvUpIdeal.nD → PrngReg), Pre_KvUpIdeal m →
    θ_run (Cert.KvUpIdeal.defs (F := Ideal)) (onTc (τ := Cert.KvUpIdeal.τ) (Cert.KvUpIdeal.main (F := Ideal))) ⟨m, fun _ => 0, g⟩ (fun r => (∀ c : Dev Cert.KvUpIdeal.nD,
      r.2.mem ((c.tc : Thread Cert.KvUpIdeal.nD Cert.KvUpIdeal.τ).loc Cert.KvUpIdeal.main_arg0) = m ((c.tc : Thread Cert.KvUpIdeal.nD Cert.KvUpIdeal.τ).loc Cert.KvUpIdeal.main_arg0)
      ∧ r.2.mem ((c.tc : Thread Cert.KvUpIdeal.nD Cert.KvUpIdeal.τ).loc Cert.KvUpIdeal.main_arg1) = m ((c.tc : Thread Cert.KvUpIdeal.nD Cert.KvUpIdeal.τ).loc Cert.KvUpIdeal.main_arg1)
      ∧ r.2.mem ((c.tc : Thread Cert.KvUpIdeal.nD Cert.KvUpIdeal.τ).loc Cert.KvUpIdeal.main_arg2) = m ((c.tc : Thread Cert.KvUpIdeal.nD Cert.KvUpIdeal.τ).loc Cert.KvUpIdeal.main_arg2))
      ∧ r.2.sem = fun _ => 0)

def quiescent_KvUpReferenceIdeal [hKvUpReferenceIdeal : Cert.KvUpReferenceIdeal.Facts] : Prop :=
  ∀ (m : (ℓ : Loc Cert.KvUpReferenceIdeal.nD Cert.KvUpReferenceIdeal.τ Cert.KvUpReferenceIdeal.sig) → Buf (Elt Ideal) ℓ) (g : Dev Cert.KvUpReferenceIdeal.nD → PrngReg), Pre_KvUpReferenceIdeal m →
    θ_run (Cert.KvUpReferenceIdeal.defs (F := Ideal)) (onTc (τ := Cert.KvUpReferenceIdeal.τ) (Cert.KvUpReferenceIdeal.main (F := Ideal))) ⟨m, fun _ => 0, g⟩ (fun r => (∀ c : Dev Cert.KvUpReferenceIdeal.nD,
      r.2.mem ((c.tc : Thread Cert.KvUpReferenceIdeal.nD Cert.KvUpReferenceIdeal.τ).loc Cert.KvUpReferenceIdeal.main_arg0) = m ((c.tc : Thread Cert.KvUpReferenceIdeal.nD Cert.KvUpReferenceIdeal.τ).loc Cert.KvUpReferenceIdeal.main_arg0)
      ∧ r.2.mem ((c.tc : Thread Cert.KvUpReferenceIdeal.nD Cert.KvUpReferenceIdeal.τ).loc Cert.KvUpReferenceIdeal.main_arg1) = m ((c.tc : Thread Cert.KvUpReferenceIdeal.nD Cert.KvUpReferenceIdeal.τ).loc Cert.KvUpReferenceIdeal.main_arg1)
      ∧ r.2.mem ((c.tc : Thread Cert.KvUpReferenceIdeal.nD Cert.KvUpReferenceIdeal.τ).loc Cert.KvUpReferenceIdeal.main_arg2) = m ((c.tc : Thread Cert.KvUpReferenceIdeal.nD Cert.KvUpReferenceIdeal.τ).loc Cert.KvUpReferenceIdeal.main_arg2))
      ∧ r.2.sem = fun _ => 0)

def quiescent_Tail [hTail : Cert.Tail.Facts] : Prop :=
  ∀ (m : (ℓ : Loc Cert.Tail.nD Cert.Tail.τ Cert.Tail.sig) → Buf (Elt Bits) ℓ) (g : Dev Cert.Tail.nD → PrngReg), Pre_Tail m →
    θ_run (Cert.Tail.defs (F := Bits)) (onTc (τ := Cert.Tail.τ) (Cert.Tail.main (F := Bits))) ⟨m, fun _ => 0, g⟩ (fun r => (∀ c : Dev Cert.Tail.nD,
      r.2.mem ((c.tc : Thread Cert.Tail.nD Cert.Tail.τ).loc Cert.Tail.main_arg0) = m ((c.tc : Thread Cert.Tail.nD Cert.Tail.τ).loc Cert.Tail.main_arg0)
      ∧ r.2.mem ((c.tc : Thread Cert.Tail.nD Cert.Tail.τ).loc Cert.Tail.main_arg1) = m ((c.tc : Thread Cert.Tail.nD Cert.Tail.τ).loc Cert.Tail.main_arg1))
      ∧ r.2.sem = fun _ => 0)

def quiescent_TailIdeal [hTailIdeal : Cert.TailIdeal.Facts] : Prop :=
  ∀ (m : (ℓ : Loc Cert.TailIdeal.nD Cert.TailIdeal.τ Cert.TailIdeal.sig) → Buf (Elt Ideal) ℓ) (g : Dev Cert.TailIdeal.nD → PrngReg), Pre_TailIdeal m →
    θ_run (Cert.TailIdeal.defs (F := Ideal)) (onTc (τ := Cert.TailIdeal.τ) (Cert.TailIdeal.main (F := Ideal))) ⟨m, fun _ => 0, g⟩ (fun r => (∀ c : Dev Cert.TailIdeal.nD,
      r.2.mem ((c.tc : Thread Cert.TailIdeal.nD Cert.TailIdeal.τ).loc Cert.TailIdeal.main_arg0) = m ((c.tc : Thread Cert.TailIdeal.nD Cert.TailIdeal.τ).loc Cert.TailIdeal.main_arg0)
      ∧ r.2.mem ((c.tc : Thread Cert.TailIdeal.nD Cert.TailIdeal.τ).loc Cert.TailIdeal.main_arg1) = m ((c.tc : Thread Cert.TailIdeal.nD Cert.TailIdeal.τ).loc Cert.TailIdeal.main_arg1))
      ∧ r.2.sem = fun _ => 0)

def quiescent_TailReferenceIdeal [hTailReferenceIdeal : Cert.TailReferenceIdeal.Facts] : Prop :=
  ∀ (m : (ℓ : Loc Cert.TailReferenceIdeal.nD Cert.TailReferenceIdeal.τ Cert.TailReferenceIdeal.sig) → Buf (Elt Ideal) ℓ) (g : Dev Cert.TailReferenceIdeal.nD → PrngReg), Pre_TailReferenceIdeal m →
    θ_run (Cert.TailReferenceIdeal.defs (F := Ideal)) (onTc (τ := Cert.TailReferenceIdeal.τ) (Cert.TailReferenceIdeal.main (F := Ideal))) ⟨m, fun _ => 0, g⟩ (fun r => (∀ c : Dev Cert.TailReferenceIdeal.nD,
      r.2.mem ((c.tc : Thread Cert.TailReferenceIdeal.nD Cert.TailReferenceIdeal.τ).loc Cert.TailReferenceIdeal.main_arg0) = m ((c.tc : Thread Cert.TailReferenceIdeal.nD Cert.TailReferenceIdeal.τ).loc Cert.TailReferenceIdeal.main_arg0)
      ∧ r.2.mem ((c.tc : Thread Cert.TailReferenceIdeal.nD Cert.TailReferenceIdeal.τ).loc Cert.TailReferenceIdeal.main_arg1) = m ((c.tc : Thread Cert.TailReferenceIdeal.nD Cert.TailReferenceIdeal.τ).loc Cert.TailReferenceIdeal.main_arg1))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Ffn_FfnIdeal : Prop :=
  True

def algebraic_FfnIdeal_FfnReferenceIdeal [hFfnIdeal : Cert.FfnIdeal.Facts] [hFfnReferenceIdeal : Cert.FfnReferenceIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnReferenceIdeal.nD Cert.FfnReferenceIdeal.τ Cert.FfnReferenceIdeal.sig) → Buf (Elt Ideal) ℓ) (g' : Dev Cert.FfnReferenceIdeal.nD → PrngReg), Pre_FfnIdeal m →
    (∀ c : Dev Cert.FfnIdeal.nD,
      m' ((c.tc : Thread Cert.FfnReferenceIdeal.nD Cert.FfnReferenceIdeal.τ).loc Cert.FfnReferenceIdeal.main_arg0) = m ((c.tc : Thread Cert.FfnIdeal.nD Cert.FfnIdeal.τ).loc Cert.FfnIdeal.main_arg0)
      ∧ m' ((c.tc : Thread Cert.FfnReferenceIdeal.nD Cert.FfnReferenceIdeal.τ).loc Cert.FfnReferenceIdeal.main_arg1) = m ((c.tc : Thread Cert.FfnIdeal.nD Cert.FfnIdeal.τ).loc Cert.FfnIdeal.main_arg1)
      ∧ m' ((c.tc : Thread Cert.FfnReferenceIdeal.nD Cert.FfnReferenceIdeal.τ).loc Cert.FfnReferenceIdeal.main_arg2) = m ((c.tc : Thread Cert.FfnIdeal.nD Cert.FfnIdeal.τ).loc Cert.FfnIdeal.main_arg2)
      ∧ m' ((c.tc : Thread Cert.FfnReferenceIdeal.nD Cert.FfnReferenceIdeal.τ).loc Cert.FfnReferenceIdeal.main_arg3) = m ((c.tc : Thread Cert.FfnIdeal.nD Cert.FfnIdeal.τ).loc Cert.FfnIdeal.main_arg3)
      ∧ m' ((c.tc : Thread Cert.FfnReferenceIdeal.nD Cert.FfnReferenceIdeal.τ).loc Cert.FfnReferenceIdeal.main_arg4) = m ((c.tc : Thread Cert.FfnIdeal.nD Cert.FfnIdeal.τ).loc Cert.FfnIdeal.main_arg4)) →
    ∃ (v0 : (c : Dev Cert.FfnIdeal.nD) → Buf (Elt Ideal) ((c.tc : Thread Cert.FfnIdeal.nD Cert.FfnIdeal.τ).loc Cert.FfnIdeal.main_v0)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v0) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ θ_run (Cert.FfnReferenceIdeal.defs (F := Ideal)) (onTc (τ := Cert.FfnReferenceIdeal.τ) (Cert.FfnReferenceIdeal.main (F := Ideal))) ⟨m', fun _ => 0, g'⟩ (fun r => ∀ c : Dev Cert.FfnReferenceIdeal.nD,
          r.2.mem ((c.tc : Thread Cert.FfnReferenceIdeal.nD Cert.FfnReferenceIdeal.τ).loc Cert.FfnReferenceIdeal.main_v30) = v0 c
          ∧ r.2.mem ((c.tc : Thread Cert.FfnReferenceIdeal.nD Cert.FfnReferenceIdeal.τ).loc Cert.FfnReferenceIdeal.main_arg0) = m' ((c.tc : Thread Cert.FfnReferenceIdeal.nD Cert.FfnReferenceIdeal.τ).loc Cert.FfnReferenceIdeal.main_arg0)
          ∧ r.2.mem ((c.tc : Thread Cert.FfnReferenceIdeal.nD Cert.FfnReferenceIdeal.τ).loc Cert.FfnReferenceIdeal.main_arg1) = m' ((c.tc : Thread Cert.FfnReferenceIdeal.nD Cert.FfnReferenceIdeal.τ).loc Cert.FfnReferenceIdeal.main_arg1)
          ∧ r.2.mem ((c.tc : Thread Cert.FfnReferenceIdeal.nD Cert.FfnReferenceIdeal.τ).loc Cert.FfnReferenceIdeal.main_arg2) = m' ((c.tc : Thread Cert.FfnReferenceIdeal.nD Cert.FfnReferenceIdeal.τ).loc Cert.FfnReferenceIdeal.main_arg2)
          ∧ r.2.mem ((c.tc : Thread Cert.FfnReferenceIdeal.nD Cert.FfnReferenceIdeal.τ).loc Cert.FfnReferenceIdeal.main_arg3) = m' ((c.tc : Thread Cert.FfnReferenceIdeal.nD Cert.FfnReferenceIdeal.τ).loc Cert.FfnReferenceIdeal.main_arg3)
          ∧ r.2.mem ((c.tc : Thread Cert.FfnReferenceIdeal.nD Cert.FfnReferenceIdeal.τ).loc Cert.FfnReferenceIdeal.main_arg4) = m' ((c.tc : Thread Cert.FfnReferenceIdeal.nD Cert.FfnReferenceIdeal.τ).loc Cert.FfnReferenceIdeal.main_arg4))

def preserves_Merge_MergeIdeal : Prop :=
  True

def algebraic_MergeIdeal_MergeReferenceIdeal [hMergeIdeal : Cert.MergeIdeal.Facts] [hMergeReferenceIdeal : Cert.MergeReferenceIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeReferenceIdeal.nD Cert.MergeReferenceIdeal.τ Cert.MergeReferenceIdeal.sig) → Buf (Elt Ideal) ℓ) (g' : Dev Cert.MergeReferenceIdeal.nD → PrngReg), Pre_MergeIdeal m →
    (∀ c : Dev Cert.MergeIdeal.nD,
      m' ((c.tc : Thread Cert.MergeReferenceIdeal.nD Cert.MergeReferenceIdeal.τ).loc Cert.MergeReferenceIdeal.main_arg0) = m ((c.tc : Thread Cert.MergeIdeal.nD Cert.MergeIdeal.τ).loc Cert.MergeIdeal.main_arg0)
      ∧ m' ((c.tc : Thread Cert.MergeReferenceIdeal.nD Cert.MergeReferenceIdeal.τ).loc Cert.MergeReferenceIdeal.main_arg1) = m ((c.tc : Thread Cert.MergeIdeal.nD Cert.MergeIdeal.τ).loc Cert.MergeIdeal.main_arg1)
      ∧ m' ((c.tc : Thread Cert.MergeReferenceIdeal.nD Cert.MergeReferenceIdeal.τ).loc Cert.MergeReferenceIdeal.main_arg2) = m ((c.tc : Thread Cert.MergeIdeal.nD Cert.MergeIdeal.τ).loc Cert.MergeIdeal.main_arg2)
      ∧ m' ((c.tc : Thread Cert.MergeReferenceIdeal.nD Cert.MergeReferenceIdeal.τ).loc Cert.MergeReferenceIdeal.main_arg3) = m ((c.tc : Thread Cert.MergeIdeal.nD Cert.MergeIdeal.τ).loc Cert.MergeIdeal.main_arg3)
      ∧ m' ((c.tc : Thread Cert.MergeReferenceIdeal.nD Cert.MergeReferenceIdeal.τ).loc Cert.MergeReferenceIdeal.main_arg4) = m ((c.tc : Thread Cert.MergeIdeal.nD Cert.MergeIdeal.τ).loc Cert.MergeIdeal.main_arg4)) →
    ∃ (v0 : (c : Dev Cert.MergeIdeal.nD) → Buf (Elt Ideal) ((c.tc : Thread Cert.MergeIdeal.nD Cert.MergeIdeal.τ).loc Cert.MergeIdeal.main_v0)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v0) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4))
      ∧ θ_run (Cert.MergeReferenceIdeal.defs (F := Ideal)) (onTc (τ := Cert.MergeReferenceIdeal.τ) (Cert.MergeReferenceIdeal.main (F := Ideal))) ⟨m', fun _ => 0, g'⟩ (fun r => ∀ c : Dev Cert.MergeReferenceIdeal.nD,
          r.2.mem ((c.tc : Thread Cert.MergeReferenceIdeal.nD Cert.MergeReferenceIdeal.τ).loc Cert.MergeReferenceIdeal.main_v11) = v0 c
          ∧ r.2.mem ((c.tc : Thread Cert.MergeReferenceIdeal.nD Cert.MergeReferenceIdeal.τ).loc Cert.MergeReferenceIdeal.main_arg0) = m' ((c.tc : Thread Cert.MergeReferenceIdeal.nD Cert.MergeReferenceIdeal.τ).loc Cert.MergeReferenceIdeal.main_arg0)
          ∧ r.2.mem ((c.tc : Thread Cert.MergeReferenceIdeal.nD Cert.MergeReferenceIdeal.τ).loc Cert.MergeReferenceIdeal.main_arg1) = m' ((c.tc : Thread Cert.MergeReferenceIdeal.nD Cert.MergeReferenceIdeal.τ).loc Cert.MergeReferenceIdeal.main_arg1)
          ∧ r.2.mem ((c.tc : Thread Cert.MergeReferenceIdeal.nD Cert.MergeReferenceIdeal.τ).loc Cert.MergeReferenceIdeal.main_arg2) = m' ((c.tc : Thread Cert.MergeReferenceIdeal.nD Cert.MergeReferenceIdeal.τ).loc Cert.MergeReferenceIdeal.main_arg2)
          ∧ r.2.mem ((c.tc : Thread Cert.MergeReferenceIdeal.nD Cert.MergeReferenceIdeal.τ).loc Cert.MergeReferenceIdeal.main_arg3) = m' ((c.tc : Thread Cert.MergeReferenceIdeal.nD Cert.MergeReferenceIdeal.τ).loc Cert.MergeReferenceIdeal.main_arg3)
          ∧ r.2.mem ((c.tc : Thread Cert.MergeReferenceIdeal.nD Cert.MergeReferenceIdeal.τ).loc Cert.MergeReferenceIdeal.main_arg4) = m' ((c.tc : Thread Cert.MergeReferenceIdeal.nD Cert.MergeReferenceIdeal.τ).loc Cert.MergeReferenceIdeal.main_arg4))

def preserves_OutLn_OutLnIdeal : Prop :=
  True

def algebraic_OutLnIdeal_OutLnReferenceIdeal [hOutLnIdeal : Cert.OutLnIdeal.Facts] [hOutLnReferenceIdeal : Cert.OutLnReferenceIdeal.Facts] : Prop :=
  ∀ (m : (ℓ : Loc Cert.OutLnIdeal.nD Cert.OutLnIdeal.τ Cert.OutLnIdeal.sig) → Buf (Elt Ideal) ℓ) (g : Dev Cert.OutLnIdeal.nD → PrngReg)
    (m' : (ℓ : Loc Cert.OutLnReferenceIdeal.nD Cert.OutLnReferenceIdeal.τ Cert.OutLnReferenceIdeal.sig) → Buf (Elt Ideal) ℓ) (g' : Dev Cert.OutLnReferenceIdeal.nD → PrngReg), Pre_OutLnIdeal m →
    (∀ c : Dev Cert.OutLnIdeal.nD,
      m' ((c.tc : Thread Cert.OutLnReferenceIdeal.nD Cert.OutLnReferenceIdeal.τ).loc Cert.OutLnReferenceIdeal.main_arg0) = m ((c.tc : Thread Cert.OutLnIdeal.nD Cert.OutLnIdeal.τ).loc Cert.OutLnIdeal.main_arg0)
      ∧ m' ((c.tc : Thread Cert.OutLnReferenceIdeal.nD Cert.OutLnReferenceIdeal.τ).loc Cert.OutLnReferenceIdeal.main_arg1) = m ((c.tc : Thread Cert.OutLnIdeal.nD Cert.OutLnIdeal.τ).loc Cert.OutLnIdeal.main_arg1)
      ∧ m' ((c.tc : Thread Cert.OutLnReferenceIdeal.nD Cert.OutLnReferenceIdeal.τ).loc Cert.OutLnReferenceIdeal.main_arg2) = m ((c.tc : Thread Cert.OutLnIdeal.nD Cert.OutLnIdeal.τ).loc Cert.OutLnIdeal.main_arg2)
      ∧ m' ((c.tc : Thread Cert.OutLnReferenceIdeal.nD Cert.OutLnReferenceIdeal.τ).loc Cert.OutLnReferenceIdeal.main_arg3) = m ((c.tc : Thread Cert.OutLnIdeal.nD Cert.OutLnIdeal.τ).loc Cert.OutLnIdeal.main_arg3)
      ∧ m' ((c.tc : Thread Cert.OutLnReferenceIdeal.nD Cert.OutLnReferenceIdeal.τ).loc Cert.OutLnReferenceIdeal.main_arg4) = m ((c.tc : Thread Cert.OutLnIdeal.nD Cert.OutLnIdeal.τ).loc Cert.OutLnIdeal.main_arg4)) →
    ∃ (v0 : (c : Dev Cert.OutLnIdeal.nD) → Buf (Elt Ideal) ((c.tc : Thread Cert.OutLnIdeal.nD Cert.OutLnIdeal.τ).loc Cert.OutLnIdeal.main_v0)),
      θ_run (Cert.OutLnIdeal.defs (F := Ideal)) (onTc (τ := Cert.OutLnIdeal.τ) (Cert.OutLnIdeal.main (F := Ideal))) ⟨m, fun _ => 0, g⟩ (fun r => ∀ c : Dev Cert.OutLnIdeal.nD,
          r.2.mem ((c.tc : Thread Cert.OutLnIdeal.nD Cert.OutLnIdeal.τ).loc Cert.OutLnIdeal.main_v0) = v0 c
          ∧ r.2.mem ((c.tc : Thread Cert.OutLnIdeal.nD Cert.OutLnIdeal.τ).loc Cert.OutLnIdeal.main_arg0) = m ((c.tc : Thread Cert.OutLnIdeal.nD Cert.OutLnIdeal.τ).loc Cert.OutLnIdeal.main_arg0)
          ∧ r.2.mem ((c.tc : Thread Cert.OutLnIdeal.nD Cert.OutLnIdeal.τ).loc Cert.OutLnIdeal.main_arg1) = m ((c.tc : Thread Cert.OutLnIdeal.nD Cert.OutLnIdeal.τ).loc Cert.OutLnIdeal.main_arg1)
          ∧ r.2.mem ((c.tc : Thread Cert.OutLnIdeal.nD Cert.OutLnIdeal.τ).loc Cert.OutLnIdeal.main_arg2) = m ((c.tc : Thread Cert.OutLnIdeal.nD Cert.OutLnIdeal.τ).loc Cert.OutLnIdeal.main_arg2)
          ∧ r.2.mem ((c.tc : Thread Cert.OutLnIdeal.nD Cert.OutLnIdeal.τ).loc Cert.OutLnIdeal.main_arg3) = m ((c.tc : Thread Cert.OutLnIdeal.nD Cert.OutLnIdeal.τ).loc Cert.OutLnIdeal.main_arg3)
          ∧ r.2.mem ((c.tc : Thread Cert.OutLnIdeal.nD Cert.OutLnIdeal.τ).loc Cert.OutLnIdeal.main_arg4) = m ((c.tc : Thread Cert.OutLnIdeal.nD Cert.OutLnIdeal.τ).loc Cert.OutLnIdeal.main_arg4))
      ∧ θ_run (Cert.OutLnReferenceIdeal.defs (F := Ideal)) (onTc (τ := Cert.OutLnReferenceIdeal.τ) (Cert.OutLnReferenceIdeal.main (F := Ideal))) ⟨m', fun _ => 0, g'⟩ (fun r => ∀ c : Dev Cert.OutLnReferenceIdeal.nD,
          r.2.mem ((c.tc : Thread Cert.OutLnReferenceIdeal.nD Cert.OutLnReferenceIdeal.τ).loc Cert.OutLnReferenceIdeal.main_v27) = v0 c
          ∧ r.2.mem ((c.tc : Thread Cert.OutLnReferenceIdeal.nD Cert.OutLnReferenceIdeal.τ).loc Cert.OutLnReferenceIdeal.main_arg0) = m' ((c.tc : Thread Cert.OutLnReferenceIdeal.nD Cert.OutLnReferenceIdeal.τ).loc Cert.OutLnReferenceIdeal.main_arg0)
          ∧ r.2.mem ((c.tc : Thread Cert.OutLnReferenceIdeal.nD Cert.OutLnReferenceIdeal.τ).loc Cert.OutLnReferenceIdeal.main_arg1) = m' ((c.tc : Thread Cert.OutLnReferenceIdeal.nD Cert.OutLnReferenceIdeal.τ).loc Cert.OutLnReferenceIdeal.main_arg1)
          ∧ r.2.mem ((c.tc : Thread Cert.OutLnReferenceIdeal.nD Cert.OutLnReferenceIdeal.τ).loc Cert.OutLnReferenceIdeal.main_arg2) = m' ((c.tc : Thread Cert.OutLnReferenceIdeal.nD Cert.OutLnReferenceIdeal.τ).loc Cert.OutLnReferenceIdeal.main_arg2)
          ∧ r.2.mem ((c.tc : Thread Cert.OutLnReferenceIdeal.nD Cert.OutLnReferenceIdeal.τ).loc Cert.OutLnReferenceIdeal.main_arg3) = m' ((c.tc : Thread Cert.OutLnReferenceIdeal.nD Cert.OutLnReferenceIdeal.τ).loc Cert.OutLnReferenceIdeal.main_arg3)
          ∧ r.2.mem ((c.tc : Thread Cert.OutLnReferenceIdeal.nD Cert.OutLnReferenceIdeal.τ).loc Cert.OutLnReferenceIdeal.main_arg4) = m' ((c.tc : Thread Cert.OutLnReferenceIdeal.nD Cert.OutLnReferenceIdeal.τ).loc Cert.OutLnReferenceIdeal.main_arg4))

def preserves_ProjV_ProjVIdeal : Prop :=
  True

def algebraic_ProjVIdeal_ProjVReferenceIdeal [hProjVIdeal : Cert.ProjVIdeal.Facts] [hProjVReferenceIdeal : Cert.ProjVReferenceIdeal.Facts] : Prop :=
  ∀ (m : (ℓ : Loc Cert.ProjVIdeal.nD Cert.ProjVIdeal.τ Cert.ProjVIdeal.sig) → Buf (Elt Ideal) ℓ) (g : Dev Cert.ProjVIdeal.nD → PrngReg)
    (m' : (ℓ : Loc Cert.ProjVReferenceIdeal.nD Cert.ProjVReferenceIdeal.τ Cert.ProjVReferenceIdeal.sig) → Buf (Elt Ideal) ℓ) (g' : Dev Cert.ProjVReferenceIdeal.nD → PrngReg), Pre_ProjVIdeal m →
    (∀ c : Dev Cert.ProjVIdeal.nD,
      m' ((c.tc : Thread Cert.ProjVReferenceIdeal.nD Cert.ProjVReferenceIdeal.τ).loc Cert.ProjVReferenceIdeal.main_arg0) = m ((c.tc : Thread Cert.ProjVIdeal.nD Cert.ProjVIdeal.τ).loc Cert.ProjVIdeal.main_arg0)
      ∧ m' ((c.tc : Thread Cert.ProjVReferenceIdeal.nD Cert.ProjVReferenceIdeal.τ).loc Cert.ProjVReferenceIdeal.main_arg1) = m ((c.tc : Thread Cert.ProjVIdeal.nD Cert.ProjVIdeal.τ).loc Cert.ProjVIdeal.main_arg1)) →
    ∃ (v0 : (c : Dev Cert.ProjVIdeal.nD) → Buf (Elt Ideal) ((c.tc : Thread Cert.ProjVIdeal.nD Cert.ProjVIdeal.τ).loc Cert.ProjVIdeal.main_v5)),
      θ_run (Cert.ProjVIdeal.defs (F := Ideal)) (onTc (τ := Cert.ProjVIdeal.τ) (Cert.ProjVIdeal.main (F := Ideal))) ⟨m, fun _ => 0, g⟩ (fun r => ∀ c : Dev Cert.ProjVIdeal.nD,
          r.2.mem ((c.tc : Thread Cert.ProjVIdeal.nD Cert.ProjVIdeal.τ).loc Cert.ProjVIdeal.main_v5) = v0 c
          ∧ r.2.mem ((c.tc : Thread Cert.ProjVIdeal.nD Cert.ProjVIdeal.τ).loc Cert.ProjVIdeal.main_arg0) = m ((c.tc : Thread Cert.ProjVIdeal.nD Cert.ProjVIdeal.τ).loc Cert.ProjVIdeal.main_arg0)
          ∧ r.2.mem ((c.tc : Thread Cert.ProjVIdeal.nD Cert.ProjVIdeal.τ).loc Cert.ProjVIdeal.main_arg1) = m ((c.tc : Thread Cert.ProjVIdeal.nD Cert.ProjVIdeal.τ).loc Cert.ProjVIdeal.main_arg1))
      ∧ θ_run (Cert.ProjVReferenceIdeal.defs (F := Ideal)) (onTc (τ := Cert.ProjVReferenceIdeal.τ) (Cert.ProjVReferenceIdeal.main (F := Ideal))) ⟨m', fun _ => 0, g'⟩ (fun r => ∀ c : Dev Cert.ProjVReferenceIdeal.nD,
          r.2.mem ((c.tc : Thread Cert.ProjVReferenceIdeal.nD Cert.ProjVReferenceIdeal.τ).loc Cert.ProjVReferenceIdeal.main_v13) = v0 c
          ∧ r.2.mem ((c.tc : Thread Cert.ProjVReferenceIdeal.nD Cert.ProjVReferenceIdeal.τ).loc Cert.ProjVReferenceIdeal.main_arg0) = m' ((c.tc : Thread Cert.ProjVReferenceIdeal.nD Cert.ProjVReferenceIdeal.τ).loc Cert.ProjVReferenceIdeal.main_arg0)
          ∧ r.2.mem ((c.tc : Thread Cert.ProjVReferenceIdeal.nD Cert.ProjVReferenceIdeal.τ).loc Cert.ProjVReferenceIdeal.main_arg1) = m' ((c.tc : Thread Cert.ProjVReferenceIdeal.nD Cert.ProjVReferenceIdeal.τ).loc Cert.ProjVReferenceIdeal.main_arg1))

def preserves_Gates_GatesIdeal : Prop :=
  True

def algebraic_GatesIdeal_GatesReferenceIdeal [hGatesIdeal : Cert.GatesIdeal.Facts] [hGatesReferenceIdeal : Cert.GatesReferenceIdeal.Facts] : Prop :=
  ∀ (m : (ℓ : Loc Cert.GatesIdeal.nD Cert.GatesIdeal.τ Cert.GatesIdeal.sig) → Buf (Elt Ideal) ℓ) (g : Dev Cert.GatesIdeal.nD → PrngReg)
    (m' : (ℓ : Loc Cert.GatesReferenceIdeal.nD Cert.GatesReferenceIdeal.τ Cert.GatesReferenceIdeal.sig) → Buf (Elt Ideal) ℓ) (g' : Dev Cert.GatesReferenceIdeal.nD → PrngReg), Pre_GatesIdeal m →
    (∀ c : Dev Cert.GatesIdeal.nD,
      m' ((c.tc : Thread Cert.GatesReferenceIdeal.nD Cert.GatesReferenceIdeal.τ).loc Cert.GatesReferenceIdeal.main_arg0) = m ((c.tc : Thread Cert.GatesIdeal.nD Cert.GatesIdeal.τ).loc Cert.GatesIdeal.main_arg0)
      ∧ m' ((c.tc : Thread Cert.GatesReferenceIdeal.nD Cert.GatesReferenceIdeal.τ).loc Cert.GatesReferenceIdeal.main_arg1) = m ((c.tc : Thread Cert.GatesIdeal.nD Cert.GatesIdeal.τ).loc Cert.GatesIdeal.main_arg1)) →
    ∃ (v0 : (c : Dev Cert.GatesIdeal.nD) → Buf (Elt Ideal) ((c.tc : Thread Cert.GatesIdeal.nD Cert.GatesIdeal.τ).loc Cert.GatesIdeal.main_v8)),
      θ_run (Cert.GatesIdeal.defs (F := Ideal)) (onTc (τ := Cert.GatesIdeal.τ) (Cert.GatesIdeal.main (F := Ideal))) ⟨m, fun _ => 0, g⟩ (fun r => ∀ c : Dev Cert.GatesIdeal.nD,
          r.2.mem ((c.tc : Thread Cert.GatesIdeal.nD Cert.GatesIdeal.τ).loc Cert.GatesIdeal.main_v8) = v0 c
          ∧ r.2.mem ((c.tc : Thread Cert.GatesIdeal.nD Cert.GatesIdeal.τ).loc Cert.GatesIdeal.main_arg0) = m ((c.tc : Thread Cert.GatesIdeal.nD Cert.GatesIdeal.τ).loc Cert.GatesIdeal.main_arg0)
          ∧ r.2.mem ((c.tc : Thread Cert.GatesIdeal.nD Cert.GatesIdeal.τ).loc Cert.GatesIdeal.main_arg1) = m ((c.tc : Thread Cert.GatesIdeal.nD Cert.GatesIdeal.τ).loc Cert.GatesIdeal.main_arg1))
      ∧ θ_run (Cert.GatesReferenceIdeal.defs (F := Ideal)) (onTc (τ := Cert.GatesReferenceIdeal.τ) (Cert.GatesReferenceIdeal.main (F := Ideal))) ⟨m', fun _ => 0, g'⟩ (fun r => ∀ c : Dev Cert.GatesReferenceIdeal.nD,
          r.2.mem ((c.tc : Thread Cert.GatesReferenceIdeal.nD Cert.GatesReferenceIdeal.τ).loc Cert.GatesReferenceIdeal.main_v26) = v0 c
          ∧ r.2.mem ((c.tc : Thread Cert.GatesReferenceIdeal.nD Cert.GatesReferenceIdeal.τ).loc Cert.GatesReferenceIdeal.main_arg0) = m' ((c.tc : Thread Cert.GatesReferenceIdeal.nD Cert.GatesReferenceIdeal.τ).loc Cert.GatesReferenceIdeal.main_arg0)
          ∧ r.2.mem ((c.tc : Thread Cert.GatesReferenceIdeal.nD Cert.GatesReferenceIdeal.τ).loc Cert.GatesReferenceIdeal.main_arg1) = m' ((c.tc : Thread Cert.GatesReferenceIdeal.nD Cert.GatesReferenceIdeal.τ).loc Cert.GatesReferenceIdeal.main_arg1))

def preserves_Lat_LatIdeal : Prop :=
  True

def algebraic_LatIdeal_LatReferenceIdeal [hLatIdeal : Cert.LatIdeal.Facts] [hLatReferenceIdeal : Cert.LatReferenceIdeal.Facts] : Prop :=
  ∀ (m : (ℓ : Loc Cert.LatIdeal.nD Cert.LatIdeal.τ Cert.LatIdeal.sig) → Buf (Elt Ideal) ℓ) (g : Dev Cert.LatIdeal.nD → PrngReg)
    (m' : (ℓ : Loc Cert.LatReferenceIdeal.nD Cert.LatReferenceIdeal.τ Cert.LatReferenceIdeal.sig) → Buf (Elt Ideal) ℓ) (g' : Dev Cert.LatReferenceIdeal.nD → PrngReg), Pre_LatIdeal m →
    (∀ c : Dev Cert.LatIdeal.nD,
      m' ((c.tc : Thread Cert.LatReferenceIdeal.nD Cert.LatReferenceIdeal.τ).loc Cert.LatReferenceIdeal.main_arg0) = m ((c.tc : Thread Cert.LatIdeal.nD Cert.LatIdeal.τ).loc Cert.LatIdeal.main_arg0)
      ∧ m' ((c.tc : Thread Cert.LatReferenceIdeal.nD Cert.LatReferenceIdeal.τ).loc Cert.LatReferenceIdeal.main_arg1) = m ((c.tc : Thread Cert.LatIdeal.nD Cert.LatIdeal.τ).loc Cert.LatIdeal.main_arg1)
      ∧ m' ((c.tc : Thread Cert.LatReferenceIdeal.nD Cert.LatReferenceIdeal.τ).loc Cert.LatReferenceIdeal.main_arg2) = m ((c.tc : Thread Cert.LatIdeal.nD Cert.LatIdeal.τ).loc Cert.LatIdeal.main_arg2)
      ∧ m' ((c.tc : Thread Cert.LatReferenceIdeal.nD Cert.LatReferenceIdeal.τ).loc Cert.LatReferenceIdeal.main_arg3) = m ((c.tc : Thread Cert.LatIdeal.nD Cert.LatIdeal.τ).loc Cert.LatIdeal.main_arg3)) →
    ∃ (v0 : (c : Dev Cert.LatIdeal.nD) → Buf (Elt Ideal) ((c.tc : Thread Cert.LatIdeal.nD Cert.LatIdeal.τ).loc Cert.LatIdeal.main_v12)),
      θ_run (Cert.LatIdeal.defs (F := Ideal)) (onTc (τ := Cert.LatIdeal.τ) (Cert.LatIdeal.main (F := Ideal))) ⟨m, fun _ => 0, g⟩ (fun r => ∀ c : Dev Cert.LatIdeal.nD,
          r.2.mem ((c.tc : Thread Cert.LatIdeal.nD Cert.LatIdeal.τ).loc Cert.LatIdeal.main_v12) = v0 c
          ∧ r.2.mem ((c.tc : Thread Cert.LatIdeal.nD Cert.LatIdeal.τ).loc Cert.LatIdeal.main_arg0) = m ((c.tc : Thread Cert.LatIdeal.nD Cert.LatIdeal.τ).loc Cert.LatIdeal.main_arg0)
          ∧ r.2.mem ((c.tc : Thread Cert.LatIdeal.nD Cert.LatIdeal.τ).loc Cert.LatIdeal.main_arg1) = m ((c.tc : Thread Cert.LatIdeal.nD Cert.LatIdeal.τ).loc Cert.LatIdeal.main_arg1)
          ∧ r.2.mem ((c.tc : Thread Cert.LatIdeal.nD Cert.LatIdeal.τ).loc Cert.LatIdeal.main_arg2) = m ((c.tc : Thread Cert.LatIdeal.nD Cert.LatIdeal.τ).loc Cert.LatIdeal.main_arg2)
          ∧ r.2.mem ((c.tc : Thread Cert.LatIdeal.nD Cert.LatIdeal.τ).loc Cert.LatIdeal.main_arg3) = m ((c.tc : Thread Cert.LatIdeal.nD Cert.LatIdeal.τ).loc Cert.LatIdeal.main_arg3))
      ∧ θ_run (Cert.LatReferenceIdeal.defs (F := Ideal)) (onTc (τ := Cert.LatReferenceIdeal.τ) (Cert.LatReferenceIdeal.main (F := Ideal))) ⟨m', fun _ => 0, g'⟩ (fun r => ∀ c : Dev Cert.LatReferenceIdeal.nD,
          r.2.mem ((c.tc : Thread Cert.LatReferenceIdeal.nD Cert.LatReferenceIdeal.τ).loc Cert.LatReferenceIdeal.main_v42) = v0 c
          ∧ r.2.mem ((c.tc : Thread Cert.LatReferenceIdeal.nD Cert.LatReferenceIdeal.τ).loc Cert.LatReferenceIdeal.main_arg0) = m' ((c.tc : Thread Cert.LatReferenceIdeal.nD Cert.LatReferenceIdeal.τ).loc Cert.LatReferenceIdeal.main_arg0)
          ∧ r.2.mem ((c.tc : Thread Cert.LatReferenceIdeal.nD Cert.LatReferenceIdeal.τ).loc Cert.LatReferenceIdeal.main_arg1) = m' ((c.tc : Thread Cert.LatReferenceIdeal.nD Cert.LatReferenceIdeal.τ).loc Cert.LatReferenceIdeal.main_arg1)
          ∧ r.2.mem ((c.tc : Thread Cert.LatReferenceIdeal.nD Cert.LatReferenceIdeal.τ).loc Cert.LatReferenceIdeal.main_arg2) = m' ((c.tc : Thread Cert.LatReferenceIdeal.nD Cert.LatReferenceIdeal.τ).loc Cert.LatReferenceIdeal.main_arg2)
          ∧ r.2.mem ((c.tc : Thread Cert.LatReferenceIdeal.nD Cert.LatReferenceIdeal.τ).loc Cert.LatReferenceIdeal.main_arg3) = m' ((c.tc : Thread Cert.LatReferenceIdeal.nD Cert.LatReferenceIdeal.τ).loc Cert.LatReferenceIdeal.main_arg3))

def preserves_Krope_KropeIdeal : Prop :=
  True

def algebraic_KropeIdeal_KropeReferenceIdeal [hKropeIdeal : Cert.KropeIdeal.Facts] [hKropeReferenceIdeal : Cert.KropeReferenceIdeal.Facts] : Prop :=
  ∀ (m : (ℓ : Loc Cert.KropeIdeal.nD Cert.KropeIdeal.τ Cert.KropeIdeal.sig) → Buf (Elt Ideal) ℓ) (g : Dev Cert.KropeIdeal.nD → PrngReg)
    (m' : (ℓ : Loc Cert.KropeReferenceIdeal.nD Cert.KropeReferenceIdeal.τ Cert.KropeReferenceIdeal.sig) → Buf (Elt Ideal) ℓ) (g' : Dev Cert.KropeReferenceIdeal.nD → PrngReg), Pre_KropeIdeal m →
    (∀ c : Dev Cert.KropeIdeal.nD,
      m' ((c.tc : Thread Cert.KropeReferenceIdeal.nD Cert.KropeReferenceIdeal.τ).loc Cert.KropeReferenceIdeal.main_arg0) = m ((c.tc : Thread Cert.KropeIdeal.nD Cert.KropeIdeal.τ).loc Cert.KropeIdeal.main_arg0)
      ∧ m' ((c.tc : Thread Cert.KropeReferenceIdeal.nD Cert.KropeReferenceIdeal.τ).loc Cert.KropeReferenceIdeal.main_arg1) = m ((c.tc : Thread Cert.KropeIdeal.nD Cert.KropeIdeal.τ).loc Cert.KropeIdeal.main_arg1)) →
    ∃ (v0 : (c : Dev Cert.KropeIdeal.nD) → Buf (Elt Ideal) ((c.tc : Thread Cert.KropeIdeal.nD Cert.KropeIdeal.τ).loc Cert.KropeIdeal.main_v54)),
      θ_run (Cert.KropeIdeal.defs (F := Ideal)) (onTc (τ := Cert.KropeIdeal.τ) (Cert.KropeIdeal.main (F := Ideal))) ⟨m, fun _ => 0, g⟩ (fun r => ∀ c : Dev Cert.KropeIdeal.nD,
          r.2.mem ((c.tc : Thread Cert.KropeIdeal.nD Cert.KropeIdeal.τ).loc Cert.KropeIdeal.main_v54) = v0 c
          ∧ r.2.mem ((c.tc : Thread Cert.KropeIdeal.nD Cert.KropeIdeal.τ).loc Cert.KropeIdeal.main_arg0) = m ((c.tc : Thread Cert.KropeIdeal.nD Cert.KropeIdeal.τ).loc Cert.KropeIdeal.main_arg0)
          ∧ r.2.mem ((c.tc : Thread Cert.KropeIdeal.nD Cert.KropeIdeal.τ).loc Cert.KropeIdeal.main_arg1) = m ((c.tc : Thread Cert.KropeIdeal.nD Cert.KropeIdeal.τ).loc Cert.KropeIdeal.main_arg1))
      ∧ θ_run (Cert.KropeReferenceIdeal.defs (F := Ideal)) (onTc (τ := Cert.KropeReferenceIdeal.τ) (Cert.KropeReferenceIdeal.main (F := Ideal))) ⟨m', fun _ => 0, g'⟩ (fun r => ∀ c : Dev Cert.KropeReferenceIdeal.nD,
          r.2.mem ((c.tc : Thread Cert.KropeReferenceIdeal.nD Cert.KropeReferenceIdeal.τ).loc Cert.KropeReferenceIdeal.main_v92) = v0 c
          ∧ r.2.mem ((c.tc : Thread Cert.KropeReferenceIdeal.nD Cert.KropeReferenceIdeal.τ).loc Cert.KropeReferenceIdeal.main_arg0) = m' ((c.tc : Thread Cert.KropeReferenceIdeal.nD Cert.KropeReferenceIdeal.τ).loc Cert.KropeReferenceIdeal.main_arg0)
          ∧ r.2.mem ((c.tc : Thread Cert.KropeReferenceIdeal.nD Cert.KropeReferenceIdeal.τ).loc Cert.KropeReferenceIdeal.main_arg1) = m' ((c.tc : Thread Cert.KropeReferenceIdeal.nD Cert.KropeReferenceIdeal.τ).loc Cert.KropeReferenceIdeal.main_arg1))

def preserves_QHeads_QHeadsIdeal : Prop :=
  True

def algebraic_QHeadsIdeal_QHeadsReferenceIdeal [hQHeadsIdeal : Cert.QHeadsIdeal.Facts] [hQHeadsReferenceIdeal : Cert.QHeadsReferenceIdeal.Facts] : Prop :=
  ∀ (m : (ℓ : Loc Cert.QHeadsIdeal.nD Cert.QHeadsIdeal.τ Cert.QHeadsIdeal.sig) → Buf (Elt Ideal) ℓ) (g : Dev Cert.QHeadsIdeal.nD → PrngReg)
    (m' : (ℓ : Loc Cert.QHeadsReferenceIdeal.nD Cert.QHeadsReferenceIdeal.τ Cert.QHeadsReferenceIdeal.sig) → Buf (Elt Ideal) ℓ) (g' : Dev Cert.QHeadsReferenceIdeal.nD → PrngReg), Pre_QHeadsIdeal m →
    (∀ c : Dev Cert.QHeadsIdeal.nD,
      m' ((c.tc : Thread Cert.QHeadsReferenceIdeal.nD Cert.QHeadsReferenceIdeal.τ).loc Cert.QHeadsReferenceIdeal.main_arg0) = m ((c.tc : Thread Cert.QHeadsIdeal.nD Cert.QHeadsIdeal.τ).loc Cert.QHeadsIdeal.main_arg0)
      ∧ m' ((c.tc : Thread Cert.QHeadsReferenceIdeal.nD Cert.QHeadsReferenceIdeal.τ).loc Cert.QHeadsReferenceIdeal.main_arg1) = m ((c.tc : Thread Cert.QHeadsIdeal.nD Cert.QHeadsIdeal.τ).loc Cert.QHeadsIdeal.main_arg1)) →
    ∃ (v0 : (c : Dev Cert.QHeadsIdeal.nD) → Buf (Elt Ideal) ((c.tc : Thread Cert.QHeadsIdeal.nD Cert.QHeadsIdeal.τ).loc Cert.QHeadsIdeal.main_v54)),
      θ_run (Cert.QHeadsIdeal.defs (F := Ideal)) (onTc (τ := Cert.QHeadsIdeal.τ) (Cert.QHeadsIdeal.main (F := Ideal))) ⟨m, fun _ => 0, g⟩ (fun r => ∀ c : Dev Cert.QHeadsIdeal.nD,
          r.2.mem ((c.tc : Thread Cert.QHeadsIdeal.nD Cert.QHeadsIdeal.τ).loc Cert.QHeadsIdeal.main_v54) = v0 c
          ∧ r.2.mem ((c.tc : Thread Cert.QHeadsIdeal.nD Cert.QHeadsIdeal.τ).loc Cert.QHeadsIdeal.main_arg0) = m ((c.tc : Thread Cert.QHeadsIdeal.nD Cert.QHeadsIdeal.τ).loc Cert.QHeadsIdeal.main_arg0)
          ∧ r.2.mem ((c.tc : Thread Cert.QHeadsIdeal.nD Cert.QHeadsIdeal.τ).loc Cert.QHeadsIdeal.main_arg1) = m ((c.tc : Thread Cert.QHeadsIdeal.nD Cert.QHeadsIdeal.τ).loc Cert.QHeadsIdeal.main_arg1))
      ∧ θ_run (Cert.QHeadsReferenceIdeal.defs (F := Ideal)) (onTc (τ := Cert.QHeadsReferenceIdeal.τ) (Cert.QHeadsReferenceIdeal.main (F := Ideal))) ⟨m', fun _ => 0, g'⟩ (fun r => ∀ c : Dev Cert.QHeadsReferenceIdeal.nD,
          r.2.mem ((c.tc : Thread Cert.QHeadsReferenceIdeal.nD Cert.QHeadsReferenceIdeal.τ).loc Cert.QHeadsReferenceIdeal.main_v94) = v0 c
          ∧ r.2.mem ((c.tc : Thread Cert.QHeadsReferenceIdeal.nD Cert.QHeadsReferenceIdeal.τ).loc Cert.QHeadsReferenceIdeal.main_arg0) = m' ((c.tc : Thread Cert.QHeadsReferenceIdeal.nD Cert.QHeadsReferenceIdeal.τ).loc Cert.QHeadsReferenceIdeal.main_arg0)
          ∧ r.2.mem ((c.tc : Thread Cert.QHeadsReferenceIdeal.nD Cert.QHeadsReferenceIdeal.τ).loc Cert.QHeadsReferenceIdeal.main_arg1) = m' ((c.tc : Thread Cert.QHeadsReferenceIdeal.nD Cert.QHeadsReferenceIdeal.τ).loc Cert.QHeadsReferenceIdeal.main_arg1))

def preserves_KvUp_KvUpIdeal : Prop :=
  True

def algebraic_KvUpIdeal_KvUpReferenceIdeal [hKvUpIdeal : Cert.KvUpIdeal.Facts] [hKvUpReferenceIdeal : Cert.KvUpReferenceIdeal.Facts] : Prop :=
  ∀ (m : (ℓ : Loc Cert.KvUpIdeal.nD Cert.KvUpIdeal.τ Cert.KvUpIdeal.sig) → Buf (Elt Ideal) ℓ) (g : Dev Cert.KvUpIdeal.nD → PrngReg)
    (m' : (ℓ : Loc Cert.KvUpReferenceIdeal.nD Cert.KvUpReferenceIdeal.τ Cert.KvUpReferenceIdeal.sig) → Buf (Elt Ideal) ℓ) (g' : Dev Cert.KvUpReferenceIdeal.nD → PrngReg), Pre_KvUpIdeal m →
    (∀ c : Dev Cert.KvUpIdeal.nD,
      m' ((c.tc : Thread Cert.KvUpReferenceIdeal.nD Cert.KvUpReferenceIdeal.τ).loc Cert.KvUpReferenceIdeal.main_arg0) = m ((c.tc : Thread Cert.KvUpIdeal.nD Cert.KvUpIdeal.τ).loc Cert.KvUpIdeal.main_arg0)
      ∧ m' ((c.tc : Thread Cert.KvUpReferenceIdeal.nD Cert.KvUpReferenceIdeal.τ).loc Cert.KvUpReferenceIdeal.main_arg1) = m ((c.tc : Thread Cert.KvUpIdeal.nD Cert.KvUpIdeal.τ).loc Cert.KvUpIdeal.main_arg1)
      ∧ m' ((c.tc : Thread Cert.KvUpReferenceIdeal.nD Cert.KvUpReferenceIdeal.τ).loc Cert.KvUpReferenceIdeal.main_arg2) = m ((c.tc : Thread Cert.KvUpIdeal.nD Cert.KvUpIdeal.τ).loc Cert.KvUpIdeal.main_arg2)) →
    ∃ (v0 : (c : Dev Cert.KvUpIdeal.nD) → Buf (Elt Ideal) ((c.tc : Thread Cert.KvUpIdeal.nD Cert.KvUpIdeal.τ).loc Cert.KvUpIdeal.main_v8_0)) (v1 : (c : Dev Cert.KvUpIdeal.nD) → Buf (Elt Ideal) ((c.tc : Thread Cert.KvUpIdeal.nD Cert.KvUpIdeal.τ).loc Cert.KvUpIdeal.main_v8_1)),
      θ_run (Cert.KvUpIdeal.defs (F := Ideal)) (onTc (τ := Cert.KvUpIdeal.τ) (Cert.KvUpIdeal.main (F := Ideal))) ⟨m, fun _ => 0, g⟩ (fun r => ∀ c : Dev Cert.KvUpIdeal.nD,
          r.2.mem ((c.tc : Thread Cert.KvUpIdeal.nD Cert.KvUpIdeal.τ).loc Cert.KvUpIdeal.main_v8_0) = v0 c
          ∧ r.2.mem ((c.tc : Thread Cert.KvUpIdeal.nD Cert.KvUpIdeal.τ).loc Cert.KvUpIdeal.main_v8_1) = v1 c
          ∧ r.2.mem ((c.tc : Thread Cert.KvUpIdeal.nD Cert.KvUpIdeal.τ).loc Cert.KvUpIdeal.main_arg0) = m ((c.tc : Thread Cert.KvUpIdeal.nD Cert.KvUpIdeal.τ).loc Cert.KvUpIdeal.main_arg0)
          ∧ r.2.mem ((c.tc : Thread Cert.KvUpIdeal.nD Cert.KvUpIdeal.τ).loc Cert.KvUpIdeal.main_arg1) = m ((c.tc : Thread Cert.KvUpIdeal.nD Cert.KvUpIdeal.τ).loc Cert.KvUpIdeal.main_arg1)
          ∧ r.2.mem ((c.tc : Thread Cert.KvUpIdeal.nD Cert.KvUpIdeal.τ).loc Cert.KvUpIdeal.main_arg2) = m ((c.tc : Thread Cert.KvUpIdeal.nD Cert.KvUpIdeal.τ).loc Cert.KvUpIdeal.main_arg2))
      ∧ θ_run (Cert.KvUpReferenceIdeal.defs (F := Ideal)) (onTc (τ := Cert.KvUpReferenceIdeal.τ) (Cert.KvUpReferenceIdeal.main (F := Ideal))) ⟨m', fun _ => 0, g'⟩ (fun r => ∀ c : Dev Cert.KvUpReferenceIdeal.nD,
          r.2.mem ((c.tc : Thread Cert.KvUpReferenceIdeal.nD Cert.KvUpReferenceIdeal.τ).loc Cert.KvUpReferenceIdeal.main_v10) = v0 c
          ∧ r.2.mem ((c.tc : Thread Cert.KvUpReferenceIdeal.nD Cert.KvUpReferenceIdeal.τ).loc Cert.KvUpReferenceIdeal.main_v12) = v1 c
          ∧ r.2.mem ((c.tc : Thread Cert.KvUpReferenceIdeal.nD Cert.KvUpReferenceIdeal.τ).loc Cert.KvUpReferenceIdeal.main_arg0) = m' ((c.tc : Thread Cert.KvUpReferenceIdeal.nD Cert.KvUpReferenceIdeal.τ).loc Cert.KvUpReferenceIdeal.main_arg0)
          ∧ r.2.mem ((c.tc : Thread Cert.KvUpReferenceIdeal.nD Cert.KvUpReferenceIdeal.τ).loc Cert.KvUpReferenceIdeal.main_arg1) = m' ((c.tc : Thread Cert.KvUpReferenceIdeal.nD Cert.KvUpReferenceIdeal.τ).loc Cert.KvUpReferenceIdeal.main_arg1)
          ∧ r.2.mem ((c.tc : Thread Cert.KvUpReferenceIdeal.nD Cert.KvUpReferenceIdeal.τ).loc Cert.KvUpReferenceIdeal.main_arg2) = m' ((c.tc : Thread Cert.KvUpReferenceIdeal.nD Cert.KvUpReferenceIdeal.τ).loc Cert.KvUpReferenceIdeal.main_arg2))

def preserves_Tail_TailIdeal : Prop :=
  True

def algebraic_TailIdeal_TailReferenceIdeal [hTailIdeal : Cert.TailIdeal.Facts] [hTailReferenceIdeal : Cert.TailReferenceIdeal.Facts] : Prop :=
  ∀ (m : (ℓ : Loc Cert.TailIdeal.nD Cert.TailIdeal.τ Cert.TailIdeal.sig) → Buf (Elt Ideal) ℓ) (g : Dev Cert.TailIdeal.nD → PrngReg)
    (m' : (ℓ : Loc Cert.TailReferenceIdeal.nD Cert.TailReferenceIdeal.τ Cert.TailReferenceIdeal.sig) → Buf (Elt Ideal) ℓ) (g' : Dev Cert.TailReferenceIdeal.nD → PrngReg), Pre_TailIdeal m →
    (∀ c : Dev Cert.TailIdeal.nD,
      m' ((c.tc : Thread Cert.TailReferenceIdeal.nD Cert.TailReferenceIdeal.τ).loc Cert.TailReferenceIdeal.main_arg0) = m ((c.tc : Thread Cert.TailIdeal.nD Cert.TailIdeal.τ).loc Cert.TailIdeal.main_arg0)
      ∧ m' ((c.tc : Thread Cert.TailReferenceIdeal.nD Cert.TailReferenceIdeal.τ).loc Cert.TailReferenceIdeal.main_arg1) = m ((c.tc : Thread Cert.TailIdeal.nD Cert.TailIdeal.τ).loc Cert.TailIdeal.main_arg1)) →
    ∃ (v0 : (c : Dev Cert.TailIdeal.nD) → Buf (Elt Ideal) ((c.tc : Thread Cert.TailIdeal.nD Cert.TailIdeal.τ).loc Cert.TailIdeal.main_v74)),
      θ_run (Cert.TailIdeal.defs (F := Ideal)) (onTc (τ := Cert.TailIdeal.τ) (Cert.TailIdeal.main (F := Ideal))) ⟨m, fun _ => 0, g⟩ (fun r => ∀ c : Dev Cert.TailIdeal.nD,
          r.2.mem ((c.tc : Thread Cert.TailIdeal.nD Cert.TailIdeal.τ).loc Cert.TailIdeal.main_v74) = v0 c
          ∧ r.2.mem ((c.tc : Thread Cert.TailIdeal.nD Cert.TailIdeal.τ).loc Cert.TailIdeal.main_arg0) = m ((c.tc : Thread Cert.TailIdeal.nD Cert.TailIdeal.τ).loc Cert.TailIdeal.main_arg0)
          ∧ r.2.mem ((c.tc : Thread Cert.TailIdeal.nD Cert.TailIdeal.τ).loc Cert.TailIdeal.main_arg1) = m ((c.tc : Thread Cert.TailIdeal.nD Cert.TailIdeal.τ).loc Cert.TailIdeal.main_arg1))
      ∧ θ_run (Cert.TailReferenceIdeal.defs (F := Ideal)) (onTc (τ := Cert.TailReferenceIdeal.τ) (Cert.TailReferenceIdeal.main (F := Ideal))) ⟨m', fun _ => 0, g'⟩ (fun r => ∀ c : Dev Cert.TailReferenceIdeal.nD,
          r.2.mem ((c.tc : Thread Cert.TailReferenceIdeal.nD Cert.TailReferenceIdeal.τ).loc Cert.TailReferenceIdeal.main_v56) = v0 c
          ∧ r.2.mem ((c.tc : Thread Cert.TailReferenceIdeal.nD Cert.TailReferenceIdeal.τ).loc Cert.TailReferenceIdeal.main_arg0) = m' ((c.tc : Thread Cert.TailReferenceIdeal.nD Cert.TailReferenceIdeal.τ).loc Cert.TailReferenceIdeal.main_arg0)
          ∧ r.2.mem ((c.tc : Thread Cert.TailReferenceIdeal.nD Cert.TailReferenceIdeal.τ).loc Cert.TailReferenceIdeal.main_arg1) = m' ((c.tc : Thread Cert.TailReferenceIdeal.nD Cert.TailReferenceIdeal.τ).loc Cert.TailReferenceIdeal.main_arg1))

def Claim : Prop :=
  ∃ (hKernel : Cert.Kernel.Facts) (hKernelIdeal : Cert.KernelIdeal.Facts) (hReferenceIdeal : Cert.ReferenceIdeal.Facts) (hFfn : Cert.Ffn.Facts) (hFfnIdeal : Cert.FfnIdeal.Facts) (hFfnReferenceIdeal : Cert.FfnReferenceIdeal.Facts) (hMerge : Cert.Merge.Facts) (hMergeIdeal : Cert.MergeIdeal.Facts) (hMergeReferenceIdeal : Cert.MergeReferenceIdeal.Facts) (hOutLn : Cert.OutLn.Facts) (hOutLnIdeal : Cert.OutLnIdeal.Facts) (hOutLnReferenceIdeal : Cert.OutLnReferenceIdeal.Facts) (hProjV : Cert.ProjV.Facts) (hProjVIdeal : Cert.ProjVIdeal.Facts) (hProjVReferenceIdeal : Cert.ProjVReferenceIdeal.Facts) (hGates : Cert.Gates.Facts) (hGatesIdeal : Cert.GatesIdeal.Facts) (hGatesReferenceIdeal : Cert.GatesReferenceIdeal.Facts) (hLat : Cert.Lat.Facts) (hLatIdeal : Cert.LatIdeal.Facts) (hLatReferenceIdeal : Cert.LatReferenceIdeal.Facts) (hKrope : Cert.Krope.Facts) (hKropeIdeal : Cert.KropeIdeal.Facts) (hKropeReferenceIdeal : Cert.KropeReferenceIdeal.Facts) (hQHeads : Cert.QHeads.Facts) (hQHeadsIdeal : Cert.QHeadsIdeal.Facts) (hQHeadsReferenceIdeal : Cert.QHeadsReferenceIdeal.Facts) (hKvUp : Cert.KvUp.Facts) (hKvUpIdeal : Cert.KvUpIdeal.Facts) (hKvUpReferenceIdeal : Cert.KvUpReferenceIdeal.Facts) (hTail : Cert.Tail.Facts) (hTailIdeal : Cert.TailIdeal.Facts) (hTailReferenceIdeal : Cert.TailReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Ffn (hFfn := hFfn)
    ∧ quiescent_FfnIdeal (hFfnIdeal := hFfnIdeal)
    ∧ quiescent_FfnReferenceIdeal (hFfnReferenceIdeal := hFfnReferenceIdeal)
    ∧ quiescent_Merge (hMerge := hMerge)
    ∧ quiescent_MergeIdeal (hMergeIdeal := hMergeIdeal)
    ∧ quiescent_MergeReferenceIdeal (hMergeReferenceIdeal := hMergeReferenceIdeal)
    ∧ quiescent_OutLn (hOutLn := hOutLn)
    ∧ quiescent_OutLnIdeal (hOutLnIdeal := hOutLnIdeal)
    ∧ quiescent_OutLnReferenceIdeal (hOutLnReferenceIdeal := hOutLnReferenceIdeal)
    ∧ quiescent_ProjV (hProjV := hProjV)
    ∧ quiescent_ProjVIdeal (hProjVIdeal := hProjVIdeal)
    ∧ quiescent_ProjVReferenceIdeal (hProjVReferenceIdeal := hProjVReferenceIdeal)
    ∧ quiescent_Gates (hGates := hGates)
    ∧ quiescent_GatesIdeal (hGatesIdeal := hGatesIdeal)
    ∧ quiescent_GatesReferenceIdeal (hGatesReferenceIdeal := hGatesReferenceIdeal)
    ∧ quiescent_Lat (hLat := hLat)
    ∧ quiescent_LatIdeal (hLatIdeal := hLatIdeal)
    ∧ quiescent_LatReferenceIdeal (hLatReferenceIdeal := hLatReferenceIdeal)
    ∧ quiescent_Krope (hKrope := hKrope)
    ∧ quiescent_KropeIdeal (hKropeIdeal := hKropeIdeal)
    ∧ quiescent_KropeReferenceIdeal (hKropeReferenceIdeal := hKropeReferenceIdeal)
    ∧ quiescent_QHeads (hQHeads := hQHeads)
    ∧ quiescent_QHeadsIdeal (hQHeadsIdeal := hQHeadsIdeal)
    ∧ quiescent_QHeadsReferenceIdeal (hQHeadsReferenceIdeal := hQHeadsReferenceIdeal)
    ∧ quiescent_KvUp (hKvUp := hKvUp)
    ∧ quiescent_KvUpIdeal (hKvUpIdeal := hKvUpIdeal)
    ∧ quiescent_KvUpReferenceIdeal (hKvUpReferenceIdeal := hKvUpReferenceIdeal)
    ∧ quiescent_Tail (hTail := hTail)
    ∧ quiescent_TailIdeal (hTailIdeal := hTailIdeal)
    ∧ quiescent_TailReferenceIdeal (hTailReferenceIdeal := hTailReferenceIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Ffn_FfnIdeal
    ∧ algebraic_FfnIdeal_FfnReferenceIdeal (hFfnIdeal := hFfnIdeal) (hFfnReferenceIdeal := hFfnReferenceIdeal)
    ∧ preserves_Merge_MergeIdeal
    ∧ algebraic_MergeIdeal_MergeReferenceIdeal (hMergeIdeal := hMergeIdeal) (hMergeReferenceIdeal := hMergeReferenceIdeal)
    ∧ preserves_OutLn_OutLnIdeal
    ∧ algebraic_OutLnIdeal_OutLnReferenceIdeal (hOutLnIdeal := hOutLnIdeal) (hOutLnReferenceIdeal := hOutLnReferenceIdeal)
    ∧ preserves_ProjV_ProjVIdeal
    ∧ algebraic_ProjVIdeal_ProjVReferenceIdeal (hProjVIdeal := hProjVIdeal) (hProjVReferenceIdeal := hProjVReferenceIdeal)
    ∧ preserves_Gates_GatesIdeal
    ∧ algebraic_GatesIdeal_GatesReferenceIdeal (hGatesIdeal := hGatesIdeal) (hGatesReferenceIdeal := hGatesReferenceIdeal)
    ∧ preserves_Lat_LatIdeal
    ∧ algebraic_LatIdeal_LatReferenceIdeal (hLatIdeal := hLatIdeal) (hLatReferenceIdeal := hLatReferenceIdeal)
    ∧ preserves_Krope_KropeIdeal
    ∧ algebraic_KropeIdeal_KropeReferenceIdeal (hKropeIdeal := hKropeIdeal) (hKropeReferenceIdeal := hKropeReferenceIdeal)
    ∧ preserves_QHeads_QHeadsIdeal
    ∧ algebraic_QHeadsIdeal_QHeadsReferenceIdeal (hQHeadsIdeal := hQHeadsIdeal) (hQHeadsReferenceIdeal := hQHeadsReferenceIdeal)
    ∧ preserves_KvUp_KvUpIdeal
    ∧ algebraic_KvUpIdeal_KvUpReferenceIdeal (hKvUpIdeal := hKvUpIdeal) (hKvUpReferenceIdeal := hKvUpReferenceIdeal)
    ∧ preserves_Tail_TailIdeal
    ∧ algebraic_TailIdeal_TailReferenceIdeal (hTailIdeal := hTailIdeal) (hTailReferenceIdeal := hTailReferenceIdeal)
-- ==== Pre_finite.lean ====
abbrev S16x2x4096x256 : Shape := ⟨4, ![16, 2, 4096, 256]⟩
abbrev S16x2x4096x128 : Shape := ⟨4, ![16, 2, 4096, 128]⟩
abbrev S_ : Shape := ⟨0, ![]⟩

class Facts : Prop where
  bitsLt_bf16_f32 : FTy.bits .bf16 < FTy.bits .f32
  bcast_S_S16x2x4096x256 : S_.BroadcastsInDim S16x2x4096x256 (![] : Fin 0 → Fin S16x2x4096x256.rank)
  reducesTo_S16x2x4096x256_S_d0_1_2_3 : S16x2x4096x256.ReducesTo [0, 1, 2, 3] S_
  h_S_ : 0 < S_.numel

variable [Facts]

def fn {F : FTy → Type} [FloatOps F] (main_arg0 : FVec F S16x2x4096x256 .bf16) (main_arg1 : FVec F S16x2x4096x256 .bf16) (main_arg2 : FVec F S16x2x4096x128 .bf16) : IVec S_ 1 :=
  let main_v0 : FVec F S16x2x4096x256 .f32 := (extf .f32 · bitsLt_bf16_f32) main_arg0
  let main_v1 : FVec F S16x2x4096x256 .f32 := Host.absf main_v0
  let main_cst : FVec F S_ .f32 := constant S_ .f32 0x7F800000#32
  let main_v2 : FVec F S16x2x4096x256 .f32 := broadcastInDim S16x2x4096x256 ![] bcast_S_S16x2x4096x256 main_cst
  let main_v3 : IVec S16x2x4096x256 1 := cmpf .olt main_v1 main_v2
  let main_c : IVec S_ 1 := constantI S_ 1 1#1
  let main_v4 : IVec S_ 1 := (fun x v => Host.reduce IntOp.andi x v reducesTo_S16x2x4096x256_S_d0_1_2_3 h_S_) main_v3 main_c
  let main_v5 : FVec F S16x2x4096x256 .f32 := (extf .f32 · bitsLt_bf16_f32) main_arg1
  let main_v6 : FVec F S16x2x4096x256 .f32 := Host.absf main_v5
  let main_cst_0 : FVec F S_ .f32 := constant S_ .f32 0x7F800000#32
  let main_v7 : FVec F S16x2x4096x256 .f32 := broadcastInDim S16x2x4096x256 ![] bcast_S_S16x2x4096x256 main_cst_0
  let main_v8 : IVec S16x2x4096x256 1 := cmpf .olt main_v6 main_v7
  let main_c_1 : IVec S_ 1 := constantI S_ 1 1#1
  let main_v9 : IVec S_ 1 := (fun x v => Host.reduce IntOp.andi x v reducesTo_S16x2x4096x256_S_d0_1_2_3 h_S_) main_v8 main_c_1
  let main_v10 : IVec S_ 1 := andi main_v4 main_v9
  main_v10
-- ==== Kernel.lean ====
abbrev S16x2x4096x256 : Shape := ⟨4, ![16, 2, 4096, 256]⟩
abbrev S16x2x4096x128 : Shape := ⟨4, ![16, 2, 4096, 128]⟩
abbrev S2x4096x2048 : Shape := ⟨3, ![2, 4096, 2048]⟩
abbrev S1x1x1024x256 : Shape := ⟨4, ![1, 1, 1024, 256]⟩
abbrev S1x1x4096x256 : Shape := ⟨4, ![1, 1, 4096, 256]⟩
abbrev S1x1x4096x128 : Shape := ⟨4, ![1, 1, 4096, 128]⟩
abbrev S1x1024x128 : Shape := ⟨3, ![1, 1024, 128]⟩
abbrev S1024x4096 : Shape := ⟨2, ![1024, 4096]⟩
abbrev S1024x128 : Shape := ⟨2, ![1024, 128]⟩
abbrev S1024x256 : Shape := ⟨2, ![1024, 256]⟩
abbrev S1x1x2048x256 : Shape := ⟨4, ![1, 1, 2048, 256]⟩
abbrev S2048x256 : Shape := ⟨2, ![2048, 256]⟩
abbrev S1024x2048 : Shape := ⟨2, ![1024, 2048]⟩
abbrev S1024x1024 : Shape := ⟨2, ![1024, 1024]⟩
abbrev S1x1x512x256 : Shape := ⟨4, ![1, 1, 512, 256]⟩
abbrev S512x256 : Shape := ⟨2, ![512, 256]⟩
abbrev S1024x512 : Shape := ⟨2, ![1024, 512]⟩
abbrev S1024x1 : Shape := ⟨2, ![1024, 1]⟩
abbrev S1024 : Shape := ⟨1, ![1024]⟩
abbrev S2048x128 : Shape := ⟨2, ![2048, 128]⟩
abbrev S1x1x2048x128 : Shape := ⟨4, ![1, 1, 2048, 128]⟩
abbrev S1x1x1024x128 : Shape := ⟨4, ![1, 1, 1024, 128]⟩
abbrev S512x128 : Shape := ⟨2, ![512, 128]⟩
abbrev S1x1x512x128 : Shape := ⟨4, ![1, 1, 512, 128]⟩

abbrev nBuf : Space → Nat
  | .hbm => 4
  | .vmem => 11
  | .smem => 0
  | _ => 0

abbrev bufTy : (tb : Table) → Fin (tcTables nBuf tb) → BufTy
  | .hbm, ⟨0, _⟩ => ⟨S16x2x4096x256, .bf16⟩
  | .hbm, ⟨1, _⟩ => ⟨S16x2x4096x256, .bf16⟩
  | .hbm, ⟨2, _⟩ => ⟨S16x2x4096x128, .bf16⟩
  | .hbm, ⟨3, _⟩ => ⟨S2x4096x2048, .bf16⟩
  | .local _ .vmem, ⟨0, _⟩ => ⟨S1x1x1024x256, .bf16⟩
  | .local _ .vmem, ⟨1, _⟩ => ⟨S1x1x1024x256, .bf16⟩
  | .local _ .vmem, ⟨2, _⟩ => ⟨S1x1x4096x256, .bf16⟩
  | .local _ .vmem, ⟨3, _⟩ => ⟨S1x1x4096x256, .bf16⟩
  | .local _ .vmem, ⟨4, _⟩ => ⟨S1x1x4096x128, .bf16⟩
  | .local _ .vmem, ⟨5, _⟩ => ⟨S1x1x4096x128, .bf16⟩
  | .local _ .vmem, ⟨6, _⟩ => ⟨S1x1024x128, .bf16⟩
  | .local _ .vmem, ⟨7, _⟩ => ⟨S1x1024x128, .bf16⟩
  | .local _ .vmem, ⟨8, _⟩ => ⟨S1024x4096, .f32⟩
  | .local _ .vmem, ⟨9, _⟩ => ⟨S1024x128, .f32⟩
  | .local _ .vmem, ⟨10, _⟩ => ⟨S1024x256, .f32⟩
  | _, _ => ⟨S16x2x4096x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 16, 4], ![false, false, false]⟩

@[reducible] def k0_t1_loop (i : grid0.Coords) : Scf.Loop 32 :=
  let c0_i32_35 : BitVec 32 := 0#32
  let c0_i32 : BitVec 32 := 0#32
  let arg2 : BitVec 32 := BitVec.ofNat 32 (i 2).val
  let c1024_i32 : BitVec 32 := 1024#32
  let v0 : BitVec 32 := Scalar.muli arg2 c1024_i32
  let v1 : BitVec 32 := Scalar.addi c0_i32 v0
  let c6_i32 : BitVec 32 := 6#32
  let v4 : BitVec 32 := Scalar.shrsi v1 c6_i32
  let c1_i32 : BitVec 32 := 1#32
  let v5 : BitVec 32 := Scalar.addi v4 c1_i32
  let c6_i32_3 : BitVec 32 := 6#32
  let v6 : BitVec 32 := Scalar.shli v5 c6_i32_3
  let c4096_i32 : BitVec 32 := 4096#32
  let v7 : BitVec 32 := Scalar.minsi v6 c4096_i32
  let c0_i32_4 : BitVec 32 := 0#32
  let v9 : BitVec 1 := Scalar.cmpi .sgt v7 c0_i32_4
  let v10 : BitVec 32 := Scalar.extui v9
  let c0_i32_5 : BitVec 32 := 0#32
  let v11 : BitVec 1 := Scalar.cmpi .slt v7 c0_i32_5
  let v12 : BitVec 32 := Scalar.extui v11
  let v13 : BitVec 32 := Scalar.subi v10 v12
  let c512_i32 : BitVec 32 := 512#32
  let c0_i32_6 : BitVec 32 := 0#32
  let v14 : BitVec 1 := Scalar.cmpi .sgt c512_i32 c0_i32_6
  let v15 : BitVec 32 := Scalar.extui v14
  let c0_i32_7 : BitVec 32 := 0#32
  let v16 : BitVec 1 := Scalar.cmpi .slt c512_i32 c0_i32_7
  let v17 : BitVec 32 := Scalar.extui v16
  let v18 : BitVec 32 := Scalar.subi v15 v17
  let v19 : BitVec 1 := Scalar.cmpi .ne v13 v18
  let v20 : BitVec 32 := Scalar.remsi v7 c512_i32
  let c0_i32_8 : BitVec 32 := 0#32
  let v21 : BitVec 1 := Scalar.cmpi .ne v20 c0_i32_8
  let v22 : BitVec 1 := Scalar.andi v19 v21
  let v8 : BitVec 32 := Scalar.divsi v7 c512_i32
  let c1_i32_9 : BitVec 32 := 1#32
  let v23 : BitVec 32 := Scalar.subi v8 c1_i32_9
  let v24 : BitVec 32 := Scalar.select v22 v23 v8
  let c0_i32_27 : BitVec 32 := 0#32
  let v54 : BitVec 32 := Scalar.subi v24 c0_i32_27
  let c0_i32_28 : BitVec 32 := 0#32
  let v56 : BitVec 1 := Scalar.cmpi .sgt v54 c0_i32_28
  let v57 : BitVec 32 := Scalar.extui v56
  let c0_i32_29 : BitVec 32 := 0#32
  let v58 : BitVec 1 := Scalar.cmpi .slt v54 c0_i32_29
  let v59 : BitVec 32 := Scalar.extui v58
  let v60 : BitVec 32 := Scalar.subi v57 v59
  let c4_i32 : BitVec 32 := 4#32
  let c0_i32_30 : BitVec 32 := 0#32
  let v61 : BitVec 1 := Scalar.cmpi .sgt c4_i32 c0_i32_30
  let v62 : BitVec 32 := Scalar.extui v61
  let c0_i32_31 : BitVec 32 := 0#32
  let v63 : BitVec 1 := Scalar.cmpi .slt c4_i32 c0_i32_31
  let v64 : BitVec 32 := Scalar.extui v63
  let v65 : BitVec 32 := Scalar.subi v62 v64
  let v66 : BitVec 1 := Scalar.cmpi .ne v60 v65
  let v67 : BitVec 32 := Scalar.remsi v54 c4_i32
  let c0_i32_32 : BitVec 32 := 0#32
  let v68 : BitVec 1 := Scalar.cmpi .ne v67 c0_i32_32
  let v69 : BitVec 1 := Scalar.andi v66 v68
  let v55 : BitVec 32 := Scalar.divsi v54 c4_i32
  let c1_i32_33 : BitVec 32 := 1#32
  let v70 : BitVec 32 := Scalar.subi v55 c1_i32_33
  let v71 : BitVec 32 := Scalar.select v69 v70 v55
  let v72 : BitVec 32 := Scalar.subi v71 c0_i32_35
  let c1_i32_36 : BitVec 32 := 1#32
  let v74 : BitVec 32 := Scalar.divsi v72 c1_i32_36
  let v75 : BitVec 32 := Scalar.muli v74 c1_i32_36
  let v76 : BitVec 32 := Scalar.addi c0_i32_35 v75
  let c1_i32_37 : BitVec 32 := 1#32
  ⟨c0_i32_35, v76, c1_i32_37⟩
def k0_mult1 (i : grid0.Coords) (k0_t1 : Fin (k0_t1_loop i).trips) : BitVec 32 :=
  let c0_i32_97 : BitVec 32 := 0#32
  let c0_i32_35 : BitVec 32 := 0#32
  let c1_i32_37 : BitVec 32 := 1#32
  let arg10 : BitVec 32 := Scf.iv c0_i32_35 c1_i32_37 k0_t1
  let c4_i32_96 : BitVec 32 := 4#32
  let v168 : BitVec 32 := Scalar.muli arg10 c4_i32_96
  let v169 : BitVec 32 := Scalar.addi c0_i32_97 v168
  let c512_i32_98 : BitVec 32 := 512#32
  let v170 : BitVec 32 := Scalar.muli v169 c512_i32_98
  v170
def k0_off1 (i : grid0.Coords) (k0_t1 : Fin (k0_t1_loop i).trips) : Fin 4 → Nat :=
  let c0_99 : Index := 0#32
  let c0_100 : Index := 0#32
  let c0_i32_97 : BitVec 32 := 0#32
  let c0_i32_35 : BitVec 32 := 0#32
  let c1_i32_37 : BitVec 32 := 1#32
  let arg10 : BitVec 32 := Scf.iv c0_i32_35 c1_i32_37 k0_t1
  let c4_i32_96 : BitVec 32 := 4#32
  let v168 : BitVec 32 := Scalar.muli arg10 c4_i32_96
  let v169 : BitVec 32 := Scalar.addi c0_i32_97 v168
  let c512_i32_98 : BitVec 32 := 512#32
  let v170 : BitVec 32 := Scalar.muli v169 c512_i32_98
  let v171 : BitVec 32 := v170
  let v172 : Index := Scalar.indexCast v171
  let c0_101 : Index := 0#32
  ![0, 0, v172.toNat, 0]
def k0_off2 (i : grid0.Coords) (k0_t1 : Fin (k0_t1_loop i).trips) : Fin 2 → Nat :=
  let c0_103 : Index := 0#32
  let c0_i32_97 : BitVec 32 := 0#32
  let c0_i32_35 : BitVec 32 := 0#32
  let c1_i32_37 : BitVec 32 := 1#32
  let arg10 : BitVec 32 := Scf.iv c0_i32_35 c1_i32_37 k0_t1
  let c4_i32_96 : BitVec 32 := 4#32
  let v168 : BitVec 32 := Scalar.muli arg10 c4_i32_96
  let v169 : BitVec 32 := Scalar.addi c0_i32_97 v168
  let c512_i32_98 : BitVec 32 := 512#32
  let v170 : BitVec 32 := Scalar.muli v169 c512_i32_98
  let v171 : BitVec 32 := v170
  let v176 : Index := Scalar.indexCast v171
  ![0, v176.toNat]
@[reducible] def k0_t2_loop (i : grid0.Coords) : Scf.Loop 32 :=
  let c0_i32_35 : BitVec 32 := 0#32
  let c0_i32 : BitVec 32 := 0#32
  let arg2 : BitVec 32 := BitVec.ofNat 32 (i 2).val
  let c1024_i32 : BitVec 32 := 1024#32
  let v0 : BitVec 32 := Scalar.muli arg2 c1024_i32
  let v1 : BitVec 32 := Scalar.addi c0_i32 v0
  let c6_i32 : BitVec 32 := 6#32
  let v4 : BitVec 32 := Scalar.shrsi v1 c6_i32
  let c1_i32 : BitVec 32 := 1#32
  let v5 : BitVec 32 := Scalar.addi v4 c1_i32
  let c6_i32_3 : BitVec 32 := 6#32
  let v6 : BitVec 32 := Scalar.shli v5 c6_i32_3
  let c4096_i32 : BitVec 32 := 4096#32
  let v7 : BitVec 32 := Scalar.minsi v6 c4096_i32
  let c0_i32_4 : BitVec 32 := 0#32
  let v9 : BitVec 1 := Scalar.cmpi .sgt v7 c0_i32_4
  let v10 : BitVec 32 := Scalar.extui v9
  let c0_i32_5 : BitVec 32 := 0#32
  let v11 : BitVec 1 := Scalar.cmpi .slt v7 c0_i32_5
  let v12 : BitVec 32 := Scalar.extui v11
  let v13 : BitVec 32 := Scalar.subi v10 v12
  let c512_i32 : BitVec 32 := 512#32
  let c0_i32_6 : BitVec 32 := 0#32
  let v14 : BitVec 1 := Scalar.cmpi .sgt c512_i32 c0_i32_6
  let v15 : BitVec 32 := Scalar.extui v14
  let c0_i32_7 : BitVec 32 := 0#32
  let v16 : BitVec 1 := Scalar.cmpi .slt c512_i32 c0_i32_7
  let v17 : BitVec 32 := Scalar.extui v16
  let v18 : BitVec 32 := Scalar.subi v15 v17
  let v19 : BitVec 1 := Scalar.cmpi .ne v13 v18
  let v20 : BitVec 32 := Scalar.remsi v7 c512_i32
  let c0_i32_8 : BitVec 32 := 0#32
  let v21 : BitVec 1 := Scalar.cmpi .ne v20 c0_i32_8
  let v22 : BitVec 1 := Scalar.andi v19 v21
  let v8 : BitVec 32 := Scalar.divsi v7 c512_i32
  let c1_i32_9 : BitVec 32 := 1#32
  let v23 : BitVec 32 := Scalar.subi v8 c1_i32_9
  let v24 : BitVec 32 := Scalar.select v22 v23 v8
  let c0_i32_27 : BitVec 32 := 0#32
  let v54 : BitVec 32 := Scalar.subi v24 c0_i32_27
  let c0_i32_28 : BitVec 32 := 0#32
  let v56 : BitVec 1 := Scalar.cmpi .sgt v54 c0_i32_28
  let v57 : BitVec 32 := Scalar.extui v56
  let c0_i32_29 : BitVec 32 := 0#32
  let v58 : BitVec 1 := Scalar.cmpi .slt v54 c0_i32_29
  let v59 : BitVec 32 := Scalar.extui v58
  let v60 : BitVec 32 := Scalar.subi v57 v59
  let c4_i32 : BitVec 32 := 4#32
  let c0_i32_30 : BitVec 32 := 0#32
  let v61 : BitVec 1 := Scalar.cmpi .sgt c4_i32 c0_i32_30
  let v62 : BitVec 32 := Scalar.extui v61
  let c0_i32_31 : BitVec 32 := 0#32
  let v63 : BitVec 1 := Scalar.cmpi .slt c4_i32 c0_i32_31
  let v64 : BitVec 32 := Scalar.extui v63
  let v65 : BitVec 32 := Scalar.subi v62 v64
  let v66 : BitVec 1 := Scalar.cmpi .ne v60 v65
  let v67 : BitVec 32 := Scalar.remsi v54 c4_i32
  let c0_i32_32 : BitVec 32 := 0#32
  let v68 : BitVec 1 := Scalar.cmpi .ne v67 c0_i32_32
  let v69 : BitVec 1 := Scalar.andi v66 v68
  let v55 : BitVec 32 := Scalar.divsi v54 c4_i32
  let c1_i32_33 : BitVec 32 := 1#32
  let v70 : BitVec 32 := Scalar.subi v55 c1_i32_33
  let v71 : BitVec 32 := Scalar.select v69 v70 v55
  let v72 : BitVec 32 := Scalar.subi v71 c0_i32_35
  let c1_i32_36 : BitVec 32 := 1#32
  let v74 : BitVec 32 := Scalar.divsi v72 c1_i32_36
  let v75 : BitVec 32 := Scalar.muli v74 c1_i32_36
  let v76 : BitVec 32 := Scalar.addi c0_i32_35 v75
  let v73 : BitVec 32 := Scalar.addi c0_i32_35 v72
  let c1_i32_38 : BitVec 32 := 1#32
  ⟨v76, v73, c1_i32_38⟩
def k0_mult2 (i : grid0.Coords) (k0_t2 : Fin (k0_t2_loop i).trips) : BitVec 32 :=
  let c0_i32_97 : BitVec 32 := 0#32
  let c0_i32_35 : BitVec 32 := 0#32
  let c0_i32 : BitVec 32 := 0#32
  let arg2 : BitVec 32 := BitVec.ofNat 32 (i 2).val
  let c1024_i32 : BitVec 32 := 1024#32
  let v0 : BitVec 32 := Scalar.muli arg2 c1024_i32
  let v1 : BitVec 32 := Scalar.addi c0_i32 v0
  let c6_i32 : BitVec 32 := 6#32
  let v4 : BitVec 32 := Scalar.shrsi v1 c6_i32
  let c1_i32 : BitVec 32 := 1#32
  let v5 : BitVec 32 := Scalar.addi v4 c1_i32
  let c6_i32_3 : BitVec 32 := 6#32
  let v6 : BitVec 32 := Scalar.shli v5 c6_i32_3
  let c4096_i32 : BitVec 32 := 4096#32
  let v7 : BitVec 32 := Scalar.minsi v6 c4096_i32
  let c0_i32_4 : BitVec 32 := 0#32
  let v9 : BitVec 1 := Scalar.cmpi .sgt v7 c0_i32_4
  let v10 : BitVec 32 := Scalar.extui v9
  let c0_i32_5 : BitVec 32 := 0#32
  let v11 : BitVec 1 := Scalar.cmpi .slt v7 c0_i32_5
  let v12 : BitVec 32 := Scalar.extui v11
  let v13 : BitVec 32 := Scalar.subi v10 v12
  let c512_i32 : BitVec 32 := 512#32
  let c0_i32_6 : BitVec 32 := 0#32
  let v14 : BitVec 1 := Scalar.cmpi .sgt c512_i32 c0_i32_6
  let v15 : BitVec 32 := Scalar.extui v14
  let c0_i32_7 : BitVec 32 := 0#32
  let v16 : BitVec 1 := Scalar.cmpi .slt c512_i32 c0_i32_7
  let v17 : BitVec 32 := Scalar.extui v16
  let v18 : BitVec 32 := Scalar.subi v15 v17
  let v19 : BitVec 1 := Scalar.cmpi .ne v13 v18
  let v20 : BitVec 32 := Scalar.remsi v7 c512_i32
  let c0_i32_8 : BitVec 32 := 0#32
  let v21 : BitVec 1 := Scalar.cmpi .ne v20 c0_i32_8
  let v22 : BitVec 1 := Scalar.andi v19 v21
  let v8 : BitVec 32 := Scalar.divsi v7 c512_i32
  let c1_i32_9 : BitVec 32 := 1#32
  let v23 : BitVec 32 := Scalar.subi v8 c1_i32_9
  let v24 : BitVec 32 := Scalar.select v22 v23 v8
  let c0_i32_27 : BitVec 32 := 0#32
  let v54 : BitVec 32 := Scalar.subi v24 c0_i32_27
  let c0_i32_28 : BitVec 32 := 0#32
  let v56 : BitVec 1 := Scalar.cmpi .sgt v54 c0_i32_28
  let v57 : BitVec 32 := Scalar.extui v56
  let c0_i32_29 : BitVec 32 := 0#32
  let v58 : BitVec 1 := Scalar.cmpi .slt v54 c0_i32_29
  let v59 : BitVec 32 := Scalar.extui v58
  let v60 : BitVec 32 := Scalar.subi v57 v59
  let c4_i32 : BitVec 32 := 4#32
  let c0_i32_30 : BitVec 32 := 0#32
  let v61 : BitVec 1 := Scalar.cmpi .sgt c4_i32 c0_i32_30
  let v62 : BitVec 32 := Scalar.extui v61
  let c0_i32_31 : BitVec 32 := 0#32
  let v63 : BitVec 1 := Scalar.cmpi .slt c4_i32 c0_i32_31
  let v64 : BitVec 32 := Scalar.extui v63
  let v65 : BitVec 32 := Scalar.subi v62 v64
  let v66 : BitVec 1 := Scalar.cmpi .ne v60 v65
  let v67 : BitVec 32 := Scalar.remsi v54 c4_i32
  let c0_i32_32 : BitVec 32 := 0#32
  let v68 : BitVec 1 := Scalar.cmpi .ne v67 c0_i32_32
  let v69 : BitVec 1 := Scalar.andi v66 v68
  let v55 : BitVec 32 := Scalar.divsi v54 c4_i32
  let c1_i32_33 : BitVec 32 := 1#32
  let v70 : BitVec 32 := Scalar.subi v55 c1_i32_33
  let v71 : BitVec 32 := Scalar.select v69 v70 v55
  let v72 : BitVec 32 := Scalar.subi v71 c0_i32_35
  let c1_i32_36 : BitVec 32 := 1#32
  let v74 : BitVec 32 := Scalar.divsi v72 c1_i32_36
  let v75 : BitVec 32 := Scalar.muli v74 c1_i32_36
  let v76 : BitVec 32 := Scalar.addi c0_i32_35 v75
  let c1_i32_38 : BitVec 32 := 1#32
  let arg10 : BitVec 32 := Scf.iv v76 c1_i32_38 k0_t2
  let c4_i32_96 : BitVec 32 := 4#32
  let v168 : BitVec 32 := Scalar.muli arg10 c4_i32_96
  let v169 : BitVec 32 := Scalar.addi c0_i32_97 v168
  let c512_i32_98 : BitVec 32 := 512#32
  let v170 : BitVec 32 := Scalar.muli v169 c512_i32_98
  v170
def k0_off3 (i : grid0.Coords) (k0_t2 : Fin (k0_t2_loop i).trips) : Fin 4 → Nat :=
  let c0_99 : Index := 0#32
  let c0_100 : Index := 0#32
  let c0_i32_97 : BitVec 32 := 0#32
  let c0_i32_35 : BitVec 32 := 0#32
  let c0_i32 : BitVec 32 := 0#32
  let arg2 : BitVec 32 := BitVec.ofNat 32 (i 2).val
  let c1024_i32 : BitVec 32 := 1024#32
  let v0 : BitVec 32 := Scalar.muli arg2 c1024_i32
  let v1 : BitVec 32 := Scalar.addi c0_i32 v0
  let c6_i32 : BitVec 32 := 6#32
  let v4 : BitVec 32 := Scalar.shrsi v1 c6_i32
  let c1_i32 : BitVec 32 := 1#32
  let v5 : BitVec 32 := Scalar.addi v4 c1_i32
  let c6_i32_3 : BitVec 32 := 6#32
  let v6 : BitVec 32 := Scalar.shli v5 c6_i32_3
  let c4096_i32 : BitVec 32 := 4096#32
  let v7 : BitVec 32 := Scalar.minsi v6 c4096_i32
  let c0_i32_4 : BitVec 32 := 0#32
  let v9 : BitVec 1 := Scalar.cmpi .sgt v7 c0_i32_4
  let v10 : BitVec 32 := Scalar.extui v9
  let c0_i32_5 : BitVec 32 := 0#32
  let v11 : BitVec 1 := Scalar.cmpi .slt v7 c0_i32_5
  let v12 : BitVec 32 := Scalar.extui v11
  let v13 : BitVec 32 := Scalar.subi v10 v12
  let c512_i32 : BitVec 32 := 512#32
  let c0_i32_6 : BitVec 32 := 0#32
  let v14 : BitVec 1 := Scalar.cmpi .sgt c512_i32 c0_i32_6
  let v15 : BitVec 32 := Scalar.extui v14
  let c0_i32_7 : BitVec 32 := 0#32
  let v16 : BitVec 1 := Scalar.cmpi .slt c512_i32 c0_i32_7
  let v17 : BitVec 32 := Scalar.extui v16
  let v18 : BitVec 32 := Scalar.subi v15 v17
  let v19 : BitVec 1 := Scalar.cmpi .ne v13 v18
  let v20 : BitVec 32 := Scalar.remsi v7 c512_i32
  let c0_i32_8 : BitVec 32 := 0#32
  let v21 : BitVec 1 := Scalar.cmpi .ne v20 c0_i32_8
  let v22 : BitVec 1 := Scalar.andi v19 v21
  let v8 : BitVec 32 := Scalar.divsi v7 c512_i32
  let c1_i32_9 : BitVec 32 := 1#32
  let v23 : BitVec 32 := Scalar.subi v8 c1_i32_9
  let v24 : BitVec 32 := Scalar.select v22 v23 v8
  let c0_i32_27 : BitVec 32 := 0#32
  let v54 : BitVec 32 := Scalar.subi v24 c0_i32_27
  let c0_i32_28 : BitVec 32 := 0#32
  let v56 : BitVec 1 := Scalar.cmpi .sgt v54 c0_i32_28
  let v57 : BitVec 32 := Scalar.extui v56
  let c0_i32_29 : BitVec 32 := 0#32
  let v58 : BitVec 1 := Scalar.cmpi .slt v54 c0_i32_29
  let v59 : BitVec 32 := Scalar.extui v58
  let v60 : BitVec 32 := Scalar.subi v57 v59
  let c4_i32 : BitVec 32 := 4#32
  let c0_i32_30 : BitVec 32 := 0#32
  let v61 : BitVec 1 := Scalar.cmpi .sgt c4_i32 c0_i32_30
  let v62 : BitVec 32 := Scalar.extui v61
  let c0_i32_31 : BitVec 32 := 0#32
  let v63 : BitVec 1 := Scalar.cmpi .slt c4_i32 c0_i32_31
  let v64 : BitVec 32 := Scalar.extui v63
  let v65 : BitVec 32 := Scalar.subi v62 v64
  let v66 : BitVec 1 := Scalar.cmpi .ne v60 v65
  let v67 : BitVec 32 := Scalar.remsi v54 c4_i32
  let c0_i32_32 : BitVec 32 := 0#32
  let v68 : BitVec 1 := Scalar.cmpi .ne v67 c0_i32_32
  let v69 : BitVec 1 := Scalar.andi v66 v68
  let v55 : BitVec 32 := Scalar.divsi v54 c4_i32
  let c1_i32_33 : BitVec 32 := 1#32
  let v70 : BitVec 32 := Scalar.subi v55 c1_i32_33
  let v71 : BitVec 32 := Scalar.select v69 v70 v55
  let v72 : BitVec 32 := Scalar.subi v71 c0_i32_35
  let c1_i32_36 : BitVec 32 := 1#32
  let v74 : BitVec 32 := Scalar.divsi v72 c1_i32_36
  let v75 : BitVec 32 := Scalar.muli v74 c1_i32_36
  let v76 : BitVec 32 := Scalar.addi c0_i32_35 v75
  let c1_i32_38 : BitVec 32 := 1#32
  let arg10 : BitVec 32 := Scf.iv v76 c1_i32_38 k0_t2
  let c4_i32_96 : BitVec 32 := 4#32
  let v168 : BitVec 32 := Scalar.muli arg10 c4_i32_96
  let v169 : BitVec 32 := Scalar.addi c0_i32_97 v168
  let c512_i32_98 : BitVec 32 := 512#32
  let v170 : BitVec 32 := Scalar.muli v169 c512_i32_98
  let v171 : BitVec 32 := v170
  let v172 : Index := Scalar.indexCast v171
  let c0_101 : Index := 0#32
  ![0, 0, v172.toNat, 0]
def k0_off4 (i : grid0.Coords) (k0_t2 : Fin (k0_t2_loop i).trips) : Fin 2 → Nat :=
  let c0_103 : Index := 0#32
  let c0_i32_97 : BitVec 32 := 0#32
  let c0_i32_35 : BitVec 32 := 0#32
  let c0_i32 : BitVec 32 := 0#32
  let arg2 : BitVec 32 := BitVec.ofNat 32 (i 2).val
  let c1024_i32 : BitVec 32 := 1024#32
  let v0 : BitVec 32 := Scalar.muli arg2 c1024_i32
  let v1 : BitVec 32 := Scalar.addi c0_i32 v0
  let c6_i32 : BitVec 32 := 6#32
  let v4 : BitVec 32 := Scalar.shrsi v1 c6_i32
  let c1_i32 : BitVec 32 := 1#32
  let v5 : BitVec 32 := Scalar.addi v4 c1_i32
  let c6_i32_3 : BitVec 32 := 6#32
  let v6 : BitVec 32 := Scalar.shli v5 c6_i32_3
  let c4096_i32 : BitVec 32 := 4096#32
  let v7 : BitVec 32 := Scalar.minsi v6 c4096_i32
  let c0_i32_4 : BitVec 32 := 0#32
  let v9 : BitVec 1 := Scalar.cmpi .sgt v7 c0_i32_4
  let v10 : BitVec 32 := Scalar.extui v9
  let c0_i32_5 : BitVec 32 := 0#32
  let v11 : BitVec 1 := Scalar.cmpi .slt v7 c0_i32_5
  let v12 : BitVec 32 := Scalar.extui v11
  let v13 : BitVec 32 := Scalar.subi v10 v12
  let c512_i32 : BitVec 32 := 512#32
  let c0_i32_6 : BitVec 32 := 0#32
  let v14 : BitVec 1 := Scalar.cmpi .sgt c512_i32 c0_i32_6
  let v15 : BitVec 32 := Scalar.extui v14
  let c0_i32_7 : BitVec 32 := 0#32
  let v16 : BitVec 1 := Scalar.cmpi .slt c512_i32 c0_i32_7
  let v17 : BitVec 32 := Scalar.extui v16
  let v18 : BitVec 32 := Scalar.subi v15 v17
  let v19 : BitVec 1 := Scalar.cmpi .ne v13 v18
  let v20 : BitVec 32 := Scalar.remsi v7 c512_i32
  let c0_i32_8 : BitVec 32 := 0#32
  let v21 : BitVec 1 := Scalar.cmpi .ne v20 c0_i32_8
  let v22 : BitVec 1 := Scalar.andi v19 v21
  let v8 : BitVec 32 := Scalar.divsi v7 c512_i32
  let c1_i32_9 : BitVec 32 := 1#32
  let v23 : BitVec 32 := Scalar.subi v8 c1_i32_9
  let v24 : BitVec 32 := Scalar.select v22 v23 v8
  let c0_i32_27 : BitVec 32 := 0#32
  let v54 : BitVec 32 := Scalar.subi v24 c0_i32_27
  let c0_i32_28 : BitVec 32 := 0#32
  let v56 : BitVec 1 := Scalar.cmpi .sgt v54 c0_i32_28
  let v57 : BitVec 32 := Scalar.extui v56
  let c0_i32_29 : BitVec 32 := 0#32
  let v58 : BitVec 1 := Scalar.cmpi .slt v54 c0_i32_29
  let v59 : BitVec 32 := Scalar.extui v58
  let v60 : BitVec 32 := Scalar.subi v57 v59
  let c4_i32 : BitVec 32 := 4#32
  let c0_i32_30 : BitVec 32 := 0#32
  let v61 : BitVec 1 := Scalar.cmpi .sgt c4_i32 c0_i32_30
  let v62 : BitVec 32 := Scalar.extui v61
  let c0_i32_31 : BitVec 32 := 0#32
  let v63 : BitVec 1 := Scalar.cmpi .slt c4_i32 c0_i32_31
  let v64 : BitVec 32 := Scalar.extui v63
  let v65 : BitVec 32 := Scalar.subi v62 v64
  let v66 : BitVec 1 := Scalar.cmpi .ne v60 v65
  let v67 : BitVec 32 := Scalar.remsi v54 c4_i32
  let c0_i32_32 : BitVec 32 := 0#32
  let v68 : BitVec 1 := Scalar.cmpi .ne v67 c0_i32_32
  let v69 : BitVec 1 := Scalar.andi v66 v68
  let v55 : BitVec 32 := Scalar.divsi v54 c4_i32
  let c1_i32_33 : BitVec 32 := 1#32
  let v70 : BitVec 32 := Scalar.subi v55 c1_i32_33
  let v71 : BitVec 32 := Scalar.select v69 v70 v55
  let v72 : BitVec 32 := Scalar.subi v71 c0_i32_35
  let c1_i32_36 : BitVec 32 := 1#32
  let v74 : BitVec 32 := Scalar.divsi v72 c1_i32_36
  let v75 : BitVec 32 := Scalar.muli v74 c1_i32_36
  let v76 : BitVec 32 := Scalar.addi c0_i32_35 v75
  let c1_i32_38 : BitVec 32 := 1#32
  let arg10 : BitVec 32 := Scf.iv v76 c1_i32_38 k0_t2
  let c4_i32_96 : BitVec 32 := 4#32
  let v168 : BitVec 32 := Scalar.muli arg10 c4_i32_96
  let v169 : BitVec 32 := Scalar.addi c0_i32_97 v168
  let c512_i32_98 : BitVec 32 := 512#32
  let v170 : BitVec 32 := Scalar.muli v169 c512_i32_98
  let v171 : BitVec 32 := v170
  let v176 : Index := Scalar.indexCast v171
  ![0, v176.toNat]
def k0_cond1 (i : grid0.Coords) : BitVec 1 :=
  let c0_i32 : BitVec 32 := 0#32
  let arg2 : BitVec 32 := BitVec.ofNat 32 (i 2).val
  let c1024_i32 : BitVec 32 := 1024#32
  let v0 : BitVec 32 := Scalar.muli arg2 c1024_i32
  let v1 : BitVec 32 := Scalar.addi c0_i32 v0
  let c6_i32 : BitVec 32 := 6#32
  let v4 : BitVec 32 := Scalar.shrsi v1 c6_i32
  let c1_i32 : BitVec 32 := 1#32
  let v5 : BitVec 32 := Scalar.addi v4 c1_i32
  let c6_i32_3 : BitVec 32 := 6#32
  let v6 : BitVec 32 := Scalar.shli v5 c6_i32_3
  let c4096_i32 : BitVec 32 := 4096#32
  let v7 : BitVec 32 := Scalar.minsi v6 c4096_i32
  let c0_i32_4 : BitVec 32 := 0#32
  let v9 : BitVec 1 := Scalar.cmpi .sgt v7 c0_i32_4
  let v10 : BitVec 32 := Scalar.extui v9
  let c0_i32_5 : BitVec 32 := 0#32
  let v11 : BitVec 1 := Scalar.cmpi .slt v7 c0_i32_5
  let v12 : BitVec 32 := Scalar.extui v11
  let v13 : BitVec 32 := Scalar.subi v10 v12
  let c512_i32 : BitVec 32 := 512#32
  let c0_i32_6 : BitVec 32 := 0#32
  let v14 : BitVec 1 := Scalar.cmpi .sgt c512_i32 c0_i32_6
  let v15 : BitVec 32 := Scalar.extui v14
  let c0_i32_7 : BitVec 32 := 0#32
  let v16 : BitVec 1 := Scalar.cmpi .slt c512_i32 c0_i32_7
  let v17 : BitVec 32 := Scalar.extui v16
  let v18 : BitVec 32 := Scalar.subi v15 v17
  let v19 : BitVec 1 := Scalar.cmpi .ne v13 v18
  let v20 : BitVec 32 := Scalar.remsi v7 c512_i32
  let c0_i32_8 : BitVec 32 := 0#32
  let v21 : BitVec 1 := Scalar.cmpi .ne v20 c0_i32_8
  let v22 : BitVec 1 := Scalar.andi v19 v21
  let v8 : BitVec 32 := Scalar.divsi v7 c512_i32
  let c1_i32_9 : BitVec 32 := 1#32
  let v23 : BitVec 32 := Scalar.subi v8 c1_i32_9
  let v24 : BitVec 32 := Scalar.select v22 v23 v8
  let c0_i32_27 : BitVec 32 := 0#32
  let v54 : BitVec 32 := Scalar.subi v24 c0_i32_27
  let c2_i32 : BitVec 32 := 2#32
  let v79 : BitVec 32 := Scalar.andi v54 c2_i32
  let c0_i32_41 : BitVec 32 := 0#32
  let v80 : BitVec 1 := Scalar.cmpi .ne v79 c0_i32_41
  let v81 : BitVec 32 := Scalar.extui v80
  let c0_i32_42 : BitVec 32 := 0#32
  let v82 : BitVec 1 := Scalar.cmpi .ne v81 c0_i32_42
  v82

def k0_mult3 (i : grid0.Coords) : BitVec 32 :=
  let c0_i32_40 : BitVec 32 := 0#32
  let c0_i32 : BitVec 32 := 0#32
  let arg2 : BitVec 32 := BitVec.ofNat 32 (i 2).val
  let c1024_i32 : BitVec 32 := 1024#32
  let v0 : BitVec 32 := Scalar.muli arg2 c1024_i32
  let v1 : BitVec 32 := Scalar.addi c0_i32 v0
  let c6_i32 : BitVec 32 := 6#32
  let v4 : BitVec 32 := Scalar.shrsi v1 c6_i32
  let c1_i32 : BitVec 32 := 1#32
  let v5 : BitVec 32 := Scalar.addi v4 c1_i32
  let c6_i32_3 : BitVec 32 := 6#32
  let v6 : BitVec 32 := Scalar.shli v5 c6_i32_3
  let c4096_i32 : BitVec 32 := 4096#32
  let v7 : BitVec 32 := Scalar.minsi v6 c4096_i32
  let c0_i32_4 : BitVec 32 := 0#32
  let v9 : BitVec 1 := Scalar.cmpi .sgt v7 c0_i32_4
  let v10 : BitVec 32 := Scalar.extui v9
  let c0_i32_5 : BitVec 32 := 0#32
  let v11 : BitVec 1 := Scalar.cmpi .slt v7 c0_i32_5
  let v12 : BitVec 32 := Scalar.extui v11
  let v13 : BitVec 32 := Scalar.subi v10 v12
  let c512_i32 : BitVec 32 := 512#32
  let c0_i32_6 : BitVec 32 := 0#32
  let v14 : BitVec 1 := Scalar.cmpi .sgt c512_i32 c0_i32_6
  let v15 : BitVec 32 := Scalar.extui v14
  let c0_i32_7 : BitVec 32 := 0#32
  let v16 : BitVec 1 := Scalar.cmpi .slt c512_i32 c0_i32_7
  let v17 : BitVec 32 := Scalar.extui v16
  let v18 : BitVec 32 := Scalar.subi v15 v17
  let v19 : BitVec 1 := Scalar.cmpi .ne v13 v18
  let v20 : BitVec 32 := Scalar.remsi v7 c512_i32
  let c0_i32_8 : BitVec 32 := 0#32
  let v21 : BitVec 1 := Scalar.cmpi .ne v20 c0_i32_8
  let v22 : BitVec 1 := Scalar.andi v19 v21
  let v8 : BitVec 32 := Scalar.divsi v7 c512_i32
  let c1_i32_9 : BitVec 32 := 1#32
  let v23 : BitVec 32 := Scalar.subi v8 c1_i32_9
  let v24 : BitVec 32 := Scalar.select v22 v23 v8
  let c0_i32_27 : BitVec 32 := 0#32
  let v54 : BitVec 32 := Scalar.subi v24 c0_i32_27
  let c0_i32_28 : BitVec 32 := 0#32
  let v56 : BitVec 1 := Scalar.cmpi .sgt v54 c0_i32_28
  let v57 : BitVec 32 := Scalar.extui v56
  let c0_i32_29 : BitVec 32 := 0#32
  let v58 : BitVec 1 := Scalar.cmpi .slt v54 c0_i32_29
  let v59 : BitVec 32 := Scalar.extui v58
  let v60 : BitVec 32 := Scalar.subi v57 v59
  let c4_i32 : BitVec 32 := 4#32
  let c0_i32_30 : BitVec 32 := 0#32
  let v61 : BitVec 1 := Scalar.cmpi .sgt c4_i32 c0_i32_30
  let v62 : BitVec 32 := Scalar.extui v61
  let c0_i32_31 : BitVec 32 := 0#32
  let v63 : BitVec 1 := Scalar.cmpi .slt c4_i32 c0_i32_31
  let v64 : BitVec 32 := Scalar.extui v63
  let v65 : BitVec 32 := Scalar.subi v62 v64
  let v66 : BitVec 1 := Scalar.cmpi .ne v60 v65
  let v67 : BitVec 32 := Scalar.remsi v54 c4_i32
  let c0_i32_32 : BitVec 32 := 0#32
  let v68 : BitVec 1 := Scalar.cmpi .ne v67 c0_i32_32
  let v69 : BitVec 1 := Scalar.andi v66 v68
  let v55 : BitVec 32 := Scalar.divsi v54 c4_i32
  let c1_i32_33 : BitVec 32 := 1#32
  let v70 : BitVec 32 := Scalar.subi v55 c1_i32_33
  let v71 : BitVec 32 := Scalar.select v69 v70 v55
  let c4_i32_39 : BitVec 32 := 4#32
  let v77 : BitVec 32 := Scalar.muli v71 c4_i32_39
  let v78 : BitVec 32 := Scalar.addi c0_i32_40 v77
  let c512_i32_96 : BitVec 32 := 512#32
  let v168 : BitVec 32 := Scalar.muli v78 c512_i32_96
  v168
def k0_off5 (i : grid0.Coords) : Fin 4 → Nat :=
  let c0_97 : Index := 0#32
  let c0_98 : Index := 0#32
  let c0_i32_40 : BitVec 32 := 0#32
  let c0_i32 : BitVec 32 := 0#32
  let arg2 : BitVec 32 := BitVec.ofNat 32 (i 2).val
  let c1024_i32 : BitVec 32 := 1024#32
  let v0 : BitVec 32 := Scalar.muli arg2 c1024_i32
  let v1 : BitVec 32 := Scalar.addi c0_i32 v0
  let c6_i32 : BitVec 32 := 6#32
  let v4 : BitVec 32 := Scalar.shrsi v1 c6_i32
  let c1_i32 : BitVec 32 := 1#32
  let v5 : BitVec 32 := Scalar.addi v4 c1_i32
  let c6_i32_3 : BitVec 32 := 6#32
  let v6 : BitVec 32 := Scalar.shli v5 c6_i32_3
  let c4096_i32 : BitVec 32 := 4096#32
  let v7 : BitVec 32 := Scalar.minsi v6 c4096_i32
  let c0_i32_4 : BitVec 32 := 0#32
  let v9 : BitVec 1 := Scalar.cmpi .sgt v7 c0_i32_4
  let v10 : BitVec 32 := Scalar.extui v9
  let c0_i32_5 : BitVec 32 := 0#32
  let v11 : BitVec 1 := Scalar.cmpi .slt v7 c0_i32_5
  let v12 : BitVec 32 := Scalar.extui v11
  let v13 : BitVec 32 := Scalar.subi v10 v12
  let c512_i32 : BitVec 32 := 512#32
  let c0_i32_6 : BitVec 32 := 0#32
  let v14 : BitVec 1 := Scalar.cmpi .sgt c512_i32 c0_i32_6
  let v15 : BitVec 32 := Scalar.extui v14
  let c0_i32_7 : BitVec 32 := 0#32
  let v16 : BitVec 1 := Scalar.cmpi .slt c512_i32 c0_i32_7
  let v17 : BitVec 32 := Scalar.extui v16
  let v18 : BitVec 32 := Scalar.subi v15 v17
  let v19 : BitVec 1 := Scalar.cmpi .ne v13 v18
  let v20 : BitVec 32 := Scalar.remsi v7 c512_i32
  let c0_i32_8 : BitVec 32 := 0#32
  let v21 : BitVec 1 := Scalar.cmpi .ne v20 c0_i32_8
  let v22 : BitVec 1 := Scalar.andi v19 v21
  let v8 : BitVec 32 := Scalar.divsi v7 c512_i32
  let c1_i32_9 : BitVec 32 := 1#32
  let v23 : BitVec 32 := Scalar.subi v8 c1_i32_9
  let v24 : BitVec 32 := Scalar.select v22 v23 v8
  let c0_i32_27 : BitVec 32 := 0#32
  let v54 : BitVec 32 := Scalar.subi v24 c0_i32_27
  let c0_i32_28 : BitVec 32 := 0#32
  let v56 : BitVec 1 := Scalar.cmpi .sgt v54 c0_i32_28
  let v57 : BitVec 32 := Scalar.extui v56
  let c0_i32_29 : BitVec 32 := 0#32
  let v58 : BitVec 1 := Scalar.cmpi .slt v54 c0_i32_29
  let v59 : BitVec 32 := Scalar.extui v58
  let v60 : BitVec 32 := Scalar.subi v57 v59
  let c4_i32 : BitVec 32 := 4#32
  let c0_i32_30 : BitVec 32 := 0#32
  let v61 : BitVec 1 := Scalar.cmpi .sgt c4_i32 c0_i32_30
  let v62 : BitVec 32 := Scalar.extui v61
  let c0_i32_31 : BitVec 32 := 0#32
  let v63 : BitVec 1 := Scalar.cmpi .slt c4_i32 c0_i32_31
  let v64 : BitVec 32 := Scalar.extui v63
  let v65 : BitVec 32 := Scalar.subi v62 v64
  let v66 : BitVec 1 := Scalar.cmpi .ne v60 v65
  let v67 : BitVec 32 := Scalar.remsi v54 c4_i32
  let c0_i32_32 : BitVec 32 := 0#32
  let v68 : BitVec 1 := Scalar.cmpi .ne v67 c0_i32_32
  let v69 : BitVec 1 := Scalar.andi v66 v68
  let v55 : BitVec 32 := Scalar.divsi v54 c4_i32
  let c1_i32_33 : BitVec 32 := 1#32
  let v70 : BitVec 32 := Scalar.subi v55 c1_i32_33
  let v71 : BitVec 32 := Scalar.select v69 v70 v55
  let c4_i32_39 : BitVec 32 := 4#32
  let v77 : BitVec 32 := Scalar.muli v71 c4_i32_39
  let v78 : BitVec 32 := Scalar.addi c0_i32_40 v77
  let c512_i32_96 : BitVec 32 := 512#32
  let v168 : BitVec 32 := Scalar.muli v78 c512_i32_96
  let v169 : BitVec 32 := v168
  let v170 : Index := Scalar.indexCast v169
  let c0_99 : Index := 0#32
  ![0, 0, v170.toNat, 0]
def k0_off6 (i : grid0.Coords) : Fin 2 → Nat :=
  let c0_101 : Index := 0#32
  let c0_i32_40 : BitVec 32 := 0#32
  let c0_i32 : BitVec 32 := 0#32
  let arg2 : BitVec 32 := BitVec.ofNat 32 (i 2).val
  let c1024_i32 : BitVec 32 := 1024#32
  let v0 : BitVec 32 := Scalar.muli arg2 c1024_i32
  let v1 : BitVec 32 := Scalar.addi c0_i32 v0
  let c6_i32 : BitVec 32 := 6#32
  let v4 : BitVec 32 := Scalar.shrsi v1 c6_i32
  let c1_i32 : BitVec 32 := 1#32
  let v5 : BitVec 32 := Scalar.addi v4 c1_i32
  let c6_i32_3 : BitVec 32 := 6#32
  let v6 : BitVec 32 := Scalar.shli v5 c6_i32_3
  let c4096_i32 : BitVec 32 := 4096#32
  let v7 : BitVec 32 := Scalar.minsi v6 c4096_i32
  let c0_i32_4 : BitVec 32 := 0#32
  let v9 : BitVec 1 := Scalar.cmpi .sgt v7 c0_i32_4
  let v10 : BitVec 32 := Scalar.extui v9
  let c0_i32_5 : BitVec 32 := 0#32
  let v11 : BitVec 1 := Scalar.cmpi .slt v7 c0_i32_5
  let v12 : BitVec 32 := Scalar.extui v11
  let v13 : BitVec 32 := Scalar.subi v10 v12
  let c512_i32 : BitVec 32 := 512#32
  let c0_i32_6 : BitVec 32 := 0#32
  let v14 : BitVec 1 := Scalar.cmpi .sgt c512_i32 c0_i32_6
  let v15 : BitVec 32 := Scalar.extui v14
  let c0_i32_7 : BitVec 32 := 0#32
  let v16 : BitVec 1 := Scalar.cmpi .slt c512_i32 c0_i32_7
  let v17 : BitVec 32 := Scalar.extui v16
  let v18 : BitVec 32 := Scalar.subi v15 v17
  let v19 : BitVec 1 := Scalar.cmpi .ne v13 v18
  let v20 : BitVec 32 := Scalar.remsi v7 c512_i32
  let c0_i32_8 : BitVec 32 := 0#32
  let v21 : BitVec 1 := Scalar.cmpi .ne v20 c0_i32_8
  let v22 : BitVec 1 := Scalar.andi v19 v21
  let v8 : BitVec 32 := Scalar.divsi v7 c512_i32
  let c1_i32_9 : BitVec 32 := 1#32
  let v23 : BitVec 32 := Scalar.subi v8 c1_i32_9
  let v24 : BitVec 32 := Scalar.select v22 v23 v8
  let c0_i32_27 : BitVec 32 := 0#32
  let v54 : BitVec 32 := Scalar.subi v24 c0_i32_27
  let c0_i32_28 : BitVec 32 := 0#32
  let v56 : BitVec 1 := Scalar.cmpi .sgt v54 c0_i32_28
  let v57 : BitVec 32 := Scalar.extui v56
  let c0_i32_29 : BitVec 32 := 0#32
  let v58 : BitVec 1 := Scalar.cmpi .slt v54 c0_i32_29
  let v59 : BitVec 32 := Scalar.extui v58
  let v60 : BitVec 32 := Scalar.subi v57 v59
  let c4_i32 : BitVec 32 := 4#32
  let c0_i32_30 : BitVec 32 := 0#32
  let v61 : BitVec 1 := Scalar.cmpi .sgt c4_i32 c0_i32_30
  let v62 : BitVec 32 := Scalar.extui v61
  let c0_i32_31 : BitVec 32 := 0#32
  let v63 : BitVec 1 := Scalar.cmpi .slt c4_i32 c0_i32_31
  let v64 : BitVec 32 := Scalar.extui v63
  let v65 : BitVec 32 := Scalar.subi v62 v64
  let v66 : BitVec 1 := Scalar.cmpi .ne v60 v65
  let v67 : BitVec 32 := Scalar.remsi v54 c4_i32
  let c0_i32_32 : BitVec 32 := 0#32
  let v68 : BitVec 1 := Scalar.cmpi .ne v67 c0_i32_32
  let v69 : BitVec 1 := Scalar.andi v66 v68
  let v55 : BitVec 32 := Scalar.divsi v54 c4_i32
  let c1_i32_33 : BitVec 32 := 1#32
  let v70 : BitVec 32 := Scalar.subi v55 c1_i32_33
  let v71 : BitVec 32 := Scalar.select v69 v70 v55
  let c4_i32_39 : BitVec 32 := 4#32
  let v77 : BitVec 32 := Scalar.muli v71 c4_i32_39
  let v78 : BitVec 32 := Scalar.addi c0_i32_40 v77
  let c512_i32_96 : BitVec 32 := 512#32
  let v168 : BitVec 32 := Scalar.muli v78 c512_i32_96
  let v169 : BitVec 32 := v168
  let v174 : Index := Scalar.indexCast v169
  ![0, v174.toNat]
def k0_cond2 (i : grid0.Coords) : BitVec 1 :=
  let c0_i32 : BitVec 32 := 0#32
  let arg2 : BitVec 32 := BitVec.ofNat 32 (i 2).val
  let c1024_i32 : BitVec 32 := 1024#32
  let v0 : BitVec 32 := Scalar.muli arg2 c1024_i32
  let v1 : BitVec 32 := Scalar.addi c0_i32 v0
  let c6_i32 : BitVec 32 := 6#32
  let v4 : BitVec 32 := Scalar.shrsi v1 c6_i32
  let c1_i32 : BitVec 32 := 1#32
  let v5 : BitVec 32 := Scalar.addi v4 c1_i32
  let c6_i32_3 : BitVec 32 := 6#32
  let v6 : BitVec 32 := Scalar.shli v5 c6_i32_3
  let c4096_i32 : BitVec 32 := 4096#32
  let v7 : BitVec 32 := Scalar.minsi v6 c4096_i32
  let c0_i32_4 : BitVec 32 := 0#32
  let v9 : BitVec 1 := Scalar.cmpi .sgt v7 c0_i32_4
  let v10 : BitVec 32 := Scalar.extui v9
  let c0_i32_5 : BitVec 32 := 0#32
  let v11 : BitVec 1 := Scalar.cmpi .slt v7 c0_i32_5
  let v12 : BitVec 32 := Scalar.extui v11
  let v13 : BitVec 32 := Scalar.subi v10 v12
  let c512_i32 : BitVec 32 := 512#32
  let c0_i32_6 : BitVec 32 := 0#32
  let v14 : BitVec 1 := Scalar.cmpi .sgt c512_i32 c0_i32_6
  let v15 : BitVec 32 := Scalar.extui v14
  let c0_i32_7 : BitVec 32 := 0#32
  let v16 : BitVec 1 := Scalar.cmpi .slt c512_i32 c0_i32_7
  let v17 : BitVec 32 := Scalar.extui v16
  let v18 : BitVec 32 := Scalar.subi v15 v17
  let v19 : BitVec 1 := Scalar.cmpi .ne v13 v18
  let v20 : BitVec 32 := Scalar.remsi v7 c512_i32
  let c0_i32_8 : BitVec 32 := 0#32
  let v21 : BitVec 1 := Scalar.cmpi .ne v20 c0_i32_8
  let v22 : BitVec 1 := Scalar.andi v19 v21
  let v8 : BitVec 32 := Scalar.divsi v7 c512_i32
  let c1_i32_9 : BitVec 32 := 1#32
  let v23 : BitVec 32 := Scalar.subi v8 c1_i32_9
  let v24 : BitVec 32 := Scalar.select v22 v23 v8
  let c0_i32_27 : BitVec 32 := 0#32
  let v54 : BitVec 32 := Scalar.subi v24 c0_i32_27
  let c1_i32_45 : BitVec 32 := 1#32
  let v85 : BitVec 32 := Scalar.andi v54 c1_i32_45
  let c0_i32_46 : BitVec 32 := 0#32
  let v86 : BitVec 1 := Scalar.cmpi .ne v85 c0_i32_46
  let v87 : BitVec 32 := Scalar.extui v86
  let c0_i32_47 : BitVec 32 := 0#32
  let v88 : BitVec 1 := Scalar.cmpi .ne v87 c0_i32_47
  v88

def k0_mult4 (i : grid0.Coords) : BitVec 32 :=
  let c0_i32_40 : BitVec 32 := 0#32
  let c0_i32 : BitVec 32 := 0#32
  let arg2 : BitVec 32 := BitVec.ofNat 32 (i 2).val
  let c1024_i32 : BitVec 32 := 1024#32
  let v0 : BitVec 32 := Scalar.muli arg2 c1024_i32
  let v1 : BitVec 32 := Scalar.addi c0_i32 v0
  let c6_i32 : BitVec 32 := 6#32
  let v4 : BitVec 32 := Scalar.shrsi v1 c6_i32
  let c1_i32 : BitVec 32 := 1#32
  let v5 : BitVec 32 := Scalar.addi v4 c1_i32
  let c6_i32_3 : BitVec 32 := 6#32
  let v6 : BitVec 32 := Scalar.shli v5 c6_i32_3
  let c4096_i32 : BitVec 32 := 4096#32
  let v7 : BitVec 32 := Scalar.minsi v6 c4096_i32
  let c0_i32_4 : BitVec 32 := 0#32
  let v9 : BitVec 1 := Scalar.cmpi .sgt v7 c0_i32_4
  let v10 : BitVec 32 := Scalar.extui v9
  let c0_i32_5 : BitVec 32 := 0#32
  let v11 : BitVec 1 := Scalar.cmpi .slt v7 c0_i32_5
  let v12 : BitVec 32 := Scalar.extui v11
  let v13 : BitVec 32 := Scalar.subi v10 v12
  let c512_i32 : BitVec 32 := 512#32
  let c0_i32_6 : BitVec 32 := 0#32
  let v14 : BitVec 1 := Scalar.cmpi .sgt c512_i32 c0_i32_6
  let v15 : BitVec 32 := Scalar.extui v14
  let c0_i32_7 : BitVec 32 := 0#32
  let v16 : BitVec 1 := Scalar.cmpi .slt c512_i32 c0_i32_7
  let v17 : BitVec 32 := Scalar.extui v16
  let v18 : BitVec 32 := Scalar.subi v15 v17
  let v19 : BitVec 1 := Scalar.cmpi .ne v13 v18
  let v20 : BitVec 32 := Scalar.remsi v7 c512_i32
  let c0_i32_8 : BitVec 32 := 0#32
  let v21 : BitVec 1 := Scalar.cmpi .ne v20 c0_i32_8
  let v22 : BitVec 1 := Scalar.andi v19 v21
  let v8 : BitVec 32 := Scalar.divsi v7 c512_i32
  let c1_i32_9 : BitVec 32 := 1#32
  let v23 : BitVec 32 := Scalar.subi v8 c1_i32_9
  let v24 : BitVec 32 := Scalar.select v22 v23 v8
  let c0_i32_27 : BitVec 32 := 0#32
  let v54 : BitVec 32 := Scalar.subi v24 c0_i32_27
  let c0_i32_28 : BitVec 32 := 0#32
  let v56 : BitVec 1 := Scalar.cmpi .sgt v54 c0_i32_28
  let v57 : BitVec 32 := Scalar.extui v56
  let c0_i32_29 : BitVec 32 := 0#32
  let v58 : BitVec 1 := Scalar.cmpi .slt v54 c0_i32_29
  let v59 : BitVec 32 := Scalar.extui v58
  let v60 : BitVec 32 := Scalar.subi v57 v59
  let c4_i32 : BitVec 32 := 4#32
  let c0_i32_30 : BitVec 32 := 0#32
  let v61 : BitVec 1 := Scalar.cmpi .sgt c4_i32 c0_i32_30
  let v62 : BitVec 32 := Scalar.extui v61
  let c0_i32_31 : BitVec 32 := 0#32
  let v63 : BitVec 1 := Scalar.cmpi .slt c4_i32 c0_i32_31
  let v64 : BitVec 32 := Scalar.extui v63
  let v65 : BitVec 32 := Scalar.subi v62 v64
  let v66 : BitVec 1 := Scalar.cmpi .ne v60 v65
  let v67 : BitVec 32 := Scalar.remsi v54 c4_i32
  let c0_i32_32 : BitVec 32 := 0#32
  let v68 : BitVec 1 := Scalar.cmpi .ne v67 c0_i32_32
  let v69 : BitVec 1 := Scalar.andi v66 v68
  let v55 : BitVec 32 := Scalar.divsi v54 c4_i32
  let c1_i32_33 : BitVec 32 := 1#32
  let v70 : BitVec 32 := Scalar.subi v55 c1_i32_33
  let v71 : BitVec 32 := Scalar.select v69 v70 v55
  let c4_i32_39 : BitVec 32 := 4#32
  let v77 : BitVec 32 := Scalar.muli v71 c4_i32_39
  let v78 : BitVec 32 := Scalar.addi c0_i32_40 v77
  let c2_i32 : BitVec 32 := 2#32
  let v79 : BitVec 32 := Scalar.andi v54 c2_i32
  let c0_i32_41 : BitVec 32 := 0#32
  let v80 : BitVec 1 := Scalar.cmpi .ne v79 c0_i32_41
  let c2_i32_43 : BitVec 32 := 2#32
  let c0_i32_44 : BitVec 32 := 0#32
  let v83 : BitVec 32 := Scalar.select v80 c2_i32_43 c0_i32_44
  let v84 : BitVec 32 := Scalar.addi v78 v83
  let c512_i32_96 : BitVec 32 := 512#32
  let v168 : BitVec 32 := Scalar.muli v84 c512_i32_96
  v168
def k0_off7 (i : grid0.Coords) : Fin 4 → Nat :=
  let c0_97 : Index := 0#32
  let c0_98 : Index := 0#32
  let c0_i32_40 : BitVec 32 := 0#32
  let c0_i32 : BitVec 32 := 0#32
  let arg2 : BitVec 32 := BitVec.ofNat 32 (i 2).val
  let c1024_i32 : BitVec 32 := 1024#32
  let v0 : BitVec 32 := Scalar.muli arg2 c1024_i32
  let v1 : BitVec 32 := Scalar.addi c0_i32 v0
  let c6_i32 : BitVec 32 := 6#32
  let v4 : BitVec 32 := Scalar.shrsi v1 c6_i32
  let c1_i32 : BitVec 32 := 1#32
  let v5 : BitVec 32 := Scalar.addi v4 c1_i32
  let c6_i32_3 : BitVec 32 := 6#32
  let v6 : BitVec 32 := Scalar.shli v5 c6_i32_3
  let c4096_i32 : BitVec 32 := 4096#32
  let v7 : BitVec 32 := Scalar.minsi v6 c4096_i32
  let c0_i32_4 : BitVec 32 := 0#32
  let v9 : BitVec 1 := Scalar.cmpi .sgt v7 c0_i32_4
  let v10 : BitVec 32 := Scalar.extui v9
  let c0_i32_5 : BitVec 32 := 0#32
  let v11 : BitVec 1 := Scalar.cmpi .slt v7 c0_i32_5
  let v12 : BitVec 32 := Scalar.extui v11
  let v13 : BitVec 32 := Scalar.subi v10 v12
  let c512_i32 : BitVec 32 := 512#32
  let c0_i32_6 : BitVec 32 := 0#32
  let v14 : BitVec 1 := Scalar.cmpi .sgt c512_i32 c0_i32_6
  let v15 : BitVec 32 := Scalar.extui v14
  let c0_i32_7 : BitVec 32 := 0#32
  let v16 : BitVec 1 := Scalar.cmpi .slt c512_i32 c0_i32_7
  let v17 : BitVec 32 := Scalar.extui v16
  let v18 : BitVec 32 := Scalar.subi v15 v17
  let v19 : BitVec 1 := Scalar.cmpi .ne v13 v18
  let v20 : BitVec 32 := Scalar.remsi v7 c512_i32
  let c0_i32_8 : BitVec 32 := 0#32
  let v21 : BitVec 1 := Scalar.cmpi .ne v20 c0_i32_8
  let v22 : BitVec 1 := Scalar.andi v19 v21
  let v8 : BitVec 32 := Scalar.divsi v7 c512_i32
  let c1_i32_9 : BitVec 32 := 1#32
  let v23 : BitVec 32 := Scalar.subi v8 c1_i32_9
  let v24 : BitVec 32 := Scalar.select v22 v23 v8
  let c0_i32_27 : BitVec 32 := 0#32
  let v54 : BitVec 32 := Scalar.subi v24 c0_i32_27
  let c0_i32_28 : BitVec 32 := 0#32
  let v56 : BitVec 1 := Scalar.cmpi .sgt v54 c0_i32_28
  let v57 : BitVec 32 := Scalar.extui v56
  let c0_i32_29 : BitVec 32 := 0#32
  let v58 : BitVec 1 := Scalar.cmpi .slt v54 c0_i32_29
  let v59 : BitVec 32 := Scalar.extui v58
  let v60 : BitVec 32 := Scalar.subi v57 v59
  let c4_i32 : BitVec 32 := 4#32
  let c0_i32_30 : BitVec 32 := 0#32
  let v61 : BitVec 1 := Scalar.cmpi .sgt c4_i32 c0_i32_30
  let v62 : BitVec 32 := Scalar.extui v61
  let c0_i32_31 : BitVec 32 := 0#32
  let v63 : BitVec 1 := Scalar.cmpi .slt c4_i32 c0_i32_31
  let v64 : BitVec 32 := Scalar.extui v63
  let v65 : BitVec 32 := Scalar.subi v62 v64
  let v66 : BitVec 1 := Scalar.cmpi .ne v60 v65
  let v67 : BitVec 32 := Scalar.remsi v54 c4_i32
  let c0_i32_32 : BitVec 32 := 0#32
  let v68 : BitVec 1 := Scalar.cmpi .ne v67 c0_i32_32
  let v69 : BitVec 1 := Scalar.andi v66 v68
  let v55 : BitVec 32 := Scalar.divsi v54 c4_i32
  let c1_i32_33 : BitVec 32 := 1#32
  let v70 : BitVec 32 := Scalar.subi v55 c1_i32_33
  let v71 : BitVec 32 := Scalar.select v69 v70 v55
  let c4_i32_39 : BitVec 32 := 4#32
  let v77 : BitVec 32 := Scalar.muli v71 c4_i32_39
  let v78 : BitVec 32 := Scalar.addi c0_i32_40 v77
  let c2_i32 : BitVec 32 := 2#32
  let v79 : BitVec 32 := Scalar.andi v54 c2_i32
  let c0_i32_41 : BitVec 32 := 0#32
  let v80 : BitVec 1 := Scalar.cmpi .ne v79 c0_i32_41
  let c2_i32_43 : BitVec 32 := 2#32
  let c0_i32_44 : BitVec 32 := 0#32
  let v83 : BitVec 32 := Scalar.select v80 c2_i32_43 c0_i32_44
  let v84 : BitVec 32 := Scalar.addi v78 v83
  let c512_i32_96 : BitVec 32 := 512#32
  let v168 : BitVec 32 := Scalar.muli v84 c512_i32_96
  let v169 : BitVec 32 := v168
  let v170 : Index := Scalar.indexCast v169
  let c0_99 : Index := 0#32
  ![0, 0, v170.toNat, 0]
def k0_off8 (i : grid0.Coords) : Fin 2 → Nat :=
  let c0_101 : Index := 0#32
  let c0_i32_40 : BitVec 32 := 0#32
  let c0_i32 : BitVec 32 := 0#32
  let arg2 : BitVec 32 := BitVec.ofNat 32 (i 2).val
  let c1024_i32 : BitVec 32 := 1024#32
  let v0 : BitVec 32 := Scalar.muli arg2 c1024_i32
  let v1 : BitVec 32 := Scalar.addi c0_i32 v0
  let c6_i32 : BitVec 32 := 6#32
  let v4 : BitVec 32 := Scalar.shrsi v1 c6_i32
  let c1_i32 : BitVec 32 := 1#32
  let v5 : BitVec 32 := Scalar.addi v4 c1_i32
  let c6_i32_3 : BitVec 32 := 6#32
  let v6 : BitVec 32 := Scalar.shli v5 c6_i32_3
  let c4096_i32 : BitVec 32 := 4096#32
  let v7 : BitVec 32 := Scalar.minsi v6 c4096_i32
  let c0_i32_4 : BitVec 32 := 0#32
  let v9 : BitVec 1 := Scalar.cmpi .sgt v7 c0_i32_4
  let v10 : BitVec 32 := Scalar.extui v9
  let c0_i32_5 : BitVec 32 := 0#32
  let v11 : BitVec 1 := Scalar.cmpi .slt v7 c0_i32_5
  let v12 : BitVec 32 := Scalar.extui v11
  let v13 : BitVec 32 := Scalar.subi v10 v12
  let c512_i32 : BitVec 32 := 512#32
  let c0_i32_6 : BitVec 32 := 0#32
  let v14 : BitVec 1 := Scalar.cmpi .sgt c512_i32 c0_i32_6
  let v15 : BitVec 32 := Scalar.extui v14
  let c0_i32_7 : BitVec 32 := 0#32
  let v16 : BitVec 1 := Scalar.cmpi .slt c512_i32 c0_i32_7
  let v17 : BitVec 32 := Scalar.extui v16
  let v18 : BitVec 32 := Scalar.subi v15 v17
  let v19 : BitVec 1 := Scalar.cmpi .ne v13 v18
  let v20 : BitVec 32 := Scalar.remsi v7 c512_i32
  let c0_i32_8 : BitVec 32 := 0#32
  let v21 : BitVec 1 := Scalar.cmpi .ne v20 c0_i32_8
  let v22 : BitVec 1 := Scalar.andi v19 v21
  let v8 : BitVec 32 := Scalar.divsi v7 c512_i32
  let c1_i32_9 : BitVec 32 := 1#32
  let v23 : BitVec 32 := Scalar.subi v8 c1_i32_9
  let v24 : BitVec 32 := Scalar.select v22 v23 v8
  let c0_i32_27 : BitVec 32 := 0#32
  let v54 : BitVec 32 := Scalar.subi v24 c0_i32_27
  let c0_i32_28 : BitVec 32 := 0#32
  let v56 : BitVec 1 := Scalar.cmpi .sgt v54 c0_i32_28
  let v57 : BitVec 32 := Scalar.extui v56
  let c0_i32_29 : BitVec 32 := 0#32
  let v58 : BitVec 1 := Scalar.cmpi .slt v54 c0_i32_29
  let v59 : BitVec 32 := Scalar.extui v58
  let v60 : BitVec 32 := Scalar.subi v57 v59
  let c4_i32 : BitVec 32 := 4#32
  let c0_i32_30 : BitVec 32 := 0#32
  let v61 : BitVec 1 := Scalar.cmpi .sgt c4_i32 c0_i32_30
  let v62 : BitVec 32 := Scalar.extui v61
  let c0_i32_31 : BitVec 32 := 0#32
  let v63 : BitVec 1 := Scalar.cmpi .slt c4_i32 c0_i32_31
  let v64 : BitVec 32 := Scalar.extui v63
  let v65 : BitVec 32 := Scalar.subi v62 v64
  let v66 : BitVec 1 := Scalar.cmpi .ne v60 v65
  let v67 : BitVec 32 := Scalar.remsi v54 c4_i32
  let c0_i32_32 : BitVec 32 := 0#32
  let v68 : BitVec 1 := Scalar.cmpi .ne v67 c0_i32_32
  let v69 : BitVec 1 := Scalar.andi v66 v68
  let v55 : BitVec 32 := Scalar.divsi v54 c4_i32
  let c1_i32_33 : BitVec 32 := 1#32
  let v70 : BitVec 32 := Scalar.subi v55 c1_i32_33
  let v71 : BitVec 32 := Scalar.select v69 v70 v55
  let c4_i32_39 : BitVec 32 := 4#32
  let v77 : BitVec 32 := Scalar.muli v71 c4_i32_39
  let v78 : BitVec 32 := Scalar.addi c0_i32_40 v77
  let c2_i32 : BitVec 32 := 2#32
  let v79 : BitVec 32 := Scalar.andi v54 c2_i32
  let c0_i32_41 : BitVec 32 := 0#32
  let v80 : BitVec 1 := Scalar.cmpi .ne v79 c0_i32_41
  let c2_i32_43 : BitVec 32 := 2#32
  let c0_i32_44 : BitVec 32 := 0#32
  let v83 : BitVec 32 := Scalar.select v80 c2_i32_43 c0_i32_44
  let v84 : BitVec 32 := Scalar.addi v78 v83
  let c512_i32_96 : BitVec 32 := 512#32
  let v168 : BitVec 32 := Scalar.muli v84 c512_i32_96
  let v169 : BitVec 32 := v168
  let v174 : Index := Scalar.indexCast v169
  ![0, v174.toNat]
@[reducible] def k0_t3_loop (i : grid0.Coords) : Scf.Loop 32 :=
  let c0_i32_56 : BitVec 32 := 0#32
  let c0_i32 : BitVec 32 := 0#32
  let arg2 : BitVec 32 := BitVec.ofNat 32 (i 2).val
  let c1024_i32 : BitVec 32 := 1024#32
  let v0 : BitVec 32 := Scalar.muli arg2 c1024_i32
  let v1 : BitVec 32 := Scalar.addi c0_i32 v0
  let c1024_i32_10 : BitVec 32 := 1024#32
  let v25 : BitVec 32 := Scalar.addi v1 c1024_i32_10
  let c1_i32_11 : BitVec 32 := 1#32
  let v26 : BitVec 32 := Scalar.subi v25 c1_i32_11
  let c6_i32_12 : BitVec 32 := 6#32
  let v27 : BitVec 32 := Scalar.shrsi v26 c6_i32_12
  let c1_i32_13 : BitVec 32 := 1#32
  let v28 : BitVec 32 := Scalar.addi v27 c1_i32_13
  let c6_i32_14 : BitVec 32 := 6#32
  let v29 : BitVec 32 := Scalar.shli v28 c6_i32_14
  let c4096_i32_15 : BitVec 32 := 4096#32
  let v30 : BitVec 32 := Scalar.minsi v29 c4096_i32_15
  let c512_i32_16 : BitVec 32 := 512#32
  let v31 : BitVec 32 := Scalar.addi v30 c512_i32_16
  let c1_i32_17 : BitVec 32 := 1#32
  let v32 : BitVec 32 := Scalar.subi v31 c1_i32_17
  let c0_i32_19 : BitVec 32 := 0#32
  let v34 : BitVec 1 := Scalar.cmpi .sgt v32 c0_i32_19
  let v35 : BitVec 32 := Scalar.extui v34
  let c0_i32_20 : BitVec 32 := 0#32
  let v36 : BitVec 1 := Scalar.cmpi .slt v32 c0_i32_20
  let v37 : BitVec 32 := Scalar.extui v36
  let v38 : BitVec 32 := Scalar.subi v35 v37
  let c512_i32_18 : BitVec 32 := 512#32
  let c0_i32_21 : BitVec 32 := 0#32
  let v39 : BitVec 1 := Scalar.cmpi .sgt c512_i32_18 c0_i32_21
  let v40 : BitVec 32 := Scalar.extui v39
  let c0_i32_22 : BitVec 32 := 0#32
  let v41 : BitVec 1 := Scalar.cmpi .slt c512_i32_18 c0_i32_22
  let v42 : BitVec 32 := Scalar.extui v41
  let v43 : BitVec 32 := Scalar.subi v40 v42
  let v44 : BitVec 1 := Scalar.cmpi .ne v38 v43
  let v45 : BitVec 32 := Scalar.remsi v32 c512_i32_18
  let c0_i32_23 : BitVec 32 := 0#32
  let v46 : BitVec 1 := Scalar.cmpi .ne v45 c0_i32_23
  let v47 : BitVec 1 := Scalar.andi v44 v46
  let v33 : BitVec 32 := Scalar.divsi v32 c512_i32_18
  let c1_i32_24 : BitVec 32 := 1#32
  let v48 : BitVec 32 := Scalar.subi v33 c1_i32_24
  let v49 : BitVec 32 := Scalar.select v47 v48 v33
  let c6_i32 : BitVec 32 := 6#32
  let v4 : BitVec 32 := Scalar.shrsi v1 c6_i32
  let c1_i32 : BitVec 32 := 1#32
  let v5 : BitVec 32 := Scalar.addi v4 c1_i32
  let c6_i32_3 : BitVec 32 := 6#32
  let v6 : BitVec 32 := Scalar.shli v5 c6_i32_3
  let c4096_i32 : BitVec 32 := 4096#32
  let v7 : BitVec 32 := Scalar.minsi v6 c4096_i32
  let c0_i32_4 : BitVec 32 := 0#32
  let v9 : BitVec 1 := Scalar.cmpi .sgt v7 c0_i32_4
  let v10 : BitVec 32 := Scalar.extui v9
  let c0_i32_5 : BitVec 32 := 0#32
  let v11 : BitVec 1 := Scalar.cmpi .slt v7 c0_i32_5
  let v12 : BitVec 32 := Scalar.extui v11
  let v13 : BitVec 32 := Scalar.subi v10 v12
  let c512_i32 : BitVec 32 := 512#32
  let c0_i32_6 : BitVec 32 := 0#32
  let v14 : BitVec 1 := Scalar.cmpi .sgt c512_i32 c0_i32_6
  let v15 : BitVec 32 := Scalar.extui v14
  let c0_i32_7 : BitVec 32 := 0#32
  let v16 : BitVec 1 := Scalar.cmpi .slt c512_i32 c0_i32_7
  let v17 : BitVec 32 := Scalar.extui v16
  let v18 : BitVec 32 := Scalar.subi v15 v17
  let v19 : BitVec 1 := Scalar.cmpi .ne v13 v18
  let v20 : BitVec 32 := Scalar.remsi v7 c512_i32
  let c0_i32_8 : BitVec 32 := 0#32
  let v21 : BitVec 1 := Scalar.cmpi .ne v20 c0_i32_8
  let v22 : BitVec 1 := Scalar.andi v19 v21
  let v8 : BitVec 32 := Scalar.divsi v7 c512_i32
  let c1_i32_9 : BitVec 32 := 1#32
  let v23 : BitVec 32 := Scalar.subi v8 c1_i32_9
  let v24 : BitVec 32 := Scalar.select v22 v23 v8
  let v89 : BitVec 32 := Scalar.subi v49 v24
  let c0_i32_49 : BitVec 32 := 0#32
  let v91 : BitVec 1 := Scalar.cmpi .sgt v89 c0_i32_49
  let v92 : BitVec 32 := Scalar.extui v91
  let c0_i32_50 : BitVec 32 := 0#32
  let v93 : BitVec 1 := Scalar.cmpi .slt v89 c0_i32_50
  let v94 : BitVec 32 := Scalar.extui v93
  let v95 : BitVec 32 := Scalar.subi v92 v94
  let c1_i32_48 : BitVec 32 := 1#32
  let c0_i32_51 : BitVec 32 := 0#32
  let v96 : BitVec 1 := Scalar.cmpi .sgt c1_i32_48 c0_i32_51
  let v97 : BitVec 32 := Scalar.extui v96
  let c0_i32_52 : BitVec 32 := 0#32
  let v98 : BitVec 1 := Scalar.cmpi .slt c1_i32_48 c0_i32_52
  let v99 : BitVec 32 := Scalar.extui v98
  let v100 : BitVec 32 := Scalar.subi v97 v99
  let v101 : BitVec 1 := Scalar.cmpi .ne v95 v100
  let v102 : BitVec 32 := Scalar.remsi v89 c1_i32_48
  let c0_i32_53 : BitVec 32 := 0#32
  let v103 : BitVec 1 := Scalar.cmpi .ne v102 c0_i32_53
  let v104 : BitVec 1 := Scalar.andi v101 v103
  let v90 : BitVec 32 := Scalar.divsi v89 c1_i32_48
  let c1_i32_54 : BitVec 32 := 1#32
  let v105 : BitVec 32 := Scalar.subi v90 c1_i32_54
  let v106 : BitVec 32 := Scalar.select v104 v105 v90
  let v107 : BitVec 32 := Scalar.subi v106 c0_i32_56
  let c1_i32_57 : BitVec 32 := 1#32
  let v109 : BitVec 32 := Scalar.divsi v107 c1_i32_57
  let v110 : BitVec 32 := Scalar.muli v109 c1_i32_57
  let v111 : BitVec 32 := Scalar.addi c0_i32_56 v110
  let c1_i32_58 : BitVec 32 := 1#32
  ⟨c0_i32_56, v111, c1_i32_58⟩
def k0_mult5 (i : grid0.Coords) (k0_t3 : Fin (k0_t3_loop i).trips) : BitVec 32 :=
  let c0_i32 : BitVec 32 := 0#32
  let arg2 : BitVec 32 := BitVec.ofNat 32 (i 2).val
  let c1024_i32 : BitVec 32 := 1024#32
  let v0 : BitVec 32 := Scalar.muli arg2 c1024_i32
  let v1 : BitVec 32 := Scalar.addi c0_i32 v0
  let c6_i32 : BitVec 32 := 6#32
  let v4 : BitVec 32 := Scalar.shrsi v1 c6_i32
  let c1_i32 : BitVec 32 := 1#32
  let v5 : BitVec 32 := Scalar.addi v4 c1_i32
  let c6_i32_3 : BitVec 32 := 6#32
  let v6 : BitVec 32 := Scalar.shli v5 c6_i32_3
  let c4096_i32 : BitVec 32 := 4096#32
  let v7 : BitVec 32 := Scalar.minsi v6 c4096_i32
  let c0_i32_4 : BitVec 32 := 0#32
  let v9 : BitVec 1 := Scalar.cmpi .sgt v7 c0_i32_4
  let v10 : BitVec 32 := Scalar.extui v9
  let c0_i32_5 : BitVec 32 := 0#32
  let v11 : BitVec 1 := Scalar.cmpi .slt v7 c0_i32_5
  let v12 : BitVec 32 := Scalar.extui v11
  let v13 : BitVec 32 := Scalar.subi v10 v12
  let c512_i32 : BitVec 32 := 512#32
  let c0_i32_6 : BitVec 32 := 0#32
  let v14 : BitVec 1 := Scalar.cmpi .sgt c512_i32 c0_i32_6
  let v15 : BitVec 32 := Scalar.extui v14
  let c0_i32_7 : BitVec 32 := 0#32
  let v16 : BitVec 1 := Scalar.cmpi .slt c512_i32 c0_i32_7
  let v17 : BitVec 32 := Scalar.extui v16
  let v18 : BitVec 32 := Scalar.subi v15 v17
  let v19 : BitVec 1 := Scalar.cmpi .ne v13 v18
  let v20 : BitVec 32 := Scalar.remsi v7 c512_i32
  let c0_i32_8 : BitVec 32 := 0#32
  let v21 : BitVec 1 := Scalar.cmpi .ne v20 c0_i32_8
  let v22 : BitVec 1 := Scalar.andi v19 v21
  let v8 : BitVec 32 := Scalar.divsi v7 c512_i32
  let c1_i32_9 : BitVec 32 := 1#32
  let v23 : BitVec 32 := Scalar.subi v8 c1_i32_9
  let v24 : BitVec 32 := Scalar.select v22 v23 v8
  let c0_i32_56 : BitVec 32 := 0#32
  let c1_i32_58 : BitVec 32 := 1#32
  let arg10 : BitVec 32 := Scf.iv c0_i32_56 c1_i32_58 k0_t3
  let c1_i32_96 : BitVec 32 := 1#32
  let v168 : BitVec 32 := Scalar.muli arg10 c1_i32_96
  let v169 : BitVec 32 := Scalar.addi v24 v168
  let c512_i32_97 : BitVec 32 := 512#32
  let v170 : BitVec 32 := Scalar.muli v169 c512_i32_97
  v170
def k0_off9 (i : grid0.Coords) (k0_t3 : Fin (k0_t3_loop i).trips) : Fin 4 → Nat :=
  let c0_98 : Index := 0#32
  let c0_99 : Index := 0#32
  let c0_i32 : BitVec 32 := 0#32
  let arg2 : BitVec 32 := BitVec.ofNat 32 (i 2).val
  let c1024_i32 : BitVec 32 := 1024#32
  let v0 : BitVec 32 := Scalar.muli arg2 c1024_i32
  let v1 : BitVec 32 := Scalar.addi c0_i32 v0
  let c6_i32 : BitVec 32 := 6#32
  let v4 : BitVec 32 := Scalar.shrsi v1 c6_i32
  let c1_i32 : BitVec 32 := 1#32
  let v5 : BitVec 32 := Scalar.addi v4 c1_i32
  let c6_i32_3 : BitVec 32 := 6#32
  let v6 : BitVec 32 := Scalar.shli v5 c6_i32_3
  let c4096_i32 : BitVec 32 := 4096#32
  let v7 : BitVec 32 := Scalar.minsi v6 c4096_i32
  let c0_i32_4 : BitVec 32 := 0#32
  let v9 : BitVec 1 := Scalar.cmpi .sgt v7 c0_i32_4
  let v10 : BitVec 32 := Scalar.extui v9
  let c0_i32_5 : BitVec 32 := 0#32
  let v11 : BitVec 1 := Scalar.cmpi .slt v7 c0_i32_5
  let v12 : BitVec 32 := Scalar.extui v11
  let v13 : BitVec 32 := Scalar.subi v10 v12
  let c512_i32 : BitVec 32 := 512#32
  let c0_i32_6 : BitVec 32 := 0#32
  let v14 : BitVec 1 := Scalar.cmpi .sgt c512_i32 c0_i32_6
  let v15 : BitVec 32 := Scalar.extui v14
  let c0_i32_7 : BitVec 32 := 0#32
  let v16 : BitVec 1 := Scalar.cmpi .slt c512_i32 c0_i32_7
  let v17 : BitVec 32 := Scalar.extui v16
  let v18 : BitVec 32 := Scalar.subi v15 v17
  let v19 : BitVec 1 := Scalar.cmpi .ne v13 v18
  let v20 : BitVec 32 := Scalar.remsi v7 c512_i32
  let c0_i32_8 : BitVec 32 := 0#32
  let v21 : BitVec 1 := Scalar.cmpi .ne v20 c0_i32_8
  let v22 : BitVec 1 := Scalar.andi v19 v21
  let v8 : BitVec 32 := Scalar.divsi v7 c512_i32
  let c1_i32_9 : BitVec 32 := 1#32
  let v23 : BitVec 32 := Scalar.subi v8 c1_i32_9
  let v24 : BitVec 32 := Scalar.select v22 v23 v8
  let c0_i32_56 : BitVec 32 := 0#32
  let c1_i32_58 : BitVec 32 := 1#32
  let arg10 : BitVec 32 := Scf.iv c0_i32_56 c1_i32_58 k0_t3
  let c1_i32_96 : BitVec 32 := 1#32
  let v168 : BitVec 32 := Scalar.muli arg10 c1_i32_96
  let v169 : BitVec 32 := Scalar.addi v24 v168
  let c512_i32_97 : BitVec 32 := 512#32
  let v170 : BitVec 32 := Scalar.muli v169 c512_i32_97
  let v171 : BitVec 32 := v170
  let v172 : Index := Scalar.indexCast v171
  let c0_100 : Index := 0#32
  ![0, 0, v172.toNat, 0]
def k0_off10 (i : grid0.Coords) (k0_t3 : Fin (k0_t3_loop i).trips) : Fin 2 → Nat :=
  let c0_107 : Index := 0#32
  let c0_i32 : BitVec 32 := 0#32
  let arg2 : BitVec 32 := BitVec.ofNat 32 (i 2).val
  let c1024_i32 : BitVec 32 := 1024#32
  let v0 : BitVec 32 := Scalar.muli arg2 c1024_i32
  let v1 : BitVec 32 := Scalar.addi c0_i32 v0
  let c6_i32 : BitVec 32 := 6#32
  let v4 : BitVec 32 := Scalar.shrsi v1 c6_i32
  let c1_i32 : BitVec 32 := 1#32
  let v5 : BitVec 32 := Scalar.addi v4 c1_i32
  let c6_i32_3 : BitVec 32 := 6#32
  let v6 : BitVec 32 := Scalar.shli v5 c6_i32_3
  let c4096_i32 : BitVec 32 := 4096#32
  let v7 : BitVec 32 := Scalar.minsi v6 c4096_i32
  let c0_i32_4 : BitVec 32 := 0#32
  let v9 : BitVec 1 := Scalar.cmpi .sgt v7 c0_i32_4
  let v10 : BitVec 32 := Scalar.extui v9
  let c0_i32_5 : BitVec 32 := 0#32
  let v11 : BitVec 1 := Scalar.cmpi .slt v7 c0_i32_5
  let v12 : BitVec 32 := Scalar.extui v11
  let v13 : BitVec 32 := Scalar.subi v10 v12
  let c512_i32 : BitVec 32 := 512#32
  let c0_i32_6 : BitVec 32 := 0#32
  let v14 : BitVec 1 := Scalar.cmpi .sgt c512_i32 c0_i32_6
  let v15 : BitVec 32 := Scalar.extui v14
  let c0_i32_7 : BitVec 32 := 0#32
  let v16 : BitVec 1 := Scalar.cmpi .slt c512_i32 c0_i32_7
  let v17 : BitVec 32 := Scalar.extui v16
  let v18 : BitVec 32 := Scalar.subi v15 v17
  let v19 : BitVec 1 := Scalar.cmpi .ne v13 v18
  let v20 : BitVec 32 := Scalar.remsi v7 c512_i32
  let c0_i32_8 : BitVec 32 := 0#32
  let v21 : BitVec 1 := Scalar.cmpi .ne v20 c0_i32_8
  let v22 : BitVec 1 := Scalar.andi v19 v21
  let v8 : BitVec 32 := Scalar.divsi v7 c512_i32
  let c1_i32_9 : BitVec 32 := 1#32
  let v23 : BitVec 32 := Scalar.subi v8 c1_i32_9
  let v24 : BitVec 32 := Scalar.select v22 v23 v8
  let c0_i32_56 : BitVec 32 := 0#32
  let c1_i32_58 : BitVec 32 := 1#32
  let arg10 : BitVec 32 := Scf.iv c0_i32_56 c1_i32_58 k0_t3
  let c1_i32_96 : BitVec 32 := 1#32
  let v168 : BitVec 32 := Scalar.muli arg10 c1_i32_96
  let v169 : BitVec 32 := Scalar.addi v24 v168
  let c512_i32_97 : BitVec 32 := 512#32
  let v170 : BitVec 32 := Scalar.muli v169 c512_i32_97
  let v171 : BitVec 32 := v170
  let v194 : Index := Scalar.indexCast v171
  ![0, v194.toNat]
@[reducible] def k0_t4_loop (i : grid0.Coords) : Scf.Loop 32 :=
  let c0_i32_56 : BitVec 32 := 0#32
  let c0_i32 : BitVec 32 := 0#32
  let arg2 : BitVec 32 := BitVec.ofNat 32 (i 2).val
  let c1024_i32 : BitVec 32 := 1024#32
  let v0 : BitVec 32 := Scalar.muli arg2 c1024_i32
  let v1 : BitVec 32 := Scalar.addi c0_i32 v0
  let c1024_i32_10 : BitVec 32 := 1024#32
  let v25 : BitVec 32 := Scalar.addi v1 c1024_i32_10
  let c1_i32_11 : BitVec 32 := 1#32
  let v26 : BitVec 32 := Scalar.subi v25 c1_i32_11
  let c6_i32_12 : BitVec 32 := 6#32
  let v27 : BitVec 32 := Scalar.shrsi v26 c6_i32_12
  let c1_i32_13 : BitVec 32 := 1#32
  let v28 : BitVec 32 := Scalar.addi v27 c1_i32_13
  let c6_i32_14 : BitVec 32 := 6#32
  let v29 : BitVec 32 := Scalar.shli v28 c6_i32_14
  let c4096_i32_15 : BitVec 32 := 4096#32
  let v30 : BitVec 32 := Scalar.minsi v29 c4096_i32_15
  let c512_i32_16 : BitVec 32 := 512#32
  let v31 : BitVec 32 := Scalar.addi v30 c512_i32_16
  let c1_i32_17 : BitVec 32 := 1#32
  let v32 : BitVec 32 := Scalar.subi v31 c1_i32_17
  let c0_i32_19 : BitVec 32 := 0#32
  let v34 : BitVec 1 := Scalar.cmpi .sgt v32 c0_i32_19
  let v35 : BitVec 32 := Scalar.extui v34
  let c0_i32_20 : BitVec 32 := 0#32
  let v36 : BitVec 1 := Scalar.cmpi .slt v32 c0_i32_20
  let v37 : BitVec 32 := Scalar.extui v36
  let v38 : BitVec 32 := Scalar.subi v35 v37
  let c512_i32_18 : BitVec 32 := 512#32
  let c0_i32_21 : BitVec 32 := 0#32
  let v39 : BitVec 1 := Scalar.cmpi .sgt c512_i32_18 c0_i32_21
  let v40 : BitVec 32 := Scalar.extui v39
  let c0_i32_22 : BitVec 32 := 0#32
  let v41 : BitVec 1 := Scalar.cmpi .slt c512_i32_18 c0_i32_22
  let v42 : BitVec 32 := Scalar.extui v41
  let v43 : BitVec 32 := Scalar.subi v40 v42
  let v44 : BitVec 1 := Scalar.cmpi .ne v38 v43
  let v45 : BitVec 32 := Scalar.remsi v32 c512_i32_18
  let c0_i32_23 : BitVec 32 := 0#32
  let v46 : BitVec 1 := Scalar.cmpi .ne v45 c0_i32_23
  let v47 : BitVec 1 := Scalar.andi v44 v46
  let v33 : BitVec 32 := Scalar.divsi v32 c512_i32_18
  let c1_i32_24 : BitVec 32 := 1#32
  let v48 : BitVec 32 := Scalar.subi v33 c1_i32_24
  let v49 : BitVec 32 := Scalar.select v47 v48 v33
  let c6_i32 : BitVec 32 := 6#32
  let v4 : BitVec 32 := Scalar.shrsi v1 c6_i32
  let c1_i32 : BitVec 32 := 1#32
  let v5 : BitVec 32 := Scalar.addi v4 c1_i32
  let c6_i32_3 : BitVec 32 := 6#32
  let v6 : BitVec 32 := Scalar.shli v5 c6_i32_3
  let c4096_i32 : BitVec 32 := 4096#32
  let v7 : BitVec 32 := Scalar.minsi v6 c4096_i32
  let c0_i32_4 : BitVec 32 := 0#32
  let v9 : BitVec 1 := Scalar.cmpi .sgt v7 c0_i32_4
  let v10 : BitVec 32 := Scalar.extui v9
  let c0_i32_5 : BitVec 32 := 0#32
  let v11 : BitVec 1 := Scalar.cmpi .slt v7 c0_i32_5
  let v12 : BitVec 32 := Scalar.extui v11
  let v13 : BitVec 32 := Scalar.subi v10 v12
  let c512_i32 : BitVec 32 := 512#32
  let c0_i32_6 : BitVec 32 := 0#32
  let v14 : BitVec 1 := Scalar.cmpi .sgt c512_i32 c0_i32_6
  let v15 : BitVec 32 := Scalar.extui v14
  let c0_i32_7 : BitVec 32 := 0#32
  let v16 : BitVec 1 := Scalar.cmpi .slt c512_i32 c0_i32_7
  let v17 : BitVec 32 := Scalar.extui v16
  let v18 : BitVec 32 := Scalar.subi v15 v17
  let v19 : BitVec 1 := Scalar.cmpi .ne v13 v18
  let v20 : BitVec 32 := Scalar.remsi v7 c512_i32
  let c0_i32_8 : BitVec 32 := 0#32
  let v21 : BitVec 1 := Scalar.cmpi .ne v20 c0_i32_8
  let v22 : BitVec 1 := Scalar.andi v19 v21
  let v8 : BitVec 32 := Scalar.divsi v7 c512_i32
  let c1_i32_9 : BitVec 32 := 1#32
  let v23 : BitVec 32 := Scalar.subi v8 c1_i32_9
  let v24 : BitVec 32 := Scalar.select v22 v23 v8
  let v89 : BitVec 32 := Scalar.subi v49 v24
  let c0_i32_49 : BitVec 32 := 0#32
  let v91 : BitVec 1 := Scalar.cmpi .sgt v89 c0_i32_49
  let v92 : BitVec 32 := Scalar.extui v91
  let c0_i32_50 : BitVec 32 := 0#32
  let v93 : BitVec 1 := Scalar.cmpi .slt v89 c0_i32_50
  let v94 : BitVec 32 := Scalar.extui v93
  let v95 : BitVec 32 := Scalar.subi v92 v94
  let c1_i32_48 : BitVec 32 := 1#32
  let c0_i32_51 : BitVec 32 := 0#32
  let v96 : BitVec 1 := Scalar.cmpi .sgt c1_i32_48 c0_i32_51
  let v97 : BitVec 32 := Scalar.extui v96
  let c0_i32_52 : BitVec 32 := 0#32
  let v98 : BitVec 1 := Scalar.cmpi .slt c1_i32_48 c0_i32_52
  let v99 : BitVec 32 := Scalar.extui v98
  let v100 : BitVec 32 := Scalar.subi v97 v99
  let v101 : BitVec 1 := Scalar.cmpi .ne v95 v100
  let v102 : BitVec 32 := Scalar.remsi v89 c1_i32_48
  let c0_i32_53 : BitVec 32 := 0#32
  let v103 : BitVec 1 := Scalar.cmpi .ne v102 c0_i32_53
  let v104 : BitVec 1 := Scalar.andi v101 v103
  let v90 : BitVec 32 := Scalar.divsi v89 c1_i32_48
  let c1_i32_54 : BitVec 32 := 1#32
  let v105 : BitVec 32 := Scalar.subi v90 c1_i32_54
  let v106 : BitVec 32 := Scalar.select v104 v105 v90
  let v107 : BitVec 32 := Scalar.subi v106 c0_i32_56
  let c1_i32_57 : BitVec 32 := 1#32
  let v109 : BitVec 32 := Scalar.divsi v107 c1_i32_57
  let v110 : BitVec 32 := Scalar.muli v109 c1_i32_57
  let v111 : BitVec 32 := Scalar.addi c0_i32_56 v110
  let v108 : BitVec 32 := Scalar.addi c0_i32_56 v107
  let c1_i32_59 : BitVec 32 := 1#32
  ⟨v111, v108, c1_i32_59⟩
def k0_mult6 (i : grid0.Coords) (k0_t4 : Fin (k0_t4_loop i).trips) : BitVec 32 :=
  let c0_i32 : BitVec 32 := 0#32
  let arg2 : BitVec 32 := BitVec.ofNat 32 (i 2).val
  let c1024_i32 : BitVec 32 := 1024#32
  let v0 : BitVec 32 := Scalar.muli arg2 c1024_i32
  let v1 : BitVec 32 := Scalar.addi c0_i32 v0
  let c6_i32 : BitVec 32 := 6#32
  let v4 : BitVec 32 := Scalar.shrsi v1 c6_i32
  let c1_i32 : BitVec 32 := 1#32
  let v5 : BitVec 32 := Scalar.addi v4 c1_i32
  let c6_i32_3 : BitVec 32 := 6#32
  let v6 : BitVec 32 := Scalar.shli v5 c6_i32_3
  let c4096_i32 : BitVec 32 := 4096#32
  let v7 : BitVec 32 := Scalar.minsi v6 c4096_i32
  let c0_i32_4 : BitVec 32 := 0#32
  let v9 : BitVec 1 := Scalar.cmpi .sgt v7 c0_i32_4
  let v10 : BitVec 32 := Scalar.extui v9
  let c0_i32_5 : BitVec 32 := 0#32
  let v11 : BitVec 1 := Scalar.cmpi .slt v7 c0_i32_5
  let v12 : BitVec 32 := Scalar.extui v11
  let v13 : BitVec 32 := Scalar.subi v10 v12
  let c512_i32 : BitVec 32 := 512#32
  let c0_i32_6 : BitVec 32 := 0#32
  let v14 : BitVec 1 := Scalar.cmpi .sgt c512_i32 c0_i32_6
  let v15 : BitVec 32 := Scalar.extui v14
  let c0_i32_7 : BitVec 32 := 0#32
  let v16 : BitVec 1 := Scalar.cmpi .slt c512_i32 c0_i32_7
  let v17 : BitVec 32 := Scalar.extui v16
  let v18 : BitVec 32 := Scalar.subi v15 v17
  let v19 : BitVec 1 := Scalar.cmpi .ne v13 v18
  let v20 : BitVec 32 := Scalar.remsi v7 c512_i32
  let c0_i32_8 : BitVec 32 := 0#32
  let v21 : BitVec 1 := Scalar.cmpi .ne v20 c0_i32_8
  let v22 : BitVec 1 := Scalar.andi v19 v21
  let v8 : BitVec 32 := Scalar.divsi v7 c512_i32
  let c1_i32_9 : BitVec 32 := 1#32
  let v23 : BitVec 32 := Scalar.subi v8 c1_i32_9
  let v24 : BitVec 32 := Scalar.select v22 v23 v8
  let c0_i32_56 : BitVec 32 := 0#32
  let c1024_i32_10 : BitVec 32 := 1024#32
  let v25 : BitVec 32 := Scalar.addi v1 c1024_i32_10
  let c1_i32_11 : BitVec 32 := 1#32
  let v26 : BitVec 32 := Scalar.subi v25 c1_i32_11
  let c6_i32_12 : BitVec 32 := 6#32
  let v27 : BitVec 32 := Scalar.shrsi v26 c6_i32_12
  let c1_i32_13 : BitVec 32 := 1#32
  let v28 : BitVec 32 := Scalar.addi v27 c1_i32_13
  let c6_i32_14 : BitVec 32 := 6#32
  let v29 : BitVec 32 := Scalar.shli v28 c6_i32_14
  let c4096_i32_15 : BitVec 32 := 4096#32
  let v30 : BitVec 32 := Scalar.minsi v29 c4096_i32_15
  let c512_i32_16 : BitVec 32 := 512#32
  let v31 : BitVec 32 := Scalar.addi v30 c512_i32_16
  let c1_i32_17 : BitVec 32 := 1#32
  let v32 : BitVec 32 := Scalar.subi v31 c1_i32_17
  let c0_i32_19 : BitVec 32 := 0#32
  let v34 : BitVec 1 := Scalar.cmpi .sgt v32 c0_i32_19
  let v35 : BitVec 32 := Scalar.extui v34
  let c0_i32_20 : BitVec 32 := 0#32
  let v36 : BitVec 1 := Scalar.cmpi .slt v32 c0_i32_20
  let v37 : BitVec 32 := Scalar.extui v36
  let v38 : BitVec 32 := Scalar.subi v35 v37
  let c512_i32_18 : BitVec 32 := 512#32
  let c0_i32_21 : BitVec 32 := 0#32
  let v39 : BitVec 1 := Scalar.cmpi .sgt c512_i32_18 c0_i32_21
  let v40 : BitVec 32 := Scalar.extui v39
  let c0_i32_22 : BitVec 32 := 0#32
  let v41 : BitVec 1 := Scalar.cmpi .slt c512_i32_18 c0_i32_22
  let v42 : BitVec 32 := Scalar.extui v41
  let v43 : BitVec 32 := Scalar.subi v40 v42
  let v44 : BitVec 1 := Scalar.cmpi .ne v38 v43
  let v45 : BitVec 32 := Scalar.remsi v32 c512_i32_18
  let c0_i32_23 : BitVec 32 := 0#32
  let v46 : BitVec 1 := Scalar.cmpi .ne v45 c0_i32_23
  let v47 : BitVec 1 := Scalar.andi v44 v46
  let v33 : BitVec 32 := Scalar.divsi v32 c512_i32_18
  let c1_i32_24 : BitVec 32 := 1#32
  let v48 : BitVec 32 := Scalar.subi v33 c1_i32_24
  let v49 : BitVec 32 := Scalar.select v47 v48 v33
  let v89 : BitVec 32 := Scalar.subi v49 v24
  let c0_i32_49 : BitVec 32 := 0#32
  let v91 : BitVec 1 := Scalar.cmpi .sgt v89 c0_i32_49
  let v92 : BitVec 32 := Scalar.extui v91
  let c0_i32_50 : BitVec 32 := 0#32
  let v93 : BitVec 1 := Scalar.cmpi .slt v89 c0_i32_50
  let v94 : BitVec 32 := Scalar.extui v93
  let v95 : BitVec 32 := Scalar.subi v92 v94
  let c1_i32_48 : BitVec 32 := 1#32
  let c0_i32_51 : BitVec 32 := 0#32
  let v96 : BitVec 1 := Scalar.cmpi .sgt c1_i32_48 c0_i32_51
  let v97 : BitVec 32 := Scalar.extui v96
  let c0_i32_52 : BitVec 32 := 0#32
  let v98 : BitVec 1 := Scalar.cmpi .slt c1_i32_48 c0_i32_52
  let v99 : BitVec 32 := Scalar.extui v98
  let v100 : BitVec 32 := Scalar.subi v97 v99
  let v101 : BitVec 1 := Scalar.cmpi .ne v95 v100
  let v102 : BitVec 32 := Scalar.remsi v89 c1_i32_48
  let c0_i32_53 : BitVec 32 := 0#32
  let v103 : BitVec 1 := Scalar.cmpi .ne v102 c0_i32_53
  let v104 : BitVec 1 := Scalar.andi v101 v103
  let v90 : BitVec 32 := Scalar.divsi v89 c1_i32_48
  let c1_i32_54 : BitVec 32 := 1#32
  let v105 : BitVec 32 := Scalar.subi v90 c1_i32_54
  let v106 : BitVec 32 := Scalar.select v104 v105 v90
  let v107 : BitVec 32 := Scalar.subi v106 c0_i32_56
  let c1_i32_57 : BitVec 32 := 1#32
  let v109 : BitVec 32 := Scalar.divsi v107 c1_i32_57
  let v110 : BitVec 32 := Scalar.muli v109 c1_i32_57
  let v111 : BitVec 32 := Scalar.addi c0_i32_56 v110
  let c1_i32_59 : BitVec 32 := 1#32
  let arg10 : BitVec 32 := Scf.iv v111 c1_i32_59 k0_t4
  let c1_i32_96 : BitVec 32 := 1#32
  let v168 : BitVec 32 := Scalar.muli arg10 c1_i32_96
  let v169 : BitVec 32 := Scalar.addi v24 v168
  let c512_i32_97 : BitVec 32 := 512#32
  let v170 : BitVec 32 := Scalar.muli v169 c512_i32_97
  v170
def k0_off11 (i : grid0.Coords) (k0_t4 : Fin (k0_t4_loop i).trips) : Fin 4 → Nat :=
  let c0_98 : Index := 0#32
  let c0_99 : Index := 0#32
  let c0_i32 : BitVec 32 := 0#32
  let arg2 : BitVec 32 := BitVec.ofNat 32 (i 2).val
  let c1024_i32 : BitVec 32 := 1024#32
  let v0 : BitVec 32 := Scalar.muli arg2 c1024_i32
  let v1 : BitVec 32 := Scalar.addi c0_i32 v0
  let c6_i32 : BitVec 32 := 6#32
  let v4 : BitVec 32 := Scalar.shrsi v1 c6_i32
  let c1_i32 : BitVec 32 := 1#32
  let v5 : BitVec 32 := Scalar.addi v4 c1_i32
  let c6_i32_3 : BitVec 32 := 6#32
  let v6 : BitVec 32 := Scalar.shli v5 c6_i32_3
  let c4096_i32 : BitVec 32 := 4096#32
  let v7 : BitVec 32 := Scalar.minsi v6 c4096_i32
  let c0_i32_4 : BitVec 32 := 0#32
  let v9 : BitVec 1 := Scalar.cmpi .sgt v7 c0_i32_4
  let v10 : BitVec 32 := Scalar.extui v9
  let c0_i32_5 : BitVec 32 := 0#32
  let v11 : BitVec 1 := Scalar.cmpi .slt v7 c0_i32_5
  let v12 : BitVec 32 := Scalar.extui v11
  let v13 : BitVec 32 := Scalar.subi v10 v12
  let c512_i32 : BitVec 32 := 512#32
  let c0_i32_6 : BitVec 32 := 0#32
  let v14 : BitVec 1 := Scalar.cmpi .sgt c512_i32 c0_i32_6
  let v15 : BitVec 32 := Scalar.extui v14
  let c0_i32_7 : BitVec 32 := 0#32
  let v16 : BitVec 1 := Scalar.cmpi .slt c512_i32 c0_i32_7
  let v17 : BitVec 32 := Scalar.extui v16
  let v18 : BitVec 32 := Scalar.subi v15 v17
  let v19 : BitVec 1 := Scalar.cmpi .ne v13 v18
  let v20 : BitVec 32 := Scalar.remsi v7 c512_i32
  let c0_i32_8 : BitVec 32 := 0#32
  let v21 : BitVec 1 := Scalar.cmpi .ne v20 c0_i32_8
  let v22 : BitVec 1 := Scalar.andi v19 v21
  let v8 : BitVec 32 := Scalar.divsi v7 c512_i32
  let c1_i32_9 : BitVec 32 := 1#32
  let v23 : BitVec 32 := Scalar.subi v8 c1_i32_9
  let v24 : BitVec 32 := Scalar.select v22 v23 v8
  let c0_i32_56 : BitVec 32 := 0#32
  let c1024_i32_10 : BitVec 32 := 1024#32
  let v25 : BitVec 32 := Scalar.addi v1 c1024_i32_10
  let c1_i32_11 : BitVec 32 := 1#32
  let v26 : BitVec 32 := Scalar.subi v25 c1_i32_11
  let c6_i32_12 : BitVec 32 := 6#32
  let v27 : BitVec 32 := Scalar.shrsi v26 c6_i32_12
  let c1_i32_13 : BitVec 32 := 1#32
  let v28 : BitVec 32 := Scalar.addi v27 c1_i32_13
  let c6_i32_14 : BitVec 32 := 6#32
  let v29 : BitVec 32 := Scalar.shli v28 c6_i32_14
  let c4096_i32_15 : BitVec 32 := 4096#32
  let v30 : BitVec 32 := Scalar.minsi v29 c4096_i32_15
  let c512_i32_16 : BitVec 32 := 512#32
  let v31 : BitVec 32 := Scalar.addi v30 c512_i32_16
  let c1_i32_17 : BitVec 32 := 1#32
  let v32 : BitVec 32 := Scalar.subi v31 c1_i32_17
  let c0_i32_19 : BitVec 32 := 0#32
  let v34 : BitVec 1 := Scalar.cmpi .sgt v32 c0_i32_19
  let v35 : BitVec 32 := Scalar.extui v34
  let c0_i32_20 : BitVec 32 := 0#32
  let v36 : BitVec 1 := Scalar.cmpi .slt v32 c0_i32_20
  let v37 : BitVec 32 := Scalar.extui v36
  let v38 : BitVec 32 := Scalar.subi v35 v37
  let c512_i32_18 : BitVec 32 := 512#32
  let c0_i32_21 : BitVec 32 := 0#32
  let v39 : BitVec 1 := Scalar.cmpi .sgt c512_i32_18 c0_i32_21
  let v40 : BitVec 32 := Scalar.extui v39
  let c0_i32_22 : BitVec 32 := 0#32
  let v41 : BitVec 1 := Scalar.cmpi .slt c512_i32_18 c0_i32_22
  let v42 : BitVec 32 := Scalar.extui v41
  let v43 : BitVec 32 := Scalar.subi v40 v42
  let v44 : BitVec 1 := Scalar.cmpi .ne v38 v43
  let v45 : BitVec 32 := Scalar.remsi v32 c512_i32_18
  let c0_i32_23 : BitVec 32 := 0#32
  let v46 : BitVec 1 := Scalar.cmpi .ne v45 c0_i32_23
  let v47 : BitVec 1 := Scalar.andi v44 v46
  let v33 : BitVec 32 := Scalar.divsi v32 c512_i32_18
  let c1_i32_24 : BitVec 32 := 1#32
  let v48 : BitVec 32 := Scalar.subi v33 c1_i32_24
  let v49 : BitVec 32 := Scalar.select v47 v48 v33
  let v89 : BitVec 32 := Scalar.subi v49 v24
  let c0_i32_49 : BitVec 32 := 0#32
  let v91 : BitVec 1 := Scalar.cmpi .sgt v89 c0_i32_49
  let v92 : BitVec 32 := Scalar.extui v91
  let c0_i32_50 : BitVec 32 := 0#32
  let v93 : BitVec 1 := Scalar.cmpi .slt v89 c0_i32_50
  let v94 : BitVec 32 := Scalar.extui v93
  let v95 : BitVec 32 := Scalar.subi v92 v94
  let c1_i32_48 : BitVec 32 := 1#32
  let c0_i32_51 : BitVec 32 := 0#32
  let v96 : BitVec 1 := Scalar.cmpi .sgt c1_i32_48 c0_i32_51
  let v97 : BitVec 32 := Scalar.extui v96
  let c0_i32_52 : BitVec 32 := 0#32
  let v98 : BitVec 1 := Scalar.cmpi .slt c1_i32_48 c0_i32_52
  let v99 : BitVec 32 := Scalar.extui v98
  let v100 : BitVec 32 := Scalar.subi v97 v99
  let v101 : BitVec 1 := Scalar.cmpi .ne v95 v100
  let v102 : BitVec 32 := Scalar.remsi v89 c1_i32_48
  let c0_i32_53 : BitVec 32 := 0#32
  let v103 : BitVec 1 := Scalar.cmpi .ne v102 c0_i32_53
  let v104 : BitVec 1 := Scalar.andi v101 v103
  let v90 : BitVec 32 := Scalar.divsi v89 c1_i32_48
  let c1_i32_54 : BitVec 32 := 1#32
  let v105 : BitVec 32 := Scalar.subi v90 c1_i32_54
  let v106 : BitVec 32 := Scalar.select v104 v105 v90
  let v107 : BitVec 32 := Scalar.subi v106 c0_i32_56
  let c1_i32_57 : BitVec 32 := 1#32
  let v109 : BitVec 32 := Scalar.divsi v107 c1_i32_57
  let v110 : BitVec 32 := Scalar.muli v109 c1_i32_57
  let v111 : BitVec 32 := Scalar.addi c0_i32_56 v110
  let c1_i32_59 : BitVec 32 := 1#32
  let arg10 : BitVec 32 := Scf.iv v111 c1_i32_59 k0_t4
  let c1_i32_96 : BitVec 32 := 1#32
  let v168 : BitVec 32 := Scalar.muli arg10 c1_i32_96
  let v169 : BitVec 32 := Scalar.addi v24 v168
  let c512_i32_97 : BitVec 32 := 512#32
  let v170 : BitVec 32 := Scalar.muli v169 c512_i32_97
  let v171 : BitVec 32 := v170
  let v172 : Index := Scalar.indexCast v171
  let c0_100 : Index := 0#32
  ![0, 0, v172.toNat, 0]
def k0_off12 (i : grid0.Coords) (k0_t4 : Fin (k0_t4_loop i).trips) : Fin 2 → Nat :=
  let c0_107 : Index := 0#32
  let c0_i32 : BitVec 32 := 0#32
  let arg2 : BitVec 32 := BitVec.ofNat 32 (i 2).val
  let c1024_i32 : BitVec 32 := 1024#32
  let v0 : BitVec 32 := Scalar.muli arg2 c1024_i32
  let v1 : BitVec 32 := Scalar.addi c0_i32 v0
  let c6_i32 : BitVec 32 := 6#32
  let v4 : BitVec 32 := Scalar.shrsi v1 c6_i32
  let c1_i32 : BitVec 32 := 1#32
  let v5 : BitVec 32 := Scalar.addi v4 c1_i32
  let c6_i32_3 : BitVec 32 := 6#32
  let v6 : BitVec 32 := Scalar.shli v5 c6_i32_3
  let c4096_i32 : BitVec 32 := 4096#32
  let v7 : BitVec 32 := Scalar.minsi v6 c4096_i32
  let c0_i32_4 : BitVec 32 := 0#32
  let v9 : BitVec 1 := Scalar.cmpi .sgt v7 c0_i32_4
  let v10 : BitVec 32 := Scalar.extui v9
  let c0_i32_5 : BitVec 32 := 0#32
  let v11 : BitVec 1 := Scalar.cmpi .slt v7 c0_i32_5
  let v12 : BitVec 32 := Scalar.extui v11
  let v13 : BitVec 32 := Scalar.subi v10 v12
  let c512_i32 : BitVec 32 := 512#32
  let c0_i32_6 : BitVec 32 := 0#32
  let v14 : BitVec 1 := Scalar.cmpi .sgt c512_i32 c0_i32_6
  let v15 : BitVec 32 := Scalar.extui v14
  let c0_i32_7 : BitVec 32 := 0#32
  let v16 : BitVec 1 := Scalar.cmpi .slt c512_i32 c0_i32_7
  let v17 : BitVec 32 := Scalar.extui v16
  let v18 : BitVec 32 := Scalar.subi v15 v17
  let v19 : BitVec 1 := Scalar.cmpi .ne v13 v18
  let v20 : BitVec 32 := Scalar.remsi v7 c512_i32
  let c0_i32_8 : BitVec 32 := 0#32
  let v21 : BitVec 1 := Scalar.cmpi .ne v20 c0_i32_8
  let v22 : BitVec 1 := Scalar.andi v19 v21
  let v8 : BitVec 32 := Scalar.divsi v7 c512_i32
  let c1_i32_9 : BitVec 32 := 1#32
  let v23 : BitVec 32 := Scalar.subi v8 c1_i32_9
  let v24 : BitVec 32 := Scalar.select v22 v23 v8
  let c0_i32_56 : BitVec 32 := 0#32
  let c1024_i32_10 : BitVec 32 := 1024#32
  let v25 : BitVec 32 := Scalar.addi v1 c1024_i32_10
  let c1_i32_11 : BitVec 32 := 1#32
  let v26 : BitVec 32 := Scalar.subi v25 c1_i32_11
  let c6_i32_12 : BitVec 32 := 6#32
  let v27 : BitVec 32 := Scalar.shrsi v26 c6_i32_12
  let c1_i32_13 : BitVec 32 := 1#32
  let v28 : BitVec 32 := Scalar.addi v27 c1_i32_13
  let c6_i32_14 : BitVec 32 := 6#32
  let v29 : BitVec 32 := Scalar.shli v28 c6_i32_14
  let c4096_i32_15 : BitVec 32 := 4096#32
  let v30 : BitVec 32 := Scalar.minsi v29 c4096_i32_15
  let c512_i32_16 : BitVec 32 := 512#32
  let v31 : BitVec 32 := Scalar.addi v30 c512_i32_16
  let c1_i32_17 : BitVec 32 := 1#32
  let v32 : BitVec 32 := Scalar.subi v31 c1_i32_17
  let c0_i32_19 : BitVec 32 := 0#32
  let v34 : BitVec 1 := Scalar.cmpi .sgt v32 c0_i32_19
  let v35 : BitVec 32 := Scalar.extui v34
  let c0_i32_20 : BitVec 32 := 0#32
  let v36 : BitVec 1 := Scalar.cmpi .slt v32 c0_i32_20
  let v37 : BitVec 32 := Scalar.extui v36
  let v38 : BitVec 32 := Scalar.subi v35 v37
  let c512_i32_18 : BitVec 32 := 512#32
  let c0_i32_21 : BitVec 32 := 0#32
  let v39 : BitVec 1 := Scalar.cmpi .sgt c512_i32_18 c0_i32_21
  let v40 : BitVec 32 := Scalar.extui v39
  let c0_i32_22 : BitVec 32 := 0#32
  let v41 : BitVec 1 := Scalar.cmpi .slt c512_i32_18 c0_i32_22
  let v42 : BitVec 32 := Scalar.extui v41
  let v43 : BitVec 32 := Scalar.subi v40 v42
  let v44 : BitVec 1 := Scalar.cmpi .ne v38 v43
  let v45 : BitVec 32 := Scalar.remsi v32 c512_i32_18
  let c0_i32_23 : BitVec 32 := 0#32
  let v46 : BitVec 1 := Scalar.cmpi .ne v45 c0_i32_23
  let v47 : BitVec 1 := Scalar.andi v44 v46
  let v33 : BitVec 32 := Scalar.divsi v32 c512_i32_18
  let c1_i32_24 : BitVec 32 := 1#32
  let v48 : BitVec 32 := Scalar.subi v33 c1_i32_24
  let v49 : BitVec 32 := Scalar.select v47 v48 v33
  let v89 : BitVec 32 := Scalar.subi v49 v24
  let c0_i32_49 : BitVec 32 := 0#32
  let v91 : BitVec 1 := Scalar.cmpi .sgt v89 c0_i32_49
  let v92 : BitVec 32 := Scalar.extui v91
  let c0_i32_50 : BitVec 32 := 0#32
  let v93 : BitVec 1 := Scalar.cmpi .slt v89 c0_i32_50
  let v94 : BitVec 32 := Scalar.extui v93
  let v95 : BitVec 32 := Scalar.subi v92 v94
  let c1_i32_48 : BitVec 32 := 1#32
  let c0_i32_51 : BitVec 32 := 0#32
  let v96 : BitVec 1 := Scalar.cmpi .sgt c1_i32_48 c0_i32_51
  let v97 : BitVec 32 := Scalar.extui v96
  let c0_i32_52 : BitVec 32 := 0#32
  let v98 : BitVec 1 := Scalar.cmpi .slt c1_i32_48 c0_i32_52
  let v99 : BitVec 32 := Scalar.extui v98
  let v100 : BitVec 32 := Scalar.subi v97 v99
  let v101 : BitVec 1 := Scalar.cmpi .ne v95 v100
  let v102 : BitVec 32 := Scalar.remsi v89 c1_i32_48
  let c0_i32_53 : BitVec 32 := 0#32
  let v103 : BitVec 1 := Scalar.cmpi .ne v102 c0_i32_53
  let v104 : BitVec 1 := Scalar.andi v101 v103
  let v90 : BitVec 32 := Scalar.divsi v89 c1_i32_48
  let c1_i32_54 : BitVec 32 := 1#32
  let v105 : BitVec 32 := Scalar.subi v90 c1_i32_54
  let v106 : BitVec 32 := Scalar.select v104 v105 v90
  let v107 : BitVec 32 := Scalar.subi v106 c0_i32_56
  let c1_i32_57 : BitVec 32 := 1#32
  let v109 : BitVec 32 := Scalar.divsi v107 c1_i32_57
  let v110 : BitVec 32 := Scalar.muli v109 c1_i32_57
  let v111 : BitVec 32 := Scalar.addi c0_i32_56 v110
  let c1_i32_59 : BitVec 32 := 1#32
  let arg10 : BitVec 32 := Scf.iv v111 c1_i32_59 k0_t4
  let c1_i32_96 : BitVec 32 := 1#32
  let v168 : BitVec 32 := Scalar.muli arg10 c1_i32_96
  let v169 : BitVec 32 := Scalar.addi v24 v168
  let c512_i32_97 : BitVec 32 := 512#32
  let v170 : BitVec 32 := Scalar.muli v169 c512_i32_97
  let v171 : BitVec 32 := v170
  let v194 : Index := Scalar.indexCast v171
  ![0, v194.toNat]
@[reducible] def k0_t5_loop (i : grid0.Coords) : Scf.Loop 32 :=
  let c0_i32_77 : BitVec 32 := 0#32
  let c0_i32 : BitVec 32 := 0#32
  let arg2 : BitVec 32 := BitVec.ofNat 32 (i 2).val
  let c1024_i32 : BitVec 32 := 1024#32
  let v0 : BitVec 32 := Scalar.muli arg2 c1024_i32
  let v1 : BitVec 32 := Scalar.addi c0_i32 v0
  let c1024_i32_10 : BitVec 32 := 1024#32
  let v25 : BitVec 32 := Scalar.addi v1 c1024_i32_10
  let c1_i32_11 : BitVec 32 := 1#32
  let v26 : BitVec 32 := Scalar.subi v25 c1_i32_11
  let c6_i32_12 : BitVec 32 := 6#32
  let v27 : BitVec 32 := Scalar.shrsi v26 c6_i32_12
  let c1_i32_13 : BitVec 32 := 1#32
  let v28 : BitVec 32 := Scalar.addi v27 c1_i32_13
  let c6_i32_14 : BitVec 32 := 6#32
  let v29 : BitVec 32 := Scalar.shli v28 c6_i32_14
  let c4096_i32_15 : BitVec 32 := 4096#32
  let v30 : BitVec 32 := Scalar.minsi v29 c4096_i32_15
  let c512_i32_16 : BitVec 32 := 512#32
  let v31 : BitVec 32 := Scalar.addi v30 c512_i32_16
  let c1_i32_17 : BitVec 32 := 1#32
  let v32 : BitVec 32 := Scalar.subi v31 c1_i32_17
  let c0_i32_19 : BitVec 32 := 0#32
  let v34 : BitVec 1 := Scalar.cmpi .sgt v32 c0_i32_19
  let v35 : BitVec 32 := Scalar.extui v34
  let c0_i32_20 : BitVec 32 := 0#32
  let v36 : BitVec 1 := Scalar.cmpi .slt v32 c0_i32_20
  let v37 : BitVec 32 := Scalar.extui v36
  let v38 : BitVec 32 := Scalar.subi v35 v37
  let c512_i32_18 : BitVec 32 := 512#32
  let c0_i32_21 : BitVec 32 := 0#32
  let v39 : BitVec 1 := Scalar.cmpi .sgt c512_i32_18 c0_i32_21
  let v40 : BitVec 32 := Scalar.extui v39
  let c0_i32_22 : BitVec 32 := 0#32
  let v41 : BitVec 1 := Scalar.cmpi .slt c512_i32_18 c0_i32_22
  let v42 : BitVec 32 := Scalar.extui v41
  let v43 : BitVec 32 := Scalar.subi v40 v42
  let v44 : BitVec 1 := Scalar.cmpi .ne v38 v43
  let v45 : BitVec 32 := Scalar.remsi v32 c512_i32_18
  let c0_i32_23 : BitVec 32 := 0#32
  let v46 : BitVec 1 := Scalar.cmpi .ne v45 c0_i32_23
  let v47 : BitVec 1 := Scalar.andi v44 v46
  let v33 : BitVec 32 := Scalar.divsi v32 c512_i32_18
  let c1_i32_24 : BitVec 32 := 1#32
  let v48 : BitVec 32 := Scalar.subi v33 c1_i32_24
  let v49 : BitVec 32 := Scalar.select v47 v48 v33
  let c0_i32_68 : BitVec 32 := 0#32
  let v124 : BitVec 32 := Scalar.subi v49 c0_i32_68
  let c0_i32_70 : BitVec 32 := 0#32
  let v126 : BitVec 1 := Scalar.cmpi .sgt v124 c0_i32_70
  let v127 : BitVec 32 := Scalar.extui v126
  let c0_i32_71 : BitVec 32 := 0#32
  let v128 : BitVec 1 := Scalar.cmpi .slt v124 c0_i32_71
  let v129 : BitVec 32 := Scalar.extui v128
  let v130 : BitVec 32 := Scalar.subi v127 v129
  let c4_i32_69 : BitVec 32 := 4#32
  let c0_i32_72 : BitVec 32 := 0#32
  let v131 : BitVec 1 := Scalar.cmpi .sgt c4_i32_69 c0_i32_72
  let v132 : BitVec 32 := Scalar.extui v131
  let c0_i32_73 : BitVec 32 := 0#32
  let v133 : BitVec 1 := Scalar.cmpi .slt c4_i32_69 c0_i32_73
  let v134 : BitVec 32 := Scalar.extui v133
  let v135 : BitVec 32 := Scalar.subi v132 v134
  let v136 : BitVec 1 := Scalar.cmpi .ne v130 v135
  let v137 : BitVec 32 := Scalar.remsi v124 c4_i32_69
  let c0_i32_74 : BitVec 32 := 0#32
  let v138 : BitVec 1 := Scalar.cmpi .ne v137 c0_i32_74
  let v139 : BitVec 1 := Scalar.andi v136 v138
  let v125 : BitVec 32 := Scalar.divsi v124 c4_i32_69
  let c1_i32_75 : BitVec 32 := 1#32
  let v140 : BitVec 32 := Scalar.subi v125 c1_i32_75
  let v141 : BitVec 32 := Scalar.select v139 v140 v125
  let v142 : BitVec 32 := Scalar.subi v141 c0_i32_77
  let c1_i32_78 : BitVec 32 := 1#32
  let v144 : BitVec 32 := Scalar.divsi v142 c1_i32_78
  let v145 : BitVec 32 := Scalar.muli v144 c1_i32_78
  let v146 : BitVec 32 := Scalar.addi c0_i32_77 v145
  let c1_i32_79 : BitVec 32 := 1#32
  ⟨c0_i32_77, v146, c1_i32_79⟩
def k0_mult7 (i : grid0.Coords) (k0_t5 : Fin (k0_t5_loop i).trips) : BitVec 32 :=
  let c0_i32_97 : BitVec 32 := 0#32
  let c0_i32_77 : BitVec 32 := 0#32
  let c1_i32_79 : BitVec 32 := 1#32
  let arg10 : BitVec 32 := Scf.iv c0_i32_77 c1_i32_79 k0_t5
  let c4_i32_96 : BitVec 32 := 4#32
  let v168 : BitVec 32 := Scalar.muli arg10 c4_i32_96
  let v169 : BitVec 32 := Scalar.addi c0_i32_97 v168
  let c512_i32_98 : BitVec 32 := 512#32
  let v170 : BitVec 32 := Scalar.muli v169 c512_i32_98
  v170
def k0_off13 (i : grid0.Coords) (k0_t5 : Fin (k0_t5_loop i).trips) : Fin 2 → Nat :=
  let c0_101 : Index := 0#32
  let c0_i32_97 : BitVec 32 := 0#32
  let c0_i32_77 : BitVec 32 := 0#32
  let c1_i32_79 : BitVec 32 := 1#32
  let arg10 : BitVec 32 := Scf.iv c0_i32_77 c1_i32_79 k0_t5
  let c4_i32_96 : BitVec 32 := 4#32
  let v168 : BitVec 32 := Scalar.muli arg10 c4_i32_96
  let v169 : BitVec 32 := Scalar.addi c0_i32_97 v168
  let c512_i32_98 : BitVec 32 := 512#32
  let v170 : BitVec 32 := Scalar.muli v169 c512_i32_98
  let v171 : BitVec 32 := v170
  let v173 : Index := Scalar.indexCast v171
  ![0, v173.toNat]
def k0_off14 (i : grid0.Coords) (k0_t5 : Fin (k0_t5_loop i).trips) : Fin 4 → Nat :=
  let c0_103 : Index := 0#32
  let c0_104 : Index := 0#32
  let c0_i32_97 : BitVec 32 := 0#32
  let c0_i32_77 : BitVec 32 := 0#32
  let c1_i32_79 : BitVec 32 := 1#32
  let arg10 : BitVec 32 := Scf.iv c0_i32_77 c1_i32_79 k0_t5
  let c4_i32_96 : BitVec 32 := 4#32
  let v168 : BitVec 32 := Scalar.muli arg10 c4_i32_96
  let v169 : BitVec 32 := Scalar.addi c0_i32_97 v168
  let c512_i32_98 : BitVec 32 := 512#32
  let v170 : BitVec 32 := Scalar.muli v169 c512_i32_98
  let v171 : BitVec 32 := v170
  let v230 : Index := Scalar.indexCast v171
  let c0_105 : Index := 0#32
  ![0, 0, v230.toNat, 0]
@[reducible] def k0_t6_loop (i : grid0.Coords) : Scf.Loop 32 :=
  let c0_i32_77 : BitVec 32 := 0#32
  let c0_i32 : BitVec 32 := 0#32
  let arg2 : BitVec 32 := BitVec.ofNat 32 (i 2).val
  let c1024_i32 : BitVec 32 := 1024#32
  let v0 : BitVec 32 := Scalar.muli arg2 c1024_i32
  let v1 : BitVec 32 := Scalar.addi c0_i32 v0
  let c1024_i32_10 : BitVec 32 := 1024#32
  let v25 : BitVec 32 := Scalar.addi v1 c1024_i32_10
  let c1_i32_11 : BitVec 32 := 1#32
  let v26 : BitVec 32 := Scalar.subi v25 c1_i32_11
  let c6_i32_12 : BitVec 32 := 6#32
  let v27 : BitVec 32 := Scalar.shrsi v26 c6_i32_12
  let c1_i32_13 : BitVec 32 := 1#32
  let v28 : BitVec 32 := Scalar.addi v27 c1_i32_13
  let c6_i32_14 : BitVec 32 := 6#32
  let v29 : BitVec 32 := Scalar.shli v28 c6_i32_14
  let c4096_i32_15 : BitVec 32 := 4096#32
  let v30 : BitVec 32 := Scalar.minsi v29 c4096_i32_15
  let c512_i32_16 : BitVec 32 := 512#32
  let v31 : BitVec 32 := Scalar.addi v30 c512_i32_16
  let c1_i32_17 : BitVec 32 := 1#32
  let v32 : BitVec 32 := Scalar.subi v31 c1_i32_17
  let c0_i32_19 : BitVec 32 := 0#32
  let v34 : BitVec 1 := Scalar.cmpi .sgt v32 c0_i32_19
  let v35 : BitVec 32 := Scalar.extui v34
  let c0_i32_20 : BitVec 32 := 0#32
  let v36 : BitVec 1 := Scalar.cmpi .slt v32 c0_i32_20
  let v37 : BitVec 32 := Scalar.extui v36
  let v38 : BitVec 32 := Scalar.subi v35 v37
  let c512_i32_18 : BitVec 32 := 512#32
  let c0_i32_21 : BitVec 32 := 0#32
  let v39 : BitVec 1 := Scalar.cmpi .sgt c512_i32_18 c0_i32_21
  let v40 : BitVec 32 := Scalar.extui v39
  let c0_i32_22 : BitVec 32 := 0#32
  let v41 : BitVec 1 := Scalar.cmpi .slt c512_i32_18 c0_i32_22
  let v42 : BitVec 32 := Scalar.extui v41
  let v43 : BitVec 32 := Scalar.subi v40 v42
  let v44 : BitVec 1 := Scalar.cmpi .ne v38 v43
  let v45 : BitVec 32 := Scalar.remsi v32 c512_i32_18
  let c0_i32_23 : BitVec 32 := 0#32
  let v46 : BitVec 1 := Scalar.cmpi .ne v45 c0_i32_23
  let v47 : BitVec 1 := Scalar.andi v44 v46
  let v33 : BitVec 32 := Scalar.divsi v32 c512_i32_18
  let c1_i32_24 : BitVec 32 := 1#32
  let v48 : BitVec 32 := Scalar.subi v33 c1_i32_24
  let v49 : BitVec 32 := Scalar.select v47 v48 v33
  let c0_i32_68 : BitVec 32 := 0#32
  let v124 : BitVec 32 := Scalar.subi v49 c0_i32_68
  let c0_i32_70 : BitVec 32 := 0#32
  let v126 : BitVec 1 := Scalar.cmpi .sgt v124 c0_i32_70
  let v127 : BitVec 32 := Scalar.extui v126
  let c0_i32_71 : BitVec 32 := 0#32
  let v128 : BitVec 1 := Scalar.cmpi .slt v124 c0_i32_71
  let v129 : BitVec 32 := Scalar.extui v128
  let v130 : BitVec 32 := Scalar.subi v127 v129
  let c4_i32_69 : BitVec 32 := 4#32
  let c0_i32_72 : BitVec 32 := 0#32
  let v131 : BitVec 1 := Scalar.cmpi .sgt c4_i32_69 c0_i32_72
  let v132 : BitVec 32 := Scalar.extui v131
  let c0_i32_73 : BitVec 32 := 0#32
  let v133 : BitVec 1 := Scalar.cmpi .slt c4_i32_69 c0_i32_73
  let v134 : BitVec 32 := Scalar.extui v133
  let v135 : BitVec 32 := Scalar.subi v132 v134
  let v136 : BitVec 1 := Scalar.cmpi .ne v130 v135
  let v137 : BitVec 32 := Scalar.remsi v124 c4_i32_69
  let c0_i32_74 : BitVec 32 := 0#32
  let v138 : BitVec 1 := Scalar.cmpi .ne v137 c0_i32_74
  let v139 : BitVec 1 := Scalar.andi v136 v138
  let v125 : BitVec 32 := Scalar.divsi v124 c4_i32_69
  let c1_i32_75 : BitVec 32 := 1#32
  let v140 : BitVec 32 := Scalar.subi v125 c1_i32_75
  let v141 : BitVec 32 := Scalar.select v139 v140 v125
  let v142 : BitVec 32 := Scalar.subi v141 c0_i32_77
  let c1_i32_78 : BitVec 32 := 1#32
  let v144 : BitVec 32 := Scalar.divsi v142 c1_i32_78
  let v145 : BitVec 32 := Scalar.muli v144 c1_i32_78
  let v146 : BitVec 32 := Scalar.addi c0_i32_77 v145
  let v143 : BitVec 32 := Scalar.addi c0_i32_77 v142
  let c1_i32_80 : BitVec 32 := 1#32
  ⟨v146, v143, c1_i32_80⟩
def k0_mult8 (i : grid0.Coords) (k0_t6 : Fin (k0_t6_loop i).trips) : BitVec 32 :=
  let c0_i32_97 : BitVec 32 := 0#32
  let c0_i32_77 : BitVec 32 := 0#32
  let c0_i32 : BitVec 32 := 0#32
  let arg2 : BitVec 32 := BitVec.ofNat 32 (i 2).val
  let c1024_i32 : BitVec 32 := 1024#32
  let v0 : BitVec 32 := Scalar.muli arg2 c1024_i32
  let v1 : BitVec 32 := Scalar.addi c0_i32 v0
  let c1024_i32_10 : BitVec 32 := 1024#32
  let v25 : BitVec 32 := Scalar.addi v1 c1024_i32_10
  let c1_i32_11 : BitVec 32 := 1#32
  let v26 : BitVec 32 := Scalar.subi v25 c1_i32_11
  let c6_i32_12 : BitVec 32 := 6#32
  let v27 : BitVec 32 := Scalar.shrsi v26 c6_i32_12
  let c1_i32_13 : BitVec 32 := 1#32
  let v28 : BitVec 32 := Scalar.addi v27 c1_i32_13
  let c6_i32_14 : BitVec 32 := 6#32
  let v29 : BitVec 32 := Scalar.shli v28 c6_i32_14
  let c4096_i32_15 : BitVec 32 := 4096#32
  let v30 : BitVec 32 := Scalar.minsi v29 c4096_i32_15
  let c512_i32_16 : BitVec 32 := 512#32
  let v31 : BitVec 32 := Scalar.addi v30 c512_i32_16
  let c1_i32_17 : BitVec 32 := 1#32
  let v32 : BitVec 32 := Scalar.subi v31 c1_i32_17
  let c0_i32_19 : BitVec 32 := 0#32
  let v34 : BitVec 1 := Scalar.cmpi .sgt v32 c0_i32_19
  let v35 : BitVec 32 := Scalar.extui v34
  let c0_i32_20 : BitVec 32 := 0#32
  let v36 : BitVec 1 := Scalar.cmpi .slt v32 c0_i32_20
  let v37 : BitVec 32 := Scalar.extui v36
  let v38 : BitVec 32 := Scalar.subi v35 v37
  let c512_i32_18 : BitVec 32 := 512#32
  let c0_i32_21 : BitVec 32 := 0#32
  let v39 : BitVec 1 := Scalar.cmpi .sgt c512_i32_18 c0_i32_21
  let v40 : BitVec 32 := Scalar.extui v39
  let c0_i32_22 : BitVec 32 := 0#32
  let v41 : BitVec 1 := Scalar.cmpi .slt c512_i32_18 c0_i32_22
  let v42 : BitVec 32 := Scalar.extui v41
  let v43 : BitVec 32 := Scalar.subi v40 v42
  let v44 : BitVec 1 := Scalar.cmpi .ne v38 v43
  let v45 : BitVec 32 := Scalar.remsi v32 c512_i32_18
  let c0_i32_23 : BitVec 32 := 0#32
  let v46 : BitVec 1 := Scalar.cmpi .ne v45 c0_i32_23
  let v47 : BitVec 1 := Scalar.andi v44 v46
  let v33 : BitVec 32 := Scalar.divsi v32 c512_i32_18
  let c1_i32_24 : BitVec 32 := 1#32
  let v48 : BitVec 32 := Scalar.subi v33 c1_i32_24
  let v49 : BitVec 32 := Scalar.select v47 v48 v33
  let c0_i32_68 : BitVec 32 := 0#32
  let v124 : BitVec 32 := Scalar.subi v49 c0_i32_68
  let c0_i32_70 : BitVec 32 := 0#32
  let v126 : BitVec 1 := Scalar.cmpi .sgt v124 c0_i32_70
  let v127 : BitVec 32 := Scalar.extui v126
  let c0_i32_71 : BitVec 32 := 0#32
  let v128 : BitVec 1 := Scalar.cmpi .slt v124 c0_i32_71
  let v129 : BitVec 32 := Scalar.extui v128
  let v130 : BitVec 32 := Scalar.subi v127 v129
  let c4_i32_69 : BitVec 32 := 4#32
  let c0_i32_72 : BitVec 32 := 0#32
  let v131 : BitVec 1 := Scalar.cmpi .sgt c4_i32_69 c0_i32_72
  let v132 : BitVec 32 := Scalar.extui v131
  let c0_i32_73 : BitVec 32 := 0#32
  let v133 : BitVec 1 := Scalar.cmpi .slt c4_i32_69 c0_i32_73
  let v134 : BitVec 32 := Scalar.extui v133
  let v135 : BitVec 32 := Scalar.subi v132 v134
  let v136 : BitVec 1 := Scalar.cmpi .ne v130 v135
  let v137 : BitVec 32 := Scalar.remsi v124 c4_i32_69
  let c0_i32_74 : BitVec 32 := 0#32
  let v138 : BitVec 1 := Scalar.cmpi .ne v137 c0_i32_74
  let v139 : BitVec 1 := Scalar.andi v136 v138
  let v125 : BitVec 32 := Scalar.divsi v124 c4_i32_69
  let c1_i32_75 : BitVec 32 := 1#32
  let v140 : BitVec 32 := Scalar.subi v125 c1_i32_75
  let v141 : BitVec 32 := Scalar.select v139 v140 v125
  let v142 : BitVec 32 := Scalar.subi v141 c0_i32_77
  let c1_i32_78 : BitVec 32 := 1#32
  let v144 : BitVec 32 := Scalar.divsi v142 c1_i32_78
  let v145 : BitVec 32 := Scalar.muli v144 c1_i32_78
  let v146 : BitVec 32 := Scalar.addi c0_i32_77 v145
  let c1_i32_80 : BitVec 32 := 1#32
  let arg10 : BitVec 32 := Scf.iv v146 c1_i32_80 k0_t6
  let c4_i32_96 : BitVec 32 := 4#32
  let v168 : BitVec 32 := Scalar.muli arg10 c4_i32_96
  let v169 : BitVec 32 := Scalar.addi c0_i32_97 v168
  let c512_i32_98 : BitVec 32 := 512#32
  let v170 : BitVec 32 := Scalar.muli v169 c512_i32_98
  v170
def k0_off15 (i : grid0.Coords) (k0_t6 : Fin (k0_t6_loop i).trips) : Fin 2 → Nat :=
  let c0_101 : Index := 0#32
  let c0_i32_97 : BitVec 32 := 0#32
  let c0_i32_77 : BitVec 32 := 0#32
  let c0_i32 : BitVec 32 := 0#32
  let arg2 : BitVec 32 := BitVec.ofNat 32 (i 2).val
  let c1024_i32 : BitVec 32 := 1024#32
  let v0 : BitVec 32 := Scalar.muli arg2 c1024_i32
  let v1 : BitVec 32 := Scalar.addi c0_i32 v0
  let c1024_i32_10 : BitVec 32 := 1024#32
  let v25 : BitVec 32 := Scalar.addi v1 c1024_i32_10
  let c1_i32_11 : BitVec 32 := 1#32
  let v26 : BitVec 32 := Scalar.subi v25 c1_i32_11
  let c6_i32_12 : BitVec 32 := 6#32
  let v27 : BitVec 32 := Scalar.shrsi v26 c6_i32_12
  let c1_i32_13 : BitVec 32 := 1#32
  let v28 : BitVec 32 := Scalar.addi v27 c1_i32_13
  let c6_i32_14 : BitVec 32 := 6#32
  let v29 : BitVec 32 := Scalar.shli v28 c6_i32_14
  let c4096_i32_15 : BitVec 32 := 4096#32
  let v30 : BitVec 32 := Scalar.minsi v29 c4096_i32_15
  let c512_i32_16 : BitVec 32 := 512#32
  let v31 : BitVec 32 := Scalar.addi v30 c512_i32_16
  let c1_i32_17 : BitVec 32 := 1#32
  let v32 : BitVec 32 := Scalar.subi v31 c1_i32_17
  let c0_i32_19 : BitVec 32 := 0#32
  let v34 : BitVec 1 := Scalar.cmpi .sgt v32 c0_i32_19
  let v35 : BitVec 32 := Scalar.extui v34
  let c0_i32_20 : BitVec 32 := 0#32
  let v36 : BitVec 1 := Scalar.cmpi .slt v32 c0_i32_20
  let v37 : BitVec 32 := Scalar.extui v36
  let v38 : BitVec 32 := Scalar.subi v35 v37
  let c512_i32_18 : BitVec 32 := 512#32
  let c0_i32_21 : BitVec 32 := 0#32
  let v39 : BitVec 1 := Scalar.cmpi .sgt c512_i32_18 c0_i32_21
  let v40 : BitVec 32 := Scalar.extui v39
  let c0_i32_22 : BitVec 32 := 0#32
  let v41 : BitVec 1 := Scalar.cmpi .slt c512_i32_18 c0_i32_22
  let v42 : BitVec 32 := Scalar.extui v41
  let v43 : BitVec 32 := Scalar.subi v40 v42
  let v44 : BitVec 1 := Scalar.cmpi .ne v38 v43
  let v45 : BitVec 32 := Scalar.remsi v32 c512_i32_18
  let c0_i32_23 : BitVec 32 := 0#32
  let v46 : BitVec 1 := Scalar.cmpi .ne v45 c0_i32_23
  let v47 : BitVec 1 := Scalar.andi v44 v46
  let v33 : BitVec 32 := Scalar.divsi v32 c512_i32_18
  let c1_i32_24 : BitVec 32 := 1#32
  let v48 : BitVec 32 := Scalar.subi v33 c1_i32_24
  let v49 : BitVec 32 := Scalar.select v47 v48 v33
  let c0_i32_68 : BitVec 32 := 0#32
  let v124 : BitVec 32 := Scalar.subi v49 c0_i32_68
  let c0_i32_70 : BitVec 32 := 0#32
  let v126 : BitVec 1 := Scalar.cmpi .sgt v124 c0_i32_70
  let v127 : BitVec 32 := Scalar.extui v126
  let c0_i32_71 : BitVec 32 := 0#32
  let v128 : BitVec 1 := Scalar.cmpi .slt v124 c0_i32_71
  let v129 : BitVec 32 := Scalar.extui v128
  let v130 : BitVec 32 := Scalar.subi v127 v129
  let c4_i32_69 : BitVec 32 := 4#32
  let c0_i32_72 : BitVec 32 := 0#32
  let v131 : BitVec 1 := Scalar.cmpi .sgt c4_i32_69 c0_i32_72
  let v132 : BitVec 32 := Scalar.extui v131
  let c0_i32_73 : BitVec 32 := 0#32
  let v133 : BitVec 1 := Scalar.cmpi .slt c4_i32_69 c0_i32_73
  let v134 : BitVec 32 := Scalar.extui v133
  let v135 : BitVec 32 := Scalar.subi v132 v134
  let v136 : BitVec 1 := Scalar.cmpi .ne v130 v135
  let v137 : BitVec 32 := Scalar.remsi v124 c4_i32_69
  let c0_i32_74 : BitVec 32 := 0#32
  let v138 : BitVec 1 := Scalar.cmpi .ne v137 c0_i32_74
  let v139 : BitVec 1 := Scalar.andi v136 v138
  let v125 : BitVec 32 := Scalar.divsi v124 c4_i32_69
  let c1_i32_75 : BitVec 32 := 1#32
  let v140 : BitVec 32 := Scalar.subi v125 c1_i32_75
  let v141 : BitVec 32 := Scalar.select v139 v140 v125
  let v142 : BitVec 32 := Scalar.subi v141 c0_i32_77
  let c1_i32_78 : BitVec 32 := 1#32
  let v144 : BitVec 32 := Scalar.divsi v142 c1_i32_78
  let v145 : BitVec 32 := Scalar.muli v144 c1_i32_78
  let v146 : BitVec 32 := Scalar.addi c0_i32_77 v145
  let c1_i32_80 : BitVec 32 := 1#32
  let arg10 : BitVec 32 := Scf.iv v146 c1_i32_80 k0_t6
  let c4_i32_96 : BitVec 32 := 4#32
  let v168 : BitVec 32 := Scalar.muli arg10 c4_i32_96
  let v169 : BitVec 32 := Scalar.addi c0_i32_97 v168
  let c512_i32_98 : BitVec 32 := 512#32
  let v170 : BitVec 32 := Scalar.muli v169 c512_i32_98
  let v171 : BitVec 32 := v170
  let v173 : Index := Scalar.indexCast v171
  ![0, v173.toNat]
def k0_off16 (i : grid0.Coords) (k0_t6 : Fin (k0_t6_loop i).trips) : Fin 4 → Nat :=
  let c0_103 : Index := 0#32
  let c0_104 : Index := 0#32
  let c0_i32_97 : BitVec 32 := 0#32
  let c0_i32_77 : BitVec 32 := 0#32
  let c0_i32 : BitVec 32 := 0#32
  let arg2 : BitVec 32 := BitVec.ofNat 32 (i 2).val
  let c1024_i32 : BitVec 32 := 1024#32
  let v0 : BitVec 32 := Scalar.muli arg2 c1024_i32
  let v1 : BitVec 32 := Scalar.addi c0_i32 v0
  let c1024_i32_10 : BitVec 32 := 1024#32
  let v25 : BitVec 32 := Scalar.addi v1 c1024_i32_10
  let c1_i32_11 : BitVec 32 := 1#32
  let v26 : BitVec 32 := Scalar.subi v25 c1_i32_11
  let c6_i32_12 : BitVec 32 := 6#32
  let v27 : BitVec 32 := Scalar.shrsi v26 c6_i32_12
  let c1_i32_13 : BitVec 32 := 1#32
  let v28 : BitVec 32 := Scalar.addi v27 c1_i32_13
  let c6_i32_14 : BitVec 32 := 6#32
  let v29 : BitVec 32 := Scalar.shli v28 c6_i32_14
  let c4096_i32_15 : BitVec 32 := 4096#32
  let v30 : BitVec 32 := Scalar.minsi v29 c4096_i32_15
  let c512_i32_16 : BitVec 32 := 512#32
  let v31 : BitVec 32 := Scalar.addi v30 c512_i32_16
  let c1_i32_17 : BitVec 32 := 1#32
  let v32 : BitVec 32 := Scalar.subi v31 c1_i32_17
  let c0_i32_19 : BitVec 32 := 0#32
  let v34 : BitVec 1 := Scalar.cmpi .sgt v32 c0_i32_19
  let v35 : BitVec 32 := Scalar.extui v34
  let c0_i32_20 : BitVec 32 := 0#32
  let v36 : BitVec 1 := Scalar.cmpi .slt v32 c0_i32_20
  let v37 : BitVec 32 := Scalar.extui v36
  let v38 : BitVec 32 := Scalar.subi v35 v37
  let c512_i32_18 : BitVec 32 := 512#32
  let c0_i32_21 : BitVec 32 := 0#32
  let v39 : BitVec 1 := Scalar.cmpi .sgt c512_i32_18 c0_i32_21
  let v40 : BitVec 32 := Scalar.extui v39
  let c0_i32_22 : BitVec 32 := 0#32
  let v41 : BitVec 1 := Scalar.cmpi .slt c512_i32_18 c0_i32_22
  let v42 : BitVec 32 := Scalar.extui v41
  let v43 : BitVec 32 := Scalar.subi v40 v42
  let v44 : BitVec 1 := Scalar.cmpi .ne v38 v43
  let v45 : BitVec 32 := Scalar.remsi v32 c512_i32_18
  let c0_i32_23 : BitVec 32 := 0#32
  let v46 : BitVec 1 := Scalar.cmpi .ne v45 c0_i32_23
  let v47 : BitVec 1 := Scalar.andi v44 v46
  let v33 : BitVec 32 := Scalar.divsi v32 c512_i32_18
  let c1_i32_24 : BitVec 32 := 1#32
  let v48 : BitVec 32 := Scalar.subi v33 c1_i32_24
  let v49 : BitVec 32 := Scalar.select v47 v48 v33
  let c0_i32_68 : BitVec 32 := 0#32
  let v124 : BitVec 32 := Scalar.subi v49 c0_i32_68
  let c0_i32_70 : BitVec 32 := 0#32
  let v126 : BitVec 1 := Scalar.cmpi .sgt v124 c0_i32_70
  let v127 : BitVec 32 := Scalar.extui v126
  let c0_i32_71 : BitVec 32 := 0#32
  let v128 : BitVec 1 := Scalar.cmpi .slt v124 c0_i32_71
  let v129 : BitVec 32 := Scalar.extui v128
  let v130 : BitVec 32 := Scalar.subi v127 v129
  let c4_i32_69 : BitVec 32 := 4#32
  let c0_i32_72 : BitVec 32 := 0#32
  let v131 : BitVec 1 := Scalar.cmpi .sgt c4_i32_69 c0_i32_72
  let v132 : BitVec 32 := Scalar.extui v131
  let c0_i32_73 : BitVec 32 := 0#32
  let v133 : BitVec 1 := Scalar.cmpi .slt c4_i32_69 c0_i32_73
  let v134 : BitVec 32 := Scalar.extui v133
  let v135 : BitVec 32 := Scalar.subi v132 v134
  let v136 : BitVec 1 := Scalar.cmpi .ne v130 v135
  let v137 : BitVec 32 := Scalar.remsi v124 c4_i32_69
  let c0_i32_74 : BitVec 32 := 0#32
  let v138 : BitVec 1 := Scalar.cmpi .ne v137 c0_i32_74
  let v139 : BitVec 1 := Scalar.andi v136 v138
  let v125 : BitVec 32 := Scalar.divsi v124 c4_i32_69
  let c1_i32_75 : BitVec 32 := 1#32
  let v140 : BitVec 32 := Scalar.subi v125 c1_i32_75
  let v141 : BitVec 32 := Scalar.select v139 v140 v125
  let v142 : BitVec 32 := Scalar.subi v141 c0_i32_77
  let c1_i32_78 : BitVec 32 := 1#32
  let v144 : BitVec 32 := Scalar.divsi v142 c1_i32_78
  let v145 : BitVec 32 := Scalar.muli v144 c1_i32_78
  let v146 : BitVec 32 := Scalar.addi c0_i32_77 v145
  let c1_i32_80 : BitVec 32 := 1#32
  let arg10 : BitVec 32 := Scf.iv v146 c1_i32_80 k0_t6
  let c4_i32_96 : BitVec 32 := 4#32
  let v168 : BitVec 32 := Scalar.muli arg10 c4_i32_96
  let v169 : BitVec 32 := Scalar.addi c0_i32_97 v168
  let c512_i32_98 : BitVec 32 := 512#32
  let v170 : BitVec 32 := Scalar.muli v169 c512_i32_98
  let v171 : BitVec 32 := v170
  let v230 : Index := Scalar.indexCast v171
  let c0_105 : Index := 0#32
  ![0, 0, v230.toNat, 0]
def k0_cond3 (i : grid0.Coords) : BitVec 1 :=
  let c0_i32 : BitVec 32 := 0#32
  let arg2 : BitVec 32 := BitVec.ofNat 32 (i 2).val
  let c1024_i32 : BitVec 32 := 1024#32
  let v0 : BitVec 32 := Scalar.muli arg2 c1024_i32
  let v1 : BitVec 32 := Scalar.addi c0_i32 v0
  let c1024_i32_10 : BitVec 32 := 1024#32
  let v25 : BitVec 32 := Scalar.addi v1 c1024_i32_10
  let c1_i32_11 : BitVec 32 := 1#32
  let v26 : BitVec 32 := Scalar.subi v25 c1_i32_11
  let c6_i32_12 : BitVec 32 := 6#32
  let v27 : BitVec 32 := Scalar.shrsi v26 c6_i32_12
  let c1_i32_13 : BitVec 32 := 1#32
  let v28 : BitVec 32 := Scalar.addi v27 c1_i32_13
  let c6_i32_14 : BitVec 32 := 6#32
  let v29 : BitVec 32 := Scalar.shli v28 c6_i32_14
  let c4096_i32_15 : BitVec 32 := 4096#32
  let v30 : BitVec 32 := Scalar.minsi v29 c4096_i32_15
  let c512_i32_16 : BitVec 32 := 512#32
  let v31 : BitVec 32 := Scalar.addi v30 c512_i32_16
  let c1_i32_17 : BitVec 32 := 1#32
  let v32 : BitVec 32 := Scalar.subi v31 c1_i32_17
  let c0_i32_19 : BitVec 32 := 0#32
  let v34 : BitVec 1 := Scalar.cmpi .sgt v32 c0_i32_19
  let v35 : BitVec 32 := Scalar.extui v34
  let c0_i32_20 : BitVec 32 := 0#32
  let v36 : BitVec 1 := Scalar.cmpi .slt v32 c0_i32_20
  let v37 : BitVec 32 := Scalar.extui v36
  let v38 : BitVec 32 := Scalar.subi v35 v37
  let c512_i32_18 : BitVec 32 := 512#32
  let c0_i32_21 : BitVec 32 := 0#32
  let v39 : BitVec 1 := Scalar.cmpi .sgt c512_i32_18 c0_i32_21
  let v40 : BitVec 32 := Scalar.extui v39
  let c0_i32_22 : BitVec 32 := 0#32
  let v41 : BitVec 1 := Scalar.cmpi .slt c512_i32_18 c0_i32_22
  let v42 : BitVec 32 := Scalar.extui v41
  let v43 : BitVec 32 := Scalar.subi v40 v42
  let v44 : BitVec 1 := Scalar.cmpi .ne v38 v43
  let v45 : BitVec 32 := Scalar.remsi v32 c512_i32_18
  let c0_i32_23 : BitVec 32 := 0#32
  let v46 : BitVec 1 := Scalar.cmpi .ne v45 c0_i32_23
  let v47 : BitVec 1 := Scalar.andi v44 v46
  let v33 : BitVec 32 := Scalar.divsi v32 c512_i32_18
  let c1_i32_24 : BitVec 32 := 1#32
  let v48 : BitVec 32 := Scalar.subi v33 c1_i32_24
  let v49 : BitVec 32 := Scalar.select v47 v48 v33
  let c0_i32_68 : BitVec 32 := 0#32
  let v124 : BitVec 32 := Scalar.subi v49 c0_i32_68
  let c2_i32_83 : BitVec 32 := 2#32
  let v149 : BitVec 32 := Scalar.andi v124 c2_i32_83
  let c0_i32_84 : BitVec 32 := 0#32
  let v150 : BitVec 1 := Scalar.cmpi .ne v149 c0_i32_84
  let v151 : BitVec 32 := Scalar.extui v150
  let c0_i32_85 : BitVec 32 := 0#32
  let v152 : BitVec 1 := Scalar.cmpi .ne v151 c0_i32_85
  v152

def k0_mult9 (i : grid0.Coords) : BitVec 32 :=
  let c0_i32_82 : BitVec 32 := 0#32
  let c0_i32 : BitVec 32 := 0#32
  let arg2 : BitVec 32 := BitVec.ofNat 32 (i 2).val
  let c1024_i32 : BitVec 32 := 1024#32
  let v0 : BitVec 32 := Scalar.muli arg2 c1024_i32
  let v1 : BitVec 32 := Scalar.addi c0_i32 v0
  let c1024_i32_10 : BitVec 32 := 1024#32
  let v25 : BitVec 32 := Scalar.addi v1 c1024_i32_10
  let c1_i32_11 : BitVec 32 := 1#32
  let v26 : BitVec 32 := Scalar.subi v25 c1_i32_11
  let c6_i32_12 : BitVec 32 := 6#32
  let v27 : BitVec 32 := Scalar.shrsi v26 c6_i32_12
  let c1_i32_13 : BitVec 32 := 1#32
  let v28 : BitVec 32 := Scalar.addi v27 c1_i32_13
  let c6_i32_14 : BitVec 32 := 6#32
  let v29 : BitVec 32 := Scalar.shli v28 c6_i32_14
  let c4096_i32_15 : BitVec 32 := 4096#32
  let v30 : BitVec 32 := Scalar.minsi v29 c4096_i32_15
  let c512_i32_16 : BitVec 32 := 512#32
  let v31 : BitVec 32 := Scalar.addi v30 c512_i32_16
  let c1_i32_17 : BitVec 32 := 1#32
  let v32 : BitVec 32 := Scalar.subi v31 c1_i32_17
  let c0_i32_19 : BitVec 32 := 0#32
  let v34 : BitVec 1 := Scalar.cmpi .sgt v32 c0_i32_19
  let v35 : BitVec 32 := Scalar.extui v34
  let c0_i32_20 : BitVec 32 := 0#32
  let v36 : BitVec 1 := Scalar.cmpi .slt v32 c0_i32_20
  let v37 : BitVec 32 := Scalar.extui v36
  let v38 : BitVec 32 := Scalar.subi v35 v37
  let c512_i32_18 : BitVec 32 := 512#32
  let c0_i32_21 : BitVec 32 := 0#32
  let v39 : BitVec 1 := Scalar.cmpi .sgt c512_i32_18 c0_i32_21
  let v40 : BitVec 32 := Scalar.extui v39
  let c0_i32_22 : BitVec 32 := 0#32
  let v41 : BitVec 1 := Scalar.cmpi .slt c512_i32_18 c0_i32_22
  let v42 : BitVec 32 := Scalar.extui v41
  let v43 : BitVec 32 := Scalar.subi v40 v42
  let v44 : BitVec 1 := Scalar.cmpi .ne v38 v43
  let v45 : BitVec 32 := Scalar.remsi v32 c512_i32_18
  let c0_i32_23 : BitVec 32 := 0#32
  let v46 : BitVec 1 := Scalar.cmpi .ne v45 c0_i32_23
  let v47 : BitVec 1 := Scalar.andi v44 v46
  let v33 : BitVec 32 := Scalar.divsi v32 c512_i32_18
  let c1_i32_24 : BitVec 32 := 1#32
  let v48 : BitVec 32 := Scalar.subi v33 c1_i32_24
  let v49 : BitVec 32 := Scalar.select v47 v48 v33
  let c0_i32_68 : BitVec 32 := 0#32
  let v124 : BitVec 32 := Scalar.subi v49 c0_i32_68
  let c0_i32_70 : BitVec 32 := 0#32
  let v126 : BitVec 1 := Scalar.cmpi .sgt v124 c0_i32_70
  let v127 : BitVec 32 := Scalar.extui v126
  let c0_i32_71 : BitVec 32 := 0#32
  let v128 : BitVec 1 := Scalar.cmpi .slt v124 c0_i32_71
  let v129 : BitVec 32 := Scalar.extui v128
  let v130 : BitVec 32 := Scalar.subi v127 v129
  let c4_i32_69 : BitVec 32 := 4#32
  let c0_i32_72 : BitVec 32 := 0#32
  let v131 : BitVec 1 := Scalar.cmpi .sgt c4_i32_69 c0_i32_72
  let v132 : BitVec 32 := Scalar.extui v131
  let c0_i32_73 : BitVec 32 := 0#32
  let v133 : BitVec 1 := Scalar.cmpi .slt c4_i32_69 c0_i32_73
  let v134 : BitVec 32 := Scalar.extui v133
  let v135 : BitVec 32 := Scalar.subi v132 v134
  let v136 : BitVec 1 := Scalar.cmpi .ne v130 v135
  let v137 : BitVec 32 := Scalar.remsi v124 c4_i32_69
  let c0_i32_74 : BitVec 32 := 0#32
  let v138 : BitVec 1 := Scalar.cmpi .ne v137 c0_i32_74
  let v139 : BitVec 1 := Scalar.andi v136 v138
  let v125 : BitVec 32 := Scalar.divsi v124 c4_i32_69
  let c1_i32_75 : BitVec 32 := 1#32
  let v140 : BitVec 32 := Scalar.subi v125 c1_i32_75
  let v141 : BitVec 32 := Scalar.select v139 v140 v125
  let c4_i32_81 : BitVec 32 := 4#32
  let v147 : BitVec 32 := Scalar.muli v141 c4_i32_81
  let v148 : BitVec 32 := Scalar.addi c0_i32_82 v147
  let c512_i32_96 : BitVec 32 := 512#32
  let v168 : BitVec 32 := Scalar.muli v148 c512_i32_96
  v168
def k0_off17 (i : grid0.Coords) : Fin 2 → Nat :=
  let c0_99 : Index := 0#32
  let c0_i32_82 : BitVec 32 := 0#32
  let c0_i32 : BitVec 32 := 0#32
  let arg2 : BitVec 32 := BitVec.ofNat 32 (i 2).val
  let c1024_i32 : BitVec 32 := 1024#32
  let v0 : BitVec 32 := Scalar.muli arg2 c1024_i32
  let v1 : BitVec 32 := Scalar.addi c0_i32 v0
  let c1024_i32_10 : BitVec 32 := 1024#32
  let v25 : BitVec 32 := Scalar.addi v1 c1024_i32_10
  let c1_i32_11 : BitVec 32 := 1#32
  let v26 : BitVec 32 := Scalar.subi v25 c1_i32_11
  let c6_i32_12 : BitVec 32 := 6#32
  let v27 : BitVec 32 := Scalar.shrsi v26 c6_i32_12
  let c1_i32_13 : BitVec 32 := 1#32
  let v28 : BitVec 32 := Scalar.addi v27 c1_i32_13
  let c6_i32_14 : BitVec 32 := 6#32
  let v29 : BitVec 32 := Scalar.shli v28 c6_i32_14
  let c4096_i32_15 : BitVec 32 := 4096#32
  let v30 : BitVec 32 := Scalar.minsi v29 c4096_i32_15
  let c512_i32_16 : BitVec 32 := 512#32
  let v31 : BitVec 32 := Scalar.addi v30 c512_i32_16
  let c1_i32_17 : BitVec 32 := 1#32
  let v32 : BitVec 32 := Scalar.subi v31 c1_i32_17
  let c0_i32_19 : BitVec 32 := 0#32
  let v34 : BitVec 1 := Scalar.cmpi .sgt v32 c0_i32_19
  let v35 : BitVec 32 := Scalar.extui v34
  let c0_i32_20 : BitVec 32 := 0#32
  let v36 : BitVec 1 := Scalar.cmpi .slt v32 c0_i32_20
  let v37 : BitVec 32 := Scalar.extui v36
  let v38 : BitVec 32 := Scalar.subi v35 v37
  let c512_i32_18 : BitVec 32 := 512#32
  let c0_i32_21 : BitVec 32 := 0#32
  let v39 : BitVec 1 := Scalar.cmpi .sgt c512_i32_18 c0_i32_21
  let v40 : BitVec 32 := Scalar.extui v39
  let c0_i32_22 : BitVec 32 := 0#32
  let v41 : BitVec 1 := Scalar.cmpi .slt c512_i32_18 c0_i32_22
  let v42 : BitVec 32 := Scalar.extui v41
  let v43 : BitVec 32 := Scalar.subi v40 v42
  let v44 : BitVec 1 := Scalar.cmpi .ne v38 v43
  let v45 : BitVec 32 := Scalar.remsi v32 c512_i32_18
  let c0_i32_23 : BitVec 32 := 0#32
  let v46 : BitVec 1 := Scalar.cmpi .ne v45 c0_i32_23
  let v47 : BitVec 1 := Scalar.andi v44 v46
  let v33 : BitVec 32 := Scalar.divsi v32 c512_i32_18
  let c1_i32_24 : BitVec 32 := 1#32
  let v48 : BitVec 32 := Scalar.subi v33 c1_i32_24
  let v49 : BitVec 32 := Scalar.select v47 v48 v33
  let c0_i32_68 : BitVec 32 := 0#32
  let v124 : BitVec 32 := Scalar.subi v49 c0_i32_68
  let c0_i32_70 : BitVec 32 := 0#32
  let v126 : BitVec 1 := Scalar.cmpi .sgt v124 c0_i32_70
  let v127 : BitVec 32 := Scalar.extui v126
  let c0_i32_71 : BitVec 32 := 0#32
  let v128 : BitVec 1 := Scalar.cmpi .slt v124 c0_i32_71
  let v129 : BitVec 32 := Scalar.extui v128
  let v130 : BitVec 32 := Scalar.subi v127 v129
  let c4_i32_69 : BitVec 32 := 4#32
  let c0_i32_72 : BitVec 32 := 0#32
  let v131 : BitVec 1 := Scalar.cmpi .sgt c4_i32_69 c0_i32_72
  let v132 : BitVec 32 := Scalar.extui v131
  let c0_i32_73 : BitVec 32 := 0#32
  let v133 : BitVec 1 := Scalar.cmpi .slt c4_i32_69 c0_i32_73
  let v134 : BitVec 32 := Scalar.extui v133
  let v135 : BitVec 32 := Scalar.subi v132 v134
  let v136 : BitVec 1 := Scalar.cmpi .ne v130 v135
  let v137 : BitVec 32 := Scalar.remsi v124 c4_i32_69
  let c0_i32_74 : BitVec 32 := 0#32
  let v138 : BitVec 1 := Scalar.cmpi .ne v137 c0_i32_74
  let v139 : BitVec 1 := Scalar.andi v136 v138
  let v125 : BitVec 32 := Scalar.divsi v124 c4_i32_69
  let c1_i32_75 : BitVec 32 := 1#32
  let v140 : BitVec 32 := Scalar.subi v125 c1_i32_75
  let v141 : BitVec 32 := Scalar.select v139 v140 v125
  let c4_i32_81 : BitVec 32 := 4#32
  let v147 : BitVec 32 := Scalar.muli v141 c4_i32_81
  let v148 : BitVec 32 := Scalar.addi c0_i32_82 v147
  let c512_i32_96 : BitVec 32 := 512#32
  let v168 : BitVec 32 := Scalar.muli v148 c512_i32_96
  let v169 : BitVec 32 := v168
  let v171 : Index := Scalar.indexCast v169
  ![0, v171.toNat]
def k0_off18 (i : grid0.Coords) : Fin 4 → Nat :=
  let c0_101 : Index := 0#32
  let c0_102 : Index := 0#32
  let c0_i32_82 : BitVec 32 := 0#32
  let c0_i32 : BitVec 32 := 0#32
  let arg2 : BitVec 32 := BitVec.ofNat 32 (i 2).val
  let c1024_i32 : BitVec 32 := 1024#32
  let v0 : BitVec 32 := Scalar.muli arg2 c1024_i32
  let v1 : BitVec 32 := Scalar.addi c0_i32 v0
  let c1024_i32_10 : BitVec 32 := 1024#32
  let v25 : BitVec 32 := Scalar.addi v1 c1024_i32_10
  let c1_i32_11 : BitVec 32 := 1#32
  let v26 : BitVec 32 := Scalar.subi v25 c1_i32_11
  let c6_i32_12 : BitVec 32 := 6#32
  let v27 : BitVec 32 := Scalar.shrsi v26 c6_i32_12
  let c1_i32_13 : BitVec 32 := 1#32
  let v28 : BitVec 32 := Scalar.addi v27 c1_i32_13
  let c6_i32_14 : BitVec 32 := 6#32
  let v29 : BitVec 32 := Scalar.shli v28 c6_i32_14
  let c4096_i32_15 : BitVec 32 := 4096#32
  let v30 : BitVec 32 := Scalar.minsi v29 c4096_i32_15
  let c512_i32_16 : BitVec 32 := 512#32
  let v31 : BitVec 32 := Scalar.addi v30 c512_i32_16
  let c1_i32_17 : BitVec 32 := 1#32
  let v32 : BitVec 32 := Scalar.subi v31 c1_i32_17
  let c0_i32_19 : BitVec 32 := 0#32
  let v34 : BitVec 1 := Scalar.cmpi .sgt v32 c0_i32_19
  let v35 : BitVec 32 := Scalar.extui v34
  let c0_i32_20 : BitVec 32 := 0#32
  let v36 : BitVec 1 := Scalar.cmpi .slt v32 c0_i32_20
  let v37 : BitVec 32 := Scalar.extui v36
  let v38 : BitVec 32 := Scalar.subi v35 v37
  let c512_i32_18 : BitVec 32 := 512#32
  let c0_i32_21 : BitVec 32 := 0#32
  let v39 : BitVec 1 := Scalar.cmpi .sgt c512_i32_18 c0_i32_21
  let v40 : BitVec 32 := Scalar.extui v39
  let c0_i32_22 : BitVec 32 := 0#32
  let v41 : BitVec 1 := Scalar.cmpi .slt c512_i32_18 c0_i32_22
  let v42 : BitVec 32 := Scalar.extui v41
  let v43 : BitVec 32 := Scalar.subi v40 v42
  let v44 : BitVec 1 := Scalar.cmpi .ne v38 v43
  let v45 : BitVec 32 := Scalar.remsi v32 c512_i32_18
  let c0_i32_23 : BitVec 32 := 0#32
  let v46 : BitVec 1 := Scalar.cmpi .ne v45 c0_i32_23
  let v47 : BitVec 1 := Scalar.andi v44 v46
  let v33 : BitVec 32 := Scalar.divsi v32 c512_i32_18
  let c1_i32_24 : BitVec 32 := 1#32
  let v48 : BitVec 32 := Scalar.subi v33 c1_i32_24
  let v49 : BitVec 32 := Scalar.select v47 v48 v33
  let c0_i32_68 : BitVec 32 := 0#32
  let v124 : BitVec 32 := Scalar.subi v49 c0_i32_68
  let c0_i32_70 : BitVec 32 := 0#32
  let v126 : BitVec 1 := Scalar.cmpi .sgt v124 c0_i32_70
  let v127 : BitVec 32 := Scalar.extui v126
  let c0_i32_71 : BitVec 32 := 0#32
  let v128 : BitVec 1 := Scalar.cmpi .slt v124 c0_i32_71
  let v129 : BitVec 32 := Scalar.extui v128
  let v130 : BitVec 32 := Scalar.subi v127 v129
  let c4_i32_69 : BitVec 32 := 4#32
  let c0_i32_72 : BitVec 32 := 0#32
  let v131 : BitVec 1 := Scalar.cmpi .sgt c4_i32_69 c0_i32_72
  let v132 : BitVec 32 := Scalar.extui v131
  let c0_i32_73 : BitVec 32 := 0#32
  let v133 : BitVec 1 := Scalar.cmpi .slt c4_i32_69 c0_i32_73
  let v134 : BitVec 32 := Scalar.extui v133
  let v135 : BitVec 32 := Scalar.subi v132 v134
  let v136 : BitVec 1 := Scalar.cmpi .ne v130 v135
  let v137 : BitVec 32 := Scalar.remsi v124 c4_i32_69
  let c0_i32_74 : BitVec 32 := 0#32
  let v138 : BitVec 1 := Scalar.cmpi .ne v137 c0_i32_74
  let v139 : BitVec 1 := Scalar.andi v136 v138
  let v125 : BitVec 32 := Scalar.divsi v124 c4_i32_69
  let c1_i32_75 : BitVec 32 := 1#32
  let v140 : BitVec 32 := Scalar.subi v125 c1_i32_75
  let v141 : BitVec 32 := Scalar.select v139 v140 v125
  let c4_i32_81 : BitVec 32 := 4#32
  let v147 : BitVec 32 := Scalar.muli v141 c4_i32_81
  let v148 : BitVec 32 := Scalar.addi c0_i32_82 v147
  let c512_i32_96 : BitVec 32 := 512#32
  let v168 : BitVec 32 := Scalar.muli v148 c512_i32_96
  let v169 : BitVec 32 := v168
  let v204 : Index := Scalar.indexCast v169
  let c0_103 : Index := 0#32
  ![0, 0, v204.toNat, 0]
def k0_cond4 (i : grid0.Coords) : BitVec 1 :=
  let c0_i32 : BitVec 32 := 0#32
  let arg2 : BitVec 32 := BitVec.ofNat 32 (i 2).val
  let c1024_i32 : BitVec 32 := 1024#32
  let v0 : BitVec 32 := Scalar.muli arg2 c1024_i32
  let v1 : BitVec 32 := Scalar.addi c0_i32 v0
  let c1024_i32_10 : BitVec 32 := 1024#32
  let v25 : BitVec 32 := Scalar.addi v1 c1024_i32_10
  let c1_i32_11 : BitVec 32 := 1#32
  let v26 : BitVec 32 := Scalar.subi v25 c1_i32_11
  let c6_i32_12 : BitVec 32 := 6#32
  let v27 : BitVec 32 := Scalar.shrsi v26 c6_i32_12
  let c1_i32_13 : BitVec 32 := 1#32
  let v28 : BitVec 32 := Scalar.addi v27 c1_i32_13
  let c6_i32_14 : BitVec 32 := 6#32
  let v29 : BitVec 32 := Scalar.shli v28 c6_i32_14
  let c4096_i32_15 : BitVec 32 := 4096#32
  let v30 : BitVec 32 := Scalar.minsi v29 c4096_i32_15
  let c512_i32_16 : BitVec 32 := 512#32
  let v31 : BitVec 32 := Scalar.addi v30 c512_i32_16
  let c1_i32_17 : BitVec 32 := 1#32
  let v32 : BitVec 32 := Scalar.subi v31 c1_i32_17
  let c0_i32_19 : BitVec 32 := 0#32
  let v34 : BitVec 1 := Scalar.cmpi .sgt v32 c0_i32_19
  let v35 : BitVec 32 := Scalar.extui v34
  let c0_i32_20 : BitVec 32 := 0#32
  let v36 : BitVec 1 := Scalar.cmpi .slt v32 c0_i32_20
  let v37 : BitVec 32 := Scalar.extui v36
  let v38 : BitVec 32 := Scalar.subi v35 v37
  let c512_i32_18 : BitVec 32 := 512#32
  let c0_i32_21 : BitVec 32 := 0#32
  let v39 : BitVec 1 := Scalar.cmpi .sgt c512_i32_18 c0_i32_21
  let v40 : BitVec 32 := Scalar.extui v39
  let c0_i32_22 : BitVec 32 := 0#32
  let v41 : BitVec 1 := Scalar.cmpi .slt c512_i32_18 c0_i32_22
  let v42 : BitVec 32 := Scalar.extui v41
  let v43 : BitVec 32 := Scalar.subi v40 v42
  let v44 : BitVec 1 := Scalar.cmpi .ne v38 v43
  let v45 : BitVec 32 := Scalar.remsi v32 c512_i32_18
  let c0_i32_23 : BitVec 32 := 0#32
  let v46 : BitVec 1 := Scalar.cmpi .ne v45 c0_i32_23
  let v47 : BitVec 1 := Scalar.andi v44 v46
  let v33 : BitVec 32 := Scalar.divsi v32 c512_i32_18
  let c1_i32_24 : BitVec 32 := 1#32
  let v48 : BitVec 32 := Scalar.subi v33 c1_i32_24
  let v49 : BitVec 32 := Scalar.select v47 v48 v33
  let c0_i32_68 : BitVec 32 := 0#32
  let v124 : BitVec 32 := Scalar.subi v49 c0_i32_68
  let c1_i32_88 : BitVec 32 := 1#32
  let v155 : BitVec 32 := Scalar.andi v124 c1_i32_88
  let c0_i32_89 : BitVec 32 := 0#32
  let v156 : BitVec 1 := Scalar.cmpi .ne v155 c0_i32_89
  let v157 : BitVec 32 := Scalar.extui v156
  let c0_i32_90 : BitVec 32 := 0#32
  let v158 : BitVec 1 := Scalar.cmpi .ne v157 c0_i32_90
  v158

def k0_mult10 (i : grid0.Coords) : BitVec 32 :=
  let c0_i32_82 : BitVec 32 := 0#32
  let c0_i32 : BitVec 32 := 0#32
  let arg2 : BitVec 32 := BitVec.ofNat 32 (i 2).val
  let c1024_i32 : BitVec 32 := 1024#32
  let v0 : BitVec 32 := Scalar.muli arg2 c1024_i32
  let v1 : BitVec 32 := Scalar.addi c0_i32 v0
  let c1024_i32_10 : BitVec 32 := 1024#32
  let v25 : BitVec 32 := Scalar.addi v1 c1024_i32_10
  let c1_i32_11 : BitVec 32 := 1#32
  let v26 : BitVec 32 := Scalar.subi v25 c1_i32_11
  let c6_i32_12 : BitVec 32 := 6#32
  let v27 : BitVec 32 := Scalar.shrsi v26 c6_i32_12
  let c1_i32_13 : BitVec 32 := 1#32
  let v28 : BitVec 32 := Scalar.addi v27 c1_i32_13
  let c6_i32_14 : BitVec 32 := 6#32
  let v29 : BitVec 32 := Scalar.shli v28 c6_i32_14
  let c4096_i32_15 : BitVec 32 := 4096#32
  let v30 : BitVec 32 := Scalar.minsi v29 c4096_i32_15
  let c512_i32_16 : BitVec 32 := 512#32
  let v31 : BitVec 32 := Scalar.addi v30 c512_i32_16
  let c1_i32_17 : BitVec 32 := 1#32
  let v32 : BitVec 32 := Scalar.subi v31 c1_i32_17
  let c0_i32_19 : BitVec 32 := 0#32
  let v34 : BitVec 1 := Scalar.cmpi .sgt v32 c0_i32_19
  let v35 : BitVec 32 := Scalar.extui v34
  let c0_i32_20 : BitVec 32 := 0#32
  let v36 : BitVec 1 := Scalar.cmpi .slt v32 c0_i32_20
  let v37 : BitVec 32 := Scalar.extui v36
  let v38 : BitVec 32 := Scalar.subi v35 v37
  let c512_i32_18 : BitVec 32 := 512#32
  let c0_i32_21 : BitVec 32 := 0#32
  let v39 : BitVec 1 := Scalar.cmpi .sgt c512_i32_18 c0_i32_21
  let v40 : BitVec 32 := Scalar.extui v39
  let c0_i32_22 : BitVec 32 := 0#32
  let v41 : BitVec 1 := Scalar.cmpi .slt c512_i32_18 c0_i32_22
  let v42 : BitVec 32 := Scalar.extui v41
  let v43 : BitVec 32 := Scalar.subi v40 v42
  let v44 : BitVec 1 := Scalar.cmpi .ne v38 v43
  let v45 : BitVec 32 := Scalar.remsi v32 c512_i32_18
  let c0_i32_23 : BitVec 32 := 0#32
  let v46 : BitVec 1 := Scalar.cmpi .ne v45 c0_i32_23
  let v47 : BitVec 1 := Scalar.andi v44 v46
  let v33 : BitVec 32 := Scalar.divsi v32 c512_i32_18
  let c1_i32_24 : BitVec 32 := 1#32
  let v48 : BitVec 32 := Scalar.subi v33 c1_i32_24
  let v49 : BitVec 32 := Scalar.select v47 v48 v33
  let c0_i32_68 : BitVec 32 := 0#32
  let v124 : BitVec 32 := Scalar.subi v49 c0_i32_68
  let c0_i32_70 : BitVec 32 := 0#32
  let v126 : BitVec 1 := Scalar.cmpi .sgt v124 c0_i32_70
  let v127 : BitVec 32 := Scalar.extui v126
  let c0_i32_71 : BitVec 32 := 0#32
  let v128 : BitVec 1 := Scalar.cmpi .slt v124 c0_i32_71
  let v129 : BitVec 32 := Scalar.extui v128
  let v130 : BitVec 32 := Scalar.subi v127 v129
  let c4_i32_69 : BitVec 32 := 4#32
  let c0_i32_72 : BitVec 32 := 0#32
  let v131 : BitVec 1 := Scalar.cmpi .sgt c4_i32_69 c0_i32_72
  let v132 : BitVec 32 := Scalar.extui v131
  let c0_i32_73 : BitVec 32 := 0#32
  let v133 : BitVec 1 := Scalar.cmpi .slt c4_i32_69 c0_i32_73
  let v134 : BitVec 32 := Scalar.extui v133
  let v135 : BitVec 32 := Scalar.subi v132 v134
  let v136 : BitVec 1 := Scalar.cmpi .ne v130 v135
  let v137 : BitVec 32 := Scalar.remsi v124 c4_i32_69
  let c0_i32_74 : BitVec 32 := 0#32
  let v138 : BitVec 1 := Scalar.cmpi .ne v137 c0_i32_74
  let v139 : BitVec 1 := Scalar.andi v136 v138
  let v125 : BitVec 32 := Scalar.divsi v124 c4_i32_69
  let c1_i32_75 : BitVec 32 := 1#32
  let v140 : BitVec 32 := Scalar.subi v125 c1_i32_75
  let v141 : BitVec 32 := Scalar.select v139 v140 v125
  let c4_i32_81 : BitVec 32 := 4#32
  let v147 : BitVec 32 := Scalar.muli v141 c4_i32_81
  let v148 : BitVec 32 := Scalar.addi c0_i32_82 v147
  let c2_i32_83 : BitVec 32 := 2#32
  let v149 : BitVec 32 := Scalar.andi v124 c2_i32_83
  let c0_i32_84 : BitVec 32 := 0#32
  let v150 : BitVec 1 := Scalar.cmpi .ne v149 c0_i32_84
  let c2_i32_86 : BitVec 32 := 2#32
  let c0_i32_87 : BitVec 32 := 0#32
  let v153 : BitVec 32 := Scalar.select v150 c2_i32_86 c0_i32_87
  let v154 : BitVec 32 := Scalar.addi v148 v153
  let c512_i32_96 : BitVec 32 := 512#32
  let v168 : BitVec 32 := Scalar.muli v154 c512_i32_96
  v168
def k0_off19 (i : grid0.Coords) : Fin 2 → Nat :=
  let c0_99 : Index := 0#32
  let c0_i32_82 : BitVec 32 := 0#32
  let c0_i32 : BitVec 32 := 0#32
  let arg2 : BitVec 32 := BitVec.ofNat 32 (i 2).val
  let c1024_i32 : BitVec 32 := 1024#32
  let v0 : BitVec 32 := Scalar.muli arg2 c1024_i32
  let v1 : BitVec 32 := Scalar.addi c0_i32 v0
  let c1024_i32_10 : BitVec 32 := 1024#32
  let v25 : BitVec 32 := Scalar.addi v1 c1024_i32_10
  let c1_i32_11 : BitVec 32 := 1#32
  let v26 : BitVec 32 := Scalar.subi v25 c1_i32_11
  let c6_i32_12 : BitVec 32 := 6#32
  let v27 : BitVec 32 := Scalar.shrsi v26 c6_i32_12
  let c1_i32_13 : BitVec 32 := 1#32
  let v28 : BitVec 32 := Scalar.addi v27 c1_i32_13
  let c6_i32_14 : BitVec 32 := 6#32
  let v29 : BitVec 32 := Scalar.shli v28 c6_i32_14
  let c4096_i32_15 : BitVec 32 := 4096#32
  let v30 : BitVec 32 := Scalar.minsi v29 c4096_i32_15
  let c512_i32_16 : BitVec 32 := 512#32
  let v31 : BitVec 32 := Scalar.addi v30 c512_i32_16
  let c1_i32_17 : BitVec 32 := 1#32
  let v32 : BitVec 32 := Scalar.subi v31 c1_i32_17
  let c0_i32_19 : BitVec 32 := 0#32
  let v34 : BitVec 1 := Scalar.cmpi .sgt v32 c0_i32_19
  let v35 : BitVec 32 := Scalar.extui v34
  let c0_i32_20 : BitVec 32 := 0#32
  let v36 : BitVec 1 := Scalar.cmpi .slt v32 c0_i32_20
  let v37 : BitVec 32 := Scalar.extui v36
  let v38 : BitVec 32 := Scalar.subi v35 v37
  let c512_i32_18 : BitVec 32 := 512#32
  let c0_i32_21 : BitVec 32 := 0#32
  let v39 : BitVec 1 := Scalar.cmpi .sgt c512_i32_18 c0_i32_21
  let v40 : BitVec 32 := Scalar.extui v39
  let c0_i32_22 : BitVec 32 := 0#32
  let v41 : BitVec 1 := Scalar.cmpi .slt c512_i32_18 c0_i32_22
  let v42 : BitVec 32 := Scalar.extui v41
  let v43 : BitVec 32 := Scalar.subi v40 v42
  let v44 : BitVec 1 := Scalar.cmpi .ne v38 v43
  let v45 : BitVec 32 := Scalar.remsi v32 c512_i32_18
  let c0_i32_23 : BitVec 32 := 0#32
  let v46 : BitVec 1 := Scalar.cmpi .ne v45 c0_i32_23
  let v47 : BitVec 1 := Scalar.andi v44 v46
  let v33 : BitVec 32 := Scalar.divsi v32 c512_i32_18
  let c1_i32_24 : BitVec 32 := 1#32
  let v48 : BitVec 32 := Scalar.subi v33 c1_i32_24
  let v49 : BitVec 32 := Scalar.select v47 v48 v33
  let c0_i32_68 : BitVec 32 := 0#32
  let v124 : BitVec 32 := Scalar.subi v49 c0_i32_68
  let c0_i32_70 : BitVec 32 := 0#32
  let v126 : BitVec 1 := Scalar.cmpi .sgt v124 c0_i32_70
  let v127 : BitVec 32 := Scalar.extui v126
  let c0_i32_71 : BitVec 32 := 0#32
  let v128 : BitVec 1 := Scalar.cmpi .slt v124 c0_i32_71
  let v129 : BitVec 32 := Scalar.extui v128
  let v130 : BitVec 32 := Scalar.subi v127 v129
  let c4_i32_69 : BitVec 32 := 4#32
  let c0_i32_72 : BitVec 32 := 0#32
  let v131 : BitVec 1 := Scalar.cmpi .sgt c4_i32_69 c0_i32_72
  let v132 : BitVec 32 := Scalar.extui v131
  let c0_i32_73 : BitVec 32 := 0#32
  let v133 : BitVec 1 := Scalar.cmpi .slt c4_i32_69 c0_i32_73
  let v134 : BitVec 32 := Scalar.extui v133
  let v135 : BitVec 32 := Scalar.subi v132 v134
  let v136 : BitVec 1 := Scalar.cmpi .ne v130 v135
  let v137 : BitVec 32 := Scalar.remsi v124 c4_i32_69
  let c0_i32_74 : BitVec 32 := 0#32
  let v138 : BitVec 1 := Scalar.cmpi .ne v137 c0_i32_74
  let v139 : BitVec 1 := Scalar.andi v136 v138
  let v125 : BitVec 32 := Scalar.divsi v124 c4_i32_69
  let c1_i32_75 : BitVec 32 := 1#32
  let v140 : BitVec 32 := Scalar.subi v125 c1_i32_75
  let v141 : BitVec 32 := Scalar.select v139 v140 v125
  let c4_i32_81 : BitVec 32 := 4#32
  let v147 : BitVec 32 := Scalar.muli v141 c4_i32_81
  let v148 : BitVec 32 := Scalar.addi c0_i32_82 v147
  let c2_i32_83 : BitVec 32 := 2#32
  let v149 : BitVec 32 := Scalar.andi v124 c2_i32_83
  let c0_i32_84 : BitVec 32 := 0#32
  let v150 : BitVec 1 := Scalar.cmpi .ne v149 c0_i32_84
  let c2_i32_86 : BitVec 32 := 2#32
  let c0_i32_87 : BitVec 32 := 0#32
  let v153 : BitVec 32 := Scalar.select v150 c2_i32_86 c0_i32_87
  let v154 : BitVec 32 := Scalar.addi v148 v153
  let c512_i32_96 : BitVec 32 := 512#32
  let v168 : BitVec 32 := Scalar.muli v154 c512_i32_96
  let v169 : BitVec 32 := v168
  let v171 : Index := Scalar.indexCast v169
  ![0, v171.toNat]
def k0_off20 (i : grid0.Coords) : Fin 4 → Nat :=
  let c0_101 : Index := 0#32
  let c0_102 : Index := 0#32
  let c0_i32_82 : BitVec 32 := 0#32
  let c0_i32 : BitVec 32 := 0#32
  let arg2 : BitVec 32 := BitVec.ofNat 32 (i 2).val
  let c1024_i32 : BitVec 32 := 1024#32
  let v0 : BitVec 32 := Scalar.muli arg2 c1024_i32
  let v1 : BitVec 32 := Scalar.addi c0_i32 v0
  let c1024_i32_10 : BitVec 32 := 1024#32
  let v25 : BitVec 32 := Scalar.addi v1 c1024_i32_10
  let c1_i32_11 : BitVec 32 := 1#32
  let v26 : BitVec 32 := Scalar.subi v25 c1_i32_11
  let c6_i32_12 : BitVec 32 := 6#32
  let v27 : BitVec 32 := Scalar.shrsi v26 c6_i32_12
  let c1_i32_13 : BitVec 32 := 1#32
  let v28 : BitVec 32 := Scalar.addi v27 c1_i32_13
  let c6_i32_14 : BitVec 32 := 6#32
  let v29 : BitVec 32 := Scalar.shli v28 c6_i32_14
  let c4096_i32_15 : BitVec 32 := 4096#32
  let v30 : BitVec 32 := Scalar.minsi v29 c4096_i32_15
  let c512_i32_16 : BitVec 32 := 512#32
  let v31 : BitVec 32 := Scalar.addi v30 c512_i32_16
  let c1_i32_17 : BitVec 32 := 1#32
  let v32 : BitVec 32 := Scalar.subi v31 c1_i32_17
  let c0_i32_19 : BitVec 32 := 0#32
  let v34 : BitVec 1 := Scalar.cmpi .sgt v32 c0_i32_19
  let v35 : BitVec 32 := Scalar.extui v34
  let c0_i32_20 : BitVec 32 := 0#32
  let v36 : BitVec 1 := Scalar.cmpi .slt v32 c0_i32_20
  let v37 : BitVec 32 := Scalar.extui v36
  let v38 : BitVec 32 := Scalar.subi v35 v37
  let c512_i32_18 : BitVec 32 := 512#32
  let c0_i32_21 : BitVec 32 := 0#32
  let v39 : BitVec 1 := Scalar.cmpi .sgt c512_i32_18 c0_i32_21
  let v40 : BitVec 32 := Scalar.extui v39
  let c0_i32_22 : BitVec 32 := 0#32
  let v41 : BitVec 1 := Scalar.cmpi .slt c512_i32_18 c0_i32_22
  let v42 : BitVec 32 := Scalar.extui v41
  let v43 : BitVec 32 := Scalar.subi v40 v42
  let v44 : BitVec 1 := Scalar.cmpi .ne v38 v43
  let v45 : BitVec 32 := Scalar.remsi v32 c512_i32_18
  let c0_i32_23 : BitVec 32 := 0#32
  let v46 : BitVec 1 := Scalar.cmpi .ne v45 c0_i32_23
  let v47 : BitVec 1 := Scalar.andi v44 v46
  let v33 : BitVec 32 := Scalar.divsi v32 c512_i32_18
  let c1_i32_24 : BitVec 32 := 1#32
  let v48 : BitVec 32 := Scalar.subi v33 c1_i32_24
  let v49 : BitVec 32 := Scalar.select v47 v48 v33
  let c0_i32_68 : BitVec 32 := 0#32
  let v124 : BitVec 32 := Scalar.subi v49 c0_i32_68
  let c0_i32_70 : BitVec 32 := 0#32
  let v126 : BitVec 1 := Scalar.cmpi .sgt v124 c0_i32_70
  let v127 : BitVec 32 := Scalar.extui v126
  let c0_i32_71 : BitVec 32 := 0#32
  let v128 : BitVec 1 := Scalar.cmpi .slt v124 c0_i32_71
  let v129 : BitVec 32 := Scalar.extui v128
  let v130 : BitVec 32 := Scalar.subi v127 v129
  let c4_i32_69 : BitVec 32 := 4#32
  let c0_i32_72 : BitVec 32 := 0#32
  let v131 : BitVec 1 := Scalar.cmpi .sgt c4_i32_69 c0_i32_72
  let v132 : BitVec 32 := Scalar.extui v131
  let c0_i32_73 : BitVec 32 := 0#32
  let v133 : BitVec 1 := Scalar.cmpi .slt c4_i32_69 c0_i32_73
  let v134 : BitVec 32 := Scalar.extui v133
  let v135 : BitVec 32 := Scalar.subi v132 v134
  let v136 : BitVec 1 := Scalar.cmpi .ne v130 v135
  let v137 : BitVec 32 := Scalar.remsi v124 c4_i32_69
  let c0_i32_74 : BitVec 32 := 0#32
  let v138 : BitVec 1 := Scalar.cmpi .ne v137 c0_i32_74
  let v139 : BitVec 1 := Scalar.andi v136 v138
  let v125 : BitVec 32 := Scalar.divsi v124 c4_i32_69
  let c1_i32_75 : BitVec 32 := 1#32
  let v140 : BitVec 32 := Scalar.subi v125 c1_i32_75
  let v141 : BitVec 32 := Scalar.select v139 v140 v125
  let c4_i32_81 : BitVec 32 := 4#32
  let v147 : BitVec 32 := Scalar.muli v141 c4_i32_81
  let v148 : BitVec 32 := Scalar.addi c0_i32_82 v147
  let c2_i32_83 : BitVec 32 := 2#32
  let v149 : BitVec 32 := Scalar.andi v124 c2_i32_83
  let c0_i32_84 : BitVec 32 := 0#32
  let v150 : BitVec 1 := Scalar.cmpi .ne v149 c0_i32_84
  let c2_i32_86 : BitVec 32 := 2#32
  let c0_i32_87 : BitVec 32 := 0#32
  let v153 : BitVec 32 := Scalar.select v150 c2_i32_86 c0_i32_87
  let v154 : BitVec 32 := Scalar.addi v148 v153
  let c512_i32_96 : BitVec 32 := 512#32
  let v168 : BitVec 32 := Scalar.muli v154 c512_i32_96
  let v169 : BitVec 32 := v168
  let v192 : Index := Scalar.indexCast v169
  let c0_103 : Index := 0#32
  ![0, 0, v192.toNat, 0]
def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, arg2.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, arg0.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x1x1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x1x4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1024x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== KernelIdeal.lean ====
variable {F : FTy → Type} [FloatOps F] [Named F]
def κ : String → Option EReal := fun
  | "mask" => some ⊥
  | _ => none
-- ==== ReferenceIdeal.lean ====
abbrev S16x2x4096x256 : Shape := ⟨4, ![16, 2, 4096, 256]⟩
abbrev S16x2x4096x128 : Shape := ⟨4, ![16, 2, 4096, 128]⟩
abbrev S2x16x4096x4096 : Shape := ⟨4, ![2, 16, 4096, 4096]⟩
abbrev S_ : Shape := ⟨0, ![]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S1x1x4096x4096 : Shape := ⟨4, ![1, 1, 4096, 4096]⟩
abbrev S2x16x4096 : Shape := ⟨3, ![2, 16, 4096]⟩
abbrev S2x16x4096x1 : Shape := ⟨4, ![2, 16, 4096, 1]⟩
abbrev S2x16x128x4096 : Shape := ⟨4, ![2, 16, 128, 4096]⟩
abbrev S2x4096x16x128 : Shape := ⟨4, ![2, 4096, 16, 128]⟩
abbrev S2x4096x2048 : Shape := ⟨3, ![2, 4096, 2048]⟩

abbrev nBuf : Space → Nat
  | .hbm => 77
  | .vmem => 0
  | .smem => 0
  | _ => 0

abbrev bufTy : (tb : Table) → Fin (tcTables nBuf tb) → BufTy
  | .hbm, ⟨0, _⟩ => ⟨S16x2x4096x256, .bf16⟩
  | .hbm, ⟨1, _⟩ => ⟨S16x2x4096x256, .bf16⟩
  | .hbm, ⟨2, _⟩ => ⟨S16x2x4096x128, .bf16⟩
  | .hbm, ⟨3, _⟩ => ⟨S16x2x4096x256, .f32⟩
  | .hbm, ⟨4, _⟩ => ⟨S16x2x4096x256, .f32⟩
  | .hbm, ⟨5, _⟩ => ⟨S2x16x4096x4096, .f32⟩
  | .hbm, ⟨6, _⟩ => ⟨S_, .f32⟩
  | .hbm, ⟨7, _⟩ => ⟨S_, .f32⟩
  | .hbm, ⟨8, _⟩ => ⟨S2x16x4096x4096, .f32⟩
  | .hbm, ⟨9, _⟩ => ⟨S2x16x4096x4096, .f32⟩
  | .hbm, ⟨10, _⟩ => ⟨S4096, .i32⟩
  | .hbm, ⟨11, _⟩ => ⟨S_, .i32⟩
  | .hbm, ⟨12, _⟩ => ⟨S_, .i32⟩
  | .hbm, ⟨13, _⟩ => ⟨S4096, .i32⟩
  | .hbm, ⟨14, _⟩ => ⟨S4096, .i32⟩
  | .hbm, ⟨15, _⟩ => ⟨S4096, .i32⟩
  | .hbm, ⟨16, _⟩ => ⟨S_, .i32⟩
  | .hbm, ⟨17, _⟩ => ⟨S4096, .i32⟩
  | .hbm, ⟨18, _⟩ => ⟨S4096, .i1⟩
  | .hbm, ⟨19, _⟩ => ⟨S4096, .i32⟩
  | .hbm, ⟨20, _⟩ => ⟨S4096, .i32⟩
  | .hbm, ⟨21, _⟩ => ⟨S_, .i32⟩
  | .hbm, ⟨22, _⟩ => ⟨S4096, .i32⟩
  | .hbm, ⟨23, _⟩ => ⟨S4096, .i1⟩
  | .hbm, ⟨24, _⟩ => ⟨S4096, .i1⟩
  | .hbm, ⟨25, _⟩ => ⟨S_, .i32⟩
  | .hbm, ⟨26, _⟩ => ⟨S4096, .i32⟩
  | .hbm, ⟨27, _⟩ => ⟨S4096, .i32⟩
  | .hbm, ⟨28, _⟩ => ⟨S4096, .i32⟩
  | .hbm, ⟨29, _⟩ => ⟨S1x4096, .i32⟩
  | .hbm, ⟨30, _⟩ => ⟨S_, .i32⟩
  | .hbm, ⟨31, _⟩ => ⟨S_, .i32⟩
  | .hbm, ⟨32, _⟩ => ⟨S4096, .i32⟩
  | .hbm, ⟨33, _⟩ => ⟨S4096, .i32⟩
  | .hbm, ⟨34, _⟩ => ⟨S4096, .i32⟩
  | .hbm, ⟨35, _⟩ => ⟨S_, .i32⟩
  | .hbm, ⟨36, _⟩ => ⟨S4096, .i32⟩
  | .hbm, ⟨37, _⟩ => ⟨S4096, .i1⟩
  | .hbm, ⟨38, _⟩ => ⟨S4096, .i32⟩
  | .hbm, ⟨39, _⟩ => ⟨S4096, .i32⟩
  | .hbm, ⟨40, _⟩ => ⟨S_, .i32⟩
  | .hbm, ⟨41, _⟩ => ⟨S4096, .i32⟩
  | .hbm, ⟨42, _⟩ => ⟨S4096, .i1⟩
  | .hbm, ⟨43, _⟩ => ⟨S4096, .i1⟩
  | .hbm, ⟨44, _⟩ => ⟨S_, .i32⟩
  | .hbm, ⟨45, _⟩ => ⟨S4096, .i32⟩
  | .hbm, ⟨46, _⟩ => ⟨S4096, .i32⟩
  | .hbm, ⟨47, _⟩ => ⟨S4096, .i32⟩
  | .hbm, ⟨48, _⟩ => ⟨S4096x1, .i32⟩
  | .hbm, ⟨49, _⟩ => ⟨S4096x4096, .i32⟩
  | .hbm, ⟨50, _⟩ => ⟨S4096x4096, .i32⟩
  | .hbm, ⟨51, _⟩ => ⟨S4096x4096, .i1⟩
  | .hbm, ⟨52, _⟩ => ⟨S1x1x4096x4096, .i1⟩
  | .hbm, ⟨53, _⟩ => ⟨S_, .f32⟩
  | .hbm, ⟨54, _⟩ => ⟨S_, .f32⟩
  | .hbm, ⟨55, _⟩ => ⟨S2x16x4096x4096, .i1⟩
  | .hbm, ⟨56, _⟩ => ⟨S2x16x4096x4096, .f32⟩
  | .hbm, ⟨57, _⟩ => ⟨S2x16x4096x4096, .f32⟩
  | .hbm, ⟨58, _⟩ => ⟨S_, .f32⟩
  | .hbm, ⟨59, _⟩ => ⟨S2x16x4096, .f32⟩
  | .hbm, ⟨60, _⟩ => ⟨S_, .f32⟩
  | .hbm, ⟨61, _⟩ => ⟨S2x16x4096, .f32⟩
  | .hbm, ⟨62, _⟩ => ⟨S2x16x4096, .f32⟩
  | .hbm, ⟨63, _⟩ => ⟨S2x16x4096x1, .f32⟩
  | .hbm, ⟨64, _⟩ => ⟨S2x16x4096x4096, .f32⟩
  | .hbm, ⟨65, _⟩ => ⟨S2x16x4096x4096, .f32⟩
  | .hbm, ⟨66, _⟩ => ⟨S2x16x4096x4096, .f32⟩
  | .hbm, ⟨67, _⟩ => ⟨S_, .f32⟩
  | .hbm, ⟨68, _⟩ => ⟨S2x16x4096, .f32⟩
  | .hbm, ⟨69, _⟩ => ⟨S2x16x4096x1, .f32⟩
  | .hbm, ⟨70, _⟩ => ⟨S2x16x4096x4096, .f32⟩
  | .hbm, ⟨71, _⟩ => ⟨S2x16x4096x4096, .f32⟩
  | .hbm, ⟨72, _⟩ => ⟨S16x2x4096x128, .f32⟩
  | .hbm, ⟨73, _⟩ => ⟨S2x16x128x4096, .f32⟩
  | .hbm, ⟨74, _⟩ => ⟨S2x4096x16x128, .f32⟩
  | .hbm, ⟨75, _⟩ => ⟨S2x4096x2048, .f32⟩
  | .hbm, ⟨76, _⟩ => ⟨S2x4096x2048, .bf16⟩
  | _, _ => ⟨S16x2x4096x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_c : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_c : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_c_0 : Ref sig .tc := ⟨.hbm, 25, rfl⟩
abbrev main_call0_v12 : Ref sig .tc := ⟨.hbm, 26, rfl⟩
abbrev main_call0_v13 : Ref sig .tc := ⟨.hbm, 27, rfl⟩
abbrev main_v7 : Ref sig .tc := ⟨.hbm, 28, rfl⟩
abbrev main_v8 : Ref sig .tc := ⟨.hbm, 29, rfl⟩
abbrev main_c_0 : Ref sig .tc := ⟨.hbm, 30, rfl⟩
abbrev main_call1_v0 : Ref sig .tc := ⟨.hbm, 31, rfl⟩
abbrev main_call1_v1 : Ref sig .tc := ⟨.hbm, 32, rfl⟩
abbrev main_call1_v2 : Ref sig .tc := ⟨.hbm, 33, rfl⟩
abbrev main_call1_v3 : Ref sig .tc := ⟨.hbm, 34, rfl⟩
abbrev main_call1_v4 : Ref sig .tc := ⟨.hbm, 35, rfl⟩
abbrev main_call1_v5 : Ref sig .tc := ⟨.hbm, 36, rfl⟩
abbrev main_call1_v6 : Ref sig .tc := ⟨.hbm, 37, rfl⟩
abbrev main_call1_v7 : Ref sig .tc := ⟨.hbm, 38, rfl⟩
abbrev main_call1_v8 : Ref sig .tc := ⟨.hbm, 39, rfl⟩
abbrev main_call1_c : Ref sig .tc := ⟨.hbm, 40, rfl⟩
abbrev main_call1_v9 : Ref sig .tc := ⟨.hbm, 41, rfl⟩
abbrev main_call1_v10 : Ref sig .tc := ⟨.hbm, 42, rfl⟩
abbrev main_call1_v11 : Ref sig .tc := ⟨.hbm, 43, rfl⟩
abbrev main_call1_c_0 : Ref sig .tc := ⟨.hbm, 44, rfl⟩
abbrev main_call1_v12 : Ref sig .tc := ⟨.hbm, 45, rfl⟩
abbrev main_call1_v13 : Ref sig .tc := ⟨.hbm, 46, rfl⟩
abbrev main_v9 : Ref sig .tc := ⟨.hbm, 47, rfl⟩
abbrev main_v10 : Ref sig .tc := ⟨.hbm, 48, rfl⟩
abbrev main_v11 : Ref sig .tc := ⟨.hbm, 49, rfl⟩
abbrev main_v12 : Ref sig .tc := ⟨.hbm, 50, rfl⟩
abbrev main_v13 : Ref sig .tc := ⟨.hbm, 51, rfl⟩
abbrev main_v14 : Ref sig .tc := ⟨.hbm, 52, rfl⟩
abbrev main_cst_1 : Ref sig .tc := ⟨.hbm, 53, rfl⟩
abbrev main_call2_v0 : Ref sig .tc := ⟨.hbm, 54, rfl⟩
abbrev main_call2_v1 : Ref sig .tc := ⟨.hbm, 55, rfl⟩
abbrev main_call2_v2 : Ref sig .tc := ⟨.hbm, 56, rfl⟩
abbrev main_v15 : Ref sig .tc := ⟨.hbm, 57, rfl⟩
abbrev main_cst_2 : Ref sig .tc := ⟨.hbm, 58, rfl⟩
abbrev main_v16 : Ref sig .tc := ⟨.hbm, 59, rfl⟩
abbrev main_cst_3 : Ref sig .tc := ⟨.hbm, 60, rfl⟩
abbrev main_v17 : Ref sig .tc := ⟨.hbm, 61, rfl⟩
abbrev main_v18 : Ref sig .tc := ⟨.hbm, 62, rfl⟩
abbrev main_v19 : Ref sig .tc := ⟨.hbm, 63, rfl⟩
abbrev main_v20 : Ref sig .tc := ⟨.hbm, 64, rfl⟩
abbrev main_v21 : Ref sig .tc := ⟨.hbm, 65, rfl⟩
abbrev main_v22 : Ref sig .tc := ⟨.hbm, 66, rfl⟩
abbrev main_cst_4 : Ref sig .tc := ⟨.hbm, 67, rfl⟩
abbrev main_v23 : Ref sig .tc := ⟨.hbm, 68, rfl⟩
abbrev main_v24 : Ref sig .tc := ⟨.hbm, 69, rfl⟩
abbrev main_v25 : Ref sig .tc := ⟨.hbm, 70, rfl⟩
abbrev main_v26 : Ref sig .tc := ⟨.hbm, 71, rfl⟩
abbrev main_v27 : Ref sig .tc := ⟨.hbm, 72, rfl⟩
abbrev main_v28 : Ref sig .tc := ⟨.hbm, 73, rfl⟩
abbrev main_v29 : Ref sig .tc := ⟨.hbm, 74, rfl⟩
abbrev main_v30 : Ref sig .tc := ⟨.hbm, 75, rfl⟩
abbrev main_v31 : Ref sig .tc := ⟨.hbm, 76, rfl⟩

abbrev nD : Nat := 1
abbrev τ : Topo := Topo.v7x

variable {F : FTy → Type} [FloatOps F]
-- ==== Ffn.lean ====
abbrev S8192x2048 : Shape := ⟨2, ![8192, 2048]⟩
abbrev S2048x8192 : Shape := ⟨2, ![2048, 8192]⟩
abbrev S1x2048 : Shape := ⟨2, ![1, 2048]⟩
abbrev S512x2048 : Shape := ⟨2, ![512, 2048]⟩
abbrev S2048x512 : Shape := ⟨2, ![2048, 512]⟩
abbrev S512x512 : Shape := ⟨2, ![512, 512]⟩
abbrev S512 : Shape := ⟨1, ![512]⟩
abbrev S512x1 : Shape := ⟨2, ![512, 1]⟩

abbrev nBuf : Space → Nat
  | .hbm => 6
  | .vmem => 11
  | .smem => 0
  | _ => 0

abbrev bufTy : (tb : Table) → Fin (tcTables nBuf tb) → BufTy
  | .hbm, ⟨0, _⟩ => ⟨S8192x2048, .f32⟩
  | .hbm, ⟨1, _⟩ => ⟨S2048x8192, .bf16⟩
  | .hbm, ⟨2, _⟩ => ⟨S8192x2048, .bf16⟩
  | .hbm, ⟨3, _⟩ => ⟨S1x2048, .f32⟩
  | .hbm, ⟨4, _⟩ => ⟨S1x2048, .f32⟩
  | .hbm, ⟨5, _⟩ => ⟨S8192x2048, .f32⟩
  | .local _ .vmem, ⟨0, _⟩ => ⟨S512x2048, .f32⟩
  | .local _ .vmem, ⟨1, _⟩ => ⟨S512x2048, .f32⟩
  | .local _ .vmem, ⟨2, _⟩ => ⟨S2048x512, .bf16⟩
  | .local _ .vmem, ⟨3, _⟩ => ⟨S2048x512, .bf16⟩
  | .local _ .vmem, ⟨4, _⟩ => ⟨S512x2048, .bf16⟩
  | .local _ .vmem, ⟨5, _⟩ => ⟨S512x2048, .bf16⟩
  | .local _ .vmem, ⟨6, _⟩ => ⟨S1x2048, .f32⟩
  | .local _ .vmem, ⟨7, _⟩ => ⟨S1x2048, .f32⟩
  | .local _ .vmem, ⟨8, _⟩ => ⟨S512x2048, .f32⟩
  | .local _ .vmem, ⟨9, _⟩ => ⟨S512x2048, .f32⟩
  | .local _ .vmem, ⟨10, _⟩ => ⟨S512x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![16, 16], ![false, false]⟩

def k0_cond2 (i : grid0.Coords) : BitVec 1 :=
  let arg1 : BitVec 32 := BitVec.ofNat 32 (i 1).val
  let c15_i32 : BitVec 32 := 15#32
  let v18 : BitVec 1 := Scalar.cmpi .eq arg1 c15_i32
  let v19 : BitVec 32 := Scalar.extui v18
  let c0_i32_12 : BitVec 32 := 0#32
  let v20 : BitVec 1 := Scalar.cmpi .ne v19 c0_i32_12
  v20

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== FfnReferenceIdeal.lean ====
abbrev S8192x2048 : Shape := ⟨2, ![8192, 2048]⟩
abbrev S2048x8192 : Shape := ⟨2, ![2048, 8192]⟩
abbrev S1x2048 : Shape := ⟨2, ![1, 2048]⟩
abbrev S8192x8192 : Shape := ⟨2, ![8192, 8192]⟩
abbrev S_ : Shape := ⟨0, ![]⟩
abbrev S8192 : Shape := ⟨1, ![8192]⟩
abbrev S8192x1 : Shape := ⟨2, ![8192, 1]⟩

abbrev nBuf : Space → Nat
  | .hbm => 44
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x8192, .bf16⟩
  | .hbm, ⟨2, _⟩ => ⟨S8192x2048, .bf16⟩
  | .hbm, ⟨3, _⟩ => ⟨S1x2048, .f32⟩
  | .hbm, ⟨4, _⟩ => ⟨S1x2048, .f32⟩
  | .hbm, ⟨5, _⟩ => ⟨S2048x8192, .f32⟩
  | .hbm, ⟨6, _⟩ => ⟨S8192x8192, .f32⟩
  | .hbm, ⟨7, _⟩ => ⟨S_, .f32⟩
  | .hbm, ⟨8, _⟩ => ⟨S8192x8192, .f32⟩
  | .hbm, ⟨9, _⟩ => ⟨S8192x8192, .f32⟩
  | .hbm, ⟨10, _⟩ => ⟨S8192x8192, .f32⟩
  | .hbm, ⟨11, _⟩ => ⟨S8192x2048, .f32⟩
  | .hbm, ⟨12, _⟩ => ⟨S8192x2048, .f32⟩
  | .hbm, ⟨13, _⟩ => ⟨S_, .f32⟩
  | .hbm, ⟨14, _⟩ => ⟨S8192x2048, .f32⟩
  | .hbm, ⟨15, _⟩ => ⟨S8192x2048, .f32⟩
  | .hbm, ⟨16, _⟩ => ⟨S8192x2048, .f32⟩
  | .hbm, ⟨17, _⟩ => ⟨S_, .f32⟩
  | .hbm, ⟨18, _⟩ => ⟨S8192, .f32⟩
  | .hbm, ⟨19, _⟩ => ⟨S8192x1, .f32⟩
  | .hbm, ⟨20, _⟩ => ⟨S_, .f32⟩
  | .hbm, ⟨21, _⟩ => ⟨S8192x1, .f32⟩
  | .hbm, ⟨22, _⟩ => ⟨S8192x1, .f32⟩
  | .hbm, ⟨23, _⟩ => ⟨S8192x2048, .f32⟩
  | .hbm, ⟨24, _⟩ => ⟨S8192x2048, .f32⟩
  | .hbm, ⟨25, _⟩ => ⟨S8192x2048, .f32⟩
  | .hbm, ⟨26, _⟩ => ⟨S_, .f32⟩
  | .hbm, ⟨27, _⟩ => ⟨S8192, .f32⟩
  | .hbm, ⟨28, _⟩ => ⟨S8192x1, .f32⟩
  | .hbm, ⟨29, _⟩ => ⟨S_, .f32⟩
  | .hbm, ⟨30, _⟩ => ⟨S8192x1, .f32⟩
  | .hbm, ⟨31, _⟩ => ⟨S8192x1, .f32⟩
  | .hbm, ⟨32, _⟩ => ⟨S8192x2048, .f32⟩
  | .hbm, ⟨33, _⟩ => ⟨S8192x2048, .f32⟩
  | .hbm, ⟨34, _⟩ => ⟨S_, .f32⟩
  | .hbm, ⟨35, _⟩ => ⟨S8192x1, .f32⟩
  | .hbm, ⟨36, _⟩ => ⟨S8192x1, .f32⟩
  | .hbm, ⟨37, _⟩ => ⟨S8192x1, .f32⟩
  | .hbm, ⟨38, _⟩ => ⟨S8192x2048, .f32⟩
  | .hbm, ⟨39, _⟩ => ⟨S8192x2048, .f32⟩
  | .hbm, ⟨40, _⟩ => ⟨S8192x2048, .f32⟩
  | .hbm, ⟨41, _⟩ => ⟨S8192x2048, .f32⟩
  | .hbm, ⟨42, _⟩ => ⟨S8192x2048, .f32⟩
  | .hbm, ⟨43, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_call0_cst : Ref sig .tc := ⟨.hbm, 7, rfl⟩
abbrev main_call0_v0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_2 : Ref sig .tc := ⟨.hbm, 26, rfl⟩
abbrev main_v16 : Ref sig .tc := ⟨.hbm, 27, rfl⟩
abbrev main_v17 : Ref sig .tc := ⟨.hbm, 28, rfl⟩
abbrev main_cst_3 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_4 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩

abbrev nD : Nat := 1
abbrev τ : Topo := Topo.v7x

variable {F : FTy → Type} [FloatOps F]
-- ==== Merge.lean ====
abbrev S8192x2048 : Shape := ⟨2, ![8192, 2048]⟩
abbrev S8192x4096 : Shape := ⟨2, ![8192, 4096]⟩
abbrev S2048x2048 : Shape := ⟨2, ![2048, 2048]⟩
abbrev S1024x2048 : Shape := ⟨2, ![1024, 2048]⟩
abbrev S1024x512 : Shape := ⟨2, ![1024, 512]⟩
abbrev S2048x512 : Shape := ⟨2, ![2048, 512]⟩

abbrev nBuf : Space → Nat
  | .hbm => 6
  | .vmem => 14
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S8192x4096, .f32⟩
  | .hbm, ⟨3, _⟩ => ⟨S2048x2048, .bf16⟩
  | .hbm, ⟨4, _⟩ => ⟨S2048x2048, .bf16⟩
  | .hbm, ⟨5, _⟩ => ⟨S8192x2048, .bf16⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | .local _ .vmem, ⟨8, _⟩ => ⟨S2048x512, .bf16⟩
  | .local _ .vmem, ⟨9, _⟩ => ⟨S2048x512, .bf16⟩
  | .local _ .vmem, ⟨10, _⟩ => ⟨S2048x512, .bf16⟩
  | .local _ .vmem, ⟨11, _⟩ => ⟨S2048x512, .bf16⟩
  | .local _ .vmem, ⟨12, _⟩ => ⟨S1024x512, .bf16⟩
  | .local _ .vmem, ⟨13, _⟩ => ⟨S1024x512, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi arg1 c4_i32
  let c0_i32 : BitVec 32 := 0#32
  ![arg0.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S2048x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== MergeReferenceIdeal.lean ====
abbrev S8192x2048 : Shape := ⟨2, ![8192, 2048]⟩
abbrev S8192x4096 : Shape := ⟨2, ![8192, 4096]⟩
abbrev S2048x2048 : Shape := ⟨2, ![2048, 2048]⟩

abbrev nBuf : Space → Nat
  | .hbm => 17
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S8192x4096, .f32⟩
  | .hbm, ⟨3, _⟩ => ⟨S2048x2048, .bf16⟩
  | .hbm, ⟨4, _⟩ => ⟨S2048x2048, .bf16⟩
  | .hbm, ⟨5, _⟩ => ⟨S8192x2048, .f32⟩
  | .hbm, ⟨6, _⟩ => ⟨S8192x2048, .f32⟩
  | .hbm, ⟨7, _⟩ => ⟨S8192x2048, .f32⟩
  | .hbm, ⟨8, _⟩ => ⟨S2048x2048, .f32⟩
  | .hbm, ⟨9, _⟩ => ⟨S8192x2048, .f32⟩
  | .hbm, ⟨10, _⟩ => ⟨S8192x2048, .f32⟩
  | .hbm, ⟨11, _⟩ => ⟨S8192x2048, .f32⟩
  | .hbm, ⟨12, _⟩ => ⟨S2048x2048, .f32⟩
  | .hbm, ⟨13, _⟩ => ⟨S8192x2048, .f32⟩
  | .hbm, ⟨14, _⟩ => ⟨S8192x2048, .f32⟩
  | .hbm, ⟨15, _⟩ => ⟨S8192x2048, .f32⟩
  | .hbm, ⟨16, _⟩ => ⟨S8192x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩

abbrev nD : Nat := 1
abbrev τ : Topo := Topo.v7x

variable {F : FTy → Type} [FloatOps F]
-- ==== OutLn.lean ====
abbrev S8192x2048 : Shape := ⟨2, ![8192, 2048]⟩
abbrev S2048x2048 : Shape := ⟨2, ![2048, 2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 6
  | .vmem => 9
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .f32⟩
  | .hbm, ⟨2, _⟩ => ⟨S2048x2048, .bf16⟩
  | .hbm, ⟨3, _⟩ => ⟨S1x2048, .f32⟩
  | .hbm, ⟨4, _⟩ => ⟨S1x2048, .f32⟩
  | .hbm, ⟨5, _⟩ => ⟨S8192x2048, .f32⟩
  | .local _ .vmem, ⟨0, _⟩ => ⟨S512x2048, .bf16⟩
  | .local _ .vmem, ⟨1, _⟩ => ⟨S512x2048, .bf16⟩
  | .local _ .vmem, ⟨2, _⟩ => ⟨S512x2048, .f32⟩
  | .local _ .vmem, ⟨3, _⟩ => ⟨S512x2048, .f32⟩
  | .local _ .vmem, ⟨4, _⟩ => ⟨S2048x2048, .bf16⟩
  | .local _ .vmem, ⟨5, _⟩ => ⟨S1x2048, .f32⟩
  | .local _ .vmem, ⟨6, _⟩ => ⟨S1x2048, .f32⟩
  | .local _ .vmem, ⟨7, _⟩ => ⟨S512x2048, .f32⟩
  | .local _ .vmem, ⟨8, _⟩ => ⟨S512x2048, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== OutLnReferenceIdeal.lean ====
abbrev S8192x2048 : Shape := ⟨2, ![8192, 2048]⟩
abbrev S2048x2048 : Shape := ⟨2, ![2048, 2048]⟩
abbrev S1x2048 : Shape := ⟨2, ![1, 2048]⟩
abbrev S_ : Shape := ⟨0, ![]⟩
abbrev S8192 : Shape := ⟨1, ![8192]⟩
abbrev S8192x1 : Shape := ⟨2, ![8192, 1]⟩

abbrev nBuf : Space → Nat
  | .hbm => 39
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .f32⟩
  | .hbm, ⟨2, _⟩ => ⟨S2048x2048, .bf16⟩
  | .hbm, ⟨3, _⟩ => ⟨S1x2048, .f32⟩
  | .hbm, ⟨4, _⟩ => ⟨S1x2048, .f32⟩
  | .hbm, ⟨5, _⟩ => ⟨S8192x2048, .f32⟩
  | .hbm, ⟨6, _⟩ => ⟨S2048x2048, .f32⟩
  | .hbm, ⟨7, _⟩ => ⟨S8192x2048, .f32⟩
  | .hbm, ⟨8, _⟩ => ⟨S_, .f32⟩
  | .hbm, ⟨9, _⟩ => ⟨S8192x2048, .f32⟩
  | .hbm, ⟨10, _⟩ => ⟨S8192x2048, .f32⟩
  | .hbm, ⟨11, _⟩ => ⟨S8192x2048, .f32⟩
  | .hbm, ⟨12, _⟩ => ⟨S_, .f32⟩
  | .hbm, ⟨13, _⟩ => ⟨S8192, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x2048, .f32⟩
  | .hbm, ⟨19, _⟩ => ⟨S8192x2048, .f32⟩
  | .hbm, ⟨20, _⟩ => ⟨S8192x2048, .f32⟩
  | .hbm, ⟨21, _⟩ => ⟨S_, .f32⟩
  | .hbm, ⟨22, _⟩ => ⟨S8192, .f32⟩
  | .hbm, ⟨23, _⟩ => ⟨S8192x1, .f32⟩
  | .hbm, ⟨24, _⟩ => ⟨S_, .f32⟩
  | .hbm, ⟨25, _⟩ => ⟨S8192x1, .f32⟩
  | .hbm, ⟨26, _⟩ => ⟨S8192x1, .f32⟩
  | .hbm, ⟨27, _⟩ => ⟨S8192x2048, .f32⟩
  | .hbm, ⟨28, _⟩ => ⟨S8192x2048, .f32⟩
  | .hbm, ⟨29, _⟩ => ⟨S_, .f32⟩
  | .hbm, ⟨30, _⟩ => ⟨S8192x1, .f32⟩
  | .hbm, ⟨31, _⟩ => ⟨S8192x1, .f32⟩
  | .hbm, ⟨32, _⟩ => ⟨S8192x1, .f32⟩
  | .hbm, ⟨33, _⟩ => ⟨S8192x2048, .f32⟩
  | .hbm, ⟨34, _⟩ => ⟨S8192x2048, .f32⟩
  | .hbm, ⟨35, _⟩ => ⟨S8192x2048, .f32⟩
  | .hbm, ⟨36, _⟩ => ⟨S8192x2048, .f32⟩
  | .hbm, ⟨37, _⟩ => ⟨S8192x2048, .f32⟩
  | .hbm, ⟨38, _⟩ => ⟨S8192x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_cst_3 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_4 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩

abbrev nD : Nat := 1
abbrev τ : Topo := Topo.v7x

variable {F : FTy → Type} [FloatOps F]
-- ==== ProjV.lean ====
abbrev S2x4096x2048 : Shape := ⟨3, ![2, 4096, 2048]⟩
abbrev S1x2048x10448 : Shape := ⟨3, ![1, 2048, 10448]⟩
abbrev S8192x2048 : Shape := ⟨2, ![8192, 2048]⟩
abbrev S2048x10448 : Shape := ⟨2, ![2048, 10448]⟩
abbrev S2048x512 : Shape := ⟨2, ![2048, 512]⟩
abbrev S8192x512 : Shape := ⟨2, ![8192, 512]⟩
abbrev S1024x2048 : Shape := ⟨2, ![1024, 2048]⟩
abbrev S1024x512 : Shape := ⟨2, ![1024, 512]⟩

abbrev nBuf : Space → Nat
  | .hbm => 8
  | .vmem => 5
  | .smem => 0
  | _ => 0

abbrev bufTy : (tb : Table) → Fin (tcTables nBuf tb) → BufTy
  | .hbm, ⟨0, _⟩ => ⟨S2x4096x2048, .f32⟩
  | .hbm, ⟨1, _⟩ => ⟨S1x2048x10448, .f32⟩
  | .hbm, ⟨2, _⟩ => ⟨S8192x2048, .f32⟩
  | .hbm, ⟨3, _⟩ => ⟨S8192x2048, .bf16⟩
  | .hbm, ⟨4, _⟩ => ⟨S2048x10448, .f32⟩
  | .hbm, ⟨5, _⟩ => ⟨S2048x512, .f32⟩
  | .hbm, ⟨6, _⟩ => ⟨S2048x512, .bf16⟩
  | .hbm, ⟨7, _⟩ => ⟨S8192x512, .f32⟩
  | .local _ .vmem, ⟨0, _⟩ => ⟨S1024x2048, .bf16⟩
  | .local _ .vmem, ⟨1, _⟩ => ⟨S1024x2048, .bf16⟩
  | .local _ .vmem, ⟨2, _⟩ => ⟨S2048x512, .bf16⟩
  | .local _ .vmem, ⟨3, _⟩ => ⟨S1024x512, .f32⟩
  | .local _ .vmem, ⟨4, _⟩ => ⟨S1024x512, .f32⟩
  | _, _ => ⟨S2x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2048x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ProjVReferenceIdeal.lean ====
abbrev S2x4096x2048 : Shape := ⟨3, ![2, 4096, 2048]⟩
abbrev S1x2048x10448 : Shape := ⟨3, ![1, 2048, 10448]⟩
abbrev S2048x10448 : Shape := ⟨2, ![2048, 10448]⟩
abbrev S2x4096x10448 : Shape := ⟨3, ![2, 4096, 10448]⟩
abbrev S2x4096x512 : Shape := ⟨3, ![2, 4096, 512]⟩
abbrev S2x4096x64 : Shape := ⟨3, ![2, 4096, 64]⟩
abbrev S2x4096x128 : Shape := ⟨3, ![2, 4096, 128]⟩
abbrev S2x4096x16 : Shape := ⟨3, ![2, 4096, 16]⟩
abbrev S8192x512 : Shape := ⟨2, ![8192, 512]⟩

abbrev nBuf : Space → Nat
  | .hbm => 16
  | .vmem => 0
  | .smem => 0
  | _ => 0

abbrev bufTy : (tb : Table) → Fin (tcTables nBuf tb) → BufTy
  | .hbm, ⟨0, _⟩ => ⟨S2x4096x2048, .f32⟩
  | .hbm, ⟨1, _⟩ => ⟨S1x2048x10448, .f32⟩
  | .hbm, ⟨2, _⟩ => ⟨S2048x10448, .f32⟩
  | .hbm, ⟨3, _⟩ => ⟨S2x4096x10448, .f32⟩
  | .hbm, ⟨4, _⟩ => ⟨S2x4096x512, .f32⟩
  | .hbm, ⟨5, _⟩ => ⟨S2x4096x512, .f32⟩
  | .hbm, ⟨6, _⟩ => ⟨S2x4096x64, .f32⟩
  | .hbm, ⟨7, _⟩ => ⟨S2x4096x2048, .f32⟩
  | .hbm, ⟨8, _⟩ => ⟨S2x4096x512, .f32⟩
  | .hbm, ⟨9, _⟩ => ⟨S2x4096x512, .f32⟩
  | .hbm, ⟨10, _⟩ => ⟨S2x4096x2048, .f32⟩
  | .hbm, ⟨11, _⟩ => ⟨S2x4096x128, .f32⟩
  | .hbm, ⟨12, _⟩ => ⟨S2x4096x16, .f32⟩
  | .hbm, ⟨13, _⟩ => ⟨S2x4096x2048, .f32⟩
  | .hbm, ⟨14, _⟩ => ⟨S2x4096x2048, .f32⟩
  | .hbm, ⟨15, _⟩ => ⟨S8192x512, .f32⟩
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩

abbrev nD : Nat := 1
abbrev τ : Topo := Topo.v7x

variable {F : FTy → Type} [FloatOps F]
-- ==== Gates.lean ====
abbrev S2x4096x2048 : Shape := ⟨3, ![2, 4096, 2048]⟩
abbrev S1x2048x10448 : Shape := ⟨3, ![1, 2048, 10448]⟩
abbrev S8192x2048 : Shape := ⟨2, ![8192, 2048]⟩
abbrev S2048x10448 : Shape := ⟨2, ![2048, 10448]⟩
abbrev S2048x2048 : Shape := ⟨2, ![2048, 2048]⟩
abbrev S2048x4096 : Shape := ⟨2, ![2048, 4096]⟩
abbrev S8192x4096 : Shape := ⟨2, ![8192, 4096]⟩
abbrev S1024x2048 : Shape := ⟨2, ![1024, 2048]⟩
abbrev S2048x512 : Shape := ⟨2, ![2048, 512]⟩
abbrev S1024x512 : Shape := ⟨2, ![1024, 512]⟩

abbrev nBuf : Space → Nat
  | .hbm => 11
  | .vmem => 6
  | .smem => 0
  | _ => 0

abbrev bufTy : (tb : Table) → Fin (tcTables nBuf tb) → BufTy
  | .hbm, ⟨0, _⟩ => ⟨S2x4096x2048, .f32⟩
  | .hbm, ⟨1, _⟩ => ⟨S1x2048x10448, .f32⟩
  | .hbm, ⟨2, _⟩ => ⟨S8192x2048, .f32⟩
  | .hbm, ⟨3, _⟩ => ⟨S8192x2048, .bf16⟩
  | .hbm, ⟨4, _⟩ => ⟨S2048x10448, .f32⟩
  | .hbm, ⟨5, _⟩ => ⟨S2048x2048, .f32⟩
  | .hbm, ⟨6, _⟩ => ⟨S2048x10448, .f32⟩
  | .hbm, ⟨7, _⟩ => ⟨S2048x2048, .f32⟩
  | .hbm, ⟨8, _⟩ => ⟨S2048x4096, .f32⟩
  | .hbm, ⟨9, _⟩ => ⟨S2048x4096, .bf16⟩
  | .hbm, ⟨10, _⟩ => ⟨S8192x4096, .f32⟩
  | .local _ .vmem, ⟨0, _⟩ => ⟨S1024x2048, .bf16⟩
  | .local _ .vmem, ⟨1, _⟩ => ⟨S1024x2048, .bf16⟩
  | .local _ .vmem, ⟨2, _⟩ => ⟨S2048x512, .bf16⟩
  | .local _ .vmem, ⟨3, _⟩ => ⟨S2048x512, .bf16⟩
  | .local _ .vmem, ⟨4, _⟩ => ⟨S1024x512, .f32⟩
  | .local _ .vmem, ⟨5, _⟩ => ⟨S1024x512, .f32⟩
  | _, _ => ⟨S2x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== GatesReferenceIdeal.lean ====
abbrev S2x4096x2048 : Shape := ⟨3, ![2, 4096, 2048]⟩
abbrev S1x2048x10448 : Shape := ⟨3, ![1, 2048, 10448]⟩
abbrev S2048x10448 : Shape := ⟨2, ![2048, 10448]⟩
abbrev S2x4096x10448 : Shape := ⟨3, ![2, 4096, 10448]⟩
abbrev S2x4096x512 : Shape := ⟨3, ![2, 4096, 512]⟩
abbrev S2x4096x64 : Shape := ⟨3, ![2, 4096, 64]⟩
abbrev S2x4096x128 : Shape := ⟨3, ![2, 4096, 128]⟩
abbrev S2x4096x16 : Shape := ⟨3, ![2, 4096, 16]⟩
abbrev S_ : Shape := ⟨0, ![]⟩
abbrev S2x4096x4096 : Shape := ⟨3, ![2, 4096, 4096]⟩
abbrev S8192x4096 : Shape := ⟨2, ![8192, 4096]⟩

abbrev nBuf : Space → Nat
  | .hbm => 33
  | .vmem => 0
  | .smem => 0
  | _ => 0

abbrev bufTy : (tb : Table) → Fin (tcTables nBuf tb) → BufTy
  | .hbm, ⟨0, _⟩ => ⟨S2x4096x2048, .f32⟩
  | .hbm, ⟨1, _⟩ => ⟨S1x2048x10448, .f32⟩
  | .hbm, ⟨2, _⟩ => ⟨S2048x10448, .f32⟩
  | .hbm, ⟨3, _⟩ => ⟨S2x4096x10448, .f32⟩
  | .hbm, ⟨4, _⟩ => ⟨S2x4096x512, .f32⟩
  | .hbm, ⟨5, _⟩ => ⟨S2x4096x512, .f32⟩
  | .hbm, ⟨6, _⟩ => ⟨S2x4096x64, .f32⟩
  | .hbm, ⟨7, _⟩ => ⟨S2x4096x2048, .f32⟩
  | .hbm, ⟨8, _⟩ => ⟨S2x4096x512, .f32⟩
  | .hbm, ⟨9, _⟩ => ⟨S2x4096x512, .f32⟩
  | .hbm, ⟨10, _⟩ => ⟨S2x4096x2048, .f32⟩
  | .hbm, ⟨11, _⟩ => ⟨S2x4096x128, .f32⟩
  | .hbm, ⟨12, _⟩ => ⟨S2x4096x16, .f32⟩
  | .hbm, ⟨13, _⟩ => ⟨S2x4096x2048, .f32⟩
  | .hbm, ⟨14, _⟩ => ⟨S2x4096x2048, .f32⟩
  | .hbm, ⟨15, _⟩ => ⟨S2x4096x2048, .f32⟩
  | .hbm, ⟨16, _⟩ => ⟨S2x4096x2048, .f32⟩
  | .hbm, ⟨17, _⟩ => ⟨S_, .f32⟩
  | .hbm, ⟨18, _⟩ => ⟨S2x4096x2048, .f32⟩
  | .hbm, ⟨19, _⟩ => ⟨S2x4096x2048, .f32⟩
  | .hbm, ⟨20, _⟩ => ⟨S_, .f32⟩
  | .hbm, ⟨21, _⟩ => ⟨S2x4096x2048, .f32⟩
  | .hbm, ⟨22, _⟩ => ⟨S2x4096x2048, .f32⟩
  | .hbm, ⟨23, _⟩ => ⟨S2x4096x2048, .f32⟩
  | .hbm, ⟨24, _⟩ => ⟨S2x4096x2048, .f32⟩
  | .hbm, ⟨25, _⟩ => ⟨S_, .f32⟩
  | .hbm, ⟨26, _⟩ => ⟨S2x4096x2048, .f32⟩
  | .hbm, ⟨27, _⟩ => ⟨S2x4096x2048, .f32⟩
  | .hbm, ⟨28, _⟩ => ⟨S_, .f32⟩
  | .hbm, ⟨29, _⟩ => ⟨S2x4096x2048, .f32⟩
  | .hbm, ⟨30, _⟩ => ⟨S2x4096x2048, .f32⟩
  | .hbm, ⟨31, _⟩ => ⟨S2x4096x4096, .f32⟩
  | .hbm, ⟨32, _⟩ => ⟨S8192x4096, .f32⟩
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_cst : Ref sig .tc := ⟨.hbm, 17, rfl⟩
abbrev main_v15 : Ref sig .tc := ⟨.hbm, 18, rfl⟩
abbrev main_v16 : Ref sig .tc := ⟨.hbm, 19, rfl⟩
abbrev main_cst_0 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_cst_1 : Ref sig .tc := ⟨.hbm, 25, rfl⟩
abbrev main_v21 : Ref sig .tc := ⟨.hbm, 26, rfl⟩
abbrev main_v22 : Ref sig .tc := ⟨.hbm, 27, rfl⟩
abbrev main_cst_2 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩

abbrev nD : Nat := 1
abbrev τ : Topo := Topo.v7x

variable {F : FTy → Type} [FloatOps F]
-- ==== Lat.lean ====
abbrev S2x4096x2048 : Shape := ⟨3, ![2, 4096, 2048]⟩
abbrev S1x2048x10448 : Shape := ⟨3, ![1, 2048, 10448]⟩
abbrev S1x512 : Shape := ⟨2, ![1, 512]⟩
abbrev S512 : Shape := ⟨1, ![512]⟩
abbrev S1024 : Shape := ⟨1, ![1024]⟩
abbrev S1x1024 : Shape := ⟨2, ![1, 1024]⟩
abbrev S8192x2048 : Shape := ⟨2, ![8192, 2048]⟩
abbrev S2048x10448 : Shape := ⟨2, ![2048, 10448]⟩
abbrev S2048x512 : Shape := ⟨2, ![2048, 512]⟩
abbrev S2048x1024 : Shape := ⟨2, ![2048, 1024]⟩
abbrev S8192x1024 : Shape := ⟨2, ![8192, 1024]⟩
abbrev S1024x2048 : Shape := ⟨2, ![1024, 2048]⟩
abbrev S1024x512 : Shape := ⟨2, ![1024, 512]⟩
abbrev S1024x1 : Shape := ⟨2, ![1024, 1]⟩

abbrev nBuf : Space → Nat
  | .hbm => 17
  | .vmem => 8
  | .smem => 0
  | _ => 0

abbrev bufTy : (tb : Table) → Fin (tcTables nBuf tb) → BufTy
  | .hbm, ⟨0, _⟩ => ⟨S2x4096x2048, .f32⟩
  | .hbm, ⟨1, _⟩ => ⟨S1x2048x10448, .f32⟩
  | .hbm, ⟨2, _⟩ => ⟨S1x512, .f32⟩
  | .hbm, ⟨3, _⟩ => ⟨S1x512, .f32⟩
  | .hbm, ⟨4, _⟩ => ⟨S512, .f32⟩
  | .hbm, ⟨5, _⟩ => ⟨S512, .f32⟩
  | .hbm, ⟨6, _⟩ => ⟨S1024, .f32⟩
  | .hbm, ⟨7, _⟩ => ⟨S1x1024, .f32⟩
  | .hbm, ⟨8, _⟩ => ⟨S8192x2048, .f32⟩
  | .hbm, ⟨9, _⟩ => ⟨S8192x2048, .bf16⟩
  | .hbm, ⟨10, _⟩ => ⟨S2048x10448, .f32⟩
  | .hbm, ⟨11, _⟩ => ⟨S2048x512, .f32⟩
  | .hbm, ⟨12, _⟩ => ⟨S2048x10448, .f32⟩
  | .hbm, ⟨13, _⟩ => ⟨S2048x512, .f32⟩
  | .hbm, ⟨14, _⟩ => ⟨S2048x1024, .f32⟩
  | .hbm, ⟨15, _⟩ => ⟨S2048x1024, .bf16⟩
  | .hbm, ⟨16, _⟩ => ⟨S8192x1024, .f32⟩
  | .local _ .vmem, ⟨0, _⟩ => ⟨S1024x2048, .bf16⟩
  | .local _ .vmem, ⟨1, _⟩ => ⟨S1024x2048, .bf16⟩
  | .local _ .vmem, ⟨2, _⟩ => ⟨S2048x512, .bf16⟩
  | .local _ .vmem, ⟨3, _⟩ => ⟨S2048x512, .bf16⟩
  | .local _ .vmem, ⟨4, _⟩ => ⟨S1x512, .f32⟩
  | .local _ .vmem, ⟨5, _⟩ => ⟨S1x512, .f32⟩
  | .local _ .vmem, ⟨6, _⟩ => ⟨S1024x512, .f32⟩
  | .local _ .vmem, ⟨7, _⟩ => ⟨S1024x512, .f32⟩
  | _, _ => ⟨S2x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== LatReferenceIdeal.lean ====
abbrev S2x4096x2048 : Shape := ⟨3, ![2, 4096, 2048]⟩
abbrev S1x2048x10448 : Shape := ⟨3, ![1, 2048, 10448]⟩
abbrev S1x512 : Shape := ⟨2, ![1, 512]⟩
abbrev S2048x10448 : Shape := ⟨2, ![2048, 10448]⟩
abbrev S2x4096x10448 : Shape := ⟨3, ![2, 4096, 10448]⟩
abbrev S2x4096x512 : Shape := ⟨3, ![2, 4096, 512]⟩
abbrev S2x4096x64 : Shape := ⟨3, ![2, 4096, 64]⟩
abbrev S2x4096x128 : Shape := ⟨3, ![2, 4096, 128]⟩
abbrev S2x4096x16 : Shape := ⟨3, ![2, 4096, 16]⟩
abbrev S512 : Shape := ⟨1, ![512]⟩
abbrev S_ : Shape := ⟨0, ![]⟩
abbrev S2x4096 : Shape := ⟨2, ![2, 4096]⟩
abbrev S2x4096x1 : Shape := ⟨3, ![2, 4096, 1]⟩
abbrev S1x1x512 : Shape := ⟨3, ![1, 1, 512]⟩
abbrev S2x4096x1024 : Shape := ⟨3, ![2, 4096, 1024]⟩
abbrev S8192x1024 : Shape := ⟨2, ![8192, 1024]⟩

abbrev nBuf : Space → Nat
  | .hbm => 53
  | .vmem => 0
  | .smem => 0
  | _ => 0

abbrev bufTy : (tb : Table) → Fin (tcTables nBuf tb) → BufTy
  | .hbm, ⟨0, _⟩ => ⟨S2x4096x2048, .f32⟩
  | .hbm, ⟨1, _⟩ => ⟨S1x2048x10448, .f32⟩
  | .hbm, ⟨2, _⟩ => ⟨S1x512, .f32⟩
  | .hbm, ⟨3, _⟩ => ⟨S1x512, .f32⟩
  | .hbm, ⟨4, _⟩ => ⟨S2048x10448, .f32⟩
  | .hbm, ⟨5, _⟩ => ⟨S2x4096x10448, .f32⟩
  | .hbm, ⟨6, _⟩ => ⟨S2x4096x512, .f32⟩
  | .hbm, ⟨7, _⟩ => ⟨S2x4096x512, .f32⟩
  | .hbm, ⟨8, _⟩ => ⟨S2x4096x64, .f32⟩
  | .hbm, ⟨9, _⟩ => ⟨S2x4096x2048, .f32⟩
  | .hbm, ⟨10, _⟩ => ⟨S2x4096x512, .f32⟩
  | .hbm, ⟨11, _⟩ => ⟨S2x4096x512, .f32⟩
  | .hbm, ⟨12, _⟩ => ⟨S2x4096x2048, .f32⟩
  | .hbm, ⟨13, _⟩ => ⟨S2x4096x128, .f32⟩
  | .hbm, ⟨14, _⟩ => ⟨S2x4096x16, .f32⟩
  | .hbm, ⟨15, _⟩ => ⟨S2x4096x2048, .f32⟩
  | .hbm, ⟨16, _⟩ => ⟨S2x4096x2048, .f32⟩
  | .hbm, ⟨17, _⟩ => ⟨S512, .f32⟩
  | .hbm, ⟨18, _⟩ => ⟨S2x4096x512, .f32⟩
  | .hbm, ⟨19, _⟩ => ⟨S_, .f32⟩
  | .hbm, ⟨20, _⟩ => ⟨S2x4096, .f32⟩
  | .hbm, ⟨21, _⟩ => ⟨S2x4096x1, .f32⟩
  | .hbm, ⟨22, _⟩ => ⟨S_, .f32⟩
  | .hbm, ⟨23, _⟩ => ⟨S2x4096x1, .f32⟩
  | .hbm, ⟨24, _⟩ => ⟨S2x4096x1, .f32⟩
  | .hbm, ⟨25, _⟩ => ⟨S_, .f32⟩
  | .hbm, ⟨26, _⟩ => ⟨S2x4096x1, .f32⟩
  | .hbm, ⟨27, _⟩ => ⟨S2x4096x1, .f32⟩
  | .hbm, ⟨28, _⟩ => ⟨S2x4096x1, .f32⟩
  | .hbm, ⟨29, _⟩ => ⟨S2x4096x512, .f32⟩
  | .hbm, ⟨30, _⟩ => ⟨S2x4096x512, .f32⟩
  | .hbm, ⟨31, _⟩ => ⟨S1x1x512, .f32⟩
  | .hbm, ⟨32, _⟩ => ⟨S2x4096x512, .f32⟩
  | .hbm, ⟨33, _⟩ => ⟨S2x4096x512, .f32⟩
  | .hbm, ⟨34, _⟩ => ⟨S512, .f32⟩
  | .hbm, ⟨35, _⟩ => ⟨S2x4096x512, .f32⟩
  | .hbm, ⟨36, _⟩ => ⟨S_, .f32⟩
  | .hbm, ⟨37, _⟩ => ⟨S2x4096, .f32⟩
  | .hbm, ⟨38, _⟩ => ⟨S2x4096x1, .f32⟩
  | .hbm, ⟨39, _⟩ => ⟨S_, .f32⟩
  | .hbm, ⟨40, _⟩ => ⟨S2x4096x1, .f32⟩
  | .hbm, ⟨41, _⟩ => ⟨S2x4096x1, .f32⟩
  | .hbm, ⟨42, _⟩ => ⟨S_, .f32⟩
  | .hbm, ⟨43, _⟩ => ⟨S2x4096x1, .f32⟩
  | .hbm, ⟨44, _⟩ => ⟨S2x4096x1, .f32⟩
  | .hbm, ⟨45, _⟩ => ⟨S2x4096x1, .f32⟩
  | .hbm, ⟨46, _⟩ => ⟨S2x4096x512, .f32⟩
  | .hbm, ⟨47, _⟩ => ⟨S2x4096x512, .f32⟩
  | .hbm, ⟨48, _⟩ => ⟨S1x1x512, .f32⟩
  | .hbm, ⟨49, _⟩ => ⟨S2x4096x512, .f32⟩
  | .hbm, ⟨50, _⟩ => ⟨S2x4096x512, .f32⟩
  | .hbm, ⟨51, _⟩ => ⟨S2x4096x1024, .f32⟩
  | .hbm, ⟨52, _⟩ => ⟨S8192x1024, .f32⟩
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_cst : Ref sig .tc := ⟨.hbm, 19, rfl⟩
abbrev main_v15 : Ref sig .tc := ⟨.hbm, 20, rfl⟩
abbrev main_v16 : Ref sig .tc := ⟨.hbm, 21, rfl⟩
abbrev main_cst_0 : Ref sig .tc := ⟨.hbm, 22, rfl⟩
abbrev main_v17 : Ref sig .tc := ⟨.hbm, 23, rfl⟩
abbrev main_v18 : Ref sig .tc := ⟨.hbm, 24, rfl⟩
abbrev main_cst_1 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_cst_2 : Ref sig .tc := ⟨.hbm, 36, rfl⟩
abbrev main_v29 : Ref sig .tc := ⟨.hbm, 37, rfl⟩
abbrev main_v30 : Ref sig .tc := ⟨.hbm, 38, rfl⟩
abbrev main_cst_3 : Ref sig .tc := ⟨.hbm, 39, rfl⟩
abbrev main_v31 : Ref sig .tc := ⟨.hbm, 40, rfl⟩
abbrev main_v32 : Ref sig .tc := ⟨.hbm, 41, rfl⟩
abbrev main_cst_4 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩

abbrev nD : Nat := 1
abbrev τ : Topo := Topo.v7x

variable {F : FTy → Type} [FloatOps F]
-- ==== Krope.lean ====
abbrev S2x4096x2048 : Shape := ⟨3, ![2, 4096, 2048]⟩
abbrev S1x2048x10448 : Shape := ⟨3, ![1, 2048, 10448]⟩
abbrev S8192x2048 : Shape := ⟨2, ![8192, 2048]⟩
abbrev S2048x10448 : Shape := ⟨2, ![2048, 10448]⟩
abbrev S2048x512 : Shape := ⟨2, ![2048, 512]⟩
abbrev S2048x128 : Shape := ⟨2, ![2048, 128]⟩
abbrev S2048x640 : Shape := ⟨2, ![2048, 640]⟩
abbrev S4096 : Shape := ⟨1, ![4096]⟩
abbrev S_ : Shape := ⟨0, ![]⟩
abbrev S16 : Shape := ⟨1, ![16]⟩
abbrev S4096x1 : Shape := ⟨2, ![4096, 1]⟩
abbrev S1x16 : Shape := ⟨2, ![1, 16]⟩
abbrev S4096x16 : Shape := ⟨2, ![4096, 16]⟩
abbrev S4096x96 : Shape := ⟨2, ![4096, 96]⟩
abbrev S4096x128 : Shape := ⟨2, ![4096, 128]⟩
abbrev S1x4096x1x128 : Shape := ⟨4, ![1, 4096, 1, 128]⟩
abbrev S2x4096x1x128 : Shape := ⟨4, ![2, 4096, 1, 128]⟩
abbrev S8192x128 : Shape := ⟨2, ![8192, 128]⟩
abbrev S8192x640 : Shape := ⟨2, ![8192, 640]⟩
abbrev S1024x2048 : Shape := ⟨2, ![1024, 2048]⟩
abbrev S1024x128 : Shape := ⟨2, ![1024, 128]⟩
abbrev S1024x640 : Shape := ⟨2, ![1024, 640]⟩

abbrev nBuf : Space → Nat
  | .hbm => 65
  | .vmem => 11
  | .smem => 0
  | _ => 0

abbrev bufTy : (tb : Table) → Fin (tcTables nBuf tb) → BufTy
  | .hbm, ⟨0, _⟩ => ⟨S2x4096x2048, .f32⟩
  | .hbm, ⟨1, _⟩ => ⟨S1x2048x10448, .f32⟩
  | .hbm, ⟨2, _⟩ => ⟨S8192x2048, .f32⟩
  | .hbm, ⟨3, _⟩ => ⟨S8192x2048, .bf16⟩
  | .hbm, ⟨4, _⟩ => ⟨S2048x10448, .f32⟩
  | .hbm, ⟨5, _⟩ => ⟨S2048x512, .f32⟩
  | .hbm, ⟨6, _⟩ => ⟨S2048x10448, .f32⟩
  | .hbm, ⟨7, _⟩ => ⟨S2048x128, .f32⟩
  | .hbm, ⟨8, _⟩ => ⟨S2048x640, .f32⟩
  | .hbm, ⟨9, _⟩ => ⟨S2048x640, .bf16⟩
  | .hbm, ⟨10, _⟩ => ⟨S4096, .i32⟩
  | .hbm, ⟨11, _⟩ => ⟨S_, .i32⟩
  | .hbm, ⟨12, _⟩ => ⟨S4096, .i32⟩
  | .hbm, ⟨13, _⟩ => ⟨S4096, .i32⟩
  | .hbm, ⟨14, _⟩ => ⟨S16, .f32⟩
  | .hbm, ⟨15, _⟩ => ⟨S_, .f32⟩
  | .hbm, ⟨16, _⟩ => ⟨S16, .f32⟩
  | .hbm, ⟨17, _⟩ => ⟨S16, .f32⟩
  | .hbm, ⟨18, _⟩ => ⟨S_, .f32⟩
  | .hbm, ⟨19, _⟩ => ⟨S16, .f32⟩
  | .hbm, ⟨20, _⟩ => ⟨S16, .f32⟩
  | .hbm, ⟨21, _⟩ => ⟨S_, .f32⟩
  | .hbm, ⟨22, _⟩ => ⟨S16, .f32⟩
  | .hbm, ⟨23, _⟩ => ⟨S16, .f32⟩
  | .hbm, ⟨24, _⟩ => ⟨S16, .f32⟩
  | .hbm, ⟨25, _⟩ => ⟨S_, .f32⟩
  | .hbm, ⟨26, _⟩ => ⟨S16, .f32⟩
  | .hbm, ⟨27, _⟩ => ⟨S16, .f32⟩
  | .hbm, ⟨28, _⟩ => ⟨S4096, .f32⟩
  | .hbm, ⟨29, _⟩ => ⟨S4096x1, .f32⟩
  | .hbm, ⟨30, _⟩ => ⟨S1x16, .f32⟩
  | .hbm, ⟨31, _⟩ => ⟨S4096x16, .f32⟩
  | .hbm, ⟨32, _⟩ => ⟨S4096x16, .f32⟩
  | .hbm, ⟨33, _⟩ => ⟨S4096x16, .f32⟩
  | .hbm, ⟨34, _⟩ => ⟨S4096x16, .f32⟩
  | .hbm, ⟨35, _⟩ => ⟨S4096x16, .f32⟩
  | .hbm, ⟨36, _⟩ => ⟨S_, .f32⟩
  | .hbm, ⟨37, _⟩ => ⟨S4096x96, .f32⟩
  | .hbm, ⟨38, _⟩ => ⟨S_, .f32⟩
  | .hbm, ⟨39, _⟩ => ⟨S4096x16, .f32⟩
  | .hbm, ⟨40, _⟩ => ⟨S_, .f32⟩
  | .hbm, ⟨41, _⟩ => ⟨S4096x96, .f32⟩
  | .hbm, ⟨42, _⟩ => ⟨S4096x128, .f32⟩
  | .hbm, ⟨43, _⟩ => ⟨S4096x16, .f32⟩
  | .hbm, ⟨44, _⟩ => ⟨S4096x128, .f32⟩
  | .hbm, ⟨45, _⟩ => ⟨S4096x128, .f32⟩
  | .hbm, ⟨46, _⟩ => ⟨S1x4096x1x128, .f32⟩
  | .hbm, ⟨47, _⟩ => ⟨S1x4096x1x128, .f32⟩
  | .hbm, ⟨48, _⟩ => ⟨S4096x128, .f32⟩
  | .hbm, ⟨49, _⟩ => ⟨S1x4096x1x128, .f32⟩
  | .hbm, ⟨50, _⟩ => ⟨S1x4096x1x128, .f32⟩
  | .hbm, ⟨51, _⟩ => ⟨S4096x128, .f32⟩
  | .hbm, ⟨52, _⟩ => ⟨S1x4096x1x128, .f32⟩
  | .hbm, ⟨53, _⟩ => ⟨S1x4096x1x128, .f32⟩
  | .hbm, ⟨54, _⟩ => ⟨S4096x128, .f32⟩
  | .hbm, ⟨55, _⟩ => ⟨S1x4096x1x128, .f32⟩
  | .hbm, ⟨56, _⟩ => ⟨S2x4096x1x128, .f32⟩
  | .hbm, ⟨57, _⟩ => ⟨S8192x128, .f32⟩
  | .hbm, ⟨58, _⟩ => ⟨S1x4096x1x128, .f32⟩
  | .hbm, ⟨59, _⟩ => ⟨S2x4096x1x128, .f32⟩
  | .hbm, ⟨60, _⟩ => ⟨S8192x128, .f32⟩
  | .hbm, ⟨61, _⟩ => ⟨S1x4096x1x128, .f32⟩
  | .hbm, ⟨62, _⟩ => ⟨S2x4096x1x128, .f32⟩
  | .hbm, ⟨63, _⟩ => ⟨S8192x128, .f32⟩
  | .hbm, ⟨64, _⟩ => ⟨S8192x640, .f32⟩
  | .local _ .vmem, ⟨0, _⟩ => ⟨S1024x2048, .bf16⟩
  | .local _ .vmem, ⟨1, _⟩ => ⟨S1024x2048, .bf16⟩
  | .local _ .vmem, ⟨2, _⟩ => ⟨S2048x640, .bf16⟩
  | .local _ .vmem, ⟨3, _⟩ => ⟨S1024x128, .f32⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | .local _ .vmem, ⟨7, _⟩ => ⟨S1024x128, .f32⟩
  | .local _ .vmem, ⟨8, _⟩ => ⟨S1024x128, .f32⟩
  | .local _ .vmem, ⟨9, _⟩ => ⟨S1024x640, .f32⟩
  | .local _ .vmem, ⟨10, _⟩ => ⟨S1024x640, .f32⟩
  | _, _ => ⟨S2x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_c : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_cst : Ref sig .tc := ⟨.hbm, 15, rfl⟩
abbrev main_v12 : Ref sig .tc := ⟨.hbm, 16, rfl⟩
abbrev main_v13 : Ref sig .tc := ⟨.hbm, 17, rfl⟩
abbrev main_cst_0 : Ref sig .tc := ⟨.hbm, 18, rfl⟩
abbrev main_v14 : Ref sig .tc := ⟨.hbm, 19, rfl⟩
abbrev main_v15 : Ref sig .tc := ⟨.hbm, 20, rfl⟩
abbrev main_cst_1 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_2 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_cst_3 : Ref sig .tc := ⟨.hbm, 36, rfl⟩
abbrev main_v29 : Ref sig .tc := ⟨.hbm, 37, rfl⟩
abbrev main_cst_4 : Ref sig .tc := ⟨.hbm, 38, rfl⟩
abbrev main_v30 : Ref sig .tc := ⟨.hbm, 39, rfl⟩
abbrev main_cst_5 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2048x640 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x640 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== KropeReferenceIdeal.lean ====
abbrev S2x4096x2048 : Shape := ⟨3, ![2, 4096, 2048]⟩
abbrev S1x2048x10448 : Shape := ⟨3, ![1, 2048, 10448]⟩
abbrev S2048x10448 : Shape := ⟨2, ![2048, 10448]⟩
abbrev S2x4096x10448 : Shape := ⟨3, ![2, 4096, 10448]⟩
abbrev S2x4096x512 : Shape := ⟨3, ![2, 4096, 512]⟩
abbrev S2x4096x64 : Shape := ⟨3, ![2, 4096, 64]⟩
abbrev S2x4096x128 : Shape := ⟨3, ![2, 4096, 128]⟩
abbrev S2x4096x16 : Shape := ⟨3, ![2, 4096, 16]⟩
abbrev S2x4096x4x128 : Shape := ⟨4, ![2, 4096, 4, 128]⟩
abbrev S16 : Shape := ⟨1, ![16]⟩
abbrev S_ : Shape := ⟨0, ![]⟩
abbrev S4096 : Shape := ⟨1, ![4096]⟩
abbrev S4096x1 : Shape := ⟨2, ![4096, 1]⟩
abbrev S1x16 : Shape := ⟨2, ![1, 16]⟩
abbrev S4096x16 : Shape := ⟨2, ![4096, 16]⟩
abbrev S1x4096x1x16 : Shape := ⟨4, ![1, 4096, 1, 16]⟩
abbrev S2x4096x4x16 : Shape := ⟨4, ![2, 4096, 4, 16]⟩
abbrev S2x4096x4x96 : Shape := ⟨4, ![2, 4096, 4, 96]⟩
abbrev S2x4096x1x128 : Shape := ⟨4, ![2, 4096, 1, 128]⟩
abbrev S2x4096x1x16 : Shape := ⟨4, ![2, 4096, 1, 16]⟩
abbrev S2x4096x1x96 : Shape := ⟨4, ![2, 4096, 1, 96]⟩
abbrev S2x4096x640 : Shape := ⟨3, ![2, 4096, 640]⟩
abbrev S8192x640 : Shape := ⟨2, ![8192, 640]⟩

abbrev nBuf : Space → Nat
  | .hbm => 105
  | .vmem => 0
  | .smem => 0
  | _ => 0

abbrev bufTy : (tb : Table) → Fin (tcTables nBuf tb) → BufTy
  | .hbm, ⟨0, _⟩ => ⟨S2x4096x2048, .f32⟩
  | .hbm, ⟨1, _⟩ => ⟨S1x2048x10448, .f32⟩
  | .hbm, ⟨2, _⟩ => ⟨S2048x10448, .f32⟩
  | .hbm, ⟨3, _⟩ => ⟨S2x4096x10448, .f32⟩
  | .hbm, ⟨4, _⟩ => ⟨S2x4096x512, .f32⟩
  | .hbm, ⟨5, _⟩ => ⟨S2x4096x512, .f32⟩
  | .hbm, ⟨6, _⟩ => ⟨S2x4096x64, .f32⟩
  | .hbm, ⟨7, _⟩ => ⟨S2x4096x2048, .f32⟩
  | .hbm, ⟨8, _⟩ => ⟨S2x4096x512, .f32⟩
  | .hbm, ⟨9, _⟩ => ⟨S2x4096x512, .f32⟩
  | .hbm, ⟨10, _⟩ => ⟨S2x4096x2048, .f32⟩
  | .hbm, ⟨11, _⟩ => ⟨S2x4096x128, .f32⟩
  | .hbm, ⟨12, _⟩ => ⟨S2x4096x16, .f32⟩
  | .hbm, ⟨13, _⟩ => ⟨S2x4096x2048, .f32⟩
  | .hbm, ⟨14, _⟩ => ⟨S2x4096x2048, .f32⟩
  | .hbm, ⟨15, _⟩ => ⟨S2x4096x4x128, .f32⟩
  | .hbm, ⟨16, _⟩ => ⟨S16, .f32⟩
  | .hbm, ⟨17, _⟩ => ⟨S_, .f32⟩
  | .hbm, ⟨18, _⟩ => ⟨S16, .f32⟩
  | .hbm, ⟨19, _⟩ => ⟨S16, .f32⟩
  | .hbm, ⟨20, _⟩ => ⟨S_, .f32⟩
  | .hbm, ⟨21, _⟩ => ⟨S16, .f32⟩
  | .hbm, ⟨22, _⟩ => ⟨S16, .f32⟩
  | .hbm, ⟨23, _⟩ => ⟨S_, .f32⟩
  | .hbm, ⟨24, _⟩ => ⟨S16, .f32⟩
  | .hbm, ⟨25, _⟩ => ⟨S16, .f32⟩
  | .hbm, ⟨26, _⟩ => ⟨S16, .f32⟩
  | .hbm, ⟨27, _⟩ => ⟨S_, .f32⟩
  | .hbm, ⟨28, _⟩ => ⟨S16, .f32⟩
  | .hbm, ⟨29, _⟩ => ⟨S16, .f32⟩
  | .hbm, ⟨30, _⟩ => ⟨S4096, .i32⟩
  | .hbm, ⟨31, _⟩ => ⟨S_, .i32⟩
  | .hbm, ⟨32, _⟩ => ⟨S4096, .i32⟩
  | .hbm, ⟨33, _⟩ => ⟨S4096, .i32⟩
  | .hbm, ⟨34, _⟩ => ⟨S4096, .f32⟩
  | .hbm, ⟨35, _⟩ => ⟨S4096x1, .f32⟩
  | .hbm, ⟨36, _⟩ => ⟨S1x16, .f32⟩
  | .hbm, ⟨37, _⟩ => ⟨S4096x16, .f32⟩
  | .hbm, ⟨38, _⟩ => ⟨S4096x16, .f32⟩
  | .hbm, ⟨39, _⟩ => ⟨S4096x16, .f32⟩
  | .hbm, ⟨40, _⟩ => ⟨S4096x16, .f32⟩
  | .hbm, ⟨41, _⟩ => ⟨S1x4096x1x16, .f32⟩
  | .hbm, ⟨42, _⟩ => ⟨S4096x16, .f32⟩
  | .hbm, ⟨43, _⟩ => ⟨S1x4096x1x16, .f32⟩
  | .hbm, ⟨44, _⟩ => ⟨S2x4096x4x16, .f32⟩
  | .hbm, ⟨45, _⟩ => ⟨S2x4096x4x16, .f32⟩
  | .hbm, ⟨46, _⟩ => ⟨S2x4096x4x16, .f32⟩
  | .hbm, ⟨47, _⟩ => ⟨S2x4096x4x16, .f32⟩
  | .hbm, ⟨48, _⟩ => ⟨S2x4096x4x16, .f32⟩
  | .hbm, ⟨49, _⟩ => ⟨S2x4096x4x16, .f32⟩
  | .hbm, ⟨50, _⟩ => ⟨S2x4096x4x16, .f32⟩
  | .hbm, ⟨51, _⟩ => ⟨S2x4096x4x16, .f32⟩
  | .hbm, ⟨52, _⟩ => ⟨S2x4096x4x16, .f32⟩
  | .hbm, ⟨53, _⟩ => ⟨S2x4096x4x16, .f32⟩
  | .hbm, ⟨54, _⟩ => ⟨S2x4096x4x16, .f32⟩
  | .hbm, ⟨55, _⟩ => ⟨S2x4096x4x16, .f32⟩
  | .hbm, ⟨56, _⟩ => ⟨S2x4096x4x96, .f32⟩
  | .hbm, ⟨57, _⟩ => ⟨S2x4096x4x128, .f32⟩
  | .hbm, ⟨58, _⟩ => ⟨S2x4096x1x128, .f32⟩
  | .hbm, ⟨59, _⟩ => ⟨S16, .f32⟩
  | .hbm, ⟨60, _⟩ => ⟨S_, .f32⟩
  | .hbm, ⟨61, _⟩ => ⟨S16, .f32⟩
  | .hbm, ⟨62, _⟩ => ⟨S16, .f32⟩
  | .hbm, ⟨63, _⟩ => ⟨S_, .f32⟩
  | .hbm, ⟨64, _⟩ => ⟨S16, .f32⟩
  | .hbm, ⟨65, _⟩ => ⟨S16, .f32⟩
  | .hbm, ⟨66, _⟩ => ⟨S_, .f32⟩
  | .hbm, ⟨67, _⟩ => ⟨S16, .f32⟩
  | .hbm, ⟨68, _⟩ => ⟨S16, .f32⟩
  | .hbm, ⟨69, _⟩ => ⟨S16, .f32⟩
  | .hbm, ⟨70, _⟩ => ⟨S_, .f32⟩
  | .hbm, ⟨71, _⟩ => ⟨S16, .f32⟩
  | .hbm, ⟨72, _⟩ => ⟨S16, .f32⟩
  | .hbm, ⟨73, _⟩ => ⟨S4096, .i32⟩
  | .hbm, ⟨74, _⟩ => ⟨S_, .i32⟩
  | .hbm, ⟨75, _⟩ => ⟨S4096, .i32⟩
  | .hbm, ⟨76, _⟩ => ⟨S4096, .i32⟩
  | .hbm, ⟨77, _⟩ => ⟨S4096, .f32⟩
  | .hbm, ⟨78, _⟩ => ⟨S4096x1, .f32⟩
  | .hbm, ⟨79, _⟩ => ⟨S1x16, .f32⟩
  | .hbm, ⟨80, _⟩ => ⟨S4096x16, .f32⟩
  | .hbm, ⟨81, _⟩ => ⟨S4096x16, .f32⟩
  | .hbm, ⟨82, _⟩ => ⟨S4096x16, .f32⟩
  | .hbm, ⟨83, _⟩ => ⟨S4096x16, .f32⟩
  | .hbm, ⟨84, _⟩ => ⟨S1x4096x1x16, .f32⟩
  | .hbm, ⟨85, _⟩ => ⟨S4096x16, .f32⟩
  | .hbm, ⟨86, _⟩ => ⟨S1x4096x1x16, .f32⟩
  | .hbm, ⟨87, _⟩ => ⟨S2x4096x1x16, .f32⟩
  | .hbm, ⟨88, _⟩ => ⟨S2x4096x1x16, .f32⟩
  | .hbm, ⟨89, _⟩ => ⟨S2x4096x1x16, .f32⟩
  | .hbm, ⟨90, _⟩ => ⟨S2x4096x1x16, .f32⟩
  | .hbm, ⟨91, _⟩ => ⟨S2x4096x1x16, .f32⟩
  | .hbm, ⟨92, _⟩ => ⟨S2x4096x1x16, .f32⟩
  | .hbm, ⟨93, _⟩ => ⟨S2x4096x1x16, .f32⟩
  | .hbm, ⟨94, _⟩ => ⟨S2x4096x1x16, .f32⟩
  | .hbm, ⟨95, _⟩ => ⟨S2x4096x1x16, .f32⟩
  | .hbm, ⟨96, _⟩ => ⟨S2x4096x1x16, .f32⟩
  | .hbm, ⟨97, _⟩ => ⟨S2x4096x1x16, .f32⟩
  | .hbm, ⟨98, _⟩ => ⟨S2x4096x1x16, .f32⟩
  | .hbm, ⟨99, _⟩ => ⟨S2x4096x1x96, .f32⟩
  | .hbm, ⟨100, _⟩ => ⟨S2x4096x1x128, .f32⟩
  | .hbm, ⟨101, _⟩ => ⟨S2x4096x512, .f32⟩
  | .hbm, ⟨102, _⟩ => ⟨S2x4096x128, .f32⟩
  | .hbm, ⟨103, _⟩ => ⟨S2x4096x640, .f32⟩
  | .hbm, ⟨104, _⟩ => ⟨S8192x640, .f32⟩
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_cst : Ref sig .tc := ⟨.hbm, 17, rfl⟩
abbrev main_v15 : Ref sig .tc := ⟨.hbm, 18, rfl⟩
abbrev main_v16 : Ref sig .tc := ⟨.hbm, 19, rfl⟩
abbrev main_cst_0 : Ref sig .tc := ⟨.hbm, 20, rfl⟩
abbrev main_v17 : Ref sig .tc := ⟨.hbm, 21, rfl⟩
abbrev main_v18 : Ref sig .tc := ⟨.hbm, 22, rfl⟩
abbrev main_cst_1 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_cst_2 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_c : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_v51 : Ref sig .tc := ⟨.hbm, 58, rfl⟩
abbrev main_v52 : Ref sig .tc := ⟨.hbm, 59, rfl⟩
abbrev main_cst_3 : Ref sig .tc := ⟨.hbm, 60, rfl⟩
abbrev main_v53 : Ref sig .tc := ⟨.hbm, 61, rfl⟩
abbrev main_v54 : Ref sig .tc := ⟨.hbm, 62, rfl⟩
abbrev main_cst_4 : Ref sig .tc := ⟨.hbm, 63, rfl⟩
abbrev main_v55 : Ref sig .tc := ⟨.hbm, 64, rfl⟩
abbrev main_v56 : Ref sig .tc := ⟨.hbm, 65, rfl⟩
abbrev main_cst_5 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_cst_6 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_c_7 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩
abbrev main_v69 : Ref sig .tc := ⟨.hbm, 81, rfl⟩
abbrev main_v70 : Ref sig .tc := ⟨.hbm, 82, rfl⟩
abbrev main_v71 : Ref sig .tc := ⟨.hbm, 83, rfl⟩
abbrev main_v72 : Ref sig .tc := ⟨.hbm, 84, rfl⟩
abbrev main_v73 : Ref sig .tc := ⟨.hbm, 85, rfl⟩
abbrev main_v74 : Ref sig .tc := ⟨.hbm, 86, rfl⟩
abbrev main_v75 : Ref sig .tc := ⟨.hbm, 87, rfl⟩
abbrev main_v76 : Ref sig .tc := ⟨.hbm, 88, rfl⟩
abbrev main_v77 : Ref sig .tc := ⟨.hbm, 89, rfl⟩
abbrev main_v78 : Ref sig .tc := ⟨.hbm, 90, rfl⟩
abbrev main_v79 : Ref sig .tc := ⟨.hbm, 91, rfl⟩
abbrev main_v80 : Ref sig .tc := ⟨.hbm, 92, rfl⟩
abbrev main_v81 : Ref sig .tc := ⟨.hbm, 93, rfl⟩
abbrev main_v82 : Ref sig .tc := ⟨.hbm, 94, rfl⟩
abbrev main_v83 : Ref sig .tc := ⟨.hbm, 95, rfl⟩
abbrev main_v84 : Ref sig .tc := ⟨.hbm, 96, rfl⟩
abbrev main_v85 : Ref sig .tc := ⟨.hbm, 97, rfl⟩
abbrev main_v86 : Ref sig .tc := ⟨.hbm, 98, rfl⟩
abbrev main_v87 : Ref sig .tc := ⟨.hbm, 99, rfl⟩
abbrev main_v88 : Ref sig .tc := ⟨.hbm, 100, rfl⟩
abbrev main_v89 : Ref sig .tc := ⟨.hbm, 101, rfl⟩
abbrev main_v90 : Ref sig .tc := ⟨.hbm, 102, rfl⟩
abbrev main_v91 : Ref sig .tc := ⟨.hbm, 103, rfl⟩
abbrev main_v92 : Ref sig .tc := ⟨.hbm, 104, rfl⟩

abbrev nD : Nat := 1
abbrev τ : Topo := Topo.v7x

variable {F : FTy → Type} [FloatOps F]
-- ==== QHeads.lean ====
abbrev S2x4096x2048 : Shape := ⟨3, ![2, 4096, 2048]⟩
abbrev S1x2048x10448 : Shape := ⟨3, ![1, 2048, 10448]⟩
abbrev S8192x2048 : Shape := ⟨2, ![8192, 2048]⟩
abbrev S2048x10448 : Shape := ⟨2, ![2048, 10448]⟩
abbrev S2048x2048 : Shape := ⟨2, ![2048, 2048]⟩
abbrev S2048x4096 : Shape := ⟨2, ![2048, 4096]⟩
abbrev S4096 : Shape := ⟨1, ![4096]⟩
abbrev S_ : Shape := ⟨0, ![]⟩
abbrev S16 : Shape := ⟨1, ![16]⟩
abbrev S4096x1 : Shape := ⟨2, ![4096, 1]⟩
abbrev S1x16 : Shape := ⟨2, ![1, 16]⟩
abbrev S4096x16 : Shape := ⟨2, ![4096, 16]⟩
abbrev S4096x96 : Shape := ⟨2, ![4096, 96]⟩
abbrev S4096x128 : Shape := ⟨2, ![4096, 128]⟩
abbrev S1x4096x1x128 : Shape := ⟨4, ![1, 4096, 1, 128]⟩
abbrev S2x4096x1x128 : Shape := ⟨4, ![2, 4096, 1, 128]⟩
abbrev S8192x128 : Shape := ⟨2, ![8192, 128]⟩
abbrev S32x8192x128 : Shape := ⟨3, ![32, 8192, 128]⟩
abbrev S1024x2048 : Shape := ⟨2, ![1024, 2048]⟩
abbrev S2048x512 : Shape := ⟨2, ![2048, 512]⟩
abbrev S1024x128 : Shape := ⟨2, ![1024, 128]⟩
abbrev S4x1024x128 : Shape := ⟨3, ![4, 1024, 128]⟩
abbrev S1024x512 : Shape := ⟨2, ![1024, 512]⟩
abbrev S1x1024x128 : Shape := ⟨3, ![1, 1024, 128]⟩

abbrev nBuf : Space → Nat
  | .hbm => 65
  | .vmem => 12
  | .smem => 0
  | _ => 0

abbrev bufTy : (tb : Table) → Fin (tcTables nBuf tb) → BufTy
  | .hbm, ⟨0, _⟩ => ⟨S2x4096x2048, .f32⟩
  | .hbm, ⟨1, _⟩ => ⟨S1x2048x10448, .f32⟩
  | .hbm, ⟨2, _⟩ => ⟨S8192x2048, .f32⟩
  | .hbm, ⟨3, _⟩ => ⟨S8192x2048, .bf16⟩
  | .hbm, ⟨4, _⟩ => ⟨S2048x10448, .f32⟩
  | .hbm, ⟨5, _⟩ => ⟨S2048x2048, .f32⟩
  | .hbm, ⟨6, _⟩ => ⟨S2048x10448, .f32⟩
  | .hbm, ⟨7, _⟩ => ⟨S2048x2048, .f32⟩
  | .hbm, ⟨8, _⟩ => ⟨S2048x4096, .f32⟩
  | .hbm, ⟨9, _⟩ => ⟨S2048x4096, .bf16⟩
  | .hbm, ⟨10, _⟩ => ⟨S4096, .i32⟩
  | .hbm, ⟨11, _⟩ => ⟨S_, .i32⟩
  | .hbm, ⟨12, _⟩ => ⟨S4096, .i32⟩
  | .hbm, ⟨13, _⟩ => ⟨S4096, .i32⟩
  | .hbm, ⟨14, _⟩ => ⟨S16, .f32⟩
  | .hbm, ⟨15, _⟩ => ⟨S_, .f32⟩
  | .hbm, ⟨16, _⟩ => ⟨S16, .f32⟩
  | .hbm, ⟨17, _⟩ => ⟨S16, .f32⟩
  | .hbm, ⟨18, _⟩ => ⟨S_, .f32⟩
  | .hbm, ⟨19, _⟩ => ⟨S16, .f32⟩
  | .hbm, ⟨20, _⟩ => ⟨S16, .f32⟩
  | .hbm, ⟨21, _⟩ => ⟨S_, .f32⟩
  | .hbm, ⟨22, _⟩ => ⟨S16, .f32⟩
  | .hbm, ⟨23, _⟩ => ⟨S16, .f32⟩
  | .hbm, ⟨24, _⟩ => ⟨S16, .f32⟩
  | .hbm, ⟨25, _⟩ => ⟨S_, .f32⟩
  | .hbm, ⟨26, _⟩ => ⟨S16, .f32⟩
  | .hbm, ⟨27, _⟩ => ⟨S16, .f32⟩
  | .hbm, ⟨28, _⟩ => ⟨S4096, .f32⟩
  | .hbm, ⟨29, _⟩ => ⟨S4096x1, .f32⟩
  | .hbm, ⟨30, _⟩ => ⟨S1x16, .f32⟩
  | .hbm, ⟨31, _⟩ => ⟨S4096x16, .f32⟩
  | .hbm, ⟨32, _⟩ => ⟨S4096x16, .f32⟩
  | .hbm, ⟨33, _⟩ => ⟨S4096x16, .f32⟩
  | .hbm, ⟨34, _⟩ => ⟨S4096x16, .f32⟩
  | .hbm, ⟨35, _⟩ => ⟨S4096x16, .f32⟩
  | .hbm, ⟨36, _⟩ => ⟨S_, .f32⟩
  | .hbm, ⟨37, _⟩ => ⟨S4096x96, .f32⟩
  | .hbm, ⟨38, _⟩ => ⟨S_, .f32⟩
  | .hbm, ⟨39, _⟩ => ⟨S4096x16, .f32⟩
  | .hbm, ⟨40, _⟩ => ⟨S_, .f32⟩
  | .hbm, ⟨41, _⟩ => ⟨S4096x96, .f32⟩
  | .hbm, ⟨42, _⟩ => ⟨S4096x128, .f32⟩
  | .hbm, ⟨43, _⟩ => ⟨S4096x16, .f32⟩
  | .hbm, ⟨44, _⟩ => ⟨S4096x128, .f32⟩
  | .hbm, ⟨45, _⟩ => ⟨S4096x128, .f32⟩
  | .hbm, ⟨46, _⟩ => ⟨S1x4096x1x128, .f32⟩
  | .hbm, ⟨47, _⟩ => ⟨S1x4096x1x128, .f32⟩
  | .hbm, ⟨48, _⟩ => ⟨S4096x128, .f32⟩
  | .hbm, ⟨49, _⟩ => ⟨S1x4096x1x128, .f32⟩
  | .hbm, ⟨50, _⟩ => ⟨S1x4096x1x128, .f32⟩
  | .hbm, ⟨51, _⟩ => ⟨S4096x128, .f32⟩
  | .hbm, ⟨52, _⟩ => ⟨S1x4096x1x128, .f32⟩
  | .hbm, ⟨53, _⟩ => ⟨S1x4096x1x128, .f32⟩
  | .hbm, ⟨54, _⟩ => ⟨S4096x128, .f32⟩
  | .hbm, ⟨55, _⟩ => ⟨S1x4096x1x128, .f32⟩
  | .hbm, ⟨56, _⟩ => ⟨S2x4096x1x128, .f32⟩
  | .hbm, ⟨57, _⟩ => ⟨S8192x128, .f32⟩
  | .hbm, ⟨58, _⟩ => ⟨S1x4096x1x128, .f32⟩
  | .hbm, ⟨59, _⟩ => ⟨S2x4096x1x128, .f32⟩
  | .hbm, ⟨60, _⟩ => ⟨S8192x128, .f32⟩
  | .hbm, ⟨61, _⟩ => ⟨S1x4096x1x128, .f32⟩
  | .hbm, ⟨62, _⟩ => ⟨S2x4096x1x128, .f32⟩
  | .hbm, ⟨63, _⟩ => ⟨S8192x128, .f32⟩
  | .hbm, ⟨64, _⟩ => ⟨S32x8192x128, .bf16⟩
  | .local _ .vmem, ⟨0, _⟩ => ⟨S1024x2048, .bf16⟩
  | .local _ .vmem, ⟨1, _⟩ => ⟨S1024x2048, .bf16⟩
  | .local _ .vmem, ⟨2, _⟩ => ⟨S2048x512, .bf16⟩
  | .local _ .vmem, ⟨3, _⟩ => ⟨S2048x512, .bf16⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | .local _ .vmem, ⟨7, _⟩ => ⟨S1024x128, .f32⟩
  | .local _ .vmem, ⟨8, _⟩ => ⟨S1024x128, .f32⟩
  | .local _ .vmem, ⟨9, _⟩ => ⟨S1024x128, .f32⟩
  | .local _ .vmem, ⟨10, _⟩ => ⟨S4x1024x128, .bf16⟩
  | .local _ .vmem, ⟨11, _⟩ => ⟨S4x1024x128, .bf16⟩
  | _, _ => ⟨S2x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_c : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_cst : Ref sig .tc := ⟨.hbm, 15, rfl⟩
abbrev main_v12 : Ref sig .tc := ⟨.hbm, 16, rfl⟩
abbrev main_v13 : Ref sig .tc := ⟨.hbm, 17, rfl⟩
abbrev main_cst_0 : Ref sig .tc := ⟨.hbm, 18, rfl⟩
abbrev main_v14 : Ref sig .tc := ⟨.hbm, 19, rfl⟩
abbrev main_v15 : Ref sig .tc := ⟨.hbm, 20, rfl⟩
abbrev main_cst_1 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_2 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_cst_3 : Ref sig .tc := ⟨.hbm, 36, rfl⟩
abbrev main_v29 : Ref sig .tc := ⟨.hbm, 37, rfl⟩
abbrev main_cst_4 : Ref sig .tc := ⟨.hbm, 38, rfl⟩
abbrev main_v30 : Ref sig .tc := ⟨.hbm, 39, rfl⟩
abbrev main_cst_5 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S4x1024x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== QHeadsReferenceIdeal.lean ====
abbrev S2x4096x2048 : Shape := ⟨3, ![2, 4096, 2048]⟩
abbrev S1x2048x10448 : Shape := ⟨3, ![1, 2048, 10448]⟩
abbrev S2048x10448 : Shape := ⟨2, ![2048, 10448]⟩
abbrev S2x4096x10448 : Shape := ⟨3, ![2, 4096, 10448]⟩
abbrev S2x4096x512 : Shape := ⟨3, ![2, 4096, 512]⟩
abbrev S2x4096x64 : Shape := ⟨3, ![2, 4096, 64]⟩
abbrev S2x4096x128 : Shape := ⟨3, ![2, 4096, 128]⟩
abbrev S2x4096x16 : Shape := ⟨3, ![2, 4096, 16]⟩
abbrev S2x4096x16x128 : Shape := ⟨4, ![2, 4096, 16, 128]⟩
abbrev S16 : Shape := ⟨1, ![16]⟩
abbrev S_ : Shape := ⟨0, ![]⟩
abbrev S4096 : Shape := ⟨1, ![4096]⟩
abbrev S4096x1 : Shape := ⟨2, ![4096, 1]⟩
abbrev S1x16 : Shape := ⟨2, ![1, 16]⟩
abbrev S4096x16 : Shape := ⟨2, ![4096, 16]⟩
abbrev S1x4096x1x16 : Shape := ⟨4, ![1, 4096, 1, 16]⟩
abbrev S2x4096x16x16 : Shape := ⟨4, ![2, 4096, 16, 16]⟩
abbrev S2x4096x16x96 : Shape := ⟨4, ![2, 4096, 16, 96]⟩
abbrev S2x4096x32x128 : Shape := ⟨4, ![2, 4096, 32, 128]⟩
abbrev S8192x32x128 : Shape := ⟨3, ![8192, 32, 128]⟩
abbrev S32x8192x128 : Shape := ⟨3, ![32, 8192, 128]⟩

abbrev nBuf : Space → Nat
  | .hbm => 108
  | .vmem => 0
  | .smem => 0
  | _ => 0

abbrev bufTy : (tb : Table) → Fin (tcTables nBuf tb) → BufTy
  | .hbm, ⟨0, _⟩ => ⟨S2x4096x2048, .f32⟩
  | .hbm, ⟨1, _⟩ => ⟨S1x2048x10448, .f32⟩
  | .hbm, ⟨2, _⟩ => ⟨S2048x10448, .f32⟩
  | .hbm, ⟨3, _⟩ => ⟨S2x4096x10448, .f32⟩
  | .hbm, ⟨4, _⟩ => ⟨S2x4096x512, .f32⟩
  | .hbm, ⟨5, _⟩ => ⟨S2x4096x512, .f32⟩
  | .hbm, ⟨6, _⟩ => ⟨S2x4096x64, .f32⟩
  | .hbm, ⟨7, _⟩ => ⟨S2x4096x2048, .f32⟩
  | .hbm, ⟨8, _⟩ => ⟨S2x4096x512, .f32⟩
  | .hbm, ⟨9, _⟩ => ⟨S2x4096x512, .f32⟩
  | .hbm, ⟨10, _⟩ => ⟨S2x4096x2048, .f32⟩
  | .hbm, ⟨11, _⟩ => ⟨S2x4096x128, .f32⟩
  | .hbm, ⟨12, _⟩ => ⟨S2x4096x16, .f32⟩
  | .hbm, ⟨13, _⟩ => ⟨S2x4096x2048, .f32⟩
  | .hbm, ⟨14, _⟩ => ⟨S2x4096x2048, .f32⟩
  | .hbm, ⟨15, _⟩ => ⟨S2x4096x16x128, .f32⟩
  | .hbm, ⟨16, _⟩ => ⟨S16, .f32⟩
  | .hbm, ⟨17, _⟩ => ⟨S_, .f32⟩
  | .hbm, ⟨18, _⟩ => ⟨S16, .f32⟩
  | .hbm, ⟨19, _⟩ => ⟨S16, .f32⟩
  | .hbm, ⟨20, _⟩ => ⟨S_, .f32⟩
  | .hbm, ⟨21, _⟩ => ⟨S16, .f32⟩
  | .hbm, ⟨22, _⟩ => ⟨S16, .f32⟩
  | .hbm, ⟨23, _⟩ => ⟨S_, .f32⟩
  | .hbm, ⟨24, _⟩ => ⟨S16, .f32⟩
  | .hbm, ⟨25, _⟩ => ⟨S16, .f32⟩
  | .hbm, ⟨26, _⟩ => ⟨S16, .f32⟩
  | .hbm, ⟨27, _⟩ => ⟨S_, .f32⟩
  | .hbm, ⟨28, _⟩ => ⟨S16, .f32⟩
  | .hbm, ⟨29, _⟩ => ⟨S16, .f32⟩
  | .hbm, ⟨30, _⟩ => ⟨S4096, .i32⟩
  | .hbm, ⟨31, _⟩ => ⟨S_, .i32⟩
  | .hbm, ⟨32, _⟩ => ⟨S4096, .i32⟩
  | .hbm, ⟨33, _⟩ => ⟨S4096, .i32⟩
  | .hbm, ⟨34, _⟩ => ⟨S4096, .f32⟩
  | .hbm, ⟨35, _⟩ => ⟨S4096x1, .f32⟩
  | .hbm, ⟨36, _⟩ => ⟨S1x16, .f32⟩
  | .hbm, ⟨37, _⟩ => ⟨S4096x16, .f32⟩
  | .hbm, ⟨38, _⟩ => ⟨S4096x16, .f32⟩
  | .hbm, ⟨39, _⟩ => ⟨S4096x16, .f32⟩
  | .hbm, ⟨40, _⟩ => ⟨S4096x16, .f32⟩
  | .hbm, ⟨41, _⟩ => ⟨S1x4096x1x16, .f32⟩
  | .hbm, ⟨42, _⟩ => ⟨S4096x16, .f32⟩
  | .hbm, ⟨43, _⟩ => ⟨S1x4096x1x16, .f32⟩
  | .hbm, ⟨44, _⟩ => ⟨S2x4096x16x16, .f32⟩
  | .hbm, ⟨45, _⟩ => ⟨S2x4096x16x16, .f32⟩
  | .hbm, ⟨46, _⟩ => ⟨S2x4096x16x16, .f32⟩
  | .hbm, ⟨47, _⟩ => ⟨S2x4096x16x16, .f32⟩
  | .hbm, ⟨48, _⟩ => ⟨S2x4096x16x16, .f32⟩
  | .hbm, ⟨49, _⟩ => ⟨S2x4096x16x16, .f32⟩
  | .hbm, ⟨50, _⟩ => ⟨S2x4096x16x16, .f32⟩
  | .hbm, ⟨51, _⟩ => ⟨S2x4096x16x16, .f32⟩
  | .hbm, ⟨52, _⟩ => ⟨S2x4096x16x16, .f32⟩
  | .hbm, ⟨53, _⟩ => ⟨S2x4096x16x16, .f32⟩
  | .hbm, ⟨54, _⟩ => ⟨S2x4096x16x16, .f32⟩
  | .hbm, ⟨55, _⟩ => ⟨S2x4096x16x16, .f32⟩
  | .hbm, ⟨56, _⟩ => ⟨S2x4096x16x96, .f32⟩
  | .hbm, ⟨57, _⟩ => ⟨S2x4096x16x128, .f32⟩
  | .hbm, ⟨58, _⟩ => ⟨S_, .f32⟩
  | .hbm, ⟨59, _⟩ => ⟨S2x4096x16x128, .f32⟩
  | .hbm, ⟨60, _⟩ => ⟨S2x4096x16x128, .f32⟩
  | .hbm, ⟨61, _⟩ => ⟨S2x4096x16x128, .f32⟩
  | .hbm, ⟨62, _⟩ => ⟨S16, .f32⟩
  | .hbm, ⟨63, _⟩ => ⟨S_, .f32⟩
  | .hbm, ⟨64, _⟩ => ⟨S16, .f32⟩
  | .hbm, ⟨65, _⟩ => ⟨S16, .f32⟩
  | .hbm, ⟨66, _⟩ => ⟨S_, .f32⟩
  | .hbm, ⟨67, _⟩ => ⟨S16, .f32⟩
  | .hbm, ⟨68, _⟩ => ⟨S16, .f32⟩
  | .hbm, ⟨69, _⟩ => ⟨S_, .f32⟩
  | .hbm, ⟨70, _⟩ => ⟨S16, .f32⟩
  | .hbm, ⟨71, _⟩ => ⟨S16, .f32⟩
  | .hbm, ⟨72, _⟩ => ⟨S16, .f32⟩
  | .hbm, ⟨73, _⟩ => ⟨S_, .f32⟩
  | .hbm, ⟨74, _⟩ => ⟨S16, .f32⟩
  | .hbm, ⟨75, _⟩ => ⟨S16, .f32⟩
  | .hbm, ⟨76, _⟩ => ⟨S4096, .i32⟩
  | .hbm, ⟨77, _⟩ => ⟨S_, .i32⟩
  | .hbm, ⟨78, _⟩ => ⟨S4096, .i32⟩
  | .hbm, ⟨79, _⟩ => ⟨S4096, .i32⟩
  | .hbm, ⟨80, _⟩ => ⟨S4096, .f32⟩
  | .hbm, ⟨81, _⟩ => ⟨S4096x1, .f32⟩
  | .hbm, ⟨82, _⟩ => ⟨S1x16, .f32⟩
  | .hbm, ⟨83, _⟩ => ⟨S4096x16, .f32⟩
  | .hbm, ⟨84, _⟩ => ⟨S4096x16, .f32⟩
  | .hbm, ⟨85, _⟩ => ⟨S4096x16, .f32⟩
  | .hbm, ⟨86, _⟩ => ⟨S4096x16, .f32⟩
  | .hbm, ⟨87, _⟩ => ⟨S1x4096x1x16, .f32⟩
  | .hbm, ⟨88, _⟩ => ⟨S4096x16, .f32⟩
  | .hbm, ⟨89, _⟩ => ⟨S1x4096x1x16, .f32⟩
  | .hbm, ⟨90, _⟩ => ⟨S2x4096x16x16, .f32⟩
  | .hbm, ⟨91, _⟩ => ⟨S2x4096x16x16, .f32⟩
  | .hbm, ⟨92, _⟩ => ⟨S2x4096x16x16, .f32⟩
  | .hbm, ⟨93, _⟩ => ⟨S2x4096x16x16, .f32⟩
  | .hbm, ⟨94, _⟩ => ⟨S2x4096x16x16, .f32⟩
  | .hbm, ⟨95, _⟩ => ⟨S2x4096x16x16, .f32⟩
  | .hbm, ⟨96, _⟩ => ⟨S2x4096x16x16, .f32⟩
  | .hbm, ⟨97, _⟩ => ⟨S2x4096x16x16, .f32⟩
  | .hbm, ⟨98, _⟩ => ⟨S2x4096x16x16, .f32⟩
  | .hbm, ⟨99, _⟩ => ⟨S2x4096x16x16, .f32⟩
  | .hbm, ⟨100, _⟩ => ⟨S2x4096x16x16, .f32⟩
  | .hbm, ⟨101, _⟩ => ⟨S2x4096x16x16, .f32⟩
  | .hbm, ⟨102, _⟩ => ⟨S2x4096x16x96, .f32⟩
  | .hbm, ⟨103, _⟩ => ⟨S2x4096x16x128, .f32⟩
  | .hbm, ⟨104, _⟩ => ⟨S2x4096x32x128, .f32⟩
  | .hbm, ⟨105, _⟩ => ⟨S8192x32x128, .f32⟩
  | .hbm, ⟨106, _⟩ => ⟨S32x8192x128, .f32⟩
  | .hbm, ⟨107, _⟩ => ⟨S32x8192x128, .bf16⟩
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_cst : Ref sig .tc := ⟨.hbm, 17, rfl⟩
abbrev main_v15 : Ref sig .tc := ⟨.hbm, 18, rfl⟩
abbrev main_v16 : Ref sig .tc := ⟨.hbm, 19, rfl⟩
abbrev main_cst_0 : Ref sig .tc := ⟨.hbm, 20, rfl⟩
abbrev main_v17 : Ref sig .tc := ⟨.hbm, 21, rfl⟩
abbrev main_v18 : Ref sig .tc := ⟨.hbm, 22, rfl⟩
abbrev main_cst_1 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_cst_2 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_c : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_cst_3 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_cst_4 : Ref sig .tc := ⟨.hbm, 63, rfl⟩
abbrev main_v55 : Ref sig .tc := ⟨.hbm, 64, rfl⟩
abbrev main_v56 : Ref sig .tc := ⟨.hbm, 65, rfl⟩
abbrev main_cst_5 : Ref sig .tc := ⟨.hbm, 66, rfl⟩
abbrev main_v57 : Ref sig .tc := ⟨.hbm, 67, rfl⟩
abbrev main_v58 : Ref sig .tc := ⟨.hbm, 68, rfl⟩
abbrev main_cst_6 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_cst_7 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_c_8 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩
abbrev main_v69 : Ref sig .tc := ⟨.hbm, 82, rfl⟩
abbrev main_v70 : Ref sig .tc := ⟨.hbm, 83, rfl⟩
abbrev main_v71 : Ref sig .tc := ⟨.hbm, 84, rfl⟩
abbrev main_v72 : Ref sig .tc := ⟨.hbm, 85, rfl⟩
abbrev main_v73 : Ref sig .tc := ⟨.hbm, 86, rfl⟩
abbrev main_v74 : Ref sig .tc := ⟨.hbm, 87, rfl⟩
abbrev main_v75 : Ref sig .tc := ⟨.hbm, 88, rfl⟩
abbrev main_v76 : Ref sig .tc := ⟨.hbm, 89, rfl⟩
abbrev main_v77 : Ref sig .tc := ⟨.hbm, 90, rfl⟩
abbrev main_v78 : Ref sig .tc := ⟨.hbm, 91, rfl⟩
abbrev main_v79 : Ref sig .tc := ⟨.hbm, 92, rfl⟩
abbrev main_v80 : Ref sig .tc := ⟨.hbm, 93, rfl⟩
abbrev main_v81 : Ref sig .tc := ⟨.hbm, 94, rfl⟩
abbrev main_v82 : Ref sig .tc := ⟨.hbm, 95, rfl⟩
abbrev main_v83 : Ref sig .tc := ⟨.hbm, 96, rfl⟩
abbrev main_v84 : Ref sig .tc := ⟨.hbm, 97, rfl⟩
abbrev main_v85 : Ref sig .tc := ⟨.hbm, 98, rfl⟩
abbrev main_v86 : Ref sig .tc := ⟨.hbm, 99, rfl⟩
abbrev main_v87 : Ref sig .tc := ⟨.hbm, 100, rfl⟩
abbrev main_v88 : Ref sig .tc := ⟨.hbm, 101, rfl⟩
abbrev main_v89 : Ref sig .tc := ⟨.hbm, 102, rfl⟩
abbrev main_v90 : Ref sig .tc := ⟨.hbm, 103, rfl⟩
abbrev main_v91 : Ref sig .tc := ⟨.hbm, 104, rfl⟩
abbrev main_v92 : Ref sig .tc := ⟨.hbm, 105, rfl⟩
abbrev main_v93 : Ref sig .tc := ⟨.hbm, 106, rfl⟩
abbrev main_v94 : Ref sig .tc := ⟨.hbm, 107, rfl⟩

abbrev nD : Nat := 1
abbrev τ : Topo := Topo.v7x

variable {F : FTy → Type} [FloatOps F]
-- ==== KvUp.lean ====
abbrev S8192x512 : Shape := ⟨2, ![8192, 512]⟩
abbrev S8192x128 : Shape := ⟨2, ![8192, 128]⟩
abbrev S1x512x16x256 : Shape := ⟨4, ![1, 512, 16, 256]⟩
abbrev S512x16x256 : Shape := ⟨3, ![512, 16, 256]⟩
abbrev S512x16x128 : Shape := ⟨3, ![512, 16, 128]⟩
abbrev S512x2048 : Shape := ⟨2, ![512, 2048]⟩
abbrev S16x8192x256 : Shape := ⟨3, ![16, 8192, 256]⟩
abbrev S16x8192x128 : Shape := ⟨3, ![16, 8192, 128]⟩
abbrev S512x512 : Shape := ⟨2, ![512, 512]⟩
abbrev S512x128 : Shape := ⟨2, ![512, 128]⟩
abbrev S16x512x256 : Shape := ⟨3, ![16, 512, 256]⟩
abbrev S16x512x128 : Shape := ⟨3, ![16, 512, 128]⟩
abbrev S1x512x128 : Shape := ⟨3, ![1, 512, 128]⟩

abbrev nBuf : Space → Nat
  | .hbm => 13
  | .vmem => 10
  | .smem => 0
  | _ => 0

abbrev bufTy : (tb : Table) → Fin (tcTables nBuf tb) → BufTy
  | .hbm, ⟨0, _⟩ => ⟨S8192x512, .bf16⟩
  | .hbm, ⟨1, _⟩ => ⟨S8192x128, .bf16⟩
  | .hbm, ⟨2, _⟩ => ⟨S1x512x16x256, .f32⟩
  | .hbm, ⟨3, _⟩ => ⟨S512x16x256, .f32⟩
  | .hbm, ⟨4, _⟩ => ⟨S512x16x128, .f32⟩
  | .hbm, ⟨5, _⟩ => ⟨S512x2048, .f32⟩
  | .hbm, ⟨6, _⟩ => ⟨S512x2048, .bf16⟩
  | .hbm, ⟨7, _⟩ => ⟨S512x16x256, .f32⟩
  | .hbm, ⟨8, _⟩ => ⟨S512x16x128, .f32⟩
  | .hbm, ⟨9, _⟩ => ⟨S512x2048, .f32⟩
  | .hbm, ⟨10, _⟩ => ⟨S512x2048, .bf16⟩
  | .hbm, ⟨11, _⟩ => ⟨S16x8192x256, .bf16⟩
  | .hbm, ⟨12, _⟩ => ⟨S16x8192x128, .bf16⟩
  | .local _ .vmem, ⟨0, _⟩ => ⟨S512x512, .bf16⟩
  | .local _ .vmem, ⟨1, _⟩ => ⟨S512x512, .bf16⟩
  | .local _ .vmem, ⟨2, _⟩ => ⟨S512x128, .bf16⟩
  | .local _ .vmem, ⟨3, _⟩ => ⟨S512x128, .bf16⟩
  | .local _ .vmem, ⟨4, _⟩ => ⟨S512x2048, .bf16⟩
  | .local _ .vmem, ⟨5, _⟩ => ⟨S512x2048, .bf16⟩
  | .local _ .vmem, ⟨6, _⟩ => ⟨S16x512x256, .bf16⟩
  | .local _ .vmem, ⟨7, _⟩ => ⟨S16x512x256, .bf16⟩
  | .local _ .vmem, ⟨8, _⟩ => ⟨S16x512x128, .bf16⟩
  | .local _ .vmem, ⟨9, _⟩ => ⟨S16x512x128, .bf16⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8_0 : Ref sig .tc := ⟨.hbm, 11, rfl⟩
abbrev main_v8_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S16x512x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S16x512x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== KvUpReferenceIdeal.lean ====
abbrev S8192x512 : Shape := ⟨2, ![8192, 512]⟩
abbrev S8192x128 : Shape := ⟨2, ![8192, 128]⟩
abbrev S1x512x16x256 : Shape := ⟨4, ![1, 512, 16, 256]⟩
abbrev S512x16x256 : Shape := ⟨3, ![512, 16, 256]⟩
abbrev S8192x16x256 : Shape := ⟨3, ![8192, 16, 256]⟩
abbrev S8192x1x128 : Shape := ⟨3, ![8192, 1, 128]⟩
abbrev S8192x16x128 : Shape := ⟨3, ![8192, 16, 128]⟩
abbrev S16x8192x256 : Shape := ⟨3, ![16, 8192, 256]⟩
abbrev S16x8192x128 : Shape := ⟨3, ![16, 8192, 128]⟩

abbrev nBuf : Space → Nat
  | .hbm => 16
  | .vmem => 0
  | .smem => 0
  | _ => 0

abbrev bufTy : (tb : Table) → Fin (tcTables nBuf tb) → BufTy
  | .hbm, ⟨0, _⟩ => ⟨S8192x512, .bf16⟩
  | .hbm, ⟨1, _⟩ => ⟨S8192x128, .bf16⟩
  | .hbm, ⟨2, _⟩ => ⟨S1x512x16x256, .f32⟩
  | .hbm, ⟨3, _⟩ => ⟨S8192x512, .f32⟩
  | .hbm, ⟨4, _⟩ => ⟨S512x16x256, .f32⟩
  | .hbm, ⟨5, _⟩ => ⟨S8192x16x256, .f32⟩
  | .hbm, ⟨6, _⟩ => ⟨S8192x128, .f32⟩
  | .hbm, ⟨7, _⟩ => ⟨S8192x1x128, .f32⟩
  | .hbm, ⟨8, _⟩ => ⟨S8192x16x128, .f32⟩
  | .hbm, ⟨9, _⟩ => ⟨S8192x16x128, .f32⟩
  | .hbm, ⟨10, _⟩ => ⟨S8192x16x256, .f32⟩
  | .hbm, ⟨11, _⟩ => ⟨S8192x16x128, .f32⟩
  | .hbm, ⟨12, _⟩ => ⟨S16x8192x256, .f32⟩
  | .hbm, ⟨13, _⟩ => ⟨S16x8192x256, .bf16⟩
  | .hbm, ⟨14, _⟩ => ⟨S16x8192x128, .f32⟩
  | .hbm, ⟨15, _⟩ => ⟨S16x8192x128, .bf16⟩
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩

abbrev nD : Nat := 1
abbrev τ : Topo := Topo.v7x

variable {F : FTy → Type} [FloatOps F]
-- ==== Tail.lean ====
abbrev S2x4096x2048 : Shape := ⟨3, ![2, 4096, 2048]⟩
abbrev S1x2048x10448 : Shape := ⟨3, ![1, 2048, 10448]⟩
abbrev S2048x10448 : Shape := ⟨2, ![2048, 10448]⟩
abbrev S2048x64 : Shape := ⟨2, ![2048, 64]⟩
abbrev S2048x16 : Shape := ⟨2, ![2048, 16]⟩
abbrev S_ : Shape := ⟨0, ![]⟩
abbrev S2048x48 : Shape := ⟨2, ![2048, 48]⟩
abbrev S2048x128 : Shape := ⟨2, ![2048, 128]⟩
abbrev S128 : Shape := ⟨1, ![128]⟩
abbrev S1x128 : Shape := ⟨2, ![1, 128]⟩
abbrev S4096 : Shape := ⟨1, ![4096]⟩
abbrev S32 : Shape := ⟨1, ![32]⟩
abbrev S4096x1 : Shape := ⟨2, ![4096, 1]⟩
abbrev S1x32 : Shape := ⟨2, ![1, 32]⟩
abbrev S4096x32 : Shape := ⟨2, ![4096, 32]⟩
abbrev S4096x0 : Shape := ⟨2, ![4096, 0]⟩
abbrev S4096x64 : Shape := ⟨2, ![4096, 64]⟩
abbrev S1x4096x1x64 : Shape := ⟨4, ![1, 4096, 1, 64]⟩
abbrev S1x4096x2x64 : Shape := ⟨4, ![1, 4096, 2, 64]⟩
abbrev S4096x128 : Shape := ⟨2, ![4096, 128]⟩
abbrev S1x4096x1x128 : Shape := ⟨4, ![1, 4096, 1, 128]⟩
abbrev S2x4096x1x128 : Shape := ⟨4, ![2, 4096, 1, 128]⟩
abbrev S8192x128 : Shape := ⟨2, ![8192, 128]⟩
abbrev S8192x2048 : Shape := ⟨2, ![8192, 2048]⟩
abbrev S1024x2048 : Shape := ⟨2, ![1024, 2048]⟩
abbrev S1024x128 : Shape := ⟨2, ![1024, 128]⟩

abbrev nBuf : Space → Nat
  | .hbm => 107
  | .vmem => 11
  | .smem => 0
  | _ => 0

abbrev bufTy : (tb : Table) → Fin (tcTables nBuf tb) → BufTy
  | .hbm, ⟨0, _⟩ => ⟨S2x4096x2048, .f32⟩
  | .hbm, ⟨1, _⟩ => ⟨S1x2048x10448, .f32⟩
  | .hbm, ⟨2, _⟩ => ⟨S2048x10448, .f32⟩
  | .hbm, ⟨3, _⟩ => ⟨S2048x64, .f32⟩
  | .hbm, ⟨4, _⟩ => ⟨S2048x10448, .f32⟩
  | .hbm, ⟨5, _⟩ => ⟨S2048x16, .f32⟩
  | .hbm, ⟨6, _⟩ => ⟨S_, .f32⟩
  | .hbm, ⟨7, _⟩ => ⟨S2048x48, .f32⟩
  | .hbm, ⟨8, _⟩ => ⟨S2048x128, .f32⟩
  | .hbm, ⟨9, _⟩ => ⟨S2048x128, .bf16⟩
  | .hbm, ⟨10, _⟩ => ⟨S128, .i32⟩
  | .hbm, ⟨11, _⟩ => ⟨S1x128, .i32⟩
  | .hbm, ⟨12, _⟩ => ⟨S128, .i32⟩
  | .hbm, ⟨13, _⟩ => ⟨S1x128, .i32⟩
  | .hbm, ⟨14, _⟩ => ⟨S4096, .i32⟩
  | .hbm, ⟨15, _⟩ => ⟨S_, .i32⟩
  | .hbm, ⟨16, _⟩ => ⟨S4096, .i32⟩
  | .hbm, ⟨17, _⟩ => ⟨S4096, .i32⟩
  | .hbm, ⟨18, _⟩ => ⟨S32, .f32⟩
  | .hbm, ⟨19, _⟩ => ⟨S_, .f32⟩
  | .hbm, ⟨20, _⟩ => ⟨S32, .f32⟩
  | .hbm, ⟨21, _⟩ => ⟨S32, .f32⟩
  | .hbm, ⟨22, _⟩ => ⟨S_, .f32⟩
  | .hbm, ⟨23, _⟩ => ⟨S32, .f32⟩
  | .hbm, ⟨24, _⟩ => ⟨S32, .f32⟩
  | .hbm, ⟨25, _⟩ => ⟨S_, .f32⟩
  | .hbm, ⟨26, _⟩ => ⟨S32, .f32⟩
  | .hbm, ⟨27, _⟩ => ⟨S32, .f32⟩
  | .hbm, ⟨28, _⟩ => ⟨S32, .f32⟩
  | .hbm, ⟨29, _⟩ => ⟨S_, .f32⟩
  | .hbm, ⟨30, _⟩ => ⟨S32, .f32⟩
  | .hbm, ⟨31, _⟩ => ⟨S32, .f32⟩
  | .hbm, ⟨32, _⟩ => ⟨S4096, .f32⟩
  | .hbm, ⟨33, _⟩ => ⟨S4096x1, .f32⟩
  | .hbm, ⟨34, _⟩ => ⟨S1x32, .f32⟩
  | .hbm, ⟨35, _⟩ => ⟨S4096x32, .f32⟩
  | .hbm, ⟨36, _⟩ => ⟨S4096x32, .f32⟩
  | .hbm, ⟨37, _⟩ => ⟨S4096x32, .f32⟩
  | .hbm, ⟨38, _⟩ => ⟨S4096x32, .f32⟩
  | .hbm, ⟨39, _⟩ => ⟨S4096x32, .f32⟩
  | .hbm, ⟨40, _⟩ => ⟨S_, .f32⟩
  | .hbm, ⟨41, _⟩ => ⟨S4096x0, .f32⟩
  | .hbm, ⟨42, _⟩ => ⟨S_, .f32⟩
  | .hbm, ⟨43, _⟩ => ⟨S4096x32, .f32⟩
  | .hbm, ⟨44, _⟩ => ⟨S_, .f32⟩
  | .hbm, ⟨45, _⟩ => ⟨S4096x0, .f32⟩
  | .hbm, ⟨46, _⟩ => ⟨S4096x64, .f32⟩
  | .hbm, ⟨47, _⟩ => ⟨S4096x32, .f32⟩
  | .hbm, ⟨48, _⟩ => ⟨S4096x64, .f32⟩
  | .hbm, ⟨49, _⟩ => ⟨S4096x64, .f32⟩
  | .hbm, ⟨50, _⟩ => ⟨S1x4096x1x64, .f32⟩
  | .hbm, ⟨51, _⟩ => ⟨S1x4096x2x64, .f32⟩
  | .hbm, ⟨52, _⟩ => ⟨S4096x128, .f32⟩
  | .hbm, ⟨53, _⟩ => ⟨S1x4096x1x64, .f32⟩
  | .hbm, ⟨54, _⟩ => ⟨S1x4096x2x64, .f32⟩
  | .hbm, ⟨55, _⟩ => ⟨S4096x128, .f32⟩
  | .hbm, ⟨56, _⟩ => ⟨S1x4096x1x64, .f32⟩
  | .hbm, ⟨57, _⟩ => ⟨S1x4096x2x64, .f32⟩
  | .hbm, ⟨58, _⟩ => ⟨S4096x128, .f32⟩
  | .hbm, ⟨59, _⟩ => ⟨S_, .i32⟩
  | .hbm, ⟨60, _⟩ => ⟨S1x128, .i32⟩
  | .hbm, ⟨61, _⟩ => ⟨S1x128, .i1⟩
  | .hbm, ⟨62, _⟩ => ⟨S_, .f32⟩
  | .hbm, ⟨63, _⟩ => ⟨S_, .f32⟩
  | .hbm, ⟨64, _⟩ => ⟨S4096x128, .i1⟩
  | .hbm, ⟨65, _⟩ => ⟨S4096x128, .f32⟩
  | .hbm, ⟨66, _⟩ => ⟨S4096x128, .f32⟩
  | .hbm, ⟨67, _⟩ => ⟨S1x4096x1x128, .f32⟩
  | .hbm, ⟨68, _⟩ => ⟨S2x4096x1x128, .f32⟩
  | .hbm, ⟨69, _⟩ => ⟨S8192x128, .f32⟩
  | .hbm, ⟨70, _⟩ => ⟨S_, .i32⟩
  | .hbm, ⟨71, _⟩ => ⟨S1x128, .i32⟩
  | .hbm, ⟨72, _⟩ => ⟨S1x128, .i1⟩
  | .hbm, ⟨73, _⟩ => ⟨S_, .f32⟩
  | .hbm, ⟨74, _⟩ => ⟨S_, .f32⟩
  | .hbm, ⟨75, _⟩ => ⟨S4096x128, .i1⟩
  | .hbm, ⟨76, _⟩ => ⟨S4096x128, .f32⟩
  | .hbm, ⟨77, _⟩ => ⟨S4096x128, .f32⟩
  | .hbm, ⟨78, _⟩ => ⟨S1x4096x1x128, .f32⟩
  | .hbm, ⟨79, _⟩ => ⟨S2x4096x1x128, .f32⟩
  | .hbm, ⟨80, _⟩ => ⟨S8192x128, .f32⟩
  | .hbm, ⟨81, _⟩ => ⟨S_, .i32⟩
  | .hbm, ⟨82, _⟩ => ⟨S1x128, .i32⟩
  | .hbm, ⟨83, _⟩ => ⟨S1x128, .i1⟩
  | .hbm, ⟨84, _⟩ => ⟨S_, .f32⟩
  | .hbm, ⟨85, _⟩ => ⟨S_, .f32⟩
  | .hbm, ⟨86, _⟩ => ⟨S4096x128, .i1⟩
  | .hbm, ⟨87, _⟩ => ⟨S4096x128, .f32⟩
  | .hbm, ⟨88, _⟩ => ⟨S4096x128, .f32⟩
  | .hbm, ⟨89, _⟩ => ⟨S1x4096x1x128, .f32⟩
  | .hbm, ⟨90, _⟩ => ⟨S2x4096x1x128, .f32⟩
  | .hbm, ⟨91, _⟩ => ⟨S8192x128, .f32⟩
  | .hbm, ⟨92, _⟩ => ⟨S_, .i32⟩
  | .hbm, ⟨93, _⟩ => ⟨S1x128, .i32⟩
  | .hbm, ⟨94, _⟩ => ⟨S1x128, .i1⟩
  | .hbm, ⟨95, _⟩ => ⟨S_, .i32⟩
  | .hbm, ⟨96, _⟩ => ⟨S1x128, .i32⟩
  | .hbm, ⟨97, _⟩ => ⟨S1x128, .i1⟩
  | .hbm, ⟨98, _⟩ => ⟨S1x128, .i1⟩
  | .hbm, ⟨99, _⟩ => ⟨S_, .f32⟩
  | .hbm, ⟨100, _⟩ => ⟨S_, .f32⟩
  | .hbm, ⟨101, _⟩ => ⟨S8192x128, .i1⟩
  | .hbm, ⟨102, _⟩ => ⟨S8192x128, .f32⟩
  | .hbm, ⟨103, _⟩ => ⟨S8192x128, .f32⟩
  | .hbm, ⟨104, _⟩ => ⟨S8192x2048, .f32⟩
  | .hbm, ⟨105, _⟩ => ⟨S8192x2048, .bf16⟩
  | .hbm, ⟨106, _⟩ => ⟨S8192x128, .f32⟩
  | .local _ .vmem, ⟨0, _⟩ => ⟨S1024x2048, .bf16⟩
  | .local _ .vmem, ⟨1, _⟩ => ⟨S1024x2048, .bf16⟩
  | .local _ .vmem, ⟨2, _⟩ => ⟨S2048x128, .bf16⟩
  | .local _ .vmem, ⟨3, _⟩ => ⟨S1024x128, .f32⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | .local _ .vmem, ⟨7, _⟩ => ⟨S1024x128, .f32⟩
  | .local _ .vmem, ⟨8, _⟩ => ⟨S1024x128, .f32⟩
  | .local _ .vmem, ⟨9, _⟩ => ⟨S1024x128, .f32⟩
  | .local _ .vmem, ⟨10, _⟩ => ⟨S1024x128, .f32⟩
  | _, _ => ⟨S2x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_c : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_cst_0 : Ref sig .tc := ⟨.hbm, 19, rfl⟩
abbrev main_v15 : Ref sig .tc := ⟨.hbm, 20, rfl⟩
abbrev main_v16 : Ref sig .tc := ⟨.hbm, 21, rfl⟩
abbrev main_cst_1 : Ref sig .tc := ⟨.hbm, 22, rfl⟩
abbrev main_v17 : Ref sig .tc := ⟨.hbm, 23, rfl⟩
abbrev main_v18 : Ref sig .tc := ⟨.hbm, 24, rfl⟩
abbrev main_cst_2 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst_3 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_cst_4 : Ref sig .tc := ⟨.hbm, 40, rfl⟩
abbrev main_v32 : Ref sig .tc := ⟨.hbm, 41, rfl⟩
abbrev main_cst_5 : Ref sig .tc := ⟨.hbm, 42, rfl⟩
abbrev main_v33 : Ref sig .tc := ⟨.hbm, 43, rfl⟩
abbrev main_cst_6 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_c_7 : Ref sig .tc := ⟨.hbm, 59, rfl⟩
abbrev main_v48 : Ref sig .tc := ⟨.hbm, 60, rfl⟩
abbrev main_v49 : Ref sig .tc := ⟨.hbm, 61, rfl⟩
abbrev main_cst_8 : Ref sig .tc := ⟨.hbm, 62, rfl⟩
abbrev main_call0_v0 : Ref sig .tc := ⟨.hbm, 63, rfl⟩
abbrev main_call0_v1 : Ref sig .tc := ⟨.hbm, 64, rfl⟩
abbrev main_call0_v2 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_c_9 : Ref sig .tc := ⟨.hbm, 70, rfl⟩
abbrev main_v54 : Ref sig .tc := ⟨.hbm, 71, rfl⟩
abbrev main_v55 : Ref sig .tc := ⟨.hbm, 72, rfl⟩
abbrev main_cst_10 : Ref sig .tc := ⟨.hbm, 73, rfl⟩
abbrev main_call1_v0 : Ref sig .tc := ⟨.hbm, 74, rfl⟩
abbrev main_call1_v1 : Ref sig .tc := ⟨.hbm, 75, rfl⟩
abbrev main_call1_v2 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_c_11 : Ref sig .tc := ⟨.hbm, 81, rfl⟩
abbrev main_v60 : Ref sig .tc := ⟨.hbm, 82, rfl⟩
abbrev main_v61 : Ref sig .tc := ⟨.hbm, 83, rfl⟩
abbrev main_cst_12 : Ref sig .tc := ⟨.hbm, 84, rfl⟩
abbrev main_call2_v0 : Ref sig .tc := ⟨.hbm, 85, rfl⟩
abbrev main_call2_v1 : Ref sig .tc := ⟨.hbm, 86, rfl⟩
abbrev main_call2_v2 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_c_13 : Ref sig .tc := ⟨.hbm, 92, rfl⟩
abbrev main_v66 : Ref sig .tc := ⟨.hbm, 93, rfl⟩
abbrev main_v67 : Ref sig .tc := ⟨.hbm, 94, rfl⟩
abbrev main_c_14 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_cst_15 : Ref sig .tc := ⟨.hbm, 99, rfl⟩
abbrev main_call3_v0 : Ref sig .tc := ⟨.hbm, 100, rfl⟩
abbrev main_call3_v1 : Ref sig .tc := ⟨.hbm, 101, rfl⟩
abbrev main_call3_v2 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2048x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== TailReferenceIdeal.lean ====
abbrev S2x4096x2048 : Shape := ⟨3, ![2, 4096, 2048]⟩
abbrev S1x2048x10448 : Shape := ⟨3, ![1, 2048, 10448]⟩
abbrev S2048x10448 : Shape := ⟨2, ![2048, 10448]⟩
abbrev S2x4096x10448 : Shape := ⟨3, ![2, 4096, 10448]⟩
abbrev S2x4096x512 : Shape := ⟨3, ![2, 4096, 512]⟩
abbrev S2x4096x64 : Shape := ⟨3, ![2, 4096, 64]⟩
abbrev S2x4096x128 : Shape := ⟨3, ![2, 4096, 128]⟩
abbrev S2x4096x16 : Shape := ⟨3, ![2, 4096, 16]⟩
abbrev S2x4096x1x64 : Shape := ⟨4, ![2, 4096, 1, 64]⟩
abbrev S32 : Shape := ⟨1, ![32]⟩
abbrev S_ : Shape := ⟨0, ![]⟩
abbrev S4096 : Shape := ⟨1, ![4096]⟩
abbrev S4096x1 : Shape := ⟨2, ![4096, 1]⟩
abbrev S1x32 : Shape := ⟨2, ![1, 32]⟩
abbrev S4096x32 : Shape := ⟨2, ![4096, 32]⟩
abbrev S1x4096x1x32 : Shape := ⟨4, ![1, 4096, 1, 32]⟩
abbrev S2x4096x1x32 : Shape := ⟨4, ![2, 4096, 1, 32]⟩
abbrev S2x4096x1x0 : Shape := ⟨4, ![2, 4096, 1, 0]⟩
abbrev S2x4096x48 : Shape := ⟨3, ![2, 4096, 48]⟩
abbrev S8192x128 : Shape := ⟨2, ![8192, 128]⟩

abbrev nBuf : Space → Nat
  | .hbm => 66
  | .vmem => 0
  | .smem => 0
  | _ => 0

abbrev bufTy : (tb : Table) → Fin (tcTables nBuf tb) → BufTy
  | .hbm, ⟨0, _⟩ => ⟨S2x4096x2048, .f32⟩
  | .hbm, ⟨1, _⟩ => ⟨S1x2048x10448, .f32⟩
  | .hbm, ⟨2, _⟩ => ⟨S2048x10448, .f32⟩
  | .hbm, ⟨3, _⟩ => ⟨S2x4096x10448, .f32⟩
  | .hbm, ⟨4, _⟩ => ⟨S2x4096x512, .f32⟩
  | .hbm, ⟨5, _⟩ => ⟨S2x4096x512, .f32⟩
  | .hbm, ⟨6, _⟩ => ⟨S2x4096x64, .f32⟩
  | .hbm, ⟨7, _⟩ => ⟨S2x4096x2048, .f32⟩
  | .hbm, ⟨8, _⟩ => ⟨S2x4096x512, .f32⟩
  | .hbm, ⟨9, _⟩ => ⟨S2x4096x512, .f32⟩
  | .hbm, ⟨10, _⟩ => ⟨S2x4096x2048, .f32⟩
  | .hbm, ⟨11, _⟩ => ⟨S2x4096x128, .f32⟩
  | .hbm, ⟨12, _⟩ => ⟨S2x4096x16, .f32⟩
  | .hbm, ⟨13, _⟩ => ⟨S2x4096x2048, .f32⟩
  | .hbm, ⟨14, _⟩ => ⟨S2x4096x2048, .f32⟩
  | .hbm, ⟨15, _⟩ => ⟨S2x4096x1x64, .f32⟩
  | .hbm, ⟨16, _⟩ => ⟨S32, .f32⟩
  | .hbm, ⟨17, _⟩ => ⟨S_, .f32⟩
  | .hbm, ⟨18, _⟩ => ⟨S32, .f32⟩
  | .hbm, ⟨19, _⟩ => ⟨S32, .f32⟩
  | .hbm, ⟨20, _⟩ => ⟨S_, .f32⟩
  | .hbm, ⟨21, _⟩ => ⟨S32, .f32⟩
  | .hbm, ⟨22, _⟩ => ⟨S32, .f32⟩
  | .hbm, ⟨23, _⟩ => ⟨S_, .f32⟩
  | .hbm, ⟨24, _⟩ => ⟨S32, .f32⟩
  | .hbm, ⟨25, _⟩ => ⟨S32, .f32⟩
  | .hbm, ⟨26, _⟩ => ⟨S32, .f32⟩
  | .hbm, ⟨27, _⟩ => ⟨S_, .f32⟩
  | .hbm, ⟨28, _⟩ => ⟨S32, .f32⟩
  | .hbm, ⟨29, _⟩ => ⟨S32, .f32⟩
  | .hbm, ⟨30, _⟩ => ⟨S4096, .i32⟩
  | .hbm, ⟨31, _⟩ => ⟨S_, .i32⟩
  | .hbm, ⟨32, _⟩ => ⟨S4096, .i32⟩
  | .hbm, ⟨33, _⟩ => ⟨S4096, .i32⟩
  | .hbm, ⟨34, _⟩ => ⟨S4096, .f32⟩
  | .hbm, ⟨35, _⟩ => ⟨S4096x1, .f32⟩
  | .hbm, ⟨36, _⟩ => ⟨S1x32, .f32⟩
  | .hbm, ⟨37, _⟩ => ⟨S4096x32, .f32⟩
  | .hbm, ⟨38, _⟩ => ⟨S4096x32, .f32⟩
  | .hbm, ⟨39, _⟩ => ⟨S4096x32, .f32⟩
  | .hbm, ⟨40, _⟩ => ⟨S4096x32, .f32⟩
  | .hbm, ⟨41, _⟩ => ⟨S1x4096x1x32, .f32⟩
  | .hbm, ⟨42, _⟩ => ⟨S4096x32, .f32⟩
  | .hbm, ⟨43, _⟩ => ⟨S1x4096x1x32, .f32⟩
  | .hbm, ⟨44, _⟩ => ⟨S2x4096x1x32, .f32⟩
  | .hbm, ⟨45, _⟩ => ⟨S2x4096x1x32, .f32⟩
  | .hbm, ⟨46, _⟩ => ⟨S2x4096x1x32, .f32⟩
  | .hbm, ⟨47, _⟩ => ⟨S2x4096x1x32, .f32⟩
  | .hbm, ⟨48, _⟩ => ⟨S2x4096x1x32, .f32⟩
  | .hbm, ⟨49, _⟩ => ⟨S2x4096x1x32, .f32⟩
  | .hbm, ⟨50, _⟩ => ⟨S2x4096x1x32, .f32⟩
  | .hbm, ⟨51, _⟩ => ⟨S2x4096x1x32, .f32⟩
  | .hbm, ⟨52, _⟩ => ⟨S2x4096x1x32, .f32⟩
  | .hbm, ⟨53, _⟩ => ⟨S2x4096x1x32, .f32⟩
  | .hbm, ⟨54, _⟩ => ⟨S2x4096x1x32, .f32⟩
  | .hbm, ⟨55, _⟩ => ⟨S2x4096x1x32, .f32⟩
  | .hbm, ⟨56, _⟩ => ⟨S2x4096x1x0, .f32⟩
  | .hbm, ⟨57, _⟩ => ⟨S2x4096x1x64, .f32⟩
  | .hbm, ⟨58, _⟩ => ⟨S2x4096x64, .f32⟩
  | .hbm, ⟨59, _⟩ => ⟨S_, .f32⟩
  | .hbm, ⟨60, _⟩ => ⟨S2x4096x16, .f32⟩
  | .hbm, ⟨61, _⟩ => ⟨S2x4096x16, .f32⟩
  | .hbm, ⟨62, _⟩ => ⟨S_, .f32⟩
  | .hbm, ⟨63, _⟩ => ⟨S2x4096x48, .f32⟩
  | .hbm, ⟨64, _⟩ => ⟨S2x4096x128, .f32⟩
  | .hbm, ⟨65, _⟩ => ⟨S8192x128, .f32⟩
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_cst : Ref sig .tc := ⟨.hbm, 17, rfl⟩
abbrev main_v15 : Ref sig .tc := ⟨.hbm, 18, rfl⟩
abbrev main_v16 : Ref sig .tc := ⟨.hbm, 19, rfl⟩
abbrev main_cst_0 : Ref sig .tc := ⟨.hbm, 20, rfl⟩
abbrev main_v17 : Ref sig .tc := ⟨.hbm, 21, rfl⟩
abbrev main_v18 : Ref sig .tc := ⟨.hbm, 22, rfl⟩
abbrev main_cst_1 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_cst_2 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_c : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_v51 : Ref sig .tc := ⟨.hbm, 58, rfl⟩
abbrev main_cst_3 : Ref sig .tc := ⟨.hbm, 59, rfl⟩
abbrev main_v52 : Ref sig .tc := ⟨.hbm, 60, rfl⟩
abbrev main_v53 : Ref sig .tc := ⟨.hbm, 61, rfl⟩
abbrev main_cst_4 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩

abbrev nD : Nat := 1
abbrev τ : Topo := Topo.v7x

variable {F : FTy → Type} [FloatOps F]
-- ==== Proof.Body.lean ====
/-
  The attention kernel's body at any values: from its operands, its result's block and its three scratch buffers it runs
  to its end, leaving the operands as they were. The counted loops are the generated ones; the conditionals (the
  remainder tiles) are split on their printed conditions.
-/
module

public import proofs.«01_k».proof.Proof.Gen.Kernel.Frame
public import proofs.«01_k».proof.Proof.Gen.Kernel.Loops

@[expose] public section

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A tile of 512 rows is never left over: the counts of tiles are even. -/
theorem cond2_ne (i : grid0.Coords) : ¬ k0_cond2 i = 1#1 := (by decide +kernel : ∀ i : grid0.Coords, ¬ k0_cond2 i = 1#1) i
theorem cond4_ne (i : grid0.Coords) : ¬ k0_cond4 i = 1#1 := (by decide +kernel : ∀ i : grid0.Coords, ¬ k0_cond4 i = 1#1) i

/-- The body runs from its buffers held whole to its end, the three operands as they were. -/
theorem sound_kernel (c : Dev nD) (E : Set ℕ) (i : grid0.Coords)
    (arg3 : Memref sig .tc .vmem S1x1x1024x256 .bf16) (harg3 : arg3.IsWhole) (arg4 : Memref sig .tc .vmem S1x1x4096x256 .bf16) (harg4 : arg4.IsWhole)
    (arg5 : Memref sig .tc .vmem S1x1x4096x128 .bf16) (harg5 : arg5.IsWhole) (arg6 : Memref sig .tc .vmem S1x1024x128 .bf16) (harg6 : arg6.IsWhole)
    (arg7 : Memref sig .tc .vmem S1024x4096 .f32) (harg7 : arg7.IsWhole) (arg8 : Memref sig .tc .vmem S1024x128 .f32) (harg8 : arg8.IsWhole)
    (arg9 : Memref sig .tc .vmem S1024x256 .f32) (harg9 : arg9.IsWhole)
    (x0 : Vec F S1x1x1024x256 .bf16) (x1 : Vec F S1x1x4096x256 .bf16) (x2 : Vec F S1x1x4096x128 .bf16) (K : PUnit → sProp 𝕄) :
    iprop(owns (c : Thread nD τ) arg3 fullShare x0 ∗ owns (c : Thread nD τ) arg4 fullShare x1 ∗ owns (c : Thread nD τ) arg5 fullShare x2
        ∗ (∃ d, owns (c : Thread nD τ) arg6 fullShare d) ∗ (∃ d, owns (c : Thread nD τ) arg7 fullShare d)
        ∗ (∃ d, owns (c : Thread nD τ) arg8 fullShare d) ∗ (∃ d, owns (c : Thread nD τ) arg9 fullShare d)
        ∗ (iprop(owns (c : Thread nD τ) arg3 fullShare x0 ∗ owns (c : Thread nD τ) arg4 fullShare x1 ∗ owns (c : Thread nD τ) arg5 fullShare x2
            ∗ (∃ d, owns (c : Thread nD τ) arg6 fullShare d) ∗ (∃ d, owns (c : Thread nD τ) arg7 fullShare d)
            ∗ (∃ d, owns (c : Thread nD τ) arg8 fullShare d) ∗ (∃ d, owns (c : Thread nD τ) arg9 fullShare d)) -∗ K ⟨⟩))
      ⊢ wp frame (wpE (defs₀ (F := F)) Variants.none c none) E
          (cc0_mla_attn_p0 i arg3 harg3 arg4 harg4 arg5 harg5 arg6 harg6 arg7 harg7 arg8 harg8 arg9 harg9) K := by
  have hc2 := cond2_ne i
  have hc4 := cond4_ne i
  by_cases hc1 : k0_cond1 i = 1#1 <;> by_cases hc3 : k0_cond3 i = 1#1
  all_goals
    simp only [cc0_mla_attn_p0_eq_skeleton]; unfold cc0_mla_attn_p0_skel
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%d6, %f6, -, H6⟩, Hk⟩
    subst hf0 hf1 hf2
    sl_exec (disch := first | exact hc1 | exact hc2 | exact hc3 | exact hc4)
    sl_step
    iapply Hk
    isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [H3]
    · iexists _; iexists _; isplitr; swap; · iexact H3
      ipureintro; rfl
    isplitl [H4]
    · iexists _; iexists _; isplitr; swap; · iexact H4
      ipureintro; rfl
    isplitl [H5]
    · iexists _; iexists _; isplitr; swap; · iexact H5
      ipureintro; rfl
    iexists _; iexists _; isplitr; swap; · iexact H6
    ipureintro; rfl

end Cert.Kernel.Body

end
-- ==== Proof.KFrame.lean ====
/-
  The attention kernel at any values runs to its end and leaves its operands as they were.
-/
module

public import proofs.«01_k».proof.Proof.Body
public import Idealize.ShloMosaic.Lib.Claim

@[expose] public section

noncomputable section

namespace Cert.Kernel.Whole

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the pipeline holds: the arrays as the region finds them; after the body the operands' blocks as they were; the scratch at anything. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => (fun _ => Classical.arbitrary _)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare d))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ (∃ d, owns (c : Thread nD τ) (st0_3 t) fullShare d))

/-- The scratch, buffer by buffer, and the generator's register. -/
theorem scratch_eq (c : Dev nD) : (Pipeline.ΦA spec0 c : sProp 𝕄) = iprop(((∃ d, owns (c : Thread nD τ) (Memref.whole cc0_scratch0) fullShare d)
    ∗ (∃ d, owns (c : Thread nD τ) (Memref.whole cc0_scratch1) fullShare d) ∗ (∃ d, owns (c : Thread nD τ) (Memref.whole cc0_scratch2) fullShare d)) ∗ ∃ r, prngReg c r) := by
  unfold Pipeline.ΦA
  rw [scopedRest0_eq]
  simp only [owns_whole]

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl,
    after0_0, after0_1, after0_2, scratch_eq]
  iintro ⟨⟨⟨S0, S1, S2⟩, Hr⟩, Ho, ⟨%d0, H0⟩, ⟨%d1, H1⟩, ⟨%d2, H2⟩, ⟨%d3, H3⟩⟩
  iapply (Body.sound_kernel c Set.univ (grid0.coords t) _ _ _ _ _ _ _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  isplitl [S0]; · iexact S0
  isplitl [S1]; · iexact S1
  isplitl [S2]; · iexact S2
  iintro ⟨H0, H1, H2, H3, S0, S1, S2⟩
  isplitl [S0 S1 S2 Hr]
  · isplitl [S0 S1 S2]
    · isplitl [S0]; · iexact S0
      isplitl [S1]; · iexact S1
      iexact S2
    iexact Hr
  isplitl [Ho]; · iexact Ho
  isplitl [H0]; · iexact H0
  isplitl [H1]; · iexact H1
  isplitl [H2]; · iexact H2
  iexact H3

theorem defs₀_row (t : Fin cfg0.N) :
    defs₀ (F := F) .tc cfg0.body (cfg0.bodyArgs t (cfg0.slots t)) = bodyAt0 t := by
  unfold defs₀; rw [Defs.onTc_tc]

/-- The result's window is not followed. -/
def unread : Fin cfg0.W → Bool := fun w => decide (w = 3)

theorem body_obligation (c : Dev nD) : BodyObligation (dats (F := F) m 0 c) (defs₀ (F := F)) Variants.none () Set.univ unread := fun t => by
  rw [bigSep_W0, bigSep_W0, defs₀_row]
  exact triple_restated (sound_body m c t) rfl .rfl fun _ => .rfl

set_option backward.isDefEq.respectTransparency.types false in
theorem run_main_quiescent : θ_run defs (onTc (τ := τ) (main (F := F))) (s₀ m ρ)
    (fun r => Pipeline.RDat.FramePost cfg0 (fun c => (dats m 0 c).toRForget unread) (V m) r ∧ r.2.sem = fun _ => 0) :=
  Pipeline.θ_run_frame_forget (Q' := _) cfgs (dats m) (0 : Fin 1) launch0 defs₀ Variants.none unread m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The kernel ends, its operands as they were. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c =>
    ⟨(h.1.arr_in c 0 rfl).trans ((A_eq m c 0).trans (V_main_arg0 m c)),
      (h.1.arr_in c 1 rfl).trans ((A_eq m c 1).trans (V_main_arg1 m c)),
      (h.1.arr_in c 2 rfl).trans ((A_eq m c 2).trans (V_main_arg2 m c))⟩, h.2⟩) (run_main_quiescent m ρ)

end Cert.Kernel.Whole

end
-- ==== Proof.Tiles.lean ====
/-
  The tiles of the attention kernel read at an index, over the reals: a tile of scores is the products of the queries with
  the tile's keys (beyond a row's limit `-∞`), the running maximum after a tile is bounded by what bounds it before and the
  tile's scores, and the accumulator after a tile is the one before plus the tile's weighted values (column 128 the sum of
  the tile's weights).
-/
module

public import proofs.«01_k».proof.Proof.Gen.KernelIdeal.Skeleton
public import Idealize.ShloMosaic.Lib.Pointwise
public import Idealize.ShloMosaic.Lib.WordCmp
public import Idealize.ShloMosaic.Lib.Pipeline.Value

@[expose] public section

set_option maxRecDepth 16384

noncomputable section

namespace Cert.KernelIdeal.Tiles

open Cert.KernelIdeal Cert.KernelIdeal.Gen
open Idealize.ShloMosaic Idealize.ShloMosaic.TcCoe Idealize.SL.Sem

/-- The named mask is `-∞`. -/
theorem mask_eq : (Named.named κ "mask" 0xF149F2CA#32 : Ideal .f32) = ⊥ := IdealRules.named_const.ideal_named_scalar _ _ _ _ rfl

/-! ## Words -/

/-- The number of keys a query's row sees: up to the end of its own block of 64. -/
theorem limit_word : ∀ (b : Fin 4) (r : Fin 1024),
    IntOp.minsi (IntOp.shli .vector (IntOp.addi (IntOp.shrsi .vector (IntOp.addi (BitVec.ofNat 32 (1024 * b.val)) (BitVec.ofNat 32 r.val)) 6#32) 1#32) 6#32) 4096#32
      = BitVec.ofNat 32 (64 * ((1024 * b.val + r.val) / 64 + 1)) := by decide +kernel

theorem start_word : ∀ (b : Fin 4) (t : Fin 2),
    Scalar.muli (Scalar.addi (BitVec.ofNat 32 (2 * b.val)) (Scalar.muli (Scf.iv 0#32 1#32 t.val) 1#32)) 512#32
      = BitVec.ofNat 32 (1024 * b.val + 512 * t.val) := by decide +kernel

/-- A column against the limit less the tile's start, signed. -/
theorem slt_sub (c x y : ℕ) (hc : c < 10000) (hx : x < 10000) (hy : y < 10000) :
    IntOp.cmpi .slt (BitVec.ofNat 32 c) (IntOp.subi (BitVec.ofNat 32 x) (BitVec.ofNat 32 y)) = BitVec.ofBool (decide (y + c < x)) := by
  have e : ∀ n : ℕ, n < 10000 → (BitVec.ofNat 32 n).toInt = (n : ℤ) := fun n hn => WordCmp.toInt_ofNat_of_lt (by omega)
  show BitVec.ofBool ((BitVec.ofNat 32 c).slt (BitVec.ofNat 32 x - BitVec.ofNat 32 y)) = _
  rw [BitVec.slt, BitVec.toInt_sub, e c hc, e x hx, e y hy, Int.bmod_eq_of_le (by omega) (by omega)]
  congr 1
  exact decide_eq_decide.mpr ⟨fun h => by omega, fun h => by omega⟩

/-- The bit of the accumulator's column of ones. -/
theorem ones_bit (d : ℕ) (hd : 128 ≤ d) (hd' : d < 256) :
    (FloatOps.sitofp .f32 (BitVec.setWidth 32 (IntOp.cmpi CmpIPredicate.eq (BitVec.ofNat 32 (d - 128)) 0#32)) : Ideal .f32)
      = if d = 128 then 1 else 0 := by
  rw [show IntOp.cmpi CmpIPredicate.eq (BitVec.ofNat 32 (d - 128)) 0#32 = BitVec.ofBool (decide (d - 128 = 0)) from
    WordCmp.cmpi_eq_ofNat (by omega) (by omega)]
  by_cases h : d = 128
  · subst h; rw [if_pos rfl]
    exact (congrArg (fun z : ℤ => ((z : ℝ) : EReal)) (by decide : (BitVec.setWidth 32 (BitVec.ofBool (decide (128 - 128 = 0)))).toInt = 1)).trans (by norm_num)
  · rw [if_neg h, decide_eq_false (by omega)]
    exact (congrArg (fun z : ℤ => ((z : ℝ) : EReal)) (by decide : (BitVec.setWidth 32 (BitVec.ofBool false)).toInt = 0)).trans (by norm_num)

/-! ## The first pass: scores and the running maximum -/

theorem pay52_at (q : Vec Ideal S1x1x1024x256 .bf16) (r : Fin 1024) (d : Fin 256) :
    k0_pay52 (F := Ideal) q (ix2 r d) = q (ix4 0 0 r d) := by
  pointwise [k0_pay52]

theorem pay7_at (q : FVec Ideal S1024x256 .bf16) (k : Vec Ideal S1x1x2048x256 .bf16) (r : Fin 1024) (c : Fin 2048) :
    k0_pay7 (F := Ideal) q k (ix2 r c) = ∑ d : Fin 256, q (ix2 r d) * k (ix4 0 0 c d) := by
  pointwise [k0_pay7]

theorem pay8_at (q : FVec Ideal S1024x256 .bf16) (k : Vec Ideal S1x1x2048x256 .bf16) (r : Fin 1024) (c : Fin 2048) :
    k0_pay8 (F := Ideal) q k (ix2 r c) = k0_pay7 (F := Ideal) q k (ix2 r c) := by
  pointwise [k0_pay8]

theorem max2048_le (q : FVec Ideal S1024x256 .bf16) (k : Vec Ideal S1x1x2048x256 .bf16) (mx : Vec Ideal S1024x128 .f32)
    (r : Fin 1024) (l : Fin 128) (y : EReal) :
    k0_pay54 (F := Ideal) (k0_pay9 (F := Ideal) q k mx) (ix2 r l) ≤ y ↔
      mx (ix2 r l) ≤ y ∧ ∀ c : Fin 2048, c.val % 128 = l.val → k0_pay7 (F := Ideal) q k (ix2 r c) ≤ y := by
  pointwise [k0_pay54, k0_pay9]
  generalize k0_pay7 (F := Ideal) q k = S
  simp only [max_le_iff]
  constructor
  · rintro ⟨⟨⟨⟨⟨⟨⟨⟨⟨⟨⟨⟨⟨⟨⟨⟨hm, h0⟩, h1⟩, h2⟩, h3⟩, h4⟩, h5⟩, h6⟩, h7⟩, h8⟩, h9⟩, h10⟩, h11⟩, h12⟩, h13⟩, h14⟩, h15⟩
    refine ⟨hm, fun c hc => ?_⟩
    obtain ⟨c, hlt⟩ := c
    have hl := l.isLt
    have hd : c = l.val ∨ c = 128 + l.val ∨ c = 256 + l.val ∨ c = 384 + l.val ∨ c = 512 + l.val ∨ c = 640 + l.val ∨ c = 768 + l.val ∨ c = 896 + l.val ∨ c = 1024 + l.val ∨ c = 1152 + l.val ∨ c = 1280 + l.val ∨ c = 1408 + l.val ∨ c = 1536 + l.val ∨ c = 1664 + l.val ∨ c = 1792 + l.val ∨ c = 1920 + l.val := by simp only at hc; omega
    rcases hd with rfl|rfl|rfl|rfl|rfl|rfl|rfl|rfl|rfl|rfl|rfl|rfl|rfl|rfl|rfl|rfl <;> assumption
  · rintro ⟨hm, h⟩
    have hl := l.isLt
    refine ⟨⟨⟨⟨⟨⟨⟨⟨⟨⟨⟨⟨⟨⟨⟨⟨hm, h _ ?_⟩, h _ ?_⟩, h _ ?_⟩, h _ ?_⟩, h _ ?_⟩, h _ ?_⟩, h _ ?_⟩, h _ ?_⟩, h _ ?_⟩, h _ ?_⟩, h _ ?_⟩, h _ ?_⟩, h _ ?_⟩, h _ ?_⟩, h _ ?_⟩, h _ ?_⟩ <;> simp only <;> omega

theorem pay56_at (q : FVec Ideal S1024x256 .bf16) (k : Vec Ideal S1x1x1024x256 .bf16) (r : Fin 1024) (c : Fin 1024) :
    k0_pay56 (F := Ideal) q k (ix2 r c) = ∑ d : Fin 256, q (ix2 r d) * k (ix4 0 0 c d) := by
  pointwise [k0_pay56]

theorem pay57_at (q : FVec Ideal S1024x256 .bf16) (k : Vec Ideal S1x1x1024x256 .bf16) (r : Fin 1024) (c : Fin 1024) :
    k0_pay57 (F := Ideal) q k (ix2 r c) = k0_pay56 (F := Ideal) q k (ix2 r c) := by
  pointwise [k0_pay57]

theorem max1024_le (q : FVec Ideal S1024x256 .bf16) (k : Vec Ideal S1x1x1024x256 .bf16) (mx : Vec Ideal S1024x128 .f32)
    (r : Fin 1024) (l : Fin 128) (y : EReal) :
    k0_pay58 (F := Ideal) q k mx (ix2 r l) ≤ y ↔
      mx (ix2 r l) ≤ y ∧ ∀ c : Fin 1024, c.val % 128 = l.val → k0_pay56 (F := Ideal) q k (ix2 r c) ≤ y := by
  pointwise [k0_pay58]
  generalize k0_pay56 (F := Ideal) q k = S
  simp only [max_le_iff]
  constructor
  · rintro ⟨⟨⟨⟨⟨⟨⟨⟨hm, h0⟩, h1⟩, h2⟩, h3⟩, h4⟩, h5⟩, h6⟩, h7⟩
    refine ⟨hm, fun c hc => ?_⟩
    obtain ⟨c, hlt⟩ := c
    have hl := l.isLt
    have hd : c = l.val ∨ c = 128 + l.val ∨ c = 256 + l.val ∨ c = 384 + l.val ∨ c = 512 + l.val ∨ c = 640 + l.val ∨ c = 768 + l.val ∨ c = 896 + l.val := by simp only at hc; omega
    rcases hd with rfl|rfl|rfl|rfl|rfl|rfl|rfl|rfl <;> assumption
  · rintro ⟨hm, h⟩
    have hl := l.isLt
    refine ⟨⟨⟨⟨⟨⟨⟨⟨hm, h _ ?_⟩, h _ ?_⟩, h _ ?_⟩, h _ ?_⟩, h _ ?_⟩, h _ ?_⟩, h _ ?_⟩, h _ ?_⟩ <;> simp only <;> omega

/-- A masked tile of 512 keys, at the query block `b`. -/
theorem pay13_at (i : grid0.Coords) (v1 v24 : BitVec 32) (t : Fin (k0_t3_loop i).trips) (q : FVec Ideal S1024x256 .bf16) (k : Vec Ideal S1x1x512x256 .bf16)
    (b : Fin 4) (hv1 : v1 = BitVec.ofNat 32 (1024 * b.val)) (hv24 : v24 = BitVec.ofNat 32 (2 * b.val)) (ht : t.val < 2)
    (r : Fin 1024) (c : Fin 512) :
    k0_pay13 (F := Ideal) i v1 q v24 0#32 1#32 t k (ix2 r c)
      = if (1024 * b.val + 512 * t.val + c.val) / 64 ≤ (1024 * b.val + r.val) / 64 then ∑ d : Fin 256, q (ix2 r d) * k (ix4 0 0 c d) else ⊥ := by
  pointwise [k0_pay13]
  have hb := b.isLt
  have hr := r.isLt
  have hc := c.isLt
  rw [hv1, hv24, limit_word b r, start_word b ⟨t.val, ht⟩, slt_sub _ _ _ (by omega) (by omega) (by simp only; omega), WordCmp.select_ofBool, mask_eq]
  simp only [decide_eq_true_eq]
  split_ifs with h1 h2 h2
  · rfl
  · exact absurd h1 (by omega)
  · exact absurd h2 (by omega)
  · rfl

theorem pay14_at (i : grid0.Coords) (v1 v24 : BitVec 32) (t : Fin (k0_t3_loop i).trips) (q : FVec Ideal S1024x256 .bf16) (k : Vec Ideal S1x1x512x256 .bf16) (r : Fin 1024) (c : Fin 512) :
    k0_pay14 (F := Ideal) i v1 q v24 0#32 1#32 t k (ix2 r c) = k0_pay13 (F := Ideal) i v1 q v24 0#32 1#32 t k (ix2 r c) := by
  pointwise [k0_pay14]

theorem max512_le (i : grid0.Coords) (v1 v24 : BitVec 32) (t : Fin (k0_t3_loop i).trips) (q : FVec Ideal S1024x256 .bf16) (k : Vec Ideal S1x1x512x256 .bf16) (mx : Vec Ideal S1024x128 .f32)
    (r : Fin 1024) (l : Fin 128) (y : EReal) :
    k0_pay15 (F := Ideal) i v1 q v24 0#32 1#32 t k mx (ix2 r l) ≤ y ↔
      mx (ix2 r l) ≤ y ∧ ∀ c : Fin 512, c.val % 128 = l.val → k0_pay13 (F := Ideal) i v1 q v24 0#32 1#32 t k (ix2 r c) ≤ y := by
  pointwise [k0_pay15]
  generalize k0_pay13 (F := Ideal) i v1 q v24 0#32 1#32 t k = S
  simp only [max_le_iff]
  constructor
  · rintro ⟨⟨⟨⟨hm, h0⟩, h1⟩, h2⟩, h3⟩
    refine ⟨hm, fun c hc => ?_⟩
    obtain ⟨c, hlt⟩ := c
    have hl := l.isLt
    have hd : c = l.val ∨ c = 128 + l.val ∨ c = 256 + l.val ∨ c = 384 + l.val := by simp only at hc; omega
    rcases hd with rfl|rfl|rfl|rfl <;> assumption
  · rintro ⟨hm, h⟩
    have hl := l.isLt
    refine ⟨⟨⟨⟨hm, h _ ?_⟩, h _ ?_⟩, h _ ?_⟩, h _ ?_⟩ <;> simp only <;> omega

theorem pay53_at (r : Fin 1024) (l : Fin 128) : k0_pay53 (F := Ideal) (ix2 r l) = ⊥ := by
  pointwise [k0_pay53]
  exact mask_eq

theorem ofBits_neg_inf : Ideal.ofBits .f32 0xFF800000#32 = ⊥ := by
  simp [Ideal.ofBits, Ideal.ieee]

theorem pay62_le (mx : Vec Ideal S1024x128 .f32) (r : Fin 1024) (l : Fin 128) (y : EReal) :
    k0_pay62 (F := Ideal) mx (ix2 r l) ≤ y ↔ ∀ l' : Fin 128, mx (ix2 r l') ≤ y := by
  pointwise [k0_pay62]
  rw [Finset.fold_max_le, ofBits_neg_inf]
  exact ⟨fun h l' => h.2 l' (Finset.mem_univ _), fun h => ⟨bot_le, fun x _ => h x⟩⟩

/-! ## The second pass: weights and the accumulator -/

theorem pay63_at (r : Fin 1024) (d : Fin 256) : k0_pay63 (F := Ideal) (ix2 r d) = 0 := by
  pointwise [k0_pay63]

/-- The accumulator after a tile of 2048 values. -/
theorem pay2_at (p : FVec Ideal S1024x2048 .f32) (v : Vec Ideal S1x1x2048x128 .bf16) (acc : Vec Ideal S1024x256 .f32)
    (r : Fin 1024) (d : Fin 256) :
    k0_pay2 (F := Ideal) p v acc (ix2 r d) = acc (ix2 r d) + ∑ c : Fin 2048, p (ix2 r c) *
      (if h : d.val < 128 then v (ix4 0 0 c ⟨d.val, h⟩) else if d.val = 128 then 1 else 0) := by
  pointwise [k0_pay2]
  refine congrArg (acc (ix2 r d) + ·) (Finset.sum_congr rfl fun c _ => congrArg (p (ix2 r c) * ·) ?_)
  split_ifs with h
  · rfl
  · exact (ones_bit d.val (by omega) d.isLt).trans (by rw [if_pos ‹_›])
  · exact (ones_bit d.val (by omega) d.isLt).trans (by rw [if_neg ‹_›])

theorem weight_congr (m : FVec Ideal S1024x128 .f32) (s : FVec Ideal S1024x1024 .f32) (r : Fin 1024) {x x' : Fin 1024} {y y' : Fin 128}
    (hx : x.val = x'.val) (hy : y.val = y'.val) : Ideal.exp2 (s (ix2 r x) - m (ix2 r y)) = Ideal.exp2 (s (ix2 r x') - m (ix2 r y')) := by
  rw [Fin.ext hx, Fin.ext hy]

/-- The accumulator after the tile of 1024 values left over. -/
theorem pay51_at (m : FVec Ideal S1024x128 .f32) (s : FVec Ideal S1024x1024 .f32) (v : Vec Ideal S1x1x1024x128 .bf16)
    (acc : Vec Ideal S1024x256 .f32) (r : Fin 1024) (d : Fin 256) :
    k0_pay51 (F := Ideal) m s v acc (ix2 r d) = acc (ix2 r d) + ∑ c : Fin 1024, Ideal.exp2 (s (ix2 r c) - m (ix2 r ⟨c.val % 128, by omega⟩)) *
      (if h : d.val < 128 then v (ix4 0 0 c ⟨d.val, h⟩) else if d.val = 128 then 1 else 0) := by
  pointwise [k0_pay51]
  refine congrArg (acc (ix2 r d) + ·) (Finset.sum_congr rfl fun c _ => ?_)
  have hc := c.isLt
  refine congr (congrArg HMul.hMul ?_) ?_
  · split_ifs <;> exact weight_congr m s r (by first | omega | (simp only; omega)) (by first | omega | (simp only; omega))
  · split_ifs with h
    · rfl
    · exact (ones_bit d.val (by omega) d.isLt).trans (by rw [if_pos ‹_›])
    · exact (ones_bit d.val (by omega) d.isLt).trans (by rw [if_neg ‹_›])

theorem pay6_at (acc : Vec Ideal S1024x256 .f32) (r : Fin 1024) (d : Fin 128) :
    k0_pay6 (F := Ideal) acc (ix3 0 r d) = Ideal.div (acc (ix2 r ⟨d.val, by omega⟩)) (acc (ix2 r 128)) := by
  pointwise [k0_pay6]

end Cert.KernelIdeal.Tiles

end
-- ==== Proof.Weights.lean ====
/-
  The second pass's weights: a tile of 2048 is sixteen runs of 128 columns, each the exponential of the scores less the
  row's maximum.
-/
module

public import proofs.«01_k».proof.Proof.Gen.KernelIdeal.Skeleton
public import Idealize.ShloMosaic.Lib.Pointwise
public import Idealize.ShloMosaic.Lib.WordCmp
public import Idealize.ShloMosaic.Lib.Pipeline.Value

@[expose] public section

set_option maxRecDepth 16384

noncomputable section

namespace Cert.KernelIdeal.Tiles

open Cert.KernelIdeal Cert.KernelIdeal.Gen
open Idealize.ShloMosaic Idealize.ShloMosaic.TcCoe Idealize.SL.Sem

theorem pay19_at (m : FVec Ideal S1024x128 .f32) (s : FVec Ideal S1024x2048 .f32) (r : Fin 1024) (l : Fin 128) :
    k0_pay19 (F := Ideal) m s (ix2 r l) = Ideal.exp2 (s (ix2 r ⟨0 + l.val, by omega⟩) - m (ix2 r l)) := by
  pointwise [k0_pay19]
  all_goals exact congrArg (fun z => Ideal.exp2 (s (ix2 r z) - m (ix2 r l))) (Fin.ext (by first | omega | (simp only; done) | (simp only; omega)))

theorem pay20_at (m : FVec Ideal S1024x128 .f32) (s : FVec Ideal S1024x2048 .f32) (r : Fin 1024) (l : Fin 128) :
    k0_pay20 (F := Ideal) m s (ix2 r l) = Ideal.exp2 (s (ix2 r ⟨128 + l.val, by omega⟩) - m (ix2 r l)) := by
  pointwise [k0_pay20]
  all_goals rfl

theorem pay21_at (m : FVec Ideal S1024x128 .f32) (s : FVec Ideal S1024x2048 .f32) (r : Fin 1024) (l : Fin 128) :
    k0_pay21 (F := Ideal) m s (ix2 r l) = Ideal.exp2 (s (ix2 r ⟨256 + l.val, by omega⟩) - m (ix2 r l)) := by
  pointwise [k0_pay21]
  all_goals rfl

theorem pay22_at (m : FVec Ideal S1024x128 .f32) (s : FVec Ideal S1024x2048 .f32) (r : Fin 1024) (l : Fin 128) :
    k0_pay22 (F := Ideal) m s (ix2 r l) = Ideal.exp2 (s (ix2 r ⟨384 + l.val, by omega⟩) - m (ix2 r l)) := by
  pointwise [k0_pay22]
  all_goals rfl

theorem pay23_at (m : FVec Ideal S1024x128 .f32) (s : FVec Ideal S1024x2048 .f32) (r : Fin 1024) (l : Fin 128) :
    k0_pay23 (F := Ideal) m s (ix2 r l) = Ideal.exp2 (s (ix2 r ⟨512 + l.val, by omega⟩) - m (ix2 r l)) := by
  pointwise [k0_pay23]
  all_goals rfl

theorem pay24_at (m : FVec Ideal S1024x128 .f32) (s : FVec Ideal S1024x2048 .f32) (r : Fin 1024) (l : Fin 128) :
    k0_pay24 (F := Ideal) m s (ix2 r l) = Ideal.exp2 (s (ix2 r ⟨640 + l.val, by omega⟩) - m (ix2 r l)) := by
  pointwise [k0_pay24]
  all_goals rfl

theorem pay25_at (m : FVec Ideal S1024x128 .f32) (s : FVec Ideal S1024x2048 .f32) (r : Fin 1024) (l : Fin 128) :
    k0_pay25 (F := Ideal) m s (ix2 r l) = Ideal.exp2 (s (ix2 r ⟨768 + l.val, by omega⟩) - m (ix2 r l)) := by
  pointwise [k0_pay25]
  all_goals rfl

theorem pay26_at (m : FVec Ideal S1024x128 .f32) (s : FVec Ideal S1024x2048 .f32) (r : Fin 1024) (l : Fin 128) :
    k0_pay26 (F := Ideal) m s (ix2 r l) = Ideal.exp2 (s (ix2 r ⟨896 + l.val, by omega⟩) - m (ix2 r l)) := by
  pointwise [k0_pay26]
  all_goals rfl

theorem pay27_at (m : FVec Ideal S1024x128 .f32) (s : FVec Ideal S1024x2048 .f32) (r : Fin 1024) (l : Fin 128) :
    k0_pay27 (F := Ideal) m s (ix2 r l) = Ideal.exp2 (s (ix2 r ⟨1024 + l.val, by omega⟩) - m (ix2 r l)) := by
  pointwise [k0_pay27]
  all_goals rfl

theorem pay28_at (m : FVec Ideal S1024x128 .f32) (s : FVec Ideal S1024x2048 .f32) (r : Fin 1024) (l : Fin 128) :
    k0_pay28 (F := Ideal) m s (ix2 r l) = Ideal.exp2 (s (ix2 r ⟨1152 + l.val, by omega⟩) - m (ix2 r l)) := by
  pointwise [k0_pay28]
  all_goals rfl

theorem pay29_at (m : FVec Ideal S1024x128 .f32) (s : FVec Ideal S1024x2048 .f32) (r : Fin 1024) (l : Fin 128) :
    k0_pay29 (F := Ideal) m s (ix2 r l) = Ideal.exp2 (s (ix2 r ⟨1280 + l.val, by omega⟩) - m (ix2 r l)) := by
  pointwise [k0_pay29]
  all_goals rfl

theorem pay30_at (m : FVec Ideal S1024x128 .f32) (s : FVec Ideal S1024x2048 .f32) (r : Fin 1024) (l : Fin 128) :
    k0_pay30 (F := Ideal) m s (ix2 r l) = Ideal.exp2 (s (ix2 r ⟨1408 + l.val, by omega⟩) - m (ix2 r l)) := by
  pointwise [k0_pay30]
  all_goals rfl

theorem pay31_at (m : FVec Ideal S1024x128 .f32) (s : FVec Ideal S1024x2048 .f32) (r : Fin 1024) (l : Fin 128) :
    k0_pay31 (F := Ideal) m s (ix2 r l) = Ideal.exp2 (s (ix2 r ⟨1536 + l.val, by omega⟩) - m (ix2 r l)) := by
  pointwise [k0_pay31]
  all_goals rfl

theorem pay32_at (m : FVec Ideal S1024x128 .f32) (s : FVec Ideal S1024x2048 .f32) (r : Fin 1024) (l : Fin 128) :
    k0_pay32 (F := Ideal) m s (ix2 r l) = Ideal.exp2 (s (ix2 r ⟨1664 + l.val, by omega⟩) - m (ix2 r l)) := by
  pointwise [k0_pay32]
  all_goals rfl

theorem pay33_at (m : FVec Ideal S1024x128 .f32) (s : FVec Ideal S1024x2048 .f32) (r : Fin 1024) (l : Fin 128) :
    k0_pay33 (F := Ideal) m s (ix2 r l) = Ideal.exp2 (s (ix2 r ⟨1792 + l.val, by omega⟩) - m (ix2 r l)) := by
  pointwise [k0_pay33]
  all_goals rfl

/-- Sixteen runs of 128 weights side by side. -/
theorem pay1_of (p0 p1 p2 p3 p4 p5 p6 p7 p8 p9 p10 p11 p12 p13 p14 p15 : FVec Ideal S1024x128 .f32) (E : Fin 1024 → Fin 2048 → EReal)
    (h0 : ∀ r l, p0 (ix2 r l) = E r ⟨0 + l.val, by omega⟩)
    (h1 : ∀ r l, p1 (ix2 r l) = E r ⟨128 + l.val, by omega⟩)
    (h2 : ∀ r l, p2 (ix2 r l) = E r ⟨256 + l.val, by omega⟩)
    (h3 : ∀ r l, p3 (ix2 r l) = E r ⟨384 + l.val, by omega⟩)
    (h4 : ∀ r l, p4 (ix2 r l) = E r ⟨512 + l.val, by omega⟩)
    (h5 : ∀ r l, p5 (ix2 r l) = E r ⟨640 + l.val, by omega⟩)
    (h6 : ∀ r l, p6 (ix2 r l) = E r ⟨768 + l.val, by omega⟩)
    (h7 : ∀ r l, p7 (ix2 r l) = E r ⟨896 + l.val, by omega⟩)
    (h8 : ∀ r l, p8 (ix2 r l) = E r ⟨1024 + l.val, by omega⟩)
    (h9 : ∀ r l, p9 (ix2 r l) = E r ⟨1152 + l.val, by omega⟩)
    (h10 : ∀ r l, p10 (ix2 r l) = E r ⟨1280 + l.val, by omega⟩)
    (h11 : ∀ r l, p11 (ix2 r l) = E r ⟨1408 + l.val, by omega⟩)
    (h12 : ∀ r l, p12 (ix2 r l) = E r ⟨1536 + l.val, by omega⟩)
    (h13 : ∀ r l, p13 (ix2 r l) = E r ⟨1664 + l.val, by omega⟩)
    (h14 : ∀ r l, p14 (ix2 r l) = E r ⟨1792 + l.val, by omega⟩)
    (h15 : ∀ r l, Ideal.exp2 (p15 (ix2 r l)) = E r ⟨1920 + l.val, by omega⟩) (r : Fin 1024) (c : Fin 2048) :
    k0_pay1 (F := Ideal) p0 p1 p2 p3 p4 p5 p6 p7 p8 p9 p10 p11 p12 p13 p14 p15 (ix2 r c) = E r c := by
  have hc := c.isLt
  let f : Fin 16 → (S1024x128.Idx → EReal) := ![p0, p1, p2, p3, p4, p5, p6, p7, p8, p9, p10, p11, p12, p13, p14, exp2 p15]
  have hf : ∀ (n : Fin 16) (l : Fin 128) (h : 128 * n.val + l.val < 2048), f n (ix2 r l) = E r ⟨128 * n.val + l.val, h⟩ := fun n l h =>
    match n with
    | ⟨0, _⟩ => h0 r l
    | ⟨1, _⟩ => h1 r l
    | ⟨2, _⟩ => h2 r l
    | ⟨3, _⟩ => h3 r l
    | ⟨4, _⟩ => h4 r l
    | ⟨5, _⟩ => h5 r l
    | ⟨6, _⟩ => h6 r l
    | ⟨7, _⟩ => h7 r l
    | ⟨8, _⟩ => h8 r l
    | ⟨9, _⟩ => h9 r l
    | ⟨10, _⟩ => h10 r l
    | ⟨11, _⟩ => h11 r l
    | ⟨12, _⟩ => h12 r l
    | ⟨13, _⟩ => h13 r l
    | ⟨14, _⟩ => h14 r l
    | ⟨15, _⟩ => h15 r l
    | ⟨n + 16, hn⟩ => absurd hn (by omega)
  unfold k0_pay1
  refine (concatenate_ofFn_apply (t := S1024x2048) (s₁ := S1024x128) 1 f
    concatenates_S1024x128_S1024x128_S1024x128_S1024x128_S1024x128_S1024x128_S1024x128_S1024x128_S1024x128_S1024x128_S1024x128_S1024x128_S1024x128_S1024x128_S1024x128_S1024x128_S1024x2048_d1
    rfl 128 rfl (ix2 r c) ⟨c.val / 128, by omega⟩ rfl (ix2 r ⟨c.val % 128, by omega⟩) rfl (fun b hb => ?_)).trans ?_
  · match b with
    | ⟨0, _⟩ => rfl
    | ⟨1, _⟩ => exact absurd rfl hb
  · refine (hf _ _ (by simp only; omega)).trans (congrArg (E r) (Fin.ext (by simp only; omega)))

/-- The weights of a tile of 2048. -/
theorem weights_at (m : FVec Ideal S1024x128 .f32) (s : FVec Ideal S1024x2048 .f32) (r : Fin 1024) (c : Fin 2048) :
    k0_pay1 (F := Ideal) (k0_pay19 m s) (k0_pay20 m s) (k0_pay21 m s) (k0_pay22 m s) (k0_pay23 m s) (k0_pay24 m s) (k0_pay25 m s) (k0_pay26 m s) (k0_pay27 m s) (k0_pay28 m s) (k0_pay29 m s) (k0_pay30 m s) (k0_pay31 m s) (k0_pay32 m s) (k0_pay33 m s) (subf (k0_pay34 s) m) (ix2 r c)
      = Ideal.exp2 (s (ix2 r c) - m (ix2 r ⟨c.val % 128, by omega⟩)) := by
  have hm : ∀ (r : Fin 1024) (l : Fin 128) (n : ℕ) (h : 128 * n + l.val < 2048), Ideal.exp2 (s (ix2 r ⟨128 * n + l.val, h⟩) - m (ix2 r l))
      = Ideal.exp2 (s (ix2 r ⟨128 * n + l.val, h⟩) - m (ix2 r ⟨(⟨128 * n + l.val, h⟩ : Fin 2048).val % 128, by omega⟩)) := fun r l n h =>
    congrArg (fun z => Ideal.exp2 (s (ix2 r ⟨128 * n + l.val, h⟩) - m (ix2 r z))) (Fin.ext (by simp only; omega))
  refine pay1_of _ _ _ _ _ _ _ _ _ _ _ _ _ _ _ _ (fun r c => Ideal.exp2 (s (ix2 r c) - m (ix2 r ⟨c.val % 128, by omega⟩)))
    (fun r l => (pay19_at m s r l).trans (hm r l 0 (by omega))) (fun r l => (pay20_at m s r l).trans (hm r l 1 (by omega))) (fun r l => (pay21_at m s r l).trans (hm r l 2 (by omega))) (fun r l => (pay22_at m s r l).trans (hm r l 3 (by omega))) (fun r l => (pay23_at m s r l).trans (hm r l 4 (by omega))) (fun r l => (pay24_at m s r l).trans (hm r l 5 (by omega))) (fun r l => (pay25_at m s r l).trans (hm r l 6 (by omega))) (fun r l => (pay26_at m s r l).trans (hm r l 7 (by omega))) (fun r l => (pay27_at m s r l).trans (hm r l 8 (by omega))) (fun r l => (pay28_at m s r l).trans (hm r l 9 (by omega))) (fun r l => (pay29_at m s r l).trans (hm r l 10 (by omega))) (fun r l => (pay30_at m s r l).trans (hm r l 11 (by omega))) (fun r l => (pay31_at m s r l).trans (hm r l 12 (by omega))) (fun r l => (pay32_at m s r l).trans (hm r l 13 (by omega))) (fun r l => (pay33_at m s r l).trans (hm r l 14 (by omega))) (fun r l => ?_) r c
  refine Eq.trans ?_ (hm r l 15 (by omega))
  pointwise [k0_pay34]

end Cert.KernelIdeal.Tiles

end
-- ==== Proof.Passes.lean ====
/-
  The attention kernel's two passes as states: after the first `n` keys of pass one the score buffer holds the rows' scores
  at those keys and the running maximum is bounded by exactly what bounds them; after the first `n` keys of pass two the
  accumulator holds, per column, the sum over those keys of the weights times the values (column 128: of the weights).
-/
module

public import proofs.«01_k».proof.Proof.Tiles
public import proofs.«01_k».proof.Proof.Weights

@[expose] public section

noncomputable section

namespace Cert.KernelIdeal.Passes

open Cert.KernelIdeal Cert.KernelIdeal.Gen Cert.KernelIdeal.Tiles
open Idealize.ShloMosaic Idealize.ShloMosaic.TcCoe Idealize.SL.Sem

variable (q : Vec Ideal S1x1x1024x256 .bf16) (k : Vec Ideal S1x1x4096x256 .bf16) (v : Vec Ideal S1x1x4096x128 .bf16) (b : ℕ)

/-- The score of row `r` of query block `b` at key `c`: the product, at the keys up to the row's own block of 64. -/
def Sc (r : Fin 1024) (c : Fin 4096) : EReal :=
  if c.val / 64 ≤ (1024 * b + r.val) / 64 then ∑ d : Fin 256, q (ix4 0 0 r d) * k (ix4 0 0 c d) else ⊥

/-- The values with their column of ones. -/
def Vx (c : Fin 4096) (d : Fin 256) : EReal :=
  if h : d.val < 128 then v (ix4 0 0 c ⟨d.val, h⟩) else if d.val = 128 then 1 else 0

/-- The row's maximum over the first `n` keys. -/
def Mx (n : ℕ) (r : Fin 1024) : EReal := (Finset.univ.filter fun c : Fin 4096 => c.val < n).sup (Sc q k b r)

/-- The weighted value at key `c`. -/
def Wt (N : ℕ) (r : Fin 1024) (d : Fin 256) (c : ℕ) : EReal :=
  if h : c < 4096 then Ideal.exp2 (Sc q k b r ⟨c, h⟩ - Mx q k b N r) * Vx v ⟨c, h⟩ d else 0

/-- The accumulator over the first `n` keys, at the maximum over the first `N`. -/
def Ax (N n : ℕ) (r : Fin 1024) (d : Fin 256) : EReal := ∑ c ∈ Finset.range n, Wt q k v b N r d c

def Scores (n : ℕ) (X7 : Vec Ideal S1024x4096 .f32) : Prop :=
  ∀ (r : Fin 1024) (c : Fin 4096), c.val < n → X7 (ix2 r c) = Sc q k b r c

/-- After the first `n` keys of pass one. -/
def Pass1 (n : ℕ) (X7 : Vec Ideal S1024x4096 .f32) (X8 : Vec Ideal S1024x128 .f32) : Prop :=
  Scores q k b n X7 ∧ ∀ (r : Fin 1024) (l : Fin 128) (y : EReal),
    X8 (ix2 r l) ≤ y ↔ ∀ c : Fin 4096, c.val < n → c.val % 128 = l.val → Sc q k b r c ≤ y

/-- After the first `n` keys of pass two, of `N`. -/
def Pass2 (N n : ℕ) (X9 : Vec Ideal S1024x256 .f32) : Prop :=
  ∀ (r : Fin 1024) (d : Fin 256), X9 (ix2 r d) = Ax q k v b N n r d

theorem pass1_zero (X7 : Vec Ideal S1024x4096 .f32) (X8 : Vec Ideal S1024x128 .f32) (h : ∀ (r : Fin 1024) (l : Fin 128), X8 (ix2 r l) = ⊥) :
    Pass1 q k b 0 X7 X8 :=
  ⟨fun _ _ h => absurd h (Nat.not_lt_zero _), fun r l y => ⟨fun _ _ h => absurd h (Nat.not_lt_zero _), fun _ => h r l ▸ bot_le⟩⟩

/-- A tile of `W` keys of pass one. -/
theorem pass1_step (n W : ℕ) (hn : n % 128 = 0) (hW : n + W ≤ 4096) {X7 X7' : Vec Ideal S1024x4096 .f32} {X8 X8' : Vec Ideal S1024x128 .f32}
    (S : Fin 1024 → Fin W → EReal) (h : Pass1 q k b n X7 X8)
    (hold : ∀ (r : Fin 1024) (c : Fin 4096), c.val < n → X7' (ix2 r c) = X7 (ix2 r c))
    (hnew : ∀ (r : Fin 1024) (c : Fin W), X7' (ix2 r ⟨n + c.val, by omega⟩) = S r c)
    (hmax : ∀ (r : Fin 1024) (l : Fin 128) (y : EReal), X8' (ix2 r l) ≤ y ↔ X8 (ix2 r l) ≤ y ∧ ∀ c : Fin W, c.val % 128 = l.val → S r c ≤ y)
    (hS : ∀ (r : Fin 1024) (c : Fin W), S r c = Sc q k b r ⟨n + c.val, by omega⟩) : Pass1 q k b (n + W) X7' X8' := by
  constructor
  · intro r c hc
    by_cases h1 : c.val < n
    · rw [hold r c h1, h.1 r c h1]
    · have e : c = ⟨n + (⟨c.val - n, by omega⟩ : Fin W).val, by simp only; omega⟩ := Fin.ext (by simp only; omega)
      rw [e, hnew, hS]
  · intro r l y
    rw [hmax, h.2]
    constructor
    · rintro ⟨h1, h2⟩ c hc hl
      by_cases hcn : c.val < n
      · exact h1 c hcn hl
      · have e : c = ⟨n + (⟨c.val - n, by omega⟩ : Fin W).val, by simp only; omega⟩ := Fin.ext (by simp only; omega)
        rw [e, ← hS]
        exact h2 _ (by simp only; omega)
    · intro h1
      refine ⟨fun c hc hl => h1 c (by omega) hl, fun c hc => ?_⟩
      rw [hS]
      exact h1 _ (by simp only; omega) (by simp only; omega)

/-- The rows' maxima, once every column holds what bounds all of them. -/
theorem rowmax (n : ℕ) {X7 : Vec Ideal S1024x4096 .f32} {X8 X8' : Vec Ideal S1024x128 .f32} (h : Pass1 q k b n X7 X8)
    (hmax : ∀ (r : Fin 1024) (l : Fin 128) (y : EReal), X8' (ix2 r l) ≤ y ↔ ∀ l' : Fin 128, X8 (ix2 r l') ≤ y)
    (r : Fin 1024) (l : Fin 128) : X8' (ix2 r l) = Mx q k b n r := by
  have e : ∀ y, X8' (ix2 r l) ≤ y ↔ Mx q k b n r ≤ y := fun y => by
    rw [hmax, Mx, Finset.sup_le_iff]
    constructor
    · intro h1 c hc
      exact (h.2 r ⟨c.val % 128, by omega⟩ y).1 (h1 _) c (Finset.mem_filter.1 hc).2 rfl
    · intro h1 l'
      exact (h.2 r l' y).2 fun c hc _ => h1 c (Finset.mem_filter.2 ⟨Finset.mem_univ _, hc⟩)
  exact le_antisymm ((e _).2 le_rfl) ((e _).1 le_rfl)

theorem pass2_zero (N : ℕ) (X9 : Vec Ideal S1024x256 .f32) (h : ∀ (r : Fin 1024) (d : Fin 256), X9 (ix2 r d) = 0) : Pass2 q k v b N 0 X9 :=
  fun r d => (h r d).trans (by rw [Ax, Finset.range_zero, Finset.sum_empty])

/-- A tile of `W` keys of pass two. -/
theorem pass2_step (N n W : ℕ) (hn : n % 128 = 0) (hW : n + W ≤ 4096) (hN : n + W ≤ N) {X7 : Vec Ideal S1024x4096 .f32} {X8 : Vec Ideal S1024x128 .f32}
    {X9 X9' : Vec Ideal S1024x256 .f32} (h7 : Scores q k b N X7) (h8 : ∀ (r : Fin 1024) (l : Fin 128), X8 (ix2 r l) = Mx q k b N r)
    (h9 : Pass2 q k v b N n X9) (S7 : Fin 1024 → Fin W → EReal) (V5 : Fin W → Fin 128 → EReal)
    (hS7 : ∀ r (c : Fin W), S7 r c = X7 (ix2 r ⟨n + c.val, by omega⟩)) (hV5 : ∀ (c : Fin W) d, V5 c d = v (ix4 0 0 ⟨n + c.val, by omega⟩ d))
    (hnew : ∀ (r : Fin 1024) (d : Fin 256), X9' (ix2 r d) = X9 (ix2 r d) + ∑ c : Fin W,
      Ideal.exp2 (S7 r c - X8 (ix2 r ⟨c.val % 128, by omega⟩)) * (if h : d.val < 128 then V5 c ⟨d.val, h⟩ else if d.val = 128 then 1 else 0)) :
    Pass2 q k v b N (n + W) X9' := by
  intro r d
  rw [hnew, h9, Ax, Ax, Finset.sum_range_add, Finset.sum_range (fun x => Wt q k v b N r d (n + x))]
  refine congrArg _ (Finset.sum_congr rfl fun c _ => ?_)
  have hc := c.isLt
  rw [Wt, dif_pos (show n + c.val < 4096 by omega), hS7, h8, h7 _ _ (by simp only; omega), Vx]
  simp only [hV5]

/-- A tile wholly before the query block is unmasked. -/
theorem score_before (n W : ℕ) (hW : n + W ≤ 1024 * b) (hb : b < 4) (r : Fin 1024) (c : Fin W) :
    Sc q k b r ⟨n + c.val, by omega⟩ = ∑ d : Fin 256, q (ix4 0 0 r d) * k (ix4 0 0 ⟨n + c.val, by omega⟩ d) := by
  rw [Sc, if_pos (by simp only; omega)]

end Cert.KernelIdeal.Passes

end
-- ==== Proof.Words.lean ====
/-
  The attention kernel's loop bounds, offsets and conditions as numbers: at the query block `b = i 2` the keys before it
  are `1024·b`, taken in tiles of 2048 and, at an odd `b`, one of 1024; the block's own 1024 keys in two masked tiles of
  512; the second pass takes the `1024·(b + 1)` keys in tiles of 2048 and, at an even `b`, one of 1024.
-/
module

public import proofs.«01_k».proof.Proof.Gen.KernelIdeal.Skeleton

@[expose] public section

set_option maxRecDepth 16384

namespace Cert.KernelIdeal.Words

open Cert.KernelIdeal Cert.KernelIdeal.Gen
open Idealize.ShloMosaic

theorem trips1 (i : grid0.Coords) : (k0_t1_loop i).trips = (i 2).val / 2 :=
  (by decide +kernel : ∀ i : grid0.Coords, (k0_t1_loop i).trips = (i 2).val / 2) i
theorem trips2 (i : grid0.Coords) : (k0_t2_loop i).trips = 0 :=
  (by decide +kernel : ∀ i : grid0.Coords, (k0_t2_loop i).trips = 0) i
theorem trips3 (i : grid0.Coords) : (k0_t3_loop i).trips = 2 :=
  (by decide +kernel : ∀ i : grid0.Coords, (k0_t3_loop i).trips = 2) i
theorem trips4 (i : grid0.Coords) : (k0_t4_loop i).trips = 0 :=
  (by decide +kernel : ∀ i : grid0.Coords, (k0_t4_loop i).trips = 0) i
theorem trips5 (i : grid0.Coords) : (k0_t5_loop i).trips = ((i 2).val + 1) / 2 :=
  (by decide +kernel : ∀ i : grid0.Coords, (k0_t5_loop i).trips = ((i 2).val + 1) / 2) i
theorem trips6 (i : grid0.Coords) : (k0_t6_loop i).trips = 0 :=
  (by decide +kernel : ∀ i : grid0.Coords, (k0_t6_loop i).trips = 0) i

theorem off1 (i : grid0.Coords) (k : Fin (k0_t1_loop i).trips) : k0_off1 i k = ![0, 0, 2048 * k.val, 0] :=
  (by decide +kernel : ∀ (i : grid0.Coords) (k : Fin (k0_t1_loop i).trips), k0_off1 i k = ![0, 0, 2048 * k.val, 0]) i k
theorem off2 (i : grid0.Coords) (k : Fin (k0_t1_loop i).trips) : k0_off2 i k = ![0, 2048 * k.val] :=
  (by decide +kernel : ∀ (i : grid0.Coords) (k : Fin (k0_t1_loop i).trips), k0_off2 i k = ![0, 2048 * k.val]) i k
theorem off5 (i : grid0.Coords) : k0_off5 i = ![0, 0, 2048 * ((i 2).val / 2), 0] :=
  (by decide +kernel : ∀ i : grid0.Coords, k0_off5 i = ![0, 0, 2048 * ((i 2).val / 2), 0]) i
theorem off6 (i : grid0.Coords) : k0_off6 i = ![0, 2048 * ((i 2).val / 2)] :=
  (by decide +kernel : ∀ i : grid0.Coords, k0_off6 i = ![0, 2048 * ((i 2).val / 2)]) i
theorem off9 (i : grid0.Coords) (k : Fin (k0_t3_loop i).trips) : k0_off9 i k = ![0, 0, 1024 * (i 2).val + 512 * k.val, 0] :=
  (by decide +kernel : ∀ (i : grid0.Coords) (k : Fin (k0_t3_loop i).trips), k0_off9 i k = ![0, 0, 1024 * (i 2).val + 512 * k.val, 0]) i k
theorem off10 (i : grid0.Coords) (k : Fin (k0_t3_loop i).trips) : k0_off10 i k = ![0, 1024 * (i 2).val + 512 * k.val] :=
  (by decide +kernel : ∀ (i : grid0.Coords) (k : Fin (k0_t3_loop i).trips), k0_off10 i k = ![0, 1024 * (i 2).val + 512 * k.val]) i k
theorem off13 (i : grid0.Coords) (k : Fin (k0_t5_loop i).trips) : k0_off13 i k = ![0, 2048 * k.val] :=
  (by decide +kernel : ∀ (i : grid0.Coords) (k : Fin (k0_t5_loop i).trips), k0_off13 i k = ![0, 2048 * k.val]) i k
theorem off14 (i : grid0.Coords) (k : Fin (k0_t5_loop i).trips) : k0_off14 i k = ![0, 0, 2048 * k.val, 0] :=
  (by decide +kernel : ∀ (i : grid0.Coords) (k : Fin (k0_t5_loop i).trips), k0_off14 i k = ![0, 0, 2048 * k.val, 0]) i k
theorem off17 (i : grid0.Coords) : k0_off17 i = ![0, 2048 * (((i 2).val + 1) / 2)] :=
  (by decide +kernel : ∀ i : grid0.Coords, k0_off17 i = ![0, 2048 * (((i 2).val + 1) / 2)]) i
theorem off18 (i : grid0.Coords) : k0_off18 i = ![0, 0, 2048 * (((i 2).val + 1) / 2), 0] :=
  (by decide +kernel : ∀ i : grid0.Coords, k0_off18 i = ![0, 0, 2048 * (((i 2).val + 1) / 2), 0]) i

theorem cond1_iff (i : grid0.Coords) : k0_cond1 i = 1#1 ↔ (i 2).val % 2 = 1 :=
  (by decide +kernel : ∀ i : grid0.Coords, k0_cond1 i = 1#1 ↔ (i 2).val % 2 = 1) i
theorem cond2_ne (i : grid0.Coords) : ¬ k0_cond2 i = 1#1 :=
  (by decide +kernel : ∀ i : grid0.Coords, ¬ k0_cond2 i = 1#1) i
theorem cond3_iff (i : grid0.Coords) : k0_cond3 i = 1#1 ↔ (i 2).val % 2 = 0 :=
  (by decide +kernel : ∀ i : grid0.Coords, k0_cond3 i = 1#1 ↔ (i 2).val % 2 = 0) i
theorem cond4_ne (i : grid0.Coords) : ¬ k0_cond4 i = 1#1 :=
  (by decide +kernel : ∀ i : grid0.Coords, ¬ k0_cond4 i = 1#1) i

end Cert.KernelIdeal.Words
-- ==== Proof.Trips.lean ====
/-
  The attention kernel's body over the reals, loop by loop: each trip of a loop of the first pass takes the state after `n`
  keys to the state after the trip's, and likewise in the second pass.
-/
module

public import proofs.«01_k».proof.Proof.Gen.KernelIdeal.Frame
public import proofs.«01_k».proof.Proof.Passes
public import proofs.«01_k».proof.Proof.Weights
public import proofs.«01_k».proof.Proof.Words
public import Idealize.ShloMosaic.Lib.WritesUnit
public import Idealize.ShloMosaic.Lib.VecWindow

@[expose] public section

set_option maxRecDepth 16384

noncomputable section

namespace Cert.KernelIdeal.Trips

open Cert.KernelIdeal Cert.KernelIdeal.Gen Cert.KernelIdeal.Tiles Cert.KernelIdeal.Passes Cert.KernelIdeal.Words
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

local notation "𝕄" => MT nD τ sig Unit (Elt Ideal) ℕ (UR sig nD τ) ℕ

/-- A load of a rectangle at an index reads the buffer at the index moved by the rectangle's offsets. -/
theorem readAt_at {s : Shape} {e : EltTy} (w : View sig .tc .vmem s e) (f : w.ty.Contents (Elt Ideal)) {off off' size : Fin s.rank → ℕ}
    (inb : ∀ a, off a + size a ≤ s.size a) (x : (Rect.unit off size inb).shape.Idx) (y : s.Idx) (heq : off = off')
    (hx : ∀ a, (y a).val = off' a + (x a).val) : w.readAt (Elt Ideal) (Rect.unit off size inb).toLoadRect f x = w.read (Elt Ideal) f y := by
  subst heq
  exact congrArg (w.read (Elt Ideal) f) (funext fun a => Fin.ext (by
    show off a + 1 * (x a).val = (y a).val
    rw [hx a]; omega))

theorem ix2_off {a b b' : ℕ} (o : ℕ) (r : Fin a) (d : Fin b') (h : o + d.val < b) :
    ∀ x : Fin 2, ((ix2 r ⟨o + d.val, h⟩ : (⟨2, ![a, b]⟩ : Shape).Idx) x).val = (![0, o] : Fin 2 → ℕ) x + ((ix2 r d : (⟨2, ![a, b']⟩ : Shape).Idx) x).val :=
  Fin.forall_fin_two.2 ⟨(Nat.zero_add _).symm, rfl⟩

theorem ix2_whole {a b : ℕ} (r : Fin a) (d : Fin b) :
    ∀ x : Fin 2, ((ix2 r d : (⟨2, ![a, b]⟩ : Shape).Idx) x).val = (![0, 0] : Fin 2 → ℕ) x + ((ix2 r d : (⟨2, ![a, b]⟩ : Shape).Idx) x).val :=
  Fin.forall_fin_two.2 ⟨(Nat.zero_add _).symm, (Nat.zero_add _).symm⟩

theorem ix4_off {a b a' : ℕ} (o : ℕ) (r : Fin a') (d : Fin b) (h : o + r.val < a) :
    ∀ x : Fin 4, ((ix4 0 0 ⟨o + r.val, h⟩ d : (⟨4, ![1, 1, a, b]⟩ : Shape).Idx) x).val
      = (![0, 0, o, 0] : Fin 4 → ℕ) x + ((ix4 0 0 r d : (⟨4, ![1, 1, a', b]⟩ : Shape).Idx) x).val := by
  intro x
  match x with
  | ⟨0, _⟩ => rfl
  | ⟨1, _⟩ => rfl
  | ⟨2, _⟩ => rfl
  | ⟨3, _⟩ => exact (Nat.zero_add _).symm

section

variable (c : Dev nD) (E : Set ℕ) (i : grid0.Coords)
    (arg3 : Memref sig .tc .vmem S1x1x1024x256 .bf16) (harg3 : arg3.IsWhole)
    (arg4 : Memref sig .tc .vmem S1x1x4096x256 .bf16) (harg4 : arg4.IsWhole)
    (arg5 : Memref sig .tc .vmem S1x1x4096x128 .bf16) (harg5 : arg5.IsWhole)
    (arg6 : Memref sig .tc .vmem S1x1024x128 .bf16) (harg6 : arg6.IsWhole)
    (arg7 : Memref sig .tc .vmem S1024x4096 .f32) (harg7 : arg7.IsWhole)
    (arg8 : Memref sig .tc .vmem S1024x128 .f32) (harg8 : arg8.IsWhole)
    (arg9 : Memref sig .tc .vmem S1024x256 .f32) (harg9 : arg9.IsWhole)

/-- A buffer held whole. -/
abbrev held {s : Shape} {e : EltTy} (arg : Memref sig .tc .vmem s e) (f : BufTy.Contents (Elt Ideal) arg.view.ty) : sProp 𝕄 :=
  arg.view.loc (c : Thread nD τ) ↦[arg.view.set]{fullShare} f

/-- Pass one after `n` keys: the keys' buffer, the scores and the running maximum. -/
abbrev state1 (q : Vec Ideal S1x1x1024x256 .bf16) (f1 : BufTy.Contents (Elt Ideal) arg4.view.ty) (n : ℕ) : sProp 𝕄 :=
  iprop(held c arg4 f1 ∗ ∃ f7 f8, held c arg7 f7 ∗ held c arg8 f8 ∗ ⌜Pass1 q (arg4.view.read _ f1) (i 2).val n (arg7.view.read _ f7) (arg8.view.read _ f8)⌝)

theorem trip1 (q : Vec Ideal S1x1x1024x256 .bf16) (v3 : FVec Ideal S1024x256 .bf16) (hv3 : v3 = k0_pay52 (F := Ideal) q) (v24 v49 v54 v71 : BitVec 32) (f1 : BufTy.Contents (Elt Ideal) arg4.view.ty) (k : Fin (k0_t1_loop i).trips) :
    state1 c i arg4 arg7 arg8 q f1 (2048 * k.val)
      ⊢ wp frame (wpE (defs₀ (F := Ideal)) Variants.none (c : Thread nD τ) none) E
          (k0_t1_body (F := Ideal) i arg3 harg3 arg4 harg4 arg5 harg5 arg6 harg6 arg7 harg7 arg8 harg8 arg9 harg9 v3 v24 v49 v54 v71 k ⟨⟩)
          (fun _ => state1 c i arg4 arg7 arg8 q f1 (2048 * (k.val + 1))) := by
  subst hv3
  unfold k0_t1_body
  iintro ⟨H4, %f7, %f8, H7, H8, %h⟩
  sl_exec
  sl_step
  isplitl [H4]; · iexact H4
  iexists _; iexists _
  isplitl [H7]; · iexact H7
  isplitl [H8]; · iexact H8
  ipureintro
  have hb : (i 2).val < 4 := (i 2).isLt
  have hk : k.val < (i 2).val / 2 := (trips1 i) ▸ k.isLt
  rw [show 2048 * (k.val + 1) = 2048 * k.val + 2048 by omega]
  refine pass1_step q _ (i 2).val (2048 * k.val) 2048 (by omega) (by omega)
    (fun r d => k0_pay7 (F := Ideal) (k0_pay52 q) (arg4.view.readAt (Elt Ideal) (Rect.unit (s := S1x1x4096x256) (k0_off1 i k) S1x1x2048x256.size (k0_off1_inb i k)).toLoadRect f1) (ix2 r d)) h ?_ ?_ ?_ ?_
  · intro r d hd
    exact View.read_writes_cons_unit_of_not_mem _ _ _ _ [] _ (off2 i k) 1 (.inl hd)
  · intro r d
    have hx := ix2_off (b := 4096) (2048 * k.val) r d (by omega)
    rw [View.read_writes_cons_unit_of_mem _ _ _ _ [] _ (ix2 r d) (off2 i k) hx]
    exact pay8_at _ _ r d
  · intro r l y
    have hx := ix2_whole r l
    rw [View.read_writes_cons_unit_of_mem _ _ _ _ [] _ (ix2 r l) rfl hx]
    refine (max2048_le _ _ _ r l y).trans ?_
    rw [View.readAt_full]
  · intro r d
    rw [score_before _ _ _ _ _ (by omega) hb, pay7_at]
    refine Finset.sum_congr rfl fun x _ => ?_
    have hx := ix4_off (a := 4096) (2048 * k.val) d x (by omega)
    rw [pay52_at]
    exact congrArg (q (ix4 0 0 r x) * ·) (readAt_at (s := S1x1x4096x256) (size := S1x1x2048x256.size) _ _ _ (ix4 0 0 d x) _ (off1 i k) hx)

theorem trip3 (q : Vec Ideal S1x1x1024x256 .bf16) (v3 : FVec Ideal S1024x256 .bf16) (hv3 : v3 = k0_pay52 (F := Ideal) q) (v1 v24 v49 v106 : BitVec 32) (hv1 : v1 = BitVec.ofNat 32 (1024 * (i 2).val)) (hv24 : v24 = BitVec.ofNat 32 (2 * (i 2).val))
    (f1 : BufTy.Contents (Elt Ideal) arg4.view.ty) (k : Fin (k0_t3_loop i).trips) :
    state1 c i arg4 arg7 arg8 q f1 (1024 * (i 2).val + 512 * k.val)
      ⊢ wp frame (wpE (defs₀ (F := Ideal)) Variants.none (c : Thread nD τ) none) E
          (k0_t3_body (F := Ideal) i arg3 harg3 arg4 harg4 arg5 harg5 arg6 harg6 arg7 harg7 arg8 harg8 arg9 harg9 v1 v3 v24 v49 v106 k ⟨⟩)
          (fun _ => state1 c i arg4 arg7 arg8 q f1 (1024 * (i 2).val + 512 * (k.val + 1))) := by
  subst hv3
  unfold k0_t3_body
  iintro ⟨H4, %f7, %f8, H7, H8, %h⟩
  sl_exec
  sl_step
  isplitl [H4]; · iexact H4
  iexists _; iexists _
  isplitl [H7]; · iexact H7
  isplitl [H8]; · iexact H8
  ipureintro
  have hb : (i 2).val < 4 := (i 2).isLt
  have hk : k.val < 2 := (trips3 i) ▸ k.isLt
  rw [show 1024 * (i 2).val + 512 * (k.val + 1) = 1024 * (i 2).val + 512 * k.val + 512 by omega]
  refine pass1_step q _ (i 2).val (1024 * (i 2).val + 512 * k.val) 512 (by omega) (by omega)
    (fun r d => k0_pay13 (F := Ideal) i v1 (k0_pay52 q) v24 0#32 1#32 k (arg4.view.readAt (Elt Ideal) (Rect.unit (s := S1x1x4096x256) (k0_off9 i k) S1x1x512x256.size (k0_off9_inb i k)).toLoadRect f1) (ix2 r d)) h ?_ ?_ ?_ ?_
  · intro r d hd
    exact View.read_writes_cons_unit_of_not_mem _ _ _ _ [] _ (off10 i k) 1 (.inl hd)
  · intro r d
    have hx := ix2_off (b := 4096) (1024 * (i 2).val + 512 * k.val) r d (by omega)
    rw [View.read_writes_cons_unit_of_mem _ _ _ _ [] _ (ix2 r d) (off10 i k) hx]
    exact pay14_at _ _ _ _ _ _ r d
  · intro r l y
    have hx := ix2_whole r l
    rw [View.read_writes_cons_unit_of_mem _ _ _ _ [] _ (ix2 r l) rfl hx]
    refine (max512_le _ _ _ _ _ _ _ r l y).trans ?_
    rw [View.readAt_full]
  · intro r d
    rw [pay13_at i v1 v24 k _ _ ⟨(i 2).val, hb⟩ hv1 hv24 hk, Sc]
    refine if_congr Iff.rfl (Finset.sum_congr rfl fun x _ => ?_) rfl
    have hx := ix4_off (a := 4096) (1024 * (i 2).val + 512 * k.val) d x (by omega)
    rw [pay52_at]
    exact congrArg (q (ix4 0 0 r x) * ·) (readAt_at (s := S1x1x4096x256) (size := S1x1x512x256.size) _ _ _ (ix4 0 0 d x) _ (off9 i k) hx)

/-- Pass two after `n` keys of `N`: the values' buffer, the scores, the rows' maxima and the accumulator. -/
abbrev state2 (q : Vec Ideal S1x1x1024x256 .bf16) (x1 : Vec Ideal S1x1x4096x256 .bf16) (f2 : BufTy.Contents (Elt Ideal) arg5.view.ty)
    (f7 : BufTy.Contents (Elt Ideal) arg7.view.ty) (N n : ℕ) : sProp 𝕄 :=
  iprop(held c arg5 f2 ∗ held c arg7 f7 ∗ ∃ f8 f9, held c arg8 f8 ∗ held c arg9 f9 ∗
    ⌜(∀ (r : Fin 1024) (l : Fin 128), arg8.view.read (Elt Ideal) f8 (ix2 r l) = Mx q x1 (i 2).val N r)
      ∧ Pass2 q x1 (arg5.view.read _ f2) (i 2).val N n (arg9.view.read _ f9)⌝)

theorem trip5 (q : Vec Ideal S1x1x1024x256 .bf16) (x1 : Vec Ideal S1x1x4096x256 .bf16) (f2 : BufTy.Contents (Elt Ideal) arg5.view.ty)
    (f7 : BufTy.Contents (Elt Ideal) arg7.view.ty)
    (h7 : Scores q x1 (i 2).val (1024 * ((i 2).val + 1)) (arg7.view.read _ f7))
    (k : Fin (k0_t5_loop i).trips) :
    state2 c i arg5 arg7 arg8 arg9 q x1 f2 f7 (1024 * ((i 2).val + 1)) (2048 * k.val)
      ⊢ wp frame (wpE (defs₀ (F := Ideal)) Variants.none (c : Thread nD τ) none) E
          (k0_t5_body (F := Ideal) i arg3 harg3 arg4 harg4 arg5 harg5 arg6 harg6 arg7 harg7 arg8 harg8 arg9 harg9 k ⟨⟩)
          (fun _ => state2 c i arg5 arg7 arg8 arg9 q x1 f2 f7 (1024 * ((i 2).val + 1)) (2048 * (k.val + 1))) := by
  unfold k0_t5_body
  iintro ⟨H5, H7, %f8, %f9, H8, H9, %h⟩
  obtain ⟨h8, h⟩ := h
  sl_exec
  sl_step
  isplitl [H5]; · iexact H5
  isplitl [H7]; · iexact H7
  iexists _; iexists _
  isplitl [H8]; · iexact H8
  isplitl [H9]; · iexact H9
  ipureintro
  refine ⟨h8, ?_⟩
  have hb : (i 2).val < 4 := (i 2).isLt
  have hk : k.val < ((i 2).val + 1) / 2 := (trips5 i) ▸ k.isLt
  rw [show 2048 * (k.val + 1) = 2048 * k.val + 2048 by omega]
  refine pass2_step q x1 _ (i 2).val _ (2048 * k.val) 2048 (by omega) (by omega) (by omega) h7 h8 h
    (fun r d => arg7.view.readAt (Elt Ideal) (Rect.unit (s := S1024x4096) (k0_off13 i k) S1024x2048.size (k0_off13_inb i k)).toLoadRect f7 (ix2 r d))
    (fun r d => arg5.view.readAt (Elt Ideal) (Rect.unit (s := S1x1x4096x128) (k0_off14 i k) S1x1x2048x128.size (k0_off14_inb i k)).toLoadRect f2 (ix4 0 0 r d)) ?_ ?_ ?_
  · intro r d
    have hx := ix2_off (b := 4096) (2048 * k.val) r d (by omega)
    exact readAt_at (s := S1024x4096) (size := S1024x2048.size) _ _ _ (ix2 r d) _ (off13 i k) hx
  · intro r d
    have hx := ix4_off (a := 4096) (2048 * k.val) r d (by omega)
    exact readAt_at (s := S1x1x4096x128) (size := S1x1x2048x128.size) _ _ _ (ix4 0 0 r d) _ (off14 i k) hx
  · intro r d
    have hx := ix2_whole r d
    rw [View.read_writes_cons_unit_of_mem _ _ _ _ [] _ (ix2 r d) rfl hx]
    refine (pay2_at _ _ _ r d).trans ?_
    rw [View.readAt_full]
    refine congrArg (arg9.view.read (Elt Ideal) f9 (ix2 r d) + ·) (Finset.sum_congr rfl fun x _ => ?_)
    refine congr (congrArg HMul.hMul ((weights_at _ _ r x).trans ?_)) rfl
    rw [View.readAt_full]

end

section

variable (i : grid0.Coords) (arg3 : Memref sig .tc .vmem S1x1x1024x256 .bf16) (arg4 : Memref sig .tc .vmem S1x1x4096x256 .bf16)
    (arg5 : Memref sig .tc .vmem S1x1x4096x128 .bf16) (arg6 : Memref sig .tc .vmem S1x1024x128 .bf16) (arg7 : Memref sig .tc .vmem S1024x4096 .f32)
    (arg8 : Memref sig .tc .vmem S1024x128 .f32) (arg9 : Memref sig .tc .vmem S1024x256 .f32)

/-- Before pass one. -/
theorem first (q : Vec Ideal S1x1x1024x256 .bf16) (x1 : Vec Ideal S1x1x4096x256 .bf16) (X7 : Vec Ideal S1024x4096 .f32) (g8 : BufTy.Contents (Elt Ideal) arg8.view.ty) {w} (b : ℕ)
    (hw : w = k0_pay53 (F := Ideal)) (inb : ∀ a, (![0, 0] : Fin 2 → ℕ) a + S1024x128.size a ≤ S1024x128.size a) :
    Pass1 q x1 b 0 X7 (arg8.view.read (Elt Ideal) (arg8.view.writes (Elt Ideal) g8 [⟨Rect.unit (s := S1024x128) ![0, 0] S1024x128.size inb, w⟩])) := by
  subst hw
  refine pass1_zero _ _ _ _ _ fun r l => ?_
  have hx := ix2_whole r l
  rw [View.read_writes_cons_unit_of_mem _ _ _ _ [] _ (ix2 r l) rfl hx]
  exact pay53_at r l

/-- The tile of 1024 keys left over in pass one, at an odd query block. -/
theorem left1 (q : Vec Ideal S1x1x1024x256 .bf16) (v3 : FVec Ideal S1024x256 .bf16) (hv3 : v3 = k0_pay52 (F := Ideal) q) (hodd : (i 2).val % 2 = 1)
    (f1 : BufTy.Contents (Elt Ideal) arg4.view.ty) (g7 : BufTy.Contents (Elt Ideal) arg7.view.ty) (g8 g8' : BufTy.Contents (Elt Ideal) arg8.view.ty)
    (inb5 : ∀ a, k0_off5 i a + S1x1x1024x256.size a ≤ S1x1x4096x256.size a) (inb6 : ∀ a, k0_off6 i a + S1024x1024.size a ≤ S1024x4096.size a)
    (inb inb' : ∀ a, (![0, 0] : Fin 2 → ℕ) a + S1024x128.size a ≤ S1024x128.size a)
    (h : Pass1 q (arg4.view.read _ f1) (i 2).val (2048 * ((i 2).val / 2)) (arg7.view.read _ g7) (arg8.view.read _ g8)) :
    Pass1 q (arg4.view.read _ f1) (i 2).val (1024 * (i 2).val)
      (arg7.view.read (Elt Ideal) (arg7.view.writes (Elt Ideal) g7 [⟨Rect.unit (s := S1024x4096) (k0_off6 i) S1024x1024.size inb6,
        k0_pay57 (F := Ideal) v3 (arg4.view.readAt (Elt Ideal) (Rect.unit (s := S1x1x4096x256) (k0_off5 i) S1x1x1024x256.size inb5).toLoadRect f1)⟩]))
      (arg8.view.read (Elt Ideal) (arg8.view.writes (Elt Ideal) g8' [⟨Rect.unit (s := S1024x128) ![0, 0] S1024x128.size inb,
        k0_pay58 (F := Ideal) v3 (arg4.view.readAt (Elt Ideal) (Rect.unit (s := S1x1x4096x256) (k0_off5 i) S1x1x1024x256.size inb5).toLoadRect f1)
          (arg8.view.readAt (Elt Ideal) (Rect.unit (s := S1024x128) ![0, 0] S1024x128.size inb').toLoadRect g8)⟩])) := by
  subst hv3
  have hb : (i 2).val < 4 := (i 2).isLt
  rw [show 1024 * (i 2).val = 2048 * ((i 2).val / 2) + 1024 by omega]
  refine pass1_step q _ (i 2).val (2048 * ((i 2).val / 2)) 1024 (by omega) (by omega)
    (fun r d => k0_pay56 (F := Ideal) (k0_pay52 q) (arg4.view.readAt (Elt Ideal) (Rect.unit (s := S1x1x4096x256) (k0_off5 i) S1x1x1024x256.size inb5).toLoadRect f1) (ix2 r d)) h ?_ ?_ ?_ ?_
  · intro r d hd
    exact View.read_writes_cons_unit_of_not_mem _ _ _ _ [] _ (off6 i) 1 (.inl hd)
  · intro r d
    have hx := ix2_off (b := 4096) (2048 * ((i 2).val / 2)) r d (by omega)
    rw [View.read_writes_cons_unit_of_mem _ _ _ _ [] _ (ix2 r d) (off6 i) hx]
    exact pay57_at _ _ r d
  · intro r l y
    have hx := ix2_whole r l
    rw [View.read_writes_cons_unit_of_mem _ _ _ _ [] _ (ix2 r l) rfl hx]
    refine (max1024_le _ _ _ r l y).trans ?_
    rw [View.readAt_full]
  · intro r d
    rw [score_before _ _ _ _ _ (by omega) hb, pay56_at]
    refine Finset.sum_congr rfl fun x _ => ?_
    have hx := ix4_off (a := 4096) (2048 * ((i 2).val / 2)) d x (by omega)
    rw [pay52_at]
    exact congrArg (q (ix4 0 0 r x) * ·) (readAt_at (s := S1x1x4096x256) (size := S1x1x1024x256.size) _ _ _ (ix4 0 0 d x) _ (off5 i) hx)

/-- Between the passes: every column holds its row's maximum, and the accumulator is zero. -/
theorem between (q : Vec Ideal S1x1x1024x256 .bf16) (x1 : Vec Ideal S1x1x4096x256 .bf16) (x2 : Vec Ideal S1x1x4096x128 .bf16) (b n : ℕ) (X7 : Vec Ideal S1024x4096 .f32)
    (g8 g8' : BufTy.Contents (Elt Ideal) arg8.view.ty) (g9 : BufTy.Contents (Elt Ideal) arg9.view.ty)
    (inb inb' : ∀ a, (![0, 0] : Fin 2 → ℕ) a + S1024x128.size a ≤ S1024x128.size a) (inb9 : ∀ a, (![0, 0] : Fin 2 → ℕ) a + S1024x256.size a ≤ S1024x256.size a)
    (h : Pass1 q x1 b n X7 (arg8.view.read _ g8)) :
    (∀ (r : Fin 1024) (l : Fin 128), arg8.view.read (Elt Ideal) (arg8.view.writes (Elt Ideal) g8' [⟨Rect.unit (s := S1024x128) ![0, 0] S1024x128.size inb,
        k0_pay62 (F := Ideal) (arg8.view.readAt (Elt Ideal) (Rect.unit (s := S1024x128) ![0, 0] S1024x128.size inb').toLoadRect g8)⟩]) (ix2 r l) = Mx q x1 b n r)
      ∧ Pass2 q x1 x2 b n 0 (arg9.view.read (Elt Ideal) (arg9.view.writes (Elt Ideal) g9 [⟨Rect.unit (s := S1024x256) ![0, 0] S1024x256.size inb9, k0_pay63 (F := Ideal)⟩])) := by
  constructor
  · refine rowmax q x1 b n h fun r l y => ?_
    have hx := ix2_whole r l
    rw [View.read_writes_cons_unit_of_mem _ _ _ _ [] _ (ix2 r l) rfl hx]
    refine (pay62_le _ r l y).trans ?_
    rw [View.readAt_full]
  · refine pass2_zero _ _ _ _ _ _ fun r d => ?_
    have hx := ix2_whole r d
    rw [View.read_writes_cons_unit_of_mem _ _ _ _ [] _ (ix2 r d) rfl hx]
    exact pay63_at r d

/-- The tile of 1024 keys left over in pass two, at an even query block. -/
theorem left2 (q : Vec Ideal S1x1x1024x256 .bf16) (x1 : Vec Ideal S1x1x4096x256 .bf16) (heven : (i 2).val % 2 = 0)
    (f2 : BufTy.Contents (Elt Ideal) arg5.view.ty) (g7 : BufTy.Contents (Elt Ideal) arg7.view.ty) (g8 : BufTy.Contents (Elt Ideal) arg8.view.ty)
    (g9 g9' : BufTy.Contents (Elt Ideal) arg9.view.ty)
    (inb17 : ∀ a, k0_off17 i a + S1024x1024.size a ≤ S1024x4096.size a) (inb18 : ∀ a, k0_off18 i a + S1x1x1024x128.size a ≤ S1x1x4096x128.size a)
    (inb8 : ∀ a, (![0, 0] : Fin 2 → ℕ) a + S1024x128.size a ≤ S1024x128.size a) (inb inb' : ∀ a, (![0, 0] : Fin 2 → ℕ) a + S1024x256.size a ≤ S1024x256.size a)
    (h7 : Scores q x1 (i 2).val (1024 * ((i 2).val + 1)) (arg7.view.read _ g7))
    (h8 : ∀ (r : Fin 1024) (l : Fin 128), arg8.view.read (Elt Ideal) g8 (ix2 r l) = Mx q x1 (i 2).val (1024 * ((i 2).val + 1)) r)
    (h : Pass2 q x1 (arg5.view.read _ f2) (i 2).val (1024 * ((i 2).val + 1)) (2048 * (((i 2).val + 1) / 2)) (arg9.view.read _ g9)) :
    Pass2 q x1 (arg5.view.read _ f2) (i 2).val (1024 * ((i 2).val + 1)) (1024 * ((i 2).val + 1))
      (arg9.view.read (Elt Ideal) (arg9.view.writes (Elt Ideal) g9' [⟨Rect.unit (s := S1024x256) ![0, 0] S1024x256.size inb,
        k0_pay51 (F := Ideal) (arg8.view.readAt (Elt Ideal) (Rect.unit (s := S1024x128) ![0, 0] S1024x128.size inb8).toLoadRect g8)
          (arg7.view.readAt (Elt Ideal) (Rect.unit (s := S1024x4096) (k0_off17 i) S1024x1024.size inb17).toLoadRect g7)
          (arg5.view.readAt (Elt Ideal) (Rect.unit (s := S1x1x4096x128) (k0_off18 i) S1x1x1024x128.size inb18).toLoadRect f2)
          (arg9.view.readAt (Elt Ideal) (Rect.unit (s := S1024x256) ![0, 0] S1024x256.size inb').toLoadRect g9)⟩])) := by
  have hb : (i 2).val < 4 := (i 2).isLt
  have e : 1024 * ((i 2).val + 1) = 2048 * (((i 2).val + 1) / 2) + 1024 := by omega
  have key := pass2_step q x1 (arg5.view.read _ f2) (i 2).val (1024 * ((i 2).val + 1)) (2048 * (((i 2).val + 1) / 2)) 1024 (by omega) (by omega) (by omega) h7 h8 h
    (X9' := arg9.view.read (Elt Ideal) (arg9.view.writes (Elt Ideal) g9' [⟨Rect.unit (s := S1024x256) ![0, 0] S1024x256.size inb,
        k0_pay51 (F := Ideal) (arg8.view.readAt (Elt Ideal) (Rect.unit (s := S1024x128) ![0, 0] S1024x128.size inb8).toLoadRect g8)
          (arg7.view.readAt (Elt Ideal) (Rect.unit (s := S1024x4096) (k0_off17 i) S1024x1024.size inb17).toLoadRect g7)
          (arg5.view.readAt (Elt Ideal) (Rect.unit (s := S1x1x4096x128) (k0_off18 i) S1x1x1024x128.size inb18).toLoadRect f2)
          (arg9.view.readAt (Elt Ideal) (Rect.unit (s := S1024x256) ![0, 0] S1024x256.size inb').toLoadRect g9)⟩]))
    (fun r d => arg7.view.readAt (Elt Ideal) (Rect.unit (s := S1024x4096) (k0_off17 i) S1024x1024.size inb17).toLoadRect g7 (ix2 r d))
    (fun r d => arg5.view.readAt (Elt Ideal) (Rect.unit (s := S1x1x4096x128) (k0_off18 i) S1x1x1024x128.size inb18).toLoadRect f2 (ix4 0 0 r d)) ?_ ?_ ?_
  · rw [← e] at key; exact key
  · intro r d
    have hx := ix2_off (b := 4096) (2048 * (((i 2).val + 1) / 2)) r d (by omega)
    exact readAt_at (s := S1024x4096) (size := S1024x1024.size) _ _ _ (ix2 r d) _ (off17 i) hx
  · intro r d
    have hx := ix4_off (a := 4096) (2048 * (((i 2).val + 1) / 2)) r d (by omega)
    exact readAt_at (s := S1x1x4096x128) (size := S1x1x1024x128.size) _ _ _ (ix4 0 0 r d) _ (off18 i) hx
  · intro r d
    have hx := ix2_whole r d
    rw [View.read_writes_cons_unit_of_mem _ _ _ _ [] _ (ix2 r d) rfl hx]
    refine (pay51_at _ _ _ _ r d).trans ?_
    rw [View.readAt_full, View.readAt_full]

end

end Cert.KernelIdeal.Trips

end
-- ==== Proof.Run.lean ====
/-
  The attention kernel's body over the reals: it leaves its operands as they were and its result's block at the rows' weighted
  sums of the values, divided by the weights' own sum.
-/
module

public import proofs.«01_k».proof.Proof.Trips

@[expose] public section

set_option maxRecDepth 16384

noncomputable section

namespace Cert.KernelIdeal.Run

open Cert.KernelIdeal Cert.KernelIdeal.Gen Cert.KernelIdeal.Tiles Cert.KernelIdeal.Passes Cert.KernelIdeal.Words Cert.KernelIdeal.Trips
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

local notation "𝕄" => MT nD τ sig Unit (Elt Ideal) ℕ (UR sig nD τ) ℕ

/-- The result's block at query block `b`. -/
def outBlk (q : Vec Ideal S1x1x1024x256 .bf16) (x1 : Vec Ideal S1x1x4096x256 .bf16) (x2 : Vec Ideal S1x1x4096x128 .bf16) (b : ℕ) : Vec Ideal S1x1024x128 .bf16 :=
  fun y => Ideal.div (Ax q x1 x2 b (1024 * (b + 1)) (1024 * (b + 1)) (y 1) ⟨(y 2).val, Nat.lt_trans (y 2).isLt (by decide)⟩)
    (Ax q x1 x2 b (1024 * (b + 1)) (1024 * (b + 1)) (y 1) 128)

/-- The last store: the accumulator's columns of values by its column of ones. -/
theorem last (arg6 : Memref sig .tc .vmem S1x1024x128 .bf16) (arg9 : Memref sig .tc .vmem S1024x256 .f32) (q : Vec Ideal S1x1x1024x256 .bf16)
    (x1 : Vec Ideal S1x1x4096x256 .bf16) (x2 : Vec Ideal S1x1x4096x128 .bf16) (b : ℕ) (g6 : BufTy.Contents (Elt Ideal) arg6.view.ty)
    (g9 : BufTy.Contents (Elt Ideal) arg9.view.ty) (inb : ∀ a, (![0, 0, 0] : Fin 3 → ℕ) a + S1x1024x128.size a ≤ S1x1024x128.size a)
    (inb9 : ∀ a, (![0, 0] : Fin 2 → ℕ) a + S1024x256.size a ≤ S1024x256.size a)
    (h : Pass2 q x1 x2 b (1024 * (b + 1)) (1024 * (b + 1)) (arg9.view.read _ g9)) :
    arg6.view.read (Elt Ideal) (arg6.view.writes (Elt Ideal) g6 [⟨Rect.unit (s := S1x1024x128) ![0, 0, 0] S1x1024x128.size inb,
        k0_pay6 (F := Ideal) (arg9.view.readAt (Elt Ideal) (Rect.unit (s := S1024x256) ![0, 0] S1024x256.size inb9).toLoadRect g9)⟩]) = outBlk q x1 x2 b := by
  rw [View.readAt_full]
  funext y
  idx_vars y
  obtain rfl : y0 = 0 := Subsingleton.elim _ _
  have hx : ∀ a : Fin 3, ((ix3 0 y1 y2 : S1x1024x128.Idx) a).val = (![0, 0, 0] : Fin 3 → ℕ) a + ((ix3 0 y1 y2 : S1x1024x128.Idx) a).val := by
    intro a
    match a with
    | ⟨0, _⟩ => exact (Nat.zero_add _).symm
    | ⟨1, _⟩ => exact (Nat.zero_add _).symm
    | ⟨2, _⟩ => exact (Nat.zero_add _).symm
  rw [View.read_writes_cons_unit_of_mem _ _ _ _ [] _ (ix3 0 y1 y2) rfl hx]
  refine (pay6_at _ y1 y2).trans ?_
  rw [h, h]
  rfl

theorem sound_kernel (c : Dev nD) (E : Set ℕ) (i : grid0.Coords)
    (arg3 : Memref sig .tc .vmem S1x1x1024x256 .bf16) (harg3 : arg3.IsWhole)
    (arg4 : Memref sig .tc .vmem S1x1x4096x256 .bf16) (harg4 : arg4.IsWhole)
    (arg5 : Memref sig .tc .vmem S1x1x4096x128 .bf16) (harg5 : arg5.IsWhole)
    (arg6 : Memref sig .tc .vmem S1x1024x128 .bf16) (harg6 : arg6.IsWhole)
    (arg7 : Memref sig .tc .vmem S1024x4096 .f32) (harg7 : arg7.IsWhole)
    (arg8 : Memref sig .tc .vmem S1024x128 .f32) (harg8 : arg8.IsWhole)
    (arg9 : Memref sig .tc .vmem S1024x256 .f32) (harg9 : arg9.IsWhole)
    (x0 : Vec Ideal S1x1x1024x256 .bf16) (x1 : Vec Ideal S1x1x4096x256 .bf16) (x2 : Vec Ideal S1x1x4096x128 .bf16) (K : PUnit → sProp 𝕄) :
    iprop(owns (c : Thread nD τ) arg3 fullShare x0 ∗ owns (c : Thread nD τ) arg4 fullShare x1 ∗ owns (c : Thread nD τ) arg5 fullShare x2
        ∗ (∃ d, owns (c : Thread nD τ) arg6 fullShare d) ∗ (∃ d, owns (c : Thread nD τ) arg7 fullShare d)
        ∗ (∃ d, owns (c : Thread nD τ) arg8 fullShare d) ∗ (∃ d, owns (c : Thread nD τ) arg9 fullShare d)
        ∗ (iprop(owns (c : Thread nD τ) arg3 fullShare x0 ∗ owns (c : Thread nD τ) arg4 fullShare x1 ∗ owns (c : Thread nD τ) arg5 fullShare x2
            ∗ owns (c : Thread nD τ) arg6 fullShare (outBlk x0 x1 x2 (i 2).val) ∗ (∃ d, owns (c : Thread nD τ) arg7 fullShare d)
            ∗ (∃ d, owns (c : Thread nD τ) arg8 fullShare d) ∗ (∃ d, owns (c : Thread nD τ) arg9 fullShare d)) -∗ K ⟨⟩))
      ⊢ wp frame (wpE (defs₀ (F := Ideal)) Variants.none c none) E
          (cc0_mla_attn_p0 (F := Ideal) i arg3 harg3 arg4 harg4 arg5 harg5 arg6 harg6 arg7 harg7 arg8 harg8 arg9 harg9) K := by
  have hc2 := cond2_ne i
  have hc4 := cond4_ne i
  have ht2 := trips2 i
  have ht4 := trips4 i
  have ht6 := trips6 i
  have hb : (i 2).val < 4 := (i 2).isLt
  by_cases hc1 : k0_cond1 i = 1#1
  · have hodd := (cond1_iff i).1 hc1
    have hc3 : ¬ k0_cond3 i = 1#1 := fun h => absurd ((cond3_iff i).1 h) (by omega)
    simp only [cc0_mla_attn_p0_eq_skeleton]; unfold cc0_mla_attn_p0_skel
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%d6, %f6, -, H6⟩, Hk⟩
    subst hf0 hf1 hf2
    sl_exec (disch := first | exact hc1 | exact hc2 | exact hc3 | exact hc4)
    sl_for (fun n _ => state1 c i arg4 arg7 arg8 (arg3.view.read _ f0) f1 (2048 * n)) $$ [H1 H4 H5]
    case region =>
      intro k a
      exact trip1 c E i arg3 harg3 arg4 harg4 arg5 harg5 arg6 harg6 arg7 harg7 arg8 harg8 arg9 harg9 _ _ (congrArg k0_pay52 (View.readAt_full _ _ _)) 0#32 0#32 0#32 0#32 f1 k
    · isplitl [H1]; · iexact H1
      iexists _; iexists _
      isplitl [H4]; · iexact H4
      isplitl [H5]; · iexact H5
      ipureintro
      exact first arg8 _ _ _ _ _ rfl _
    iintro %a ⟨H1, %g7, %g8, H4, H5, %h⟩
    sl_exec (disch := first | exact hc1 | exact hc2 | exact hc3 | exact hc4)
    sl_for (fun n _ => state1 c i arg4 arg7 arg8 (arg3.view.read _ f0) f1 (1024 * (i 2).val + 512 * n)) $$ [H1 H4 H5]
    case region =>
      intro k a
      refine trip3 c E i arg3 harg3 arg4 harg4 arg5 harg5 arg6 harg6 arg7 harg7 arg8 harg8 arg9 harg9 _ _ (congrArg k0_pay52 (View.readAt_full _ _ _)) _ _ 0#32 0#32 ?_ ?_ f1 k
      · generalize i = j; revert j; decide +kernel
      · generalize i = j; revert j; decide +kernel
    · isplitl [H1]; · iexact H1
      iexists _; iexists _
      isplitl [H4]; · iexact H4
      isplitl [H5]; · iexact H5
      ipureintro
      rw [show 1024 * (i 2).val + 512 * 0 = 1024 * (i 2).val by omega]
      refine left1 i arg4 arg7 arg8 _ _ (congrArg k0_pay52 (View.readAt_full _ _ _)) hodd f1 g7 g8 _ _ _ _ _ ?_
      rw [← trips1 i]; exact h
    iintro %a' ⟨H1, %g7', %g8', H4, H5, %h⟩
    have h' : Pass1 (arg3.view.read (Elt Ideal) f0) (arg4.view.read (Elt Ideal) f1) (i 2).val (1024 * ((i 2).val + 1))
        (arg7.view.read (Elt Ideal) g7') (arg8.view.read (Elt Ideal) g8') := by
      rw [show 1024 * ((i 2).val + 1) = 1024 * (i 2).val + 512 * (k0_t3_loop i).trips by rw [trips3]; omega]
      exact h
    sl_exec (disch := first | exact hc1 | exact hc2 | exact hc3 | exact hc4)
    sl_for (fun n _ => state2 c i arg5 arg7 arg8 arg9 (arg3.view.read _ f0) (arg4.view.read _ f1) f2 g7' (1024 * ((i 2).val + 1)) (2048 * n)) $$ [H2 H4 H5 H6]
    case region =>
      intro k a
      exact trip5 c E i arg3 harg3 arg4 harg4 arg5 harg5 arg6 harg6 arg7 harg7 arg8 harg8 arg9 harg9 _ _ f2 g7' h'.1 k
    · isplitl [H2]; · iexact H2
      isplitl [H4]; · iexact H4
      iexists _; iexists _
      isplitl [H5]; · iexact H5
      isplitl [H6]; · iexact H6
      ipureintro
      exact between arg8 arg9 _ _ _ _ _ _ g8' _ _ _ _ _ h'
    iintro %a'' ⟨H2, H4, %g8', %g9, H5, H6, %h⟩
    obtain ⟨h8, h9⟩ := h
    sl_exec (disch := first | exact hc1 | exact hc2 | exact hc3 | exact hc4)
    sl_step
    iapply Hk
    isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [H3]
    · iexists _; isplitr; swap; · iexact H3
      ipureintro
      refine last arg6 arg9 _ _ _ _ _ _ _ _ ?_
      rw [show 1024 * ((i 2).val + 1) = 2048 * (k0_t5_loop i).trips by rw [trips5]; omega] at h9 ⊢
      exact h9
    isplitl [H4]
    · iexists _; iexists _; isplitr; swap; · iexact H4
      ipureintro; rfl
    isplitl [H5]
    · iexists _; iexists _; isplitr; swap; · iexact H5
      ipureintro; rfl
    iexists _; iexists _; isplitr; swap; · iexact H6
    ipureintro; rfl
  · have heven : (i 2).val % 2 = 0 := by have := (cond1_iff i).not.1 hc1; omega
    have hc3 : k0_cond3 i = 1#1 := (cond3_iff i).2 heven
    simp only [cc0_mla_attn_p0_eq_skeleton]; unfold cc0_mla_attn_p0_skel
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%d6, %f6, -, H6⟩, Hk⟩
    subst hf0 hf1 hf2
    sl_exec (disch := first | exact hc1 | exact hc2 | exact hc3 | exact hc4)
    sl_for (fun n _ => state1 c i arg4 arg7 arg8 (arg3.view.read _ f0) f1 (2048 * n)) $$ [H1 H4 H5]
    case region =>
      intro k a
      exact trip1 c E i arg3 harg3 arg4 harg4 arg5 harg5 arg6 harg6 arg7 harg7 arg8 harg8 arg9 harg9 _ _ (congrArg k0_pay52 (View.readAt_full _ _ _)) 0#32 0#32 0#32 0#32 f1 k
    · isplitl [H1]; · iexact H1
      iexists _; iexists _
      isplitl [H4]; · iexact H4
      isplitl [H5]; · iexact H5
      ipureintro
      exact first arg8 _ _ _ _ _ rfl _
    iintro %a ⟨H1, %g7, %g8, H4, H5, %h⟩
    sl_exec (disch := first | exact hc1 | exact hc2 | exact hc3 | exact hc4)
    sl_for (fun n _ => state1 c i arg4 arg7 arg8 (arg3.view.read _ f0) f1 (1024 * (i 2).val + 512 * n)) $$ [H1 H4 H5]
    case region =>
      intro k a
      refine trip3 c E i arg3 harg3 arg4 harg4 arg5 harg5 arg6 harg6 arg7 harg7 arg8 harg8 arg9 harg9 _ _ (congrArg k0_pay52 (View.readAt_full _ _ _)) _ _ 0#32 0#32 ?_ ?_ f1 k
      · generalize i = j; revert j; decide +kernel
      · generalize i = j; revert j; decide +kernel
    · isplitl [H1]; · iexact H1
      iexists _; iexists _
      isplitl [H4]; · iexact H4
      isplitl [H5]; · iexact H5
      ipureintro
      rw [show 1024 * (i 2).val + 512 * 0 = 2048 * ((i 2).val / 2) by omega, ← trips1 i]
      exact h
    iintro %a' ⟨H1, %g7', %g8', H4, H5, %h⟩
    have h' : Pass1 (arg3.view.read (Elt Ideal) f0) (arg4.view.read (Elt Ideal) f1) (i 2).val (1024 * ((i 2).val + 1))
        (arg7.view.read (Elt Ideal) g7') (arg8.view.read (Elt Ideal) g8') := by
      rw [show 1024 * ((i 2).val + 1) = 1024 * (i 2).val + 512 * (k0_t3_loop i).trips by rw [trips3]; omega]
      exact h
    sl_exec (disch := first | exact hc1 | exact hc2 | exact hc3 | exact hc4)
    sl_for (fun n _ => state2 c i arg5 arg7 arg8 arg9 (arg3.view.read _ f0) (arg4.view.read _ f1) f2 g7' (1024 * ((i 2).val + 1)) (2048 * n)) $$ [H2 H4 H5 H6]
    case region =>
      intro k a
      exact trip5 c E i arg3 harg3 arg4 harg4 arg5 harg5 arg6 harg6 arg7 harg7 arg8 harg8 arg9 harg9 _ _ f2 g7' h'.1 k
    · isplitl [H2]; · iexact H2
      isplitl [H4]; · iexact H4
      iexists _; iexists _
      isplitl [H5]; · iexact H5
      isplitl [H6]; · iexact H6
      ipureintro
      exact between arg8 arg9 _ _ _ _ _ _ g8' _ _ _ _ _ h'
    iintro %a'' ⟨H2, H4, %g8', %g9, H5, H6, %h⟩
    obtain ⟨h8, h9⟩ := h
    sl_exec (disch := first | exact hc1 | exact hc2 | exact hc3 | exact hc4)
    sl_step
    iapply Hk
    isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [H3]
    · iexists _; isplitr; swap; · iexact H3
      ipureintro
      refine last arg6 arg9 _ _ _ _ _ _ _ _ ?_
      refine left2 i arg5 arg7 arg8 arg9 _ _ heven _ g7' g8' _ _ _ _ _ _ _ h'.1 h8 ?_
      rw [← trips5 i]; exact h9
    isplitl [H4]
    · iexists _; iexists _; isplitr; swap; · iexact H4
      ipureintro; rfl
    isplitl [H5]
    · iexists _; iexists _; isplitr; swap; · iexact H5
      ipureintro; rfl
    iexists _; iexists _; isplitr; swap; · iexact H6
    ipureintro; rfl

end Cert.KernelIdeal.Run

end
-- ==== Proof.Whole.lean ====
/-
  The attention kernel over the reals: the launch around the body, and what it leaves in its result.
-/
module

public import proofs.«01_k».proof.Proof.Run
public import Idealize.ShloMosaic.Lib.Claim

@[expose] public section

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-- What the pipeline holds: the arrays as the region finds them; after the body the operands' blocks as they were and the result's at the body's value; the scratch at anything. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => Run.outBlk (iblk m c 0 t) (iblk m c 1 t) (iblk m c 2 t) ((grid0.coords t) 2).val
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = Run.outBlk (iblk m c 0 t) (iblk m c 1 t) (iblk m c 2 t) ((grid0.coords t) 2).val := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

/-- The scratch, buffer by buffer, and the generator's register. -/
theorem scratch_eq (c : Dev nD) : (Pipeline.ΦA spec0 c : sProp 𝕄) = iprop(((∃ d, owns (c : Thread nD τ) (Memref.whole cc0_scratch0) fullShare d)
    ∗ (∃ d, owns (c : Thread nD τ) (Memref.whole cc0_scratch1) fullShare d) ∗ (∃ d, owns (c : Thread nD τ) (Memref.whole cc0_scratch2) fullShare d)) ∗ ∃ r, prngReg c r) := by
  unfold Pipeline.ΦA
  rw [scopedRest0_eq]
  simp only [owns_whole]

theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0_0, before0_1, before0_2]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl,
    after0_0, after0_1, after0_2, after0_3, scratch_eq]
  iintro ⟨⟨⟨S0, S1, S2⟩, Hr⟩, Ho, ⟨%d0, H0⟩, ⟨%d1, H1⟩, ⟨%d2, H2⟩, ⟨%d3, H3⟩⟩
  iapply (Run.sound_kernel c Set.univ (grid0.coords t) _ _ _ _ _ _ _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  isplitl [S0]; · iexact S0
  isplitl [S1]; · iexact S1
  isplitl [S2]; · iexact S2
  iintro ⟨H0, H1, H2, H3, S0, S1, S2⟩
  isplitl [S0 S1 S2 Hr]
  · isplitl [S0 S1 S2]
    · isplitl [S0]; · iexact S0
      isplitl [S1]; · iexact S1
      iexact S2
    iexact Hr
  isplitl [Ho]; · iexact Ho
  isplitl [H0]; · iexact H0
  isplitl [H1]; · iexact H1
  isplitl [H2]; · iexact H2
  iexact H3

theorem defs₀_row (t : Fin cfg0.N) :
    defs₀ (F := Ideal) .tc cfg0.body (cfg0.bodyArgs t (cfg0.slots t)) = bodyAt0 t := by
  unfold defs₀; rw [Defs.onTc_tc]

theorem body_obligation (c : Dev nD) : BodyObligation (dats m 0 c) (defs₀ (F := Ideal)) Variants.none () Set.univ := fun t => by
  rw [bigSep_W0, bigSep_W0, defs₀_row]
  exact triple_restated (sound_body m c t) rfl .rfl fun _ => .rfl

set_option backward.isDefEq.respectTransparency.types false in
theorem run_main_quiescent : θ_run defs (onTc (τ := τ) (main (F := Ideal))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := Ideal))) (s₀ m ρ) (Pipeline.FramePost cfgs (dats m) 0 (V m)) :=
  (θ_run defs _ _).mono (fun _ h => h.1) (run_main_quiescent m ρ)

/-- The kernel over the reals ends, its operands as they were. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) (run_main m ρ)) ((θ_run defs _ _).mono (fun _ h => h.2) (run_main_quiescent m ρ))

end Cert.KernelIdeal.Whole

end
-- ==== Proof.Result.lean ====
/-
  The kernel's result array over the reals: element (b, t, h · 128 + d) is the attention block of head `h`, batch `b` and
  query block `t / 1024` at its row and column.
-/
module

public import proofs.«01_k».proof.Proof.Whole
public import Idealize.ShloMosaic.Lib.Pipeline.ValueKit

@[expose] public section

noncomputable section

namespace Cert.KernelIdeal.Result

open Cert.KernelIdeal Cert.KernelIdeal.Gen Cert.KernelIdeal.Whole
open Idealize.ShloMosaic Idealize.ShloMosaic.TcCoe Idealize.SL.Sem
open Idealize.ShloMosaic.Pipeline (Dat)

variable (Q K : FVec Ideal S16x2x4096x256 .bf16) (W : FVec Ideal S16x2x4096x128 .bf16)

def blkQ (h : Fin 16) (b : Fin 2) (j : Fin 4) : Vec Ideal S1x1x1024x256 .bf16 := fun z => Q (ix4 h b ⟨j.val * 1024 + (z 2).val, by have := (z 2).isLt; have e : S1x1x1024x256.size 2 = 1024 := rfl; omega⟩ (z 3))
def blkK (h : Fin 16) (b : Fin 2) : Vec Ideal S1x1x4096x256 .bf16 := fun z => K (ix4 h b (z 2) (z 3))
def blkV (h : Fin 16) (b : Fin 2) : Vec Ideal S1x1x4096x128 .bf16 := fun z => W (ix4 h b (z 2) (z 3))

/-- One element of the result. -/
def el (b : Fin 2) (j : Fin 4) (h : Fin 16) (r : Fin 1024) (d : Fin 128) : EReal :=
  Run.outBlk (blkQ Q h b j) (blkK K h b) (blkV W h b) j.val (ix3 0 r d)

/-- The result array. -/
def out : FVec Ideal S2x4096x2048 .bf16 := fun i =>
  el Q K W (i 0) ⟨(i 1).val / 1024, by have := (i 1).isLt; have e : S2x4096x2048.size 1 = 4096 := rfl; omega⟩
    ⟨(i 2).val / 128, by have := (i 2).isLt; have e : S2x4096x2048.size 2 = 2048 := rfl; omega⟩
    ⟨(i 1).val % 1024, Nat.mod_lt _ (by decide)⟩ ⟨(i 2).val % 128, Nat.mod_lt _ (by decide)⟩

theorem out_at (i : S2x4096x2048.Idx) (b : Fin 2) (j : Fin 4) (h : Fin 16) (r : Fin 1024) (d : Fin 128) (h0 : (i 0).val = b.val)
    (h1 : (i 1).val = j.val * 1024 + r.val) (h2 : (i 2).val = h.val * 128 + d.val) : out Q K W i = el Q K W b j h r d := by
  unfold out
  have e0 : i 0 = b := Fin.ext h0
  rw [e0]
  congr 1 <;> (apply Fin.ext; simp only; omega)

theorem idx : ∀ t : Fin cfg0.N,
    win0_0.index t = ![(grid0.coords t 1).val, (grid0.coords t 0).val, (grid0.coords t 2).val, 0]
    ∧ win0_1.index t = ![(grid0.coords t 1).val, (grid0.coords t 0).val, 0, 0]
    ∧ win0_2.index t = ![(grid0.coords t 1).val, (grid0.coords t 0).val, 0, 0]
    ∧ win0_3.index t = ![(grid0.coords t 0).val, (grid0.coords t 2).val, (grid0.coords t 1).val] :=
  (by decide +kernel : ∀ t : Fin grid0.N, _)

variable (m : (ℓ : Loc nD τ sig) → Buf (Elt Ideal) ℓ) (ρ : Dev nD → PrngReg)

theorem blk0 (c : Dev nD) (t : Fin cfg0.N) :
    iblk m c 0 t = blkQ (m ((c : Thread nD τ).loc main_arg0)) (grid0.coords t 1) (grid0.coords t 0) (grid0.coords t 2) := by
  funext z
  unfold blkQ
  blk_ext [iblk, V, idx t]

theorem blk1 (c : Dev nD) (t : Fin cfg0.N) :
    iblk m c 1 t = blkK (m ((c : Thread nD τ).loc main_arg1)) (grid0.coords t 1) (grid0.coords t 0) := by
  funext z
  unfold blkK
  blk_ext [iblk, V, idx t]

theorem blk2 (c : Dev nD) (t : Fin cfg0.N) :
    iblk m c 2 t = blkV (m ((c : Thread nD τ).loc main_arg2)) (grid0.coords t 1) (grid0.coords t 0) := by
  funext z
  unfold blkV
  blk_ext [iblk, V, idx t]

theorem final (c : Dev nD) : (dats m 0 c).arrAt 3 (cfgs 0).N
    = out (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3, blk0, blk1, blk2]
  have key : ∀ z : S1x1024x128.Idx, Run.outBlk (blkQ (m (c.tc.loc main_arg0)) (grid0.coords t 1) (grid0.coords t 0) (grid0.coords t 2))
      (blkK (m (c.tc.loc main_arg1)) (grid0.coords t 1) (grid0.coords t 0))
      (blkV (m (c.tc.loc main_arg2)) (grid0.coords t 1) (grid0.coords t 0)) (grid0.coords t 2).val z
        = out (m (c.tc.loc main_arg0)) (m (c.tc.loc main_arg1)) (m (c.tc.loc main_arg2)) ((win0_3.blk t).view.emb z) := by
    intro z
    idx_vars z
    obtain rfl : z0 = 0 := Subsingleton.elim _ _
    refine (out_at _ _ _ _ (grid0.coords t 0) (grid0.coords t 2) (grid0.coords t 1) z1 z2 ?_ ?_ ?_).symm
    · blk_simp [idx t] <;> rfl
    · blk_simp [idx t] <;> rfl
    · blk_simp [idx t] <;> rfl
  exact key y

/-- The kernel's run with its result. -/
theorem run : θ_run defs (onTc (τ := τ) (main (F := Ideal))) ⟨m, fun _ => 0, ρ⟩ (fun r => ∀ c : Dev nD,
      r.2.mem ((c.tc : Thread nD τ).loc main_v0) = out (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h.1 c).1 3).trans (final m c), h.2.1 c⟩) (θ_run_and (run_main m ρ) (frame m ρ))

end Cert.KernelIdeal.Result

end
-- ==== Proof.Ref.lean ====
/-
  The reference read at one element: the row's masked scores, their maximum, the softmax weights and the weighted sum of
  the values.
-/
module

public import proofs.«01_k».proof.Proof.Gen.ReferenceIdeal.Read
public import Idealize.ShloMosaic.Lib.Pointwise
public import Idealize.ShloMosaic.Lib.KernelVsHost
public import Idealize.ShloMosaic.Lib.WordCmp

@[expose] public section

noncomputable section

namespace Cert.ReferenceIdeal.Row

open Cert.ReferenceIdeal Cert.ReferenceIdeal.Gen Cert.ReferenceIdeal.Read
open Idealize.ShloMosaic Idealize.ShloMosaic.TcCoe Idealize.SL.Sem

variable (Q K : FVec Ideal S16x2x4096x256 .bf16) (W : FVec Ideal S16x2x4096x128 .bf16)

/-- The sign of a word. -/
def sg (x : BitVec 32) : BitVec 32 := if x = 0 then 0 else if x.msb then -1 else 1

/-- The printed floor division by 64 of a word. -/
def fl (x : BitVec 32) : BitVec 32 :=
  Scalar.select (IntOp.andi (IntOp.cmpi .ne (sg x) (sg 64#32)) (IntOp.cmpi .ne (IntOp.remsi .host x 64#32) 0#32))
    (IntOp.subi (IntOp.divsi .host x 64#32) 1#32) (IntOp.divsi .host x 64#32)

theorem fl_at : ∀ n : Fin 4096, fl (BitVec.ofNat 32 n.val) = BitVec.ofNat 32 (n.val / 64) := by decide +kernel

theorem sle_at : ∀ a b : Fin 64, IntOp.cmpi .sle (BitVec.ofNat 32 a.val) (BitVec.ofNat 32 b.val) = if a.val ≤ b.val then 1#1 else 0#1 := by decide +kernel

theorem chunk7 (i : S4096.Idx) : val_main_v7 (F := Ideal) i = BitVec.ofNat 32 ((i 0).val / 64) :=
  (show val_main_v7 (F := Ideal) i = fl (BitVec.ofNat 32 (i 0).val) from rfl).trans (fl_at (i 0))

theorem chunk9 (i : S4096.Idx) : val_main_v9 (F := Ideal) i = BitVec.ofNat 32 ((i 0).val / 64) :=
  (show val_main_v9 (F := Ideal) i = fl (BitVec.ofNat 32 (i 0).val) from rfl).trans (fl_at (i 0))

/-- The mask. -/
theorem mask (b : Fin 2) (h : Fin 16) (R c : Fin 4096) :
    val_main_call2_v1 (F := Ideal) (ix4 b h R c) = if c.val / 64 ≤ R.val / 64 then 1#1 else 0#1 := by
  rw [val_main_call2_v1_apply, val_main_v14_apply, val_main_v13_apply, val_main_v11_apply, val_main_v12_apply, val_main_v8_apply,
    val_main_v10_apply, chunk7, chunk9]
  exact sle_at ⟨c.val / 64, by omega⟩ ⟨R.val / 64, by omega⟩

theorem ofBits_two : Ideal.ofBits .f32 0x40000000#32 = ((2 : ℝ) : EReal) := by
  simp [Ideal.ofBits, Ideal.ieee]
  norm_num
  rw [← EReal.coe_mul]
  norm_num

theorem ofBits_ninf : Ideal.ofBits .f32 0xFF800000#32 = (⊥ : EReal) := by
  simp [Ideal.ofBits, Ideal.ieee]

theorem ofBits_zero : Ideal.ofBits .f32 0x00000000#32 = (0 : EReal) := by
  simp [Ideal.ofBits, Ideal.ieee]

theorem log_two : val_main_v3 (F := Ideal) = fun _ => ((Real.log 2 : ℝ) : EReal) := by
  funext i
  rw [val_main_v3_apply, val_main_cst_apply]
  show Ideal.log (Ideal.ofBits .f32 0x40000000#32) = _
  rw [ofBits_two]
  show (if (2 : ℝ) ≤ 0 then (⊥ : EReal) else (Real.log 2 : EReal)) = _
  rw [if_neg (by norm_num)]

/-- The masked score times `log 2`. -/
def sc (b : Fin 2) (h : Fin 16) (R c : Fin 4096) : EReal :=
  if c.val / 64 ≤ R.val / 64 then (∑ d : Fin 256, Q (ix4 h b R d) * K (ix4 h b c d)) * ((Real.log 2 : ℝ) : EReal) else ⊥

theorem score (b : Fin 2) (h : Fin 16) (R c : Fin 4096) : val_main_v15 (F := Ideal) Q K (ix4 b h R c) = sc Q K b h R c := by
  rw [val_main_v15_apply, mask, val_main_v5_apply, val_main_v4_apply, log_two, val_main_v2_apply, val_main_call2_v2_apply]
  unfold sc
  by_cases hc : c.val / 64 ≤ R.val / 64
  · rw [if_pos hc, if_pos hc]
    refine Ideal.mul_congr (Finset.sum_congr rfl fun d _ => Ideal.mul_congr ?_ ?_) rfl
    · exact congrArg Q (by idx_ext)
    · exact congrArg K (by idx_ext)
  · rw [if_neg hc, if_neg hc]
    exact ofBits_ninf

/-- The row's maximum. -/
theorem top (b : Fin 2) (h : Fin 16) (R : Fin 4096) : val_main_v18 (F := Ideal) Q K (ix3 b h R) = Finset.univ.sup (sc Q K b h R) := by
  have e16 : val_main_v16 (F := Ideal) Q K (ix3 b h R) = Finset.univ.sup (sc Q K b h R) := by
    unfold val_main_v16
    rw [Host.reduce_eq_fold_single FloatOps.maximumf _ _ _ (by decide) h_S_]
    have e1 : (val_main_cst_2 (F := Ideal)) (Shape.Idx.first h_S_) = (⊥ : EReal) := ofBits_ninf
    rw [e1]
    show Finset.fold max (⊥ : EReal) _ _ = Finset.fold max (⊥ : EReal) _ _
    refine Finset.fold_congr fun c _ => ?_
    exact (congrArg (val_main_v15 (F := Ideal) Q K) (funext fun a => Fin.ext (by fin_cases a <;> rfl))).trans (score Q K b h R c)
  rw [val_main_v18_apply, e16, val_main_v17_apply]
  show max (Ideal.ofBits .f32 0xFF800000#32) _ = _
  rw [ofBits_ninf]
  exact max_eq_right bot_le

/-- The exponential of a score against the row's maximum. -/
theorem expo (b : Fin 2) (h : Fin 16) (R c : Fin 4096) :
    val_main_v22 (F := Ideal) Q K (ix4 b h R c) = Ideal.exp (sc Q K b h R c - Finset.univ.sup (sc Q K b h R)) := by
  rw [val_main_v22_apply, val_main_v21_apply, score, val_main_v20_apply, val_main_v19_apply]
  rw [show idx_main_v19 (idx_main_v20 (ix4 b h R c)) = ix3 b h R from by idx_ext, top]
  rfl

theorem weight (b : Fin 2) (h : Fin 16) (R c : Fin 4096) :
    val_main_v26 (F := Ideal) Q K (ix4 b h R c) = Ideal.div (Ideal.exp (sc Q K b h R c - Finset.univ.sup (sc Q K b h R)))
      (∑ c' : Fin 4096, Ideal.exp (sc Q K b h R c' - Finset.univ.sup (sc Q K b h R))) := by
  rw [val_main_v26_apply, expo, val_main_v25_apply, val_main_v24_apply, val_main_v23_apply]
  refine congrArg (Ideal.div _) ?_
  rw [show val_main_cst_4 (F := Ideal) (Shape.Idx.first h_S_) = (0 : EReal) from ofBits_zero, zero_add]
  refine Finset.sum_congr rfl fun c' _ => ?_
  refine Eq.trans (congrArg (val_main_v22 (F := Ideal) Q K) ?_) (expo Q K b h R c')
  idx_ext

/-- The reference at one element. -/
theorem out (i : S2x4096x2048.Idx) (b : Fin 2) (R : Fin 4096) (h : Fin 16) (d : Fin 128) (h0 : (i 0).val = b.val) (h1 : (i 1).val = R.val)
    (h2 : (i 2).val = h.val * 128 + d.val) : val_main_v31 (F := Ideal) Q K W i
      = ∑ c : Fin 4096, W (ix4 h b c d) * Ideal.div (Ideal.exp (sc Q K b h R c - Finset.univ.sup (sc Q K b h R)))
      (∑ c' : Fin 4096, Ideal.exp (sc Q K b h R c' - Finset.univ.sup (sc Q K b h R))) := by
  rw [val_main_v31_apply, val_main_v30_apply, val_main_v29_apply]
  have hd := d.isLt
  have hh := h.isLt
  have hR := R.isLt
  have hb := b.isLt
  have e : idx_main_v29 (idx_main_v30 i) = ix4 b h d R := funext fun a => Fin.ext (match a with
    | ⟨0, _⟩ => by show (((i 0).val * 4096 + (i 1).val) * 2048 + (i 2).val) / 8388608 = b.val; omega
    | ⟨1, _⟩ => by show (((i 0).val * 4096 + (i 1).val) * 2048 + (i 2).val) / 128 % 16 = h.val; omega
    | ⟨2, _⟩ => by show (((i 0).val * 4096 + (i 1).val) * 2048 + (i 2).val) % 128 = d.val; omega
    | ⟨3, _⟩ => by show (((i 0).val * 4096 + (i 1).val) * 2048 + (i 2).val) / 2048 % 4096 = R.val; omega)
  rw [e]
  refine (val_main_v28_apply Q K W _).trans ?_
  refine Finset.sum_congr rfl fun c _ => Ideal.mul_congr ?_ ?_
  · rw [val_main_v27_apply]
    exact congrArg W (by idx_ext)
  · refine Eq.trans (congrArg (val_main_v26 (F := Ideal) Q K) ?_) (weight Q K b h R c)
    idx_ext

end Cert.ReferenceIdeal.Row

end
-- ==== Proof.Softmax.lean ====
/-
  The equation between the kernel's softmax and the reference's, over the extended reals, for one row: the sum of the
  weights `2 ^ (s - m)` times the values, divided by the weights' sum, is the sum over all keys of the values times
  `exp (s log 2 - m log 2)` divided by its sum. The scores are real and at least one key is seen; the values are any.
-/
module

public import Idealize.ShloMosaic.Lib.Pipeline.Value
public import Idealize.ShloMosaic.PureOps.Ideal

@[expose] public section

noncomputable section

namespace Cert.Softmax

open Idealize.ShloMosaic Idealize.ShloMosaic.TcCoe Idealize.SL.Sem

variable (s : Fin 4096 → ℝ) (P : Fin 4096 → Prop) [DecidablePred P] (v : Fin 4096 → EReal)

/-- The scores, with the keys not seen at `⊥`. -/
def sc (c : Fin 4096) : EReal := if P c then (s c : EReal) else ⊥

/-- The same times `log 2`. -/
def scl (c : Fin 4096) : EReal := if P c then (s c : EReal) * ((Real.log 2 : ℝ) : EReal) else ⊥

/-- A key's weight against `m`. -/
def wt (m : ℝ) (c : Fin 4096) : ℝ := if P c then Real.rpow 2 (s c - m) else 0

theorem wt_nonneg (m : ℝ) (c : Fin 4096) : 0 ≤ wt s P m c := by
  unfold wt
  split
  · exact Real.rpow_nonneg (by norm_num) _
  · exact le_refl _

theorem exp2_sc (m : ℝ) (c : Fin 4096) : Ideal.exp2 (sc s P c - (m : EReal)) = (wt s P m c : EReal) := by
  unfold sc wt
  split
  · rw [← EReal.coe_sub, Ideal.exp2_coe]
  · rw [EReal.bot_sub]; rfl

theorem exp_scl (m : ℝ) (c : Fin 4096) : Ideal.exp (scl s P c - ((m * Real.log 2 : ℝ) : EReal)) = (wt s P m c : EReal) := by
  unfold scl wt
  split
  · rw [← EReal.coe_mul, ← EReal.coe_sub, Ideal.exp_coe]
    refine congrArg _ ?_
    show _ = (2 : ℝ) ^ (s c - m)
    rw [Real.rpow_def_of_pos (by norm_num)]
    exact congrArg _ (by ring)
  · rw [EReal.bot_sub]; rfl

theorem exists_max (c0 : Fin 4096) (h0 : P c0) : ∃ c1, P c1 ∧ ∀ c, P c → s c ≤ s c1 := by
  obtain ⟨c1, h1, h2⟩ := (Finset.univ.filter P).exists_max_image s ⟨c0, Finset.mem_filter.2 ⟨Finset.mem_univ _, h0⟩⟩
  exact ⟨c1, (Finset.mem_filter.1 h1).2, fun c hc => h2 c (Finset.mem_filter.2 ⟨Finset.mem_univ _, hc⟩)⟩

theorem sup_sc (N : ℕ) (hN : ∀ c, P c → c.val < N) (c1 : Fin 4096) (h1 : P c1) (hm : ∀ c, P c → s c ≤ s c1) :
    (Finset.univ.filter fun c : Fin 4096 => c.val < N).sup (sc s P) = (s c1 : EReal) := by
  refine le_antisymm (Finset.sup_le fun c _ => ?_) ?_
  · unfold sc
    split
    · exact EReal.coe_le_coe_iff.2 (hm c ‹_›)
    · exact bot_le
  · have := Finset.le_sup (f := sc s P) (show c1 ∈ Finset.univ.filter fun c : Fin 4096 => c.val < N from Finset.mem_filter.2 ⟨Finset.mem_univ c1, hN c1 h1⟩)
    rwa [show sc s P c1 = (s c1 : EReal) from if_pos h1] at this

theorem sup_scl (c1 : Fin 4096) (h1 : P c1) (hm : ∀ c, P c → s c ≤ s c1) :
    Finset.univ.sup (scl s P) = ((s c1 * Real.log 2 : ℝ) : EReal) := by
  have hl : (0 : ℝ) ≤ Real.log 2 := Real.log_nonneg (by norm_num)
  refine le_antisymm (Finset.sup_le fun c _ => ?_) ?_
  · unfold scl
    split
    · rw [← EReal.coe_mul]
      exact EReal.coe_le_coe_iff.2 (mul_le_mul_of_nonneg_right (hm c ‹_›) hl)
    · exact bot_le
  · have := Finset.le_sup (f := scl s P) (Finset.mem_univ c1)
    rwa [show scl s P c1 = (s c1 : EReal) * ((Real.log 2 : ℝ) : EReal) from if_pos h1, ← EReal.coe_mul] at this

theorem sum_mul_coe {ι : Type*} (S : Finset ι) (f : ι → EReal) (a : ℝ) (ha : 0 ≤ a) : (∑ i ∈ S, f i) * (a : EReal) = ∑ i ∈ S, f i * (a : EReal) := by
  classical
  induction S using Finset.induction_on with
  | empty => simp
  | insert i S hi ih =>
    rw [Finset.sum_insert hi, Finset.sum_insert hi, EReal.right_distrib_of_nonneg_of_ne_top (EReal.coe_nonneg.2 ha) (EReal.coe_ne_top a), ih]

theorem coe_sum {ι : Type*} (S : Finset ι) (f : ι → ℝ) : ((∑ i ∈ S, f i : ℝ) : EReal) = ∑ i ∈ S, (f i : EReal) := by
  classical
  induction S using Finset.induction_on with
  | empty => simp
  | insert i S hi ih => rw [Finset.sum_insert hi, Finset.sum_insert hi, EReal.coe_add, ih]

/-- A sum over the first `N` numbers of a function that vanishes at the keys not seen is the sum over all keys. -/
theorem sum_prefix (N : ℕ) (hN4 : N ≤ 4096) (hN : ∀ c, P c → c.val < N) (f : ℕ → EReal) (g : Fin 4096 → EReal)
    (hf : ∀ c : Fin 4096, f c.val = g c) (hg : ∀ c, ¬ P c → g c = 0) : ∑ n ∈ Finset.range N, f n = ∑ c, g c := by
  have h1 : ∑ n ∈ Finset.range N, f n = ∑ n ∈ Finset.range 4096, f n := by
    refine Finset.sum_subset (Finset.range_subset_range.2 hN4) fun n hn hn' => ?_
    have hlt : n < 4096 := Finset.mem_range.1 hn
    have h : ¬ P ⟨n, hlt⟩ := fun hp => hn' (Finset.mem_range.2 (hN _ hp))
    exact (hf ⟨n, hlt⟩).trans (hg _ h)
  rw [h1, Finset.sum_range]
  exact Finset.sum_congr rfl fun c _ => hf c

/-- The row's equation. -/
theorem row (N : ℕ) (hN4 : N ≤ 4096) (hN : ∀ c, P c → c.val < N) (c0 : Fin 4096) (h0 : P c0) (f z : ℕ → EReal)
    (hf : ∀ c : Fin 4096, f c.val = Ideal.exp2 (sc s P c - (Finset.univ.filter fun c : Fin 4096 => c.val < N).sup (sc s P)) * v c)
    (hz : ∀ c : Fin 4096, z c.val = Ideal.exp2 (sc s P c - (Finset.univ.filter fun c : Fin 4096 => c.val < N).sup (sc s P)) * 1) :
    Ideal.div (∑ n ∈ Finset.range N, f n) (∑ n ∈ Finset.range N, z n)
      = ∑ c, v c * Ideal.div (Ideal.exp (scl s P c - Finset.univ.sup (scl s P))) (∑ c', Ideal.exp (scl s P c' - Finset.univ.sup (scl s P))) := by
  obtain ⟨c1, h1, hm⟩ := exists_max s P c0 h0
  rw [sup_sc s P N hN c1 h1 hm] at hf hz
  rw [sup_scl s P c1 h1 hm]
  have w0 : ∀ c, ¬ P c → (wt s P (s c1) c : EReal) = 0 := fun c hc => by rw [show wt s P (s c1) c = 0 from if_neg hc]; rfl
  have ef : ∑ n ∈ Finset.range N, f n = ∑ c, (wt s P (s c1) c : EReal) * v c :=
    sum_prefix P N hN4 hN f _ (fun c => by rw [hf, exp2_sc]) (fun c hc => by rw [w0 c hc, zero_mul])
  have ez : ∑ n ∈ Finset.range N, z n = ((∑ c, wt s P (s c1) c : ℝ) : EReal) := by
    rw [coe_sum]
    exact sum_prefix P N hN4 hN z _ (fun c => by rw [hz, exp2_sc, mul_one]) w0
  have er : ∑ c', Ideal.exp (scl s P c' - ((s c1 * Real.log 2 : ℝ) : EReal)) = ((∑ c, wt s P (s c1) c : ℝ) : EReal) := by
    rw [coe_sum]
    exact Finset.sum_congr rfl fun c _ => exp_scl s P (s c1) c
  rw [ef, ez, er]
  have hpos : 0 < ∑ c, wt s P (s c1) c := by
    refine Finset.sum_pos' (fun c _ => wt_nonneg s P _ c) ⟨c1, Finset.mem_univ _, ?_⟩
    rw [show wt s P (s c1) c1 = Real.rpow 2 (s c1 - s c1) from if_pos h1]
    exact Real.rpow_pos_of_pos (by norm_num) _
  rw [Ideal.div_coe hpos.ne', sum_mul_coe _ _ _ (by positivity)]
  refine Finset.sum_congr rfl fun c _ => ?_
  rw [exp_scl, Ideal.div_coe hpos.ne', mul_comm (wt s P (s c1) c : EReal) (v c), mul_assoc]

end Cert.Softmax

end
-- ==== Proof.Attention.lean ====
/-
  The kernel's element is the reference's: with real queries and keys, the attention block's element is the softmax of the
  row's visible scores applied to the values.
-/
module

public import proofs.«01_k».proof.Proof.Result
public import proofs.«01_k».proof.Proof.Ref
public import proofs.«01_k».proof.Proof.Softmax
public import proofs.«01_k».proof.Pre_finite
public import Idealize.ShloMosaic.Lib.ReduceAll

@[expose] public section

noncomputable section

namespace Cert.Attention

open Idealize.ShloMosaic Idealize.ShloMosaic.TcCoe Idealize.SL.Sem
open Cert.KernelIdeal Cert.KernelIdeal.Passes Cert.KernelIdeal.Result

variable (Q K : FVec Ideal S16x2x4096x256 .bf16) (W : FVec Ideal S16x2x4096x128 .bf16)

/-- The scores are real where the queries and keys are. -/
theorem real_scores (hQ : ∀ i, ∃ r : ℝ, Q i = (r : EReal)) (hK : ∀ i, ∃ r : ℝ, K i = (r : EReal)) (h : Fin 16) (b : Fin 2) (R : Fin 4096) :
    ∃ s : Fin 4096 → ℝ, ∀ c, ∑ d : Fin 256, Q (ix4 h b R d) * K (ix4 h b c d) = (s c : EReal) := by
  choose q hq using hQ
  choose k hk using hK
  refine ⟨fun c => ∑ d : Fin 256, q (ix4 h b R d) * k (ix4 h b c d), fun c => ?_⟩
  rw [Softmax.coe_sum]
  exact Finset.sum_congr rfl fun d _ => by rw [hq, hk, EReal.coe_mul]

theorem el_eq (hQ : ∀ i, ∃ r : ℝ, Q i = (r : EReal)) (hK : ∀ i, ∃ r : ℝ, K i = (r : EReal)) (b : Fin 2) (j : Fin 4) (h : Fin 16)
    (r : Fin 1024) (d : Fin 128) (R : Fin 4096) (hR : R.val = j.val * 1024 + r.val) :
    el Q K W b j h r d = ∑ c : Fin 4096, W (ix4 h b c d) * Ideal.div (Ideal.exp (ReferenceIdeal.Row.sc Q K b h R c - Finset.univ.sup (ReferenceIdeal.Row.sc Q K b h R)))
      (∑ c' : Fin 4096, Ideal.exp (ReferenceIdeal.Row.sc Q K b h R c' - Finset.univ.sup (ReferenceIdeal.Row.sc Q K b h R))) := by
  obtain ⟨s, hs⟩ := real_scores Q K hQ hK h b R
  have hj := j.isLt
  have hr := r.isLt
  have e1 : ReferenceIdeal.Row.sc Q K b h R = Softmax.scl s (fun c => c.val / 64 ≤ R.val / 64) := by
    funext c
    unfold ReferenceIdeal.Row.sc Softmax.scl
    rw [hs c]
  have e2 : Sc (blkQ Q h b j) (blkK K h b) j.val r = Softmax.sc s (fun c => c.val / 64 ≤ R.val / 64) := by
    funext c
    unfold Sc Softmax.sc
    rw [show 1024 * j.val + r.val = R.val by omega, ← hs c]
    congr 1
    refine Finset.sum_congr rfl fun x _ => Ideal.mul_congr ?_ ?_
    · exact congrArg Q (by rw [show R = ⟨j.val * 1024 + r.val, by omega⟩ from Fin.ext hR]; rfl)
    · rfl
  rw [e1]
  have hd : d.val < 256 := Nat.lt_trans d.isLt (by decide)
  show Ideal.div (∑ n ∈ Finset.range (1024 * (j.val + 1)), Wt (blkQ Q h b j) (blkK K h b) (blkV W h b) j.val (1024 * (j.val + 1)) r ⟨d.val, hd⟩ n)
    (∑ n ∈ Finset.range (1024 * (j.val + 1)), Wt (blkQ Q h b j) (blkK K h b) (blkV W h b) j.val (1024 * (j.val + 1)) r 128 n) = _
  refine Softmax.row s (fun c => c.val / 64 ≤ R.val / 64) (fun c => W (ix4 h b c d)) (1024 * (j.val + 1)) (by omega) (fun c hc => by omega) R le_rfl _ _
    (fun c => ?_) (fun c => ?_)
  · unfold Wt Mx
    rw [dif_pos c.isLt, e2]
    refine Ideal.mul_congr rfl ?_
    unfold Vx
    exact dif_pos d.isLt
  · unfold Wt Mx
    rw [dif_pos c.isLt, e2]
    refine Ideal.mul_congr rfl ?_
    unfold Vx
    rw [dif_neg (by decide)]
    rfl

/-- The two result arrays are one. -/
theorem out_eq (hQ : ∀ i, ∃ r : ℝ, Q i = (r : EReal)) (hK : ∀ i, ∃ r : ℝ, K i = (r : EReal)) :
    Result.out Q K W = ReferenceIdeal.Read.val_main_v31 (F := Ideal) Q K W := by
  funext i
  have h1 : (i 1).val < 4096 := (i 1).isLt
  have h2 : (i 2).val < 2048 := (i 2).isLt
  refine Eq.trans ?_ (ReferenceIdeal.Row.out Q K W i (i 0) (i 1) ⟨(i 2).val / 128, by omega⟩ ⟨(i 2).val % 128, by omega⟩ rfl rfl (by simp only; omega)).symm
  exact el_eq Q K W hQ hK _ _ _ _ _ _ (by simp only; omega)

/-- What the precondition says: the queries and the keys are real. -/
theorem real_of_pre [h : Cert.Pre_finite.Facts] (hp : Cert.Pre_finite.fn (F := Ideal) Q K W = fun _ => 1#1) :
    (∀ i, ∃ r : ℝ, Q i = (r : EReal)) ∧ (∀ i, ∃ r : ℝ, K i = (r : EReal)) := by
  have top : Ideal.ofBits .f32 0x7F800000#32 = (⊤ : EReal) := by simp [Ideal.ofBits, Ideal.ieee]
  have key : ∀ x : EReal, Ideal.cmp .olt (max x (-x)) (Ideal.ofBits .f32 0x7F800000#32) = 1#1 → ∃ r : ℝ, x = (r : EReal) := by
    intro x hx
    rw [top] at hx
    induction x using EReal.rec with
    | bot => simp [Ideal.cmp] at hx
    | top => simp [Ideal.cmp] at hx
    | coe r => exact ⟨r, rfl⟩
  have and1 : ∀ a b : BitVec 1, IntOp.andi a b = 1#1 → a = 1#1 ∧ b = 1#1 := by decide
  have h0 := congrFun hp (fun a => a.elim0)
  obtain ⟨ha, hb⟩ := and1 _ _ h0
  have : Subsingleton Cert.Pre_finite.S_.Idx := ⟨fun x y => funext fun a => a.elim0⟩
  exact ⟨fun i => key _ (Host.reduce_andi_all _ _ _ _ _ ha i), fun i => key _ (Host.reduce_andi_all _ _ _ _ _ hb i)⟩

end Cert.Attention

end
-- ==== Proof.Ffn.lean ====
/-
  The feed-forward call: over a block's 16 grid points the scratch gathers the squared-relu product, 512 of the 8192 inner
  features at a point; the last point adds the residual and normalises.
-/
module

public import proofs.«01_k».proof.Proof.Gen.FfnIdeal.Frame
public import proofs.«01_k».proof.Proof.Gen.FfnReferenceIdeal.Read
public import Idealize.ShloMosaic.Lib.Pipeline.ValueKit
public import Idealize.ShloMosaic.Lib.KernelVsHost

@[expose] public section

set_option maxRecDepth 16384

noncomputable section

namespace Cert.FfnIdeal.Result

open Cert.FfnIdeal Cert.FfnIdeal.Gen
open Idealize.ShloMosaic Idealize.ShloMosaic.TcCoe Idealize.SL.Sem

/-- An inner feature: the square of the positive part of the product. -/
def inner {n l : ℕ} (H : Fin n → Fin 2048 → EReal) (U : Fin 2048 → Fin l → EReal) (r : Fin n) (f : Fin l) : EReal :=
  max (∑ k, H r k * U k f) 0 * max (∑ k, H r k * U k f) 0

theorem inner_congr {n l n' l' : ℕ} {H : Fin n → Fin 2048 → EReal} {U : Fin 2048 → Fin l → EReal} {H' : Fin n' → Fin 2048 → EReal}
    {U' : Fin 2048 → Fin l' → EReal} {r : Fin n} {f : Fin l} {r' : Fin n'} {f' : Fin l'}
    (hH : ∀ k, H r k = H' r' k) (hU : ∀ k, U k f = U' k f') : inner H U r f = inner H' U' r' f' := by
  unfold inner
  rw [Finset.sum_congr rfl fun k _ => Ideal.mul_congr (hH k) (hU k)]

theorem fill (y) : k0_pay1 (F := Ideal) y = 0 := by pointwise [k0_pay1]

/-- One point adds the products over its 512 inner features. -/
theorem step (h : FVec Ideal S512x2048 .f32) (u : FVec Ideal S2048x512 .bf16) (a : FVec Ideal S512x2048 .f32)
    (d : FVec Ideal S512x2048 .bf16) (y : S512x2048.Idx) :
    k0_pay2 h u a d y
      = a y + ∑ f : Fin 512, inner (fun r k => h (ix2 r k)) (fun k f => u (ix2 k f)) (y 0) f * d (ix2 f (y 1)) := by
  unfold inner
  pointwise [k0_pay2]

variable (m : (ℓ : Loc nD τ sig) → Buf (Elt Ideal) ℓ)

/-- The windows' blocks at every grid point. -/
theorem idx : ∀ t : Fin cfg0.N, win0_0.index t = ![t.val / 16, 0] ∧ win0_1.index t = ![0, t.val % 16] ∧ win0_2.index t = ![t.val % 16, 0] ∧
    win0_3.index t = ![0, 0] ∧ win0_4.index t = ![0, 0] ∧ win0_5.index t = ![t.val / 16, 0] :=
  (by decide +kernel : ∀ t : Fin grid0.N, _)

/-- The reference's product of the squared features with the second matrix. -/
abbrev feed (c : Dev nD) : FVec Ideal S8192x2048 .f32 :=
  Cert.FfnReferenceIdeal.Read.val_main_v5 (F := Ideal) (m ((c : Thread nD τ).loc main_arg0)) (m ((c : Thread nD τ).loc main_arg1)) (m ((c : Thread nD τ).loc main_arg2))

/-- The reference's result over the kernel's arguments. -/
abbrev want (c : Dev nD) : FVec Ideal S8192x2048 .f32 :=
  Cert.FfnReferenceIdeal.Read.val_main_v30 (F := Ideal) (m ((c : Thread nD τ).loc main_arg0)) (m ((c : Thread nD τ).loc main_arg1)) (m ((c : Thread nD τ).loc main_arg2)) (m ((c : Thread nD τ).loc main_arg3)) (m ((c : Thread nD τ).loc main_arg4))

/-- The product as a sum over the inner features. -/
theorem feed_at (H : FVec Ideal Cert.FfnReferenceIdeal.S8192x2048 .f32) (U : FVec Ideal Cert.FfnReferenceIdeal.S2048x8192 .bf16)
    (W : FVec Ideal Cert.FfnReferenceIdeal.S8192x2048 .bf16) (i : Cert.FfnReferenceIdeal.S8192x2048.Idx) :
    Cert.FfnReferenceIdeal.Read.val_main_v5 (F := Ideal) H U W i
      = ∑ l : Fin 8192, inner (fun r k => H (ix2 r k)) (fun k f => U (ix2 k f)) (i 0) l * W (ix2 l (i 1)) := by
  unfold inner
  pointwise [Cert.FfnReferenceIdeal.Read.val_main_v5, Cert.FfnReferenceIdeal.Read.val_main_v4, Cert.FfnReferenceIdeal.Read.val_main_v3,
    Cert.FfnReferenceIdeal.Read.val_main_v2, Cert.FfnReferenceIdeal.Read.val_main_v1, Cert.FfnReferenceIdeal.Read.val_main_v0,
    Cert.FfnReferenceIdeal.Read.val_main_call0_v0, Cert.FfnReferenceIdeal.Read.val_main_call0_cst]

/-- One block's part of the product: 512 inner features. -/
def part (h : FVec Ideal S512x2048 .f32) (u : FVec Ideal S2048x512 .bf16) (d : FVec Ideal S512x2048 .bf16) (y : S512x2048.Idx) : EReal :=
  ∑ f : Fin 512, inner (fun r k => h (ix2 r k)) (fun k f => u (ix2 k f)) (y 0) f * d (ix2 f (y 1))

theorem step_part (h : FVec Ideal S512x2048 .f32) (u : FVec Ideal S2048x512 .bf16) (a : FVec Ideal S512x2048 .f32)
    (d : FVec Ideal S512x2048 .bf16) (y : S512x2048.Idx) : k0_pay2 h u a d y = a y + part h u d y := step h u a d y

/-- What the scratch holds after a block's last point. -/
theorem gathered (c : Dev nD) (t : Fin cfg0.N) (ht : t.val % 16 = 15) (y : S512x2048.Idx) :
    (outsAt0 m c t.val t.isLt).2 y = feed m c (((cfg0.win 5).blk t).view.emb y) := by
  rw [Pipeline.eq_sum_fin_of_reset_step_apply_of_flush (fun n h => (outsAt0 m c n h).2) 16 (fun _ => 0)
    (fun p y => part (iblk m c 0 p) (iblk m c 1 p) (iblk m c 2 p) y)
    (fun t h j => by rw [outsAt0_A m c t h (by omega)]; frame_out; rw [step_part, fill])
    (fun t h j => by
      by_cases h1 : t.val % 16 = 15
      · rw [outsAt0_C m c t h h1]; frame_out; rw [step_part]; exact congrArg (· + _) (congrFun (Memref.IsWhole.read_unread _ _) j)
      · rw [outsAt0_B m c t h h1]; frame_out; rw [step_part]; exact congrArg (· + _) (congrFun (Memref.IsWhole.read_unread _ _) j))
    t ht _, zero_add]
  refine Eq.trans ?_ (feed_at _ _ _ _).symm
  unfold part
  refine Fin.sum_mul_add_congr fun s k hl => ?_
  refine Ideal.mul_congr (inner_congr (fun q => ?_) fun q => ?_) ?_ <;>
    blk_ext [iblk, V, idx t, idx ⟨_, Pipeline.run_point_lt_of_flush t ht s⟩]

/-- What a block's last point writes. -/
theorem wrote (c : Dev nD) (t : Fin cfg0.N) (ht : t.val % 16 = 15) :
    (outsAt0 m c t.val t.isLt).1 = k0_pay3 (iblk m c 0 t) (outsAt0 m c t.val t.isLt).2 (iblk m c 3 t) (iblk m c 4 t) := by
  rw [outsAt0_C m c t (by omega) ht]
  frame_out

theorem point (c : Dev nD) (t : Fin cfg0.N) (ht : t.val % 16 = 15) (y : S512x2048.Idx) :
    (outsAt0 m c t.val t.isLt).1 y = want m c (((cfg0.win 5).blk t).view.emb y) := by
  have e : (outsAt0 m c t.val t.isLt).2 = fun y => feed m c (((cfg0.win 5).blk t).view.emb y) := funext fun y => gathered m c t ht y
  rw [wrote m c t ht, e]
  unfold want feed
  open Cert.FfnReferenceIdeal.Read in
  pointwise [k0_pay3, val_main_v6, val_main_v7, val_main_v8, val_main_v9, val_main_v10, val_main_v11, val_main_v12, val_main_v13, val_main_v14,
    val_main_v15, val_main_v16, val_main_v17, val_main_v18, val_main_v19, val_main_v20, val_main_v21, val_main_v22, val_main_v23, val_main_v24,
    val_main_v25, val_main_v26, val_main_v27, val_main_v28, val_main_v29, val_main_v30, val_main_cst, val_main_cst_0, val_main_cst_1, val_main_cst_2,
    val_main_cst_3, val_main_cst_4]
  blk_point [iblk, V, idx t]

/-- The blocks tile the result. -/
theorem final (c : Dev nD) : (dats m 0 c).arrAt 5 (cfgs 0).N = want m c := by
  refine (dats m 0 c).arrAt_eq_of_covers 5 _ (by decide +kernel) fun t hf y => ?_
  blk_simp
  rw [after0_5]
  exact point m c t ((flush0_5 t).mp hf) y

end Cert.FfnIdeal.Result

end
-- ==== Proof.Merge.lean ====
/-
  The gated merge: every block of the result is the reference's.
-/
module

public import proofs.«01_k».proof.Proof.Gen.MergeIdeal.Frame
public import proofs.«01_k».proof.Proof.Gen.MergeReferenceIdeal.Read
public import Idealize.ShloMosaic.Lib.Pipeline.ValueKit
public import Idealize.ShloMosaic.Lib.KernelVsHost

@[expose] public section

set_option maxRecDepth 16384

noncomputable section

namespace Cert.MergeIdeal.Result

open Cert.MergeIdeal Cert.MergeIdeal.Gen
open Idealize.ShloMosaic Idealize.ShloMosaic.TcCoe Idealize.SL.Sem

variable (m : (ℓ : Loc nD τ sig) → Buf (Elt Ideal) ℓ)

/-- The reference's result over the kernel's arguments. -/
abbrev want (c : Dev nD) : FVec Ideal S8192x2048 .bf16 :=
  Cert.MergeReferenceIdeal.Read.val_main_v11 (F := Ideal) (m ((c : Thread nD τ).loc main_arg0)) (m ((c : Thread nD τ).loc main_arg1)) (m ((c : Thread nD τ).loc main_arg2)) (m ((c : Thread nD τ).loc main_arg3)) (m ((c : Thread nD τ).loc main_arg4))

/-- The windows' blocks at every grid point. -/
theorem idx : ∀ t : Fin cfg0.N, win0_0.index t = ![t.val / 4, 0] ∧ win0_1.index t = ![t.val / 4, 0] ∧ win0_2.index t = ![t.val / 4, t.val % 4] ∧
    win0_3.index t = ![t.val / 4, t.val % 4 + 4] ∧ win0_4.index t = ![0, t.val % 4] ∧ win0_5.index t = ![0, t.val % 4] ∧
    win0_6.index t = ![t.val / 4, t.val % 4] :=
  (by decide +kernel : ∀ t : Fin grid0.N, _)

/-- What grid point `t` stores at `y` is the reference's element there. -/
theorem point (c : Dev nD) (t : Fin cfg0.N) (y) :
    k0_pay1 (iblk m c 0 t) (iblk m c 4 t) (iblk m c 1 t) (iblk m c 5 t) (iblk m c 2 t) (iblk m c 3 t) y = want m c (((cfg0.win 6).blk t).view.emb y) := by
  pointwise [k0_pay1, want, Cert.MergeReferenceIdeal.Read.val_main_v0, Cert.MergeReferenceIdeal.Read.val_main_v1, Cert.MergeReferenceIdeal.Read.val_main_v2, Cert.MergeReferenceIdeal.Read.val_main_v3, Cert.MergeReferenceIdeal.Read.val_main_v4, Cert.MergeReferenceIdeal.Read.val_main_v5, Cert.MergeReferenceIdeal.Read.val_main_v6, Cert.MergeReferenceIdeal.Read.val_main_v7, Cert.MergeReferenceIdeal.Read.val_main_v8, Cert.MergeReferenceIdeal.Read.val_main_v9, Cert.MergeReferenceIdeal.Read.val_main_v10, Cert.MergeReferenceIdeal.Read.val_main_v11]
  blk_point [iblk, V, idx t]

/-- The blocks tile the result. -/
theorem final (c : Dev nD) : (dats m 0 c).arrAt 6 (cfgs 0).N = want m c := by
  refine (dats m 0 c).arrAt_eq_of_covers 6 _ (by decide +kernel) fun t _ y => ?_
  blk_simp
  rw [after0_6]
  frame_out
  exact point m c t y

end Cert.MergeIdeal.Result

end
-- ==== Proof.OutLn.lean ====
/-
  The output projection and the first norm: every block of the result is the reference's.
-/
module

public import proofs.«01_k».proof.Proof.Gen.OutLnIdeal.Frame
public import proofs.«01_k».proof.Proof.Gen.OutLnReferenceIdeal.Read
public import Idealize.ShloMosaic.Lib.Pipeline.ValueKit
public import Idealize.ShloMosaic.Lib.KernelVsHost

@[expose] public section

set_option maxRecDepth 16384

noncomputable section

namespace Cert.OutLnIdeal.Result

open Cert.OutLnIdeal Cert.OutLnIdeal.Gen
open Idealize.ShloMosaic Idealize.ShloMosaic.TcCoe Idealize.SL.Sem

variable (m : (ℓ : Loc nD τ sig) → Buf (Elt Ideal) ℓ)

/-- The reference's result over the kernel's arguments. -/
abbrev want (c : Dev nD) : FVec Ideal S8192x2048 .f32 :=
  Cert.OutLnReferenceIdeal.Read.val_main_v27 (F := Ideal) (m ((c : Thread nD τ).loc main_arg0)) (m ((c : Thread nD τ).loc main_arg1)) (m ((c : Thread nD τ).loc main_arg2)) (m ((c : Thread nD τ).loc main_arg3)) (m ((c : Thread nD τ).loc main_arg4))

/-- The windows' blocks at every grid point. -/
theorem idx : ∀ t : Fin cfg0.N, win0_0.index t = ![t.val, 0] ∧ win0_1.index t = ![t.val, 0] ∧ win0_2.index t = ![0, 0] ∧ win0_3.index t = ![0, 0] ∧
    win0_4.index t = ![0, 0] ∧ win0_5.index t = ![t.val, 0] :=
  (by decide +kernel : ∀ t : Fin grid0.N, _)

/-- What grid point `t` stores at `y` is the reference's element there. -/
theorem point (c : Dev nD) (t : Fin cfg0.N) (y) :
    k0_pay1 (iblk m c 0 t) (iblk m c 2 t) (iblk m c 1 t) (iblk m c 3 t) (iblk m c 4 t) y = want m c (((cfg0.win 5).blk t).view.emb y) := by
  pointwise [k0_pay1, want, Cert.OutLnReferenceIdeal.Read.val_main_v0, Cert.OutLnReferenceIdeal.Read.val_main_v1, Cert.OutLnReferenceIdeal.Read.val_main_v2, Cert.OutLnReferenceIdeal.Read.val_main_v3, Cert.OutLnReferenceIdeal.Read.val_main_v4, Cert.OutLnReferenceIdeal.Read.val_main_v5, Cert.OutLnReferenceIdeal.Read.val_main_v6, Cert.OutLnReferenceIdeal.Read.val_main_v7, Cert.OutLnReferenceIdeal.Read.val_main_v8, Cert.OutLnReferenceIdeal.Read.val_main_v9, Cert.OutLnReferenceIdeal.Read.val_main_v10, Cert.OutLnReferenceIdeal.Read.val_main_v11, Cert.OutLnReferenceIdeal.Read.val_main_v12, Cert.OutLnReferenceIdeal.Read.val_main_v13, Cert.OutLnReferenceIdeal.Read.val_main_v14, Cert.OutLnReferenceIdeal.Read.val_main_v15, Cert.OutLnReferenceIdeal.Read.val_main_v16, Cert.OutLnReferenceIdeal.Read.val_main_v17, Cert.OutLnReferenceIdeal.Read.val_main_v18, Cert.OutLnReferenceIdeal.Read.val_main_v19, Cert.OutLnReferenceIdeal.Read.val_main_v20, Cert.OutLnReferenceIdeal.Read.val_main_v21, Cert.OutLnReferenceIdeal.Read.val_main_v22, Cert.OutLnReferenceIdeal.Read.val_main_v23, Cert.OutLnReferenceIdeal.Read.val_main_v24, Cert.OutLnReferenceIdeal.Read.val_main_v25, Cert.OutLnReferenceIdeal.Read.val_main_v26, Cert.OutLnReferenceIdeal.Read.val_main_v27, Cert.OutLnReferenceIdeal.Read.val_main_cst, Cert.OutLnReferenceIdeal.Read.val_main_cst_0, Cert.OutLnReferenceIdeal.Read.val_main_cst_1, Cert.OutLnReferenceIdeal.Read.val_main_cst_2, Cert.OutLnReferenceIdeal.Read.val_main_cst_3, Cert.OutLnReferenceIdeal.Read.val_main_cst_4]
  blk_point [iblk, V, idx t]

/-- The blocks tile the result. -/
theorem final (c : Dev nD) : (dats m 0 c).arrAt 5 (cfgs 0).N = want m c := by
  refine (dats m 0 c).arrAt_eq_of_covers 5 _ (by decide +kernel) fun t _ y => ?_
  blk_simp
  rw [after0_5]
  frame_out
  exact point m c t y

end Cert.OutLnIdeal.Result

end
-- ==== Proof.ProjV.lean ====
/-
  The projection to the sparse branch's values: every block of the result is the reference's.
-/
module

public import proofs.«01_k».proof.Proof.Gen.ProjVIdeal.Frame
public import proofs.«01_k».proof.Proof.Gen.ProjVReferenceIdeal.Read
public import Idealize.ShloMosaic.Lib.Pipeline.ValueKit
public import Idealize.ShloMosaic.Lib.KernelVsHost
public import Idealize.ShloMosaic.Lib.Claim

@[expose] public section

set_option maxRecDepth 16384

noncomputable section

namespace Cert.ProjVIdeal.Result

open Cert.ProjVIdeal Cert.ProjVIdeal.Gen
open Idealize.ShloMosaic Idealize.ShloMosaic.TcCoe Idealize.SL.Sem

variable (m : (ℓ : Loc nD τ sig) → Buf (Elt Ideal) ℓ)

abbrev argX (c : Dev nD) : FVec Ideal S2x4096x2048 .f32 := m ((c : Thread nD τ).loc main_arg0)
abbrev argW (c : Dev nD) : FVec Ideal S1x2048x10448 .f32 := m ((c : Thread nD τ).loc main_arg1)

/-- The rows that the kernel is given. -/
theorem rows (c : Dev nD) (i : S8192x2048.Idx) :
    V m c main_v1 i = argX m c (ix3 ⟨(i 0 : ℕ) / 4096, by idx_bounds i; omega⟩ ⟨(i 0 : ℕ) % 4096, by omega⟩ (i 1)) := by
  entry_read
  pointwise

/-- The columns that the kernel is given. -/
theorem cols (c : Dev nD) (i : S2048x512.Idx) :
    V m c main_v4 i = argW m c (ix3 0 (i 0) ⟨3648 + (i 1 : ℕ), by idx_bounds i; omega⟩) := by
  entry_read
  pointwise

/-- The reference at an element. -/
theorem ref (X : FVec Ideal Cert.ProjVReferenceIdeal.S2x4096x2048 .f32) (W : FVec Ideal Cert.ProjVReferenceIdeal.S1x2048x10448 .f32)
    (i : Cert.ProjVReferenceIdeal.S8192x512.Idx) :
    Cert.ProjVReferenceIdeal.Read.val_main_v13 (F := Ideal) X W i
      = ∑ k : Fin 2048, X (ix3 ⟨(i 0 : ℕ) / 4096, by idx_bounds i; omega⟩ ⟨(i 0 : ℕ) % 4096, by omega⟩ k)
        * W (ix3 0 k ⟨3648 + (i 1 : ℕ), by idx_bounds i; omega⟩) := by
  open Cert.ProjVReferenceIdeal.Read in
  rw [val_main_v13_apply, val_main_v7_apply, val_main_v1_apply]
  refine Finset.sum_congr rfl fun k _ => ?_
  rw [Cert.ProjVReferenceIdeal.Read.val_main_v0_apply]
  refine Ideal.mul_congr (congrArg X ?_) (congrArg W ?_) <;> idx_ext

theorem pay (x : FVec Ideal S1024x2048 .bf16) (w : FVec Ideal S2048x512 .bf16) (y : S1024x512.Idx) :
    k0_pay1 (F := Ideal) x w y = ∑ k : Fin 2048, x (ix2 (y 0) k) * w (ix2 k (y 1)) := by
  pointwise [k0_pay1]

/-- The windows' blocks at every grid point. -/
theorem idx : ∀ t : Fin cfg0.N, win0_0.index t = ![t.val, 0] ∧ win0_1.index t = ![0, 0] ∧ win0_2.index t = ![t.val, 0] :=
  (by decide +kernel : ∀ t : Fin grid0.N, _)

/-- The blocks tile the result. -/
theorem final (c : Dev nD) : (dats m 0 c).arrAt 2 (cfgs 0).N = Cert.ProjVReferenceIdeal.Read.val_main_v13 (F := Ideal) (argX m c) (argW m c) := by
  refine (dats m 0 c).arrAt_eq_of_covers 2 _ (by decide +kernel) fun t _ y => ?_
  blk_simp
  rw [after0_2]
  frame_out
  refine (pay _ _ _).trans (Eq.trans (Finset.sum_congr rfl fun k _ => ?_) (ref _ _ _).symm)
  refine Ideal.mul_congr ((rows m c _).trans (congrArg (argX m c) ?_)) ((cols m c _).trans (congrArg (argW m c) ?_)) <;>
    blk_ext [idx t]

end Cert.ProjVIdeal.Result

end
-- ==== Proof.Gates.lean ====
/-
  The projection to the two branches' gates: every block of the result is the reference's.
-/
module

public import proofs.«01_k».proof.Proof.Gen.GatesIdeal.Frame
public import proofs.«01_k».proof.Proof.Gen.GatesReferenceIdeal.Read
public import Idealize.ShloMosaic.Lib.Pipeline.ValueKit
public import Idealize.ShloMosaic.Lib.KernelVsHost
public import Idealize.ShloMosaic.Lib.Claim

@[expose] public section

set_option maxRecDepth 16384

noncomputable section

namespace Cert.GatesIdeal.Result

open Cert.GatesIdeal Cert.GatesIdeal.Gen
open Idealize.ShloMosaic Idealize.ShloMosaic.TcCoe Idealize.SL.Sem

variable (m : (ℓ : Loc nD τ sig) → Buf (Elt Ideal) ℓ)

abbrev argX (c : Dev nD) : FVec Ideal S2x4096x2048 .f32 := m ((c : Thread nD τ).loc main_arg0)
abbrev argW (c : Dev nD) : FVec Ideal S1x2048x10448 .f32 := m ((c : Thread nD τ).loc main_arg1)

/-- The rows that the kernel is given. -/
theorem rows (c : Dev nD) (i : S8192x2048.Idx) :
    V m c main_v1 i = argX m c (ix3 ⟨(i 0 : ℕ) / 4096, by idx_bounds i; omega⟩ ⟨(i 0 : ℕ) % 4096, by omega⟩ (i 1)) := by
  entry_read
  pointwise

/-- The columns that the kernel is given. -/
theorem cols (c : Dev nD) (i : S2048x4096.Idx) :
    V m c main_v7 i = argW m c (ix3 0 (i 0) ⟨6352 + (i 1 : ℕ), by idx_bounds i; omega⟩) := by
  entry_read
  pointwise
  split <;> exact congrArg (argW m c) (by idx_ext)

/-- A gate before its sigmoid. -/
def gate (X : FVec Ideal Cert.GatesReferenceIdeal.S2x4096x2048 .f32) (W : FVec Ideal Cert.GatesReferenceIdeal.S1x2048x10448 .f32)
    (i : Cert.GatesReferenceIdeal.S8192x4096.Idx) : EReal :=
  ∑ k : Fin 2048, X (ix3 ⟨(i 0 : ℕ) / 4096, by idx_bounds i; omega⟩ ⟨(i 0 : ℕ) % 4096, by omega⟩ k)
        * W (ix3 0 k ⟨6352 + (i 1 : ℕ), by idx_bounds i; omega⟩)

/-- The reference's projection at an element. -/
theorem ref_dot (X : FVec Ideal Cert.GatesReferenceIdeal.S2x4096x2048 .f32) (W : FVec Ideal Cert.GatesReferenceIdeal.S1x2048x10448 .f32)
    (i : Cert.GatesReferenceIdeal.S2x4096x10448.Idx) :
    Cert.GatesReferenceIdeal.Read.val_main_v1 (F := Ideal) X W i = ∑ k : Fin 2048, X (ix3 (i 0) (i 1) k) * W (ix3 0 k (i 2)) := by
  rw [Cert.GatesReferenceIdeal.Read.val_main_v1_apply]
  refine Finset.sum_congr rfl fun k _ => ?_
  rw [Cert.GatesReferenceIdeal.Read.val_main_v0_apply]
  refine Ideal.mul_congr (congrArg X ?_) (congrArg W ?_) <;> idx_ext

/-- The reference at an element. -/
theorem ref (X : FVec Ideal Cert.GatesReferenceIdeal.S2x4096x2048 .f32) (W : FVec Ideal Cert.GatesReferenceIdeal.S1x2048x10448 .f32)
    (i : Cert.GatesReferenceIdeal.S8192x4096.Idx) :
    Cert.GatesReferenceIdeal.Read.val_main_v26 (F := Ideal) X W i = Ideal.logistic (gate X W i) := by
  have hg : ∀ (j : ℕ) (hj : j < 10448), j = 6352 + (i 1 : ℕ) →
      Cert.GatesReferenceIdeal.Read.val_main_v1 (F := Ideal) X W
        (ix3 ⟨(i 0 : ℕ) / 4096, by idx_bounds i; omega⟩ ⟨(i 0 : ℕ) % 4096, by omega⟩ ⟨j, hj⟩) = gate X W i := by
    rintro j hj rfl
    exact ref_dot _ _ _
  open Cert.GatesReferenceIdeal.Read in
  pointwise [val_main_v26, val_main_v25]
  split
  · open Cert.GatesReferenceIdeal.Read in
    pointwise [val_main_v18, val_main_v17, val_main_v16, val_main_v15, val_main_v14, val_main_v13, val_main_v11, val_main_cst_0, val_main_cst]
    rw [hg _ _ rfl, Ideal.logistic]
  · open Cert.GatesReferenceIdeal.Read in
    pointwise [val_main_v24, val_main_v23, val_main_v22, val_main_v21, val_main_v20, val_main_v19, val_main_v12, val_main_cst_2, val_main_cst_1]
    rw [hg _ _ (by omega), Ideal.logistic]

theorem pay (x : FVec Ideal S1024x2048 .bf16) (w : FVec Ideal S2048x512 .bf16) (y : S1024x512.Idx) :
    k0_pay1 (F := Ideal) x w y = Ideal.logistic (∑ k : Fin 2048, x (ix2 (y 0) k) * w (ix2 k (y 1))) := by
  pointwise [k0_pay1]

/-- The windows' blocks at every grid point. -/
theorem idx : ∀ t : Fin cfg0.N, win0_0.index t = ![t.val / 8, 0] ∧ win0_1.index t = ![0, t.val % 8] ∧ win0_2.index t = ![t.val / 8, t.val % 8] :=
  (by decide +kernel : ∀ t : Fin grid0.N, _)

/-- The blocks tile the result. -/
theorem final (c : Dev nD) : (dats m 0 c).arrAt 2 (cfgs 0).N = Cert.GatesReferenceIdeal.Read.val_main_v26 (F := Ideal) (argX m c) (argW m c) := by
  refine (dats m 0 c).arrAt_eq_of_covers 2 _ (by decide +kernel) fun t _ y => ?_
  blk_simp
  rw [after0_2]
  frame_out
  refine (pay _ _ _).trans (Eq.trans (congrArg Ideal.logistic (Finset.sum_congr rfl fun k _ => ?_)) (ref _ _ _).symm)
  refine Ideal.mul_congr ((rows m c _).trans (congrArg (argX m c) ?_)) ((cols m c _).trans (congrArg (argW m c) ?_)) <;>
    blk_ext [idx t]

end Cert.GatesIdeal.Result

end
-- ==== Proof.Proj.lean ====
/-
  The combined input projection of a prompt position, and what the calls make of it: the root-mean-square norm and the
  rotary embedding.
-/
module

public import Idealize.ShloMosaic.Lib.Pipeline.ValueKit
public import Idealize.ShloMosaic.Lib.KernelVsHost
public import Idealize.ShloMosaic.Lib.Claim

@[expose] public section

noncomputable section

namespace Cert.Proj

open Idealize.ShloMosaic

/-- Column `j` of the projection of position `p` of sequence `b`. -/
def proj (X : FVec Ideal ⟨3, ![2, 4096, 2048]⟩ .f32) (W : FVec Ideal ⟨3, ![1, 2048, 10448]⟩ .f32) (b : Fin 2) (p : Fin 4096) (j : Fin 10448) :
    EReal := ∑ k : Fin 2048, X (ix3 b p k) * W (ix3 0 k j)

/-- The sequence of a row. -/
abbrev seq (r : Fin 8192) : Fin 2 := ⟨(r : ℕ) / 4096, by omega⟩

/-- The position of a row. -/
abbrev pos (r : Fin 8192) : Fin 4096 := ⟨(r : ℕ) % 4096, by omega⟩

/-- The angle by which the rotary embedding with `n` rotated features (its float's bits) turns pair `l` at position `p`. -/
def ang (n : BitVec 32) (p l : ℕ) : EReal :=
  FloatOps.sitofp (F := Ideal) .f32 (IntOp.addi 0#32 (BitVec.ofNat 32 p))
    * Ideal.pow (Ideal.ofBits .f32 1223959552#32)
        (-Ideal.div (Ideal.ofBits .f32 1073741824#32 * FloatOps.sitofp (F := Ideal) .f32 (BitVec.ofNat 32 l)) (Ideal.ofBits .f32 n))

/-- The table that multiplies the lane itself: `h` lanes, their `h` partners, and lanes that are not rotated. -/
def tabC (n : BitVec 32) (h p l : ℕ) : EReal :=
  if l < h then Ideal.cos (ang n p l) else if l - h < h then Ideal.cos (ang n p (l - h)) else 1

/-- The table that multiplies the lane `h` further on. -/
def tabA (n : BitVec 32) (h p l : ℕ) : EReal := if l < h then -Ideal.sin (ang n p l) else 0

/-- The table that multiplies the lane `h` further back. -/
def tabB (n : BitVec 32) (h p l : ℕ) : EReal := if l < h then 0 else if l - h < h then Ideal.sin (ang n p (l - h)) else 0

/-- The lane `h` further on, around the register. -/
abbrev up (h : ℕ) (l : Fin 128) : Fin 128 := ⟨((l : ℕ) + 128 - (128 - h)) % 128, by omega⟩

/-- The lane `h` further back, around the register. -/
abbrev down (h : ℕ) (l : Fin 128) : Fin 128 := ⟨((l : ℕ) + 128 - h) % 128, by omega⟩

/-- The rotary embedding of 128 lanes at lane `l`: pairs `(l, l + h)` for `l < h`. -/
def rope (n : BitVec 32) (h p : ℕ) (x : Fin 128 → EReal) (l : Fin 128) : EReal :=
  if (l : ℕ) < h then x l * Ideal.cos (ang n p l) - x (up h l) * Ideal.sin (ang n p l)
  else if (l : ℕ) - h < h then x l * Ideal.cos (ang n p ((l : ℕ) - h)) + x (down h l) * Ideal.sin (ang n p ((l : ℕ) - h))
  else x l

theorem rope_congr {n : BitVec 32} {h p : ℕ} {x x' : Fin 128 → EReal} {l l' : Fin 128} (hx : ∀ q, x q = x' q) (hl : l = l') :
    rope n h p x l = rope n h p x' l' := by
  rw [funext hx, hl]

/-- Rotating by three tables and two rolls is the rotary embedding: where a lane has no partner the tables are 0. -/
theorem rolled (n : BitVec 32) (h p : ℕ) (x : Fin 128 → EReal) (l : Fin 128) :
    x l * tabC n h p l + x (up h l) * tabA n h p l + x (down h l) * tabB n h p l = rope n h p x l := by
  unfold tabC tabA tabB rope
  split
  · rw [mul_zero, add_zero, mul_neg, sub_eq_add_neg]
  · split
    · rw [mul_zero, add_zero]
    · rw [mul_zero, mul_zero, add_zero, add_zero, mul_one]

/-- The reference's concatenation of the turned pairs and the other lanes is the rotary embedding. -/
theorem rope_ref (n : BitVec 32) (h p : ℕ) (x : Fin 128 → EReal) (l : Fin 128) (y₀ y₁ : (l : ℕ) < h → EReal)
    (y₂ y₃ : ¬ (l : ℕ) < h → (l : ℕ) - h < h → EReal) (y₄ : ¬ (l : ℕ) < h → ¬ (l : ℕ) - h < h → EReal) (e₀ : ∀ a, y₀ a = x l)
    (e₁ : ∀ a, y₁ a = x (up h l)) (e₂ : ∀ a b, y₂ a b = x l) (e₃ : ∀ a b, y₃ a b = x (down h l)) (e₄ : ∀ a b, y₄ a b = x l) :
    (if a : (l : ℕ) < h then y₀ a * Ideal.cos (ang n p l) - y₁ a * Ideal.sin (ang n p l)
      else if b : (l : ℕ) - h < h then y₂ a b * Ideal.cos (ang n p ((l : ℕ) - h)) + y₃ a b * Ideal.sin (ang n p ((l : ℕ) - h))
      else y₄ a b) = rope n h p x l := by
  unfold rope
  split
  next a => rw [e₀, e₁]
  next a =>
    split
    next b => rw [e₂, e₃]
    next b => exact e₄ a b

end Cert.Proj

end
-- ==== Proof.Lat.lean ====
/-
  The projection to the latents and their norm: every block of the result is the reference's.
-/
module

public import proofs.«01_k».proof.Proof.Gen.LatIdeal.Frame
public import proofs.«01_k».proof.Proof.Gen.LatReferenceIdeal.Read
public import proofs.«01_k».proof.Proof.Proj
public import Idealize.ShloMosaic.Lib.Pipeline.ValueKit
public import Idealize.ShloMosaic.Lib.KernelVsHost
public import Idealize.ShloMosaic.Lib.Claim

@[expose] public section

set_option maxRecDepth 16384

noncomputable section

namespace Cert.LatIdeal.Result

open Cert.LatIdeal Cert.LatIdeal.Gen Cert.Proj
open Idealize.ShloMosaic Idealize.ShloMosaic.TcCoe Idealize.SL.Sem

variable (m : (ℓ : Loc nD τ sig) → Buf (Elt Ideal) ℓ)

abbrev argX (c : Dev nD) : FVec Ideal S2x4096x2048 .f32 := m ((c : Thread nD τ).loc main_arg0)
abbrev argW (c : Dev nD) : FVec Ideal S1x2048x10448 .f32 := m ((c : Thread nD τ).loc main_arg1)
abbrev argQ (c : Dev nD) : FVec Ideal S1x512 .f32 := m ((c : Thread nD τ).loc main_arg2)
abbrev argK (c : Dev nD) : FVec Ideal S1x512 .f32 := m ((c : Thread nD τ).loc main_arg3)

/-- The rows that the kernel is given. -/
theorem rows (c : Dev nD) (i : S8192x2048.Idx) : V m c main_v5 i = argX m c (ix3 (seq (i 0)) (pos (i 0)) (i 1)) := by
  entry_read
  pointwise

/-- The columns that the kernel is given. -/
theorem cols (c : Dev nD) (i : S2048x1024.Idx) : V m c main_v11 i = argW m c (ix3 0 (i 0) ⟨(i 1 : ℕ), by idx_bounds i; omega⟩) := by
  entry_read
  pointwise
  split <;> exact congrArg (argW m c) (by idx_ext)

/-- The two gains side by side. -/
def gain (Q K : FVec Ideal S1x512 .f32) (j : Fin 1024) : EReal :=
  if h : (j : ℕ) < 512 then Q (ix2 0 ⟨(j : ℕ), h⟩) else K (ix2 0 ⟨(j : ℕ) - 512, by omega⟩)

theorem gain_lt (Q K : FVec Ideal S1x512 .f32) (j : Fin 1024) (h : (j : ℕ) < 512) : gain Q K j = Q (ix2 0 ⟨(j : ℕ), h⟩) := dif_pos h

theorem gain_ge (Q K : FVec Ideal S1x512 .f32) (j : Fin 1024) (h : ¬ (j : ℕ) < 512) : gain Q K j = K (ix2 0 ⟨(j : ℕ) - 512, by omega⟩) :=
  dif_neg h

/-- The gains that the kernel is given. -/
theorem gains (c : Dev nD) (i : S1x1024.Idx) : V m c main_v3 i = gain (argQ m c) (argK m c) (i 1) := by
  entry_read
  pointwise [gain]

/-- One element of a normalised group of 512 columns. -/
def norm (a : Fin 512 → EReal) (g : EReal) (l : Fin 512) : EReal :=
  a l * Ideal.rsqrt (Ideal.div (∑ q : Fin 512, a q * a q) (Ideal.ofBits .f32 0x44000000#32) + Ideal.ofBits .f32 0x358637BD#32) * g

theorem norm_congr {a a' : Fin 512 → EReal} {g g' : EReal} {l l' : Fin 512} (ha : ∀ q, a q = a' q) (hg : g = g') (hl : l = l') :
    norm a g l = norm a' g' l' := by
  rw [funext ha, hg, hl]

theorem pay (x : FVec Ideal S1024x2048 .bf16) (w : FVec Ideal S2048x512 .bf16) (g : FVec Ideal S1x512 .f32) (y : S1024x512.Idx) :
    k0_pay1 (F := Ideal) x w g y = norm (fun l => ∑ k : Fin 2048, x (ix2 (y 0) k) * w (ix2 k l)) (g (ix2 0 (y 1))) (y 1) := by
  unfold norm
  pointwise [k0_pay1]

/-- The reference's projection at an element. -/
theorem ref_dot (X : FVec Ideal Cert.LatReferenceIdeal.S2x4096x2048 .f32) (W : FVec Ideal Cert.LatReferenceIdeal.S1x2048x10448 .f32)
    (i : Cert.LatReferenceIdeal.S2x4096x10448.Idx) :
    Cert.LatReferenceIdeal.Read.val_main_v1 (F := Ideal) X W i = proj X W (i 0) (i 1) (i 2) := by
  rw [Cert.LatReferenceIdeal.Read.val_main_v1_apply]
  refine Finset.sum_congr rfl fun k _ => ?_
  rw [Cert.LatReferenceIdeal.Read.val_main_v0_apply]
  refine Ideal.mul_congr (congrArg X ?_) (congrArg W ?_) <;> idx_ext

/-- The reference's queries' latents. -/
theorem ref_q (X : FVec Ideal Cert.LatReferenceIdeal.S2x4096x2048 .f32) (W : FVec Ideal Cert.LatReferenceIdeal.S1x2048x10448 .f32)
    (Q : FVec Ideal Cert.LatReferenceIdeal.S1x512 .f32) (b : Fin 2) (p : Fin 4096) (l : Fin 512) :
    Cert.LatReferenceIdeal.Read.val_main_v26 (F := Ideal) X W Q (ix3 b p l)
      = norm (fun l => proj X W b p ⟨(l : ℕ), by omega⟩) (Q (ix2 0 l)) l := by
  unfold norm
  open Cert.LatReferenceIdeal.Read in
  pointwise [val_main_v26, val_main_v25, val_main_v24, val_main_v23, val_main_v22, val_main_v21, val_main_v20, val_main_v19, val_main_v18, val_main_v17, val_main_v16, val_main_v15, val_main_v14, val_main_v13, val_main_v2, val_main_cst, val_main_cst_0, val_main_cst_1]
  simp only [ref_dot]
  rfl

/-- The reference's keys' and values' latents. -/
theorem ref_k (X : FVec Ideal Cert.LatReferenceIdeal.S2x4096x2048 .f32) (W : FVec Ideal Cert.LatReferenceIdeal.S1x2048x10448 .f32)
    (K : FVec Ideal Cert.LatReferenceIdeal.S1x512 .f32) (b : Fin 2) (p : Fin 4096) (l : Fin 512) :
    Cert.LatReferenceIdeal.Read.val_main_v40 (F := Ideal) X W K (ix3 b p l)
      = norm (fun l => proj X W b p ⟨512 + (l : ℕ), by omega⟩) (K (ix2 0 l)) l := by
  unfold norm
  open Cert.LatReferenceIdeal.Read in
  pointwise [val_main_v40, val_main_v39, val_main_v38, val_main_v37, val_main_v36, val_main_v35, val_main_v34, val_main_v33, val_main_v32, val_main_v31, val_main_v30, val_main_v29, val_main_v28, val_main_v27, val_main_v3, val_main_cst_2, val_main_cst_3, val_main_cst_4]
  simp only [ref_dot]
  rfl

/-- The reference at an element: its group's norm. -/
theorem ref (X : FVec Ideal Cert.LatReferenceIdeal.S2x4096x2048 .f32) (W : FVec Ideal Cert.LatReferenceIdeal.S1x2048x10448 .f32)
    (Q K : FVec Ideal Cert.LatReferenceIdeal.S1x512 .f32) (i : Cert.LatReferenceIdeal.S8192x1024.Idx) :
    Cert.LatReferenceIdeal.Read.val_main_v42 (F := Ideal) X W Q K i
      = norm (fun l => proj X W (seq (i 0)) (pos (i 0)) ⟨(i 1 : ℕ) / 512 * 512 + (l : ℕ), by idx_bounds i; omega⟩)
          (gain Q K (i 1)) ⟨(i 1 : ℕ) % 512, by omega⟩ := by
  open Cert.LatReferenceIdeal.Read in
  pointwise [val_main_v42, val_main_v41]
  have hi : (i 1 : ℕ) < 1024 := by idx_bounds i; omega
  split
  next h =>
    rw [ref_q]
    refine norm_congr (fun q => congrArg (proj X W _ _) (Fin.ext ?_)) (gain_lt Q K (i 1) h).symm (Fin.ext ?_) <;> dsimp only <;> omega
  next h =>
    rw [ref_k]
    refine norm_congr (fun q => congrArg (proj X W _ _) (Fin.ext ?_)) (gain_ge Q K (i 1) h).symm (Fin.ext ?_) <;> dsimp only <;> omega

/-- The windows' blocks at every grid point. -/
theorem idx : ∀ t : Fin cfg0.N, win0_0.index t = ![t.val / 2, 0] ∧ win0_1.index t = ![0, t.val % 2] ∧ win0_2.index t = ![0, t.val % 2]
    ∧ win0_3.index t = ![t.val / 2, t.val % 2] :=
  (by decide +kernel : ∀ t : Fin grid0.N, _)

/-- The blocks tile the result. -/
theorem final (c : Dev nD) : (dats m 0 c).arrAt 3 (cfgs 0).N
    = Cert.LatReferenceIdeal.Read.val_main_v42 (F := Ideal) (argX m c) (argW m c) (argQ m c) (argK m c) := by
  refine (dats m 0 c).arrAt_eq_of_covers 3 _ (by decide +kernel) fun t _ y => ?_
  blk_simp
  rw [after0_3]
  frame_out
  refine (pay _ _ _ _).trans (Eq.trans ?_ (ref _ _ _ _ _).symm)
  refine norm_congr (fun q => Finset.sum_congr rfl fun k _ => Ideal.mul_congr ((rows m c _).trans (congrArg (argX m c) ?_))
    ((cols m c _).trans (congrArg (argW m c) ?_))) ((gains m c _).trans (congrArg (gain _ _) ?_)) ?_
  · simp only [seq, pos]
    blk_ext [idx t]
  · blk_ext [idx t]
  · refine Fin.ext ?_
    blk_simp [idx t]
  · refine Fin.ext ?_
    have hy : (y 1 : ℕ) < 512 := (y 1).isLt
    blk_simp [idx t]
    dsimp only
    omega

end Cert.LatIdeal.Result

end
-- ==== Proof.Krope.lean ====
/-
  The projections to the sparse branch's keys and its indexer's keys, with their rotary embedding: every block of the
  result is the reference's.
-/
module

public import proofs.«01_k».proof.Proof.Gen.KropeIdeal.Frame
public import proofs.«01_k».proof.Proof.Gen.KropeReferenceIdeal.Read
public import proofs.«01_k».proof.Proof.Proj
public import Idealize.ShloMosaic.Lib.Pipeline.ValueKit
public import Idealize.ShloMosaic.Lib.KernelVsHost
public import Idealize.ShloMosaic.Lib.Claim
public import Idealize.ShloMosaic.Lib.StableHlo.RunRead

@[expose] public section

set_option maxRecDepth 16384

noncomputable section

namespace Cert.KropeIdeal.Result

open Cert.KropeIdeal Cert.KropeIdeal.Gen Cert.Proj
open Idealize.ShloMosaic Idealize.ShloMosaic.TcCoe Idealize.SL.Sem

variable (m : (ℓ : Loc nD τ sig) → Buf (Elt Ideal) ℓ)

abbrev argX (c : Dev nD) : FVec Ideal S2x4096x2048 .f32 := m ((c : Thread nD τ).loc main_arg0)
abbrev argW (c : Dev nD) : FVec Ideal S1x2048x10448 .f32 := m ((c : Thread nD τ).loc main_arg1)

/-- The rows that the kernel is given. -/
theorem rows (c : Dev nD) (i : S8192x2048.Idx) : V m c main_v1 i = argX m c (ix3 (seq (i 0)) (pos (i 0)) (i 1)) := by
  entry_read
  pointwise

/-- The columns that the kernel is given. -/
theorem cols (c : Dev nD) (i : S2048x640.Idx) : V m c main_v7 i
    = argW m c (ix3 0 (i 0) ⟨if (i 1 : ℕ) < 512 then 3136 + (i 1 : ℕ) else 6208 + ((i 1 : ℕ) - 512), by idx_bounds i; split <;> omega⟩) := by
  entry_read
  pointwise
  split <;> exact congrArg (argW m c) (by idx_ext)

open StableHlo in
/-- The three tables that the kernel is given. -/
theorem tabs (c : Dev nD) (i : S8192x128.Idx) :
    V m c main_v47 i = tabC 1107296256#32 16 ((i 0 : ℕ) % 4096) (i 1)
      ∧ V m c main_v50 i = tabA 1107296256#32 16 ((i 0 : ℕ) % 4096) (i 1)
      ∧ V m c main_v53 i = tabB 1107296256#32 16 ((i 0 : ℕ) % 4096) (i 1) := by
  refine ⟨?_, ?_, ?_⟩
  · after_reads_simp
    pointwise
    after_reads_simp
    pointwise
    rfl
  · after_reads_simp
    pointwise
    after_reads_simp
    pointwise
    unfold tabA
    split
    · rfl
    · exact ite_self _
  · after_reads_simp
    pointwise
    after_reads_simp
    pointwise
    rfl

/-- The windows' blocks at every grid point. -/
theorem idx : ∀ t : Fin cfg0.N, win0_0.index t = ![t.val, 0] ∧ win0_1.index t = ![0, 0] ∧ win0_2.index t = ![t.val, 0]
    ∧ win0_3.index t = ![t.val, 0] ∧ win0_4.index t = ![t.val, 0] ∧ win0_5.index t = ![t.val, 0] :=
  (by decide +kernel : ∀ t : Fin grid0.N, _)

/-- The first column, in the layer's projection, of the head that holds column `j` of the result. -/
def head (j : Fin 640) : ℕ := if (j : ℕ) < 512 then 3136 + (j : ℕ) / 128 * 128 else 6208

theorem head_lt (j : Fin 640) (q : Fin 128) : head j + (q : ℕ) < 10448 := by
  unfold head; split <;> omega

/-- One head of the reference, before its rotary embedding. -/
def lanes (X : FVec Ideal S2x4096x2048 .f32) (W : FVec Ideal S1x2048x10448 .f32) (r : Fin 8192) (j : Fin 640) (q : Fin 128) : EReal :=
  proj X W (seq r) (pos r) ⟨head j + (q : ℕ), head_lt j q⟩

/-- The block of rows at a grid point, and the block of columns. -/
abbrev blkX (c : Dev nD) (t : Fin cfg0.N) : FVec Ideal S1024x2048 .bf16 := iblk m c 0 t
abbrev blkW (c : Dev nD) (t : Fin cfg0.N) : FVec Ideal S2048x640 .bf16 := iblk m c 1 t

/-- A head's product in the kernel is the projection. -/
theorem dot (c : Dev nD) (t : Fin cfg0.N) (a : Fin 1024) (q : Fin 128) (f : Fin 640) (i : S8192x640.Idx)
    (h0 : (i 0 : ℕ) = t.val * 1024 + (a : ℕ)) (h1 : (f : ℕ) = (i 1 : ℕ) / 128 * 128 + (q : ℕ)) :
    ∑ k : Fin 2048, blkX m c t (ix2 a k) * blkW m c t (ix2 k f) = lanes (argX m c) (argW m c) (i 0) (i 1) q := by
  unfold lanes proj
  refine Finset.sum_congr rfl fun k _ => Ideal.mul_congr ((rows m c _).trans (congrArg (argX m c) ?_)) ((cols m c _).trans (congrArg (argW m c) ?_))
  · simp only [seq, pos]
    blk_ext [idx t, h0]
  · unfold head
    blk_ext [idx t]
    split <;> split <;> omega

/-- The reference's projection at an element. -/
theorem ref_dot (X : FVec Ideal Cert.KropeReferenceIdeal.S2x4096x2048 .f32) (W : FVec Ideal Cert.KropeReferenceIdeal.S1x2048x10448 .f32)
    (b : Fin 2) (p : Fin 4096) (j : Fin 10448) : Cert.KropeReferenceIdeal.Read.val_main_v1 (F := Ideal) X W (ix3 b p j) = proj X W b p j := by
  rw [Cert.KropeReferenceIdeal.Read.val_main_v1_apply]
  refine Finset.sum_congr rfl fun k _ => ?_
  rw [Cert.KropeReferenceIdeal.Read.val_main_v0_apply]
  refine Ideal.mul_congr (congrArg X ?_) (congrArg W ?_) <;> idx_ext

/-- The reference's cosines and sines. -/
theorem ref_cos (b : Fin 1) (p : Fin 4096) (h : Fin 1) (l : Fin 16) :
    Cert.KropeReferenceIdeal.Read.val_main_v34 (F := Ideal) (ix4 b p h l) = Ideal.cos (ang 1107296256#32 p l) := by
  open Cert.KropeReferenceIdeal.Read in
  pointwise [val_main_v34, val_main_v33, val_main_v32, val_main_v31, val_main_v30, val_main_v29, val_main_v28, val_main_v27, val_main_v26, val_main_v25, val_main_c, val_main_v24, val_main_v23, val_main_v22, val_main_cst_2, val_main_v21, val_main_v20, val_main_v19, val_main_cst_1, val_main_v18, val_main_v17, val_main_cst_0, val_main_v16, val_main_v15, val_main_cst, val_main_v14]
  rfl

theorem ref_sin (b : Fin 1) (p : Fin 4096) (h : Fin 1) (l : Fin 16) :
    Cert.KropeReferenceIdeal.Read.val_main_v36 (F := Ideal) (ix4 b p h l) = Ideal.sin (ang 1107296256#32 p l) := by
  open Cert.KropeReferenceIdeal.Read in
  pointwise [val_main_v36, val_main_v35, val_main_v32, val_main_v31, val_main_v30, val_main_v29, val_main_v28, val_main_v27, val_main_v26, val_main_v25, val_main_c, val_main_v24, val_main_v23, val_main_v22, val_main_cst_2, val_main_v21, val_main_v20, val_main_v19, val_main_cst_1, val_main_v18, val_main_v17, val_main_cst_0, val_main_v16, val_main_v15, val_main_cst, val_main_v14]
  rfl

/-- The same for the indexer's keys. -/
theorem ref_cos_i (b : Fin 1) (p : Fin 4096) (h : Fin 1) (l : Fin 16) :
    Cert.KropeReferenceIdeal.Read.val_main_v72 (F := Ideal) (ix4 b p h l) = Ideal.cos (ang 1107296256#32 p l) := by
  open Cert.KropeReferenceIdeal.Read in
  pointwise [val_main_v72, val_main_v71, val_main_v70, val_main_v69, val_main_v68, val_main_v67, val_main_v66, val_main_v65, val_main_v64, val_main_v63, val_main_c_7, val_main_v62, val_main_v61, val_main_v60, val_main_cst_6, val_main_v59, val_main_v58, val_main_v57, val_main_cst_5, val_main_v56, val_main_v55, val_main_cst_4, val_main_v54, val_main_v53, val_main_cst_3, val_main_v52]
  rfl

theorem ref_sin_i (b : Fin 1) (p : Fin 4096) (h : Fin 1) (l : Fin 16) :
    Cert.KropeReferenceIdeal.Read.val_main_v74 (F := Ideal) (ix4 b p h l) = Ideal.sin (ang 1107296256#32 p l) := by
  open Cert.KropeReferenceIdeal.Read in
  pointwise [val_main_v74, val_main_v73, val_main_v70, val_main_v69, val_main_v68, val_main_v67, val_main_v66, val_main_v65, val_main_v64, val_main_v63, val_main_c_7, val_main_v62, val_main_v61, val_main_v60, val_main_cst_6, val_main_v59, val_main_v58, val_main_v57, val_main_cst_5, val_main_v56, val_main_v55, val_main_cst_4, val_main_v54, val_main_v53, val_main_cst_3, val_main_v52]
  rfl

/-- The reference's keys. -/
theorem ref_b (X : FVec Ideal Cert.KropeReferenceIdeal.S2x4096x2048 .f32) (W : FVec Ideal Cert.KropeReferenceIdeal.S1x2048x10448 .f32)
    (b : Fin 2) (p : Fin 4096) (h : Fin 4) (l : Fin 128) :
    Cert.KropeReferenceIdeal.Read.val_main_v50 (F := Ideal) X W (ix4 b p h l)
      = rope 1107296256#32 16 p (fun q => proj X W b p ⟨3136 + (h : ℕ) * 128 + (q : ℕ), by omega⟩) l := by
  open Cert.KropeReferenceIdeal.Read in
  pointwise [val_main_v50, val_main_v49, val_main_v48, val_main_v47, val_main_v46, val_main_v45, val_main_v44, val_main_v43, val_main_v42, val_main_v41, val_main_v40, val_main_v39, val_main_v38, val_main_v37, val_main_v13, val_main_v6]
  simp only [ref_cos, ref_sin, ref_dot]
  refine rope_ref _ 16 p _ l _ _ _ _ _ ?_ ?_ ?_ ?_ ?_ <;> intros <;> refine congrArg (proj X W b p) (Fin.ext ?_) <;> dsimp only [up, down] <;>
    omega

/-- The reference's keys of the indexer. -/
theorem ref_i (X : FVec Ideal Cert.KropeReferenceIdeal.S2x4096x2048 .f32) (W : FVec Ideal Cert.KropeReferenceIdeal.S1x2048x10448 .f32)
    (b : Fin 2) (p : Fin 4096) (h : Fin 1) (l : Fin 128) :
    Cert.KropeReferenceIdeal.Read.val_main_v88 (F := Ideal) X W (ix4 b p h l)
      = rope 1107296256#32 16 p (fun q => proj X W b p ⟨6208 + (q : ℕ), by omega⟩) l := by
  open Cert.KropeReferenceIdeal.Read in
  pointwise [val_main_v88, val_main_v87, val_main_v86, val_main_v85, val_main_v84, val_main_v83, val_main_v82, val_main_v81, val_main_v80, val_main_v79, val_main_v78, val_main_v77, val_main_v76, val_main_v75, val_main_v51, val_main_v9]
  simp only [ref_cos_i, ref_sin_i, ref_dot]
  refine rope_ref _ 16 p _ l _ _ _ _ _ ?_ ?_ ?_ ?_ ?_ <;> intros <;> refine congrArg (proj X W b p) (Fin.ext ?_) <;> dsimp only [up, down] <;>
    omega

/-- The reference at an element. -/
theorem ref (X : FVec Ideal Cert.KropeReferenceIdeal.S2x4096x2048 .f32) (W : FVec Ideal Cert.KropeReferenceIdeal.S1x2048x10448 .f32)
    (i : Cert.KropeReferenceIdeal.S8192x640.Idx) :
    Cert.KropeReferenceIdeal.Read.val_main_v92 (F := Ideal) X W i
      = rope 1107296256#32 16 ((i 0 : ℕ) % 4096) (lanes X W (i 0) (i 1)) ⟨(i 1 : ℕ) % 128, by omega⟩ := by
  have hi : (i 1 : ℕ) < 640 := by idx_bounds i; omega
  open Cert.KropeReferenceIdeal.Read in
  pointwise [val_main_v92, val_main_v91, val_main_v90, val_main_v89]
  split
  next h =>
    rw [ref_b]
    refine rope_congr (fun q => congrArg (proj X W _ _) (Fin.ext ?_)) (Fin.ext ?_)
    · dsimp only [head]
      rw [if_pos h]
    · dsimp only
  next h =>
    rw [ref_i]
    refine rope_congr (fun q => congrArg (proj X W _ _) (Fin.ext ?_)) (Fin.ext ?_)
    · dsimp only [head]
      rw [if_neg h]
    · dsimp only
      omega

/-- The tables' blocks at the row and lane of the result. -/
theorem tabs_blk (c : Dev nD) (t : Fin cfg0.N) (x : S1024x128.Idx) (i : S8192x640.Idx) (l : Fin 128)
    (h0 : (i 0 : ℕ) = t.val * 1024 + (x 0 : ℕ)) (hl : (x 1 : ℕ) = (l : ℕ)) :
    iblk m c 2 t x = tabC 1107296256#32 16 ((i 0 : ℕ) % 4096) l ∧ iblk m c 3 t x = tabA 1107296256#32 16 ((i 0 : ℕ) % 4096) l
      ∧ iblk m c 4 t x = tabB 1107296256#32 16 ((i 0 : ℕ) % 4096) l := by
  refine ⟨(tabs m c _).1.trans (congrArg₂ (tabC _ _) ?_ ?_), (tabs m c _).2.1.trans (congrArg₂ (tabA _ _) ?_ ?_),
    (tabs m c _).2.2.trans (congrArg₂ (tabB _ _) ?_ ?_)⟩ <;> blk_simp [idx t, h0, hl]

/-- One element of a head's tile. -/
theorem core (c : Dev nD) (t : Fin cfg0.N) (a : Fin 1024) (l : Fin 128) (i : S8192x640.Idx) (g : ℕ) (f : Fin 128 → Fin 640)
    (h0 : (i 0 : ℕ) = t.val * 1024 + (a : ℕ)) (h1 : (i 1 : ℕ) = g * 128 + (l : ℕ)) (hf : ∀ q, (f q : ℕ) = g * 128 + (q : ℕ)) (C A B : EReal)
    (h : C = tabC 1107296256#32 16 ((i 0 : ℕ) % 4096) l ∧ A = tabA 1107296256#32 16 ((i 0 : ℕ) % 4096) l
      ∧ B = tabB 1107296256#32 16 ((i 0 : ℕ) % 4096) l) :
    (∑ k : Fin 2048, blkX m c t (ix2 a k) * blkW m c t (ix2 k (f l))) * C
      + (∑ k : Fin 2048, blkX m c t (ix2 a k) * blkW m c t (ix2 k (f (up 16 l)))) * A
      + (∑ k : Fin 2048, blkX m c t (ix2 a k) * blkW m c t (ix2 k (f (down 16 l)))) * B
      = Cert.KropeReferenceIdeal.Read.val_main_v92 (F := Ideal) (argX m c) (argW m c) i := by
  have d : ∀ q, ∑ k : Fin 2048, blkX m c t (ix2 a k) * blkW m c t (ix2 k (f q)) = lanes (argX m c) (argW m c) (i 0) (i 1) q := fun q =>
    dot m c t a q (f q) i h0 (by rw [hf, h1]; omega)
  rw [d, d, d, h.1, h.2.1, h.2.2, rolled, ref]
  exact rope_congr (fun _ => rfl) (Fin.ext (by dsimp only; rw [h1]; omega))

/-- The kernel's tiles are the reference's. -/
theorem point (c : Dev nD) (t : Fin cfg0.N) (y) :
    out0_5 (iblk m c 0 t) (iblk m c 1 t) (iblk m c 2 t) (iblk m c 3 t) (iblk m c 4 t) y
      = Cert.KropeReferenceIdeal.Read.val_main_v92 (F := Ideal) (argX m c) (argW m c) (((cfg0.win 5).blk t).view.emb y) := by
  have e0 : ((((cfg0.win 5).blk t).view.emb y) 0 : ℕ) = t.val * 1024 + (y 0 : ℕ) := by blk_simp [idx t]
  have e1 : ((((cfg0.win 5).blk t).view.emb y) 1 : ℕ) = (y 1 : ℕ) := by blk_simp [idx t]
  generalize ((cfg0.win 5).blk t).view.emb y = i at e0 e1
  canon_tiles x h
  all_goals open_payloads; pointwise; rw [h0] at e0; rw [h1] at e1
  · exact core m c t (x 0) (x 1) i 4 (fun q => ⟨512 + (q : ℕ), by omega⟩) e0 e1 (fun q => rfl) _ _ _ (tabs_blk m c t x i (x 1) e0 rfl)
  · exact core m c t (x 0) (x 1) i 3 (fun q => ⟨384 + (q : ℕ), by omega⟩) e0 e1 (fun q => rfl) _ _ _ (tabs_blk m c t x i (x 1) e0 rfl)
  · exact core m c t (x 0) (x 1) i 2 (fun q => ⟨256 + (q : ℕ), by omega⟩) e0 e1 (fun q => rfl) _ _ _ (tabs_blk m c t x i (x 1) e0 rfl)
  · exact core m c t (x 0) (x 1) i 1 (fun q => ⟨128 + (q : ℕ), by omega⟩) e0 e1 (fun q => rfl) _ _ _ (tabs_blk m c t x i (x 1) e0 rfl)
  · exact core m c t (x 0) (x 1) i 0 (fun q => ⟨(q : ℕ), by omega⟩) e0 (by omega) (fun q => by dsimp only; omega) _ _ _
      (tabs_blk m c t x i (x 1) e0 rfl)

/-- The blocks tile the result. -/
theorem final (c : Dev nD) : (dats m 0 c).arrAt 5 (cfgs 0).N = Cert.KropeReferenceIdeal.Read.val_main_v92 (F := Ideal) (argX m c) (argW m c) := by
  refine (dats m 0 c).arrAt_eq_of_covers 5 _ (by decide +kernel) fun t _ y => ?_
  blk_simp
  rw [after0_5]
  exact point m c t y

end Cert.KropeIdeal.Result

end
-- ==== Proof.QHeads.lean ====
/-
  The projections to the sparse branch's queries and its indexer's queries, with their rotary embedding and the first
  ones' scale: every block of the result is the reference's.
-/
module

public import proofs.«01_k».proof.Proof.Gen.QHeadsIdeal.Frame
public import proofs.«01_k».proof.Proof.Gen.QHeadsReferenceIdeal.Read
public import proofs.«01_k».proof.Proof.Proj
public import Idealize.ShloMosaic.Lib.Pipeline.ValueKit
public import Idealize.ShloMosaic.Lib.KernelVsHost
public import Idealize.ShloMosaic.Lib.Claim
public import Idealize.ShloMosaic.Lib.StableHlo.RunRead

@[expose] public section

set_option maxRecDepth 16384

noncomputable section

namespace Cert.QHeadsIdeal.Result

open Cert.QHeadsIdeal Cert.QHeadsIdeal.Gen Cert.Proj
open Idealize.ShloMosaic Idealize.ShloMosaic.TcCoe Idealize.SL.Sem

variable (m : (ℓ : Loc nD τ sig) → Buf (Elt Ideal) ℓ)

abbrev argX (c : Dev nD) : FVec Ideal S2x4096x2048 .f32 := m ((c : Thread nD τ).loc main_arg0)
abbrev argW (c : Dev nD) : FVec Ideal S1x2048x10448 .f32 := m ((c : Thread nD τ).loc main_arg1)

/-- The rows that the kernel is given. -/
theorem rows (c : Dev nD) (i : S8192x2048.Idx) : V m c main_v1 i = argX m c (ix3 (seq (i 0)) (pos (i 0)) (i 1)) := by
  entry_read
  pointwise

/-- The columns that the kernel is given. -/
theorem cols (c : Dev nD) (i : S2048x4096.Idx) : V m c main_v7 i
    = argW m c (ix3 0 (i 0) ⟨if (i 1 : ℕ) < 2048 then 1088 + (i 1 : ℕ) else 4160 + ((i 1 : ℕ) - 2048), by idx_bounds i; split <;> omega⟩) := by
  entry_read
  pointwise
  split <;> exact congrArg (argW m c) (by idx_ext)

open StableHlo in
/-- The three tables that the kernel is given. -/
theorem tabs (c : Dev nD) (i : S8192x128.Idx) :
    V m c main_v47 i = tabC 1107296256#32 16 ((i 0 : ℕ) % 4096) (i 1)
      ∧ V m c main_v50 i = tabA 1107296256#32 16 ((i 0 : ℕ) % 4096) (i 1)
      ∧ V m c main_v53 i = tabB 1107296256#32 16 ((i 0 : ℕ) % 4096) (i 1) := by
  refine ⟨?_, ?_, ?_⟩
  · after_reads_simp
    pointwise
    after_reads_simp
    pointwise
    rfl
  · after_reads_simp
    pointwise
    after_reads_simp
    pointwise
    unfold tabA
    split
    · rfl
    · exact ite_self _
  · after_reads_simp
    pointwise
    after_reads_simp
    pointwise
    rfl

/-- The windows' blocks at every grid point. -/
theorem idx : ∀ t : Fin cfg0.N, win0_0.index t = ![t.val / 8, 0] ∧ win0_1.index t = ![0, t.val % 8] ∧ win0_2.index t = ![t.val / 8, 0]
    ∧ win0_3.index t = ![t.val / 8, 0] ∧ win0_4.index t = ![t.val / 8, 0] ∧ win0_5.index t = ![t.val % 8, t.val / 8, 0] :=
  (by decide +kernel : ∀ t : Fin grid0.N, _)

/-- The first column, in the layer's projection, of a head of the result. -/
def head (h : Fin 32) : ℕ := if (h : ℕ) < 16 then 1088 + (h : ℕ) * 128 else 4160 + ((h : ℕ) - 16) * 128

theorem head_lt (h : Fin 32) (q : Fin 128) : head h + (q : ℕ) < 10448 := by
  unfold head; split <;> omega

/-- One head of the reference, before its rotary embedding. -/
def lanes (X : FVec Ideal S2x4096x2048 .f32) (W : FVec Ideal S1x2048x10448 .f32) (r : Fin 8192) (h : Fin 32) (q : Fin 128) : EReal :=
  proj X W (seq r) (pos r) ⟨head h + (q : ℕ), head_lt h q⟩

/-- The block of rows at a grid point, and the block of columns. -/
abbrev blkX (c : Dev nD) (t : Fin cfg0.N) : FVec Ideal S1024x2048 .bf16 := iblk m c 0 t
abbrev blkW (c : Dev nD) (t : Fin cfg0.N) : FVec Ideal S2048x512 .bf16 := iblk m c 1 t

/-- A head's product in the kernel is the projection. -/
theorem dot (c : Dev nD) (t : Fin cfg0.N) (a : Fin 1024) (q : Fin 128) (f : Fin 512) (i : S32x8192x128.Idx)
    (h1 : (i 1 : ℕ) = t.val / 8 * 1024 + (a : ℕ)) (h0 : (i 0 : ℕ) * 128 + (q : ℕ) = t.val % 8 * 512 + (f : ℕ)) :
    ∑ k : Fin 2048, blkX m c t (ix2 a k) * blkW m c t (ix2 k f) = lanes (argX m c) (argW m c) (i 1) (i 0) q := by
  unfold lanes proj
  refine Finset.sum_congr rfl fun k _ => Ideal.mul_congr ((rows m c _).trans (congrArg (argX m c) ?_)) ((cols m c _).trans (congrArg (argW m c) ?_))
  · simp only [seq, pos]
    blk_ext [idx t, h1]
  · unfold head
    blk_ext [idx t]
    split <;> split <;> omega

/-- The reference's projection at an element. -/
theorem ref_dot (X : FVec Ideal Cert.QHeadsReferenceIdeal.S2x4096x2048 .f32) (W : FVec Ideal Cert.QHeadsReferenceIdeal.S1x2048x10448 .f32)
    (b : Fin 2) (p : Fin 4096) (j : Fin 10448) : Cert.QHeadsReferenceIdeal.Read.val_main_v1 (F := Ideal) X W (ix3 b p j) = proj X W b p j := by
  rw [Cert.QHeadsReferenceIdeal.Read.val_main_v1_apply]
  refine Finset.sum_congr rfl fun k _ => ?_
  rw [Cert.QHeadsReferenceIdeal.Read.val_main_v0_apply]
  refine Ideal.mul_congr (congrArg X ?_) (congrArg W ?_) <;> idx_ext

/-- The reference's cosines and sines. -/
theorem ref_cos (b : Fin 1) (p : Fin 4096) (h : Fin 1) (l : Fin 16) :
    Cert.QHeadsReferenceIdeal.Read.val_main_v34 (F := Ideal) (ix4 b p h l) = Ideal.cos (ang 1107296256#32 p l) := by
  open Cert.QHeadsReferenceIdeal.Read in
  pointwise [val_main_v34, val_main_v33, val_main_v32, val_main_v31, val_main_v30, val_main_v29, val_main_v28, val_main_v27, val_main_v26, val_main_v25, val_main_c, val_main_v24, val_main_v23, val_main_v22, val_main_cst_2, val_main_v21, val_main_v20, val_main_v19, val_main_cst_1, val_main_v18, val_main_v17, val_main_cst_0, val_main_v16, val_main_v15, val_main_cst, val_main_v14]
  rfl

theorem ref_sin (b : Fin 1) (p : Fin 4096) (h : Fin 1) (l : Fin 16) :
    Cert.QHeadsReferenceIdeal.Read.val_main_v36 (F := Ideal) (ix4 b p h l) = Ideal.sin (ang 1107296256#32 p l) := by
  open Cert.QHeadsReferenceIdeal.Read in
  pointwise [val_main_v36, val_main_v35, val_main_v32, val_main_v31, val_main_v30, val_main_v29, val_main_v28, val_main_v27, val_main_v26, val_main_v25, val_main_c, val_main_v24, val_main_v23, val_main_v22, val_main_cst_2, val_main_v21, val_main_v20, val_main_v19, val_main_cst_1, val_main_v18, val_main_v17, val_main_cst_0, val_main_v16, val_main_v15, val_main_cst, val_main_v14]
  rfl

/-- The same for the indexer's queries. -/
theorem ref_cos_i (b : Fin 1) (p : Fin 4096) (h : Fin 1) (l : Fin 16) :
    Cert.QHeadsReferenceIdeal.Read.val_main_v74 (F := Ideal) (ix4 b p h l) = Ideal.cos (ang 1107296256#32 p l) := by
  open Cert.QHeadsReferenceIdeal.Read in
  pointwise [val_main_v74, val_main_v73, val_main_v72, val_main_v71, val_main_v70, val_main_v69, val_main_v68, val_main_v67, val_main_v66, val_main_v65, val_main_c_8, val_main_v64, val_main_v63, val_main_v62, val_main_cst_7, val_main_v61, val_main_v60, val_main_v59, val_main_cst_6, val_main_v58, val_main_v57, val_main_cst_5, val_main_v56, val_main_v55, val_main_cst_4, val_main_v54]
  rfl

theorem ref_sin_i (b : Fin 1) (p : Fin 4096) (h : Fin 1) (l : Fin 16) :
    Cert.QHeadsReferenceIdeal.Read.val_main_v76 (F := Ideal) (ix4 b p h l) = Ideal.sin (ang 1107296256#32 p l) := by
  open Cert.QHeadsReferenceIdeal.Read in
  pointwise [val_main_v76, val_main_v75, val_main_v72, val_main_v71, val_main_v70, val_main_v69, val_main_v68, val_main_v67, val_main_v66, val_main_v65, val_main_c_8, val_main_v64, val_main_v63, val_main_v62, val_main_cst_7, val_main_v61, val_main_v60, val_main_v59, val_main_cst_6, val_main_v58, val_main_v57, val_main_cst_5, val_main_v56, val_main_v55, val_main_cst_4, val_main_v54]
  rfl

/-- The reference's queries. -/
theorem ref_b (X : FVec Ideal Cert.QHeadsReferenceIdeal.S2x4096x2048 .f32) (W : FVec Ideal Cert.QHeadsReferenceIdeal.S1x2048x10448 .f32)
    (b : Fin 2) (p : Fin 4096) (h : Fin 16) (l : Fin 128) :
    Cert.QHeadsReferenceIdeal.Read.val_main_v50 (F := Ideal) X W (ix4 b p h l)
      = rope 1107296256#32 16 p (fun q => proj X W b p ⟨1088 + (h : ℕ) * 128 + (q : ℕ), by omega⟩) l := by
  open Cert.QHeadsReferenceIdeal.Read in
  pointwise [val_main_v50, val_main_v49, val_main_v48, val_main_v47, val_main_v46, val_main_v45, val_main_v44, val_main_v43, val_main_v42, val_main_v41, val_main_v40, val_main_v39, val_main_v38, val_main_v37, val_main_v13, val_main_v5]
  simp only [ref_cos, ref_sin, ref_dot]
  refine rope_ref _ 16 p _ l _ _ _ _ _ ?_ ?_ ?_ ?_ ?_ <;> intros <;> refine congrArg (proj X W b p) (Fin.ext ?_) <;> dsimp only [up, down] <;>
    omega

/-- The reference's queries of the indexer. -/
theorem ref_i (X : FVec Ideal Cert.QHeadsReferenceIdeal.S2x4096x2048 .f32) (W : FVec Ideal Cert.QHeadsReferenceIdeal.S1x2048x10448 .f32)
    (b : Fin 2) (p : Fin 4096) (h : Fin 16) (l : Fin 128) :
    Cert.QHeadsReferenceIdeal.Read.val_main_v90 (F := Ideal) X W (ix4 b p h l)
      = rope 1107296256#32 16 p (fun q => proj X W b p ⟨4160 + (h : ℕ) * 128 + (q : ℕ), by omega⟩) l := by
  open Cert.QHeadsReferenceIdeal.Read in
  pointwise [val_main_v90, val_main_v89, val_main_v88, val_main_v87, val_main_v86, val_main_v85, val_main_v84, val_main_v83, val_main_v82, val_main_v81, val_main_v80, val_main_v79, val_main_v78, val_main_v77, val_main_v53, val_main_v8]
  simp only [ref_cos_i, ref_sin_i, ref_dot]
  refine rope_ref _ 16 p _ l _ _ _ _ _ ?_ ?_ ?_ ?_ ?_ <;> intros <;> refine congrArg (proj X W b p) (Fin.ext ?_) <;> dsimp only [up, down] <;>
    omega

/-- The scale of a head's queries. -/
def scale (h : Fin 32) : EReal := if (h : ℕ) < 16 then Ideal.ofBits .f32 0x3E0293EE#32 else 1

/-- The reference at an element. -/
theorem ref (X : FVec Ideal Cert.QHeadsReferenceIdeal.S2x4096x2048 .f32) (W : FVec Ideal Cert.QHeadsReferenceIdeal.S1x2048x10448 .f32)
    (i : Cert.QHeadsReferenceIdeal.S32x8192x128.Idx) :
    Cert.QHeadsReferenceIdeal.Read.val_main_v94 (F := Ideal) X W i
      = rope 1107296256#32 16 ((i 1 : ℕ) % 4096) (lanes X W (i 1) (i 0)) (i 2) * scale (i 0) := by
  open Cert.QHeadsReferenceIdeal.Read in
  pointwise [val_main_v94, val_main_v93, val_main_v92, val_main_v91, val_main_v52, val_main_v51, val_main_cst_3]
  unfold scale
  split
  next h =>
    refine congrArg (· * _) ((ref_b X W _ _ _ _).trans (rope_congr (fun q => congrArg (proj X W _ _) (Fin.ext ?_)) rfl))
    dsimp only [head]
    rw [if_pos h]
  next h =>
    refine ((ref_i X W _ _ _ _).trans (rope_congr (fun q => congrArg (proj X W _ _) (Fin.ext ?_)) rfl)).trans (mul_one _).symm
    dsimp only [head]
    rw [if_neg h]

/-- The tables' blocks at the row and lane of the result. -/
theorem tabs_blk (c : Dev nD) (t : Fin cfg0.N) (a : Fin 1024) (l : Fin 128) (i : S32x8192x128.Idx)
    (h1 : (i 1 : ℕ) = t.val / 8 * 1024 + (a : ℕ)) :
    iblk m c 2 t (ix2 a l) = tabC 1107296256#32 16 ((i 1 : ℕ) % 4096) l ∧ iblk m c 3 t (ix2 a l) = tabA 1107296256#32 16 ((i 1 : ℕ) % 4096) l
      ∧ iblk m c 4 t (ix2 a l) = tabB 1107296256#32 16 ((i 1 : ℕ) % 4096) l := by
  refine ⟨(tabs m c _).1.trans (congrArg₂ (tabC _ _) ?_ ?_), (tabs m c _).2.1.trans (congrArg₂ (tabA _ _) ?_ ?_),
    (tabs m c _).2.2.trans (congrArg₂ (tabB _ _) ?_ ?_)⟩ <;> blk_simp [idx t, h1]

/-- Which grid points' heads the kernel scales. -/
theorem cond : ∀ t : Fin cfg0.N,
    Scalar.cmpi .slt (BitVec.ofNat 32 (grid0.coords t 1).val) 4#32 = if t.val % 8 < 4 then 1#1 else 0#1 := by
  decide +kernel

theorem sel (t : Fin cfg0.N) (h : Fin 32) (e : (h : ℕ) / 4 = t.val % 8) :
    Scalar.select (Scalar.cmpi .slt (BitVec.ofNat 32 (grid0.coords t 1).val) 4#32) (Ideal.ofBits .f32 0x3E0293EE#32) (1 : EReal) = scale h := by
  rw [cond]
  unfold scale
  by_cases g : t.val % 8 < 4
  · rw [if_pos g, if_pos (by omega)]
    rfl
  · rw [if_neg g, if_neg (by omega)]
    rfl

/-- One element of a head's tile. -/
theorem core (c : Dev nD) (t : Fin cfg0.N) (a : Fin 1024) (l : Fin 128) (i : S32x8192x128.Idx) (g : ℕ) (f : Fin 128 → Fin 512)
    (h0 : (i 0 : ℕ) = t.val % 8 * 4 + g) (h1 : (i 1 : ℕ) = t.val / 8 * 1024 + (a : ℕ)) (h2 : (i 2 : ℕ) = (l : ℕ))
    (hf : ∀ q, (f q : ℕ) = g * 128 + (q : ℕ)) (C A B s : EReal)
    (h : C = tabC 1107296256#32 16 ((i 1 : ℕ) % 4096) l ∧ A = tabA 1107296256#32 16 ((i 1 : ℕ) % 4096) l
      ∧ B = tabB 1107296256#32 16 ((i 1 : ℕ) % 4096) l) (hs : s = scale (i 0)) :
    ((∑ k : Fin 2048, blkX m c t (ix2 a k) * blkW m c t (ix2 k (f l))) * C
      + (∑ k : Fin 2048, blkX m c t (ix2 a k) * blkW m c t (ix2 k (f (up 16 l)))) * A
      + (∑ k : Fin 2048, blkX m c t (ix2 a k) * blkW m c t (ix2 k (f (down 16 l)))) * B) * s
      = Cert.QHeadsReferenceIdeal.Read.val_main_v94 (F := Ideal) (argX m c) (argW m c) i := by
  have d : ∀ q, ∑ k : Fin 2048, blkX m c t (ix2 a k) * blkW m c t (ix2 k (f q)) = lanes (argX m c) (argW m c) (i 1) (i 0) q := fun q =>
    dot m c t a q (f q) i h1 (by rw [hf, h0]; omega)
  rw [d, d, d, h.1, h.2.1, h.2.2, rolled, hs, ref]
  exact congrArg (· * _) (rope_congr (fun _ => rfl) (Fin.ext h2.symm))

/-- The kernel's tiles are the reference's. -/
theorem point (c : Dev nD) (t : Fin cfg0.N) (y) :
    out0_5 (grid0.coords t) (iblk m c 0 t) (iblk m c 1 t) (iblk m c 2 t) (iblk m c 3 t) (iblk m c 4 t) y
      = Cert.QHeadsReferenceIdeal.Read.val_main_v94 (F := Ideal) (argX m c) (argW m c) (((cfg0.win 5).blk t).view.emb y) := by
  have e0 : ((((cfg0.win 5).blk t).view.emb y) 0 : ℕ) = t.val % 8 * 4 + (y 0 : ℕ) := by blk_simp [idx t]
  have e1 : ((((cfg0.win 5).blk t).view.emb y) 1 : ℕ) = t.val / 8 * 1024 + (y 1 : ℕ) := by blk_simp [idx t]
  have e2 : ((((cfg0.win 5).blk t).view.emb y) 2 : ℕ) = (y 2 : ℕ) := by blk_simp [idx t]
  generalize ((cfg0.win 5).blk t).view.emb y = i at e0 e1 e2
  canon_tiles x h
  all_goals open_payloads; pointwise; rw [h0] at e0; rw [h1] at e1; rw [h2] at e2
  · exact core m c t (x 1) (x 2) i 3 (fun q => ⟨384 + (q : ℕ), by omega⟩) (by omega) e1 (by omega) (fun q => rfl) _ _ _ _ (tabs_blk m c t (x 1) (x 2) i e1)
      (sel t (i 0) (by omega))
  · exact core m c t (x 1) (x 2) i 2 (fun q => ⟨256 + (q : ℕ), by omega⟩) (by omega) e1 (by omega) (fun q => rfl) _ _ _ _ (tabs_blk m c t (x 1) (x 2) i e1)
      (sel t (i 0) (by omega))
  · exact core m c t (x 1) (x 2) i 1 (fun q => ⟨128 + (q : ℕ), by omega⟩) (by omega) e1 (by omega) (fun q => rfl) _ _ _ _ (tabs_blk m c t (x 1) (x 2) i e1)
      (sel t (i 0) (by omega))
  · exact core m c t (x 1) (x 2) i 0 (fun q => ⟨(q : ℕ), by omega⟩) (by omega) e1 (by omega) (fun q => by dsimp only; omega) _ _ _ _
      (tabs_blk m c t (x 1) (x 2) i e1) (sel t (i 0) (by omega))

/-- The blocks tile the result. -/
theorem final (c : Dev nD) : (dats m 0 c).arrAt 5 (cfgs 0).N = Cert.QHeadsReferenceIdeal.Read.val_main_v94 (F := Ideal) (argX m c) (argW m c) := by
  refine (dats m 0 c).arrAt_eq_of_covers 5 _ (by decide +kernel) fun t _ y => ?_
  blk_simp
  rw [after0_5]
  exact point m c t y

end Cert.QHeadsIdeal.Result

end
-- ==== Proof.KvUp.lean ====
/-
  The up-projection to the latent attention's keys and values: every block of the two results is the reference's.
-/
module

public import proofs.«01_k».proof.Proof.Gen.KvUpIdeal.Frame
public import proofs.«01_k».proof.Proof.Gen.KvUpReferenceIdeal.Read
public import Idealize.ShloMosaic.Lib.Pipeline.ValueKit
public import Idealize.ShloMosaic.Lib.KernelVsHost
public import Idealize.ShloMosaic.Lib.Claim

@[expose] public section

set_option maxRecDepth 16384

noncomputable section

namespace Cert.KvUpIdeal.Result

open Cert.KvUpIdeal Cert.KvUpIdeal.Gen
open Idealize.ShloMosaic Idealize.ShloMosaic.TcCoe Idealize.SL.Sem

variable (m : (ℓ : Loc nD τ sig) → Buf (Elt Ideal) ℓ)

abbrev argC (c : Dev nD) : FVec Ideal S8192x512 .bf16 := m ((c : Thread nD τ).loc main_arg0)
abbrev argP (c : Dev nD) : FVec Ideal S8192x128 .bf16 := m ((c : Thread nD τ).loc main_arg1)
abbrev argU (c : Dev nD) : FVec Ideal S1x512x16x256 .f32 := m ((c : Thread nD τ).loc main_arg2)

/-- The columns that the kernel is given for the keys. -/
theorem cols_k (c : Dev nD) (i : S512x2048.Idx) :
    V m c main_v3 i = argU m c (ix4 0 (i 0) ⟨(i 1 : ℕ) / 128, by idx_bounds i; omega⟩ ⟨(i 1 : ℕ) % 128, by omega⟩) := by
  entry_read
  pointwise

/-- The columns that the kernel is given for the values. -/
theorem cols_v (c : Dev nD) (i : S512x2048.Idx) :
    V m c main_v7 i = argU m c (ix4 0 (i 0) ⟨(i 1 : ℕ) / 128, by idx_bounds i; omega⟩ ⟨128 + (i 1 : ℕ) % 128, by omega⟩) := by
  entry_read
  pointwise

/-- The rows that the kernel is given. -/
theorem rows (c : Dev nD) (i : S8192x512.Idx) : V m c main_arg0 i = argC m c i := by
  entry_read
  try pointwise

/-- The rotary features that the kernel is given. -/
theorem pes (c : Dev nD) (i : S8192x128.Idx) : V m c main_arg1 i = argP m c i := by
  entry_read
  try pointwise

/-- Feature `e` of head `h` of the up-projection of row `r`. -/
def up (C : FVec Ideal S8192x512 .bf16) (U : FVec Ideal S1x512x16x256 .f32) (r : Fin 8192) (h : Fin 16) (e : Fin 256) : EReal :=
  ∑ k : Fin 512, C (ix2 r k) * U (ix4 0 k h e)

section
open Cert.KvUpReferenceIdeal.Read

theorem ref_dot (C : FVec Ideal S8192x512 .bf16) (U : FVec Ideal S1x512x16x256 .f32) (r : Fin 8192) (h : Fin 16) (e : Fin 256) :
    val_main_v2 (F := Ideal) C U (ix3 r h e) = up C U r h e := by
  rw [val_main_v2_apply]
  unfold up
  refine Finset.sum_congr rfl fun k _ => ?_
  rw [val_main_v0_apply, val_main_v1_apply]
  refine Ideal.mul_congr (congrArg C ?_) (congrArg U ?_) <;> idx_ext

/-- The reference's values at an element. -/
theorem ref_v (C : FVec Ideal S8192x512 .bf16) (U : FVec Ideal S1x512x16x256 .f32) (i : Cert.KvUpReferenceIdeal.S16x8192x128.Idx) :
    val_main_v12 (F := Ideal) C U i = up C U (i 1) (i 0) ⟨128 + (i 2 : ℕ), by idx_bounds i; omega⟩ := by
  pointwise [val_main_v12, val_main_v11, val_main_v8]
  exact ref_dot _ _ _ _ _

/-- The reference's keys at an element. -/
theorem ref_k (C : FVec Ideal S8192x512 .bf16) (P : FVec Ideal S8192x128 .bf16) (U : FVec Ideal S1x512x16x256 .f32)
    (i : Cert.KvUpReferenceIdeal.S16x8192x256.Idx) :
    val_main_v10 (F := Ideal) C P U i
      = if h : (i 2 : ℕ) < 128 then up C U (i 1) (i 0) (i 2) else P (ix2 (i 1) ⟨(i 2 : ℕ) - 128, by idx_bounds i; omega⟩) := by
  pointwise [val_main_v10, val_main_v9, val_main_v7, val_main_v6, val_main_v5, val_main_v4, val_main_v3]
  split
  · exact ref_dot _ _ _ _ _
  · rfl
end

abbrev blkC (c : Dev nD) (t : Fin cfg0.N) : FVec Ideal S512x512 .bf16 := iblk m c 0 t
abbrev blkP (c : Dev nD) (t : Fin cfg0.N) : FVec Ideal S512x128 .bf16 := iblk m c 1 t
abbrev blkK (c : Dev nD) (t : Fin cfg0.N) : FVec Ideal S512x2048 .bf16 := iblk m c 2 t
abbrev blkV (c : Dev nD) (t : Fin cfg0.N) : FVec Ideal S512x2048 .bf16 := iblk m c 3 t

/-- The windows' blocks at every grid point. -/
theorem idx : ∀ t : Fin cfg0.N, win0_0.index t = ![t.val, 0] ∧ win0_1.index t = ![t.val, 0] ∧ win0_2.index t = ![0, 0]
    ∧ win0_3.index t = ![0, 0] ∧ win0_4.index t = ![0, t.val, 0] ∧ win0_5.index t = ![0, t.val, 0] :=
  (by decide +kernel : ∀ t : Fin grid0.N, _)

/-- One element of a head's values. -/
theorem core_v (c : Dev nD) (t : Fin cfg0.N) (a : Fin 512) (i : S16x8192x128.Idx) (u v : Fin 512 → EReal)
    (h1 : (i 1 : ℕ) = t.val * 512 + (a : ℕ)) (hu : ∀ k, u k = blkC m c t (ix2 a k))
    (hv : ∃ j : Fin 2048, (j : ℕ) = (i 0 : ℕ) * 128 + (i 2 : ℕ) ∧ ∀ k, v k = blkV m c t (ix2 k j)) :
    ∑ k : Fin 512, u k * v k
      = Cert.KvUpReferenceIdeal.Read.val_main_v12 (F := Ideal) (argC m c) (argU m c) i := by
  obtain ⟨j, hj, hv⟩ := hv
  have h2 : (i 2 : ℕ) < 128 := (i 2).isLt
  refine Eq.trans ?_ (ref_v _ _ i).symm
  unfold up
  refine Finset.sum_congr rfl fun k _ => Ideal.mul_congr ((hu k).trans ((rows m c _).trans (congrArg (argC m c) ?_)))
    ((hv k).trans ((cols_v m c _).trans (congrArg (argU m c) ?_)))
  · blk_ext [idx t, h1]
  · blk_ext [idx t] <;> omega

/-- One position-free feature of a head's keys. -/
theorem core_k (c : Dev nD) (t : Fin cfg0.N) (a : Fin 512) (i : S16x8192x256.Idx) (u v : Fin 512 → EReal)
    (h1 : (i 1 : ℕ) = t.val * 512 + (a : ℕ)) (h2 : (i 2 : ℕ) < 128) (hu : ∀ k, u k = blkC m c t (ix2 a k))
    (hv : ∃ j : Fin 2048, (j : ℕ) = (i 0 : ℕ) * 128 + (i 2 : ℕ) ∧ ∀ k, v k = blkK m c t (ix2 k j)) :
    ∑ k : Fin 512, u k * v k
      = Cert.KvUpReferenceIdeal.Read.val_main_v10 (F := Ideal) (argC m c) (argP m c) (argU m c) i := by
  obtain ⟨j, hj, hv⟩ := hv
  refine Eq.trans ?_ ((ref_k _ _ _ i).trans (dif_pos h2)).symm
  unfold up
  refine Finset.sum_congr rfl fun k _ => Ideal.mul_congr ((hu k).trans ((rows m c _).trans (congrArg (argC m c) ?_)))
    ((hv k).trans ((cols_k m c _).trans (congrArg (argU m c) ?_)))
  · blk_ext [idx t, h1]
  · blk_ext [idx t] <;> omega

/-- One rotary feature of a head's keys. -/
theorem core_p (c : Dev nD) (t : Fin cfg0.N) (a : Fin 512) (l : Fin 128) (i : S16x8192x256.Idx)
    (h1 : (i 1 : ℕ) = t.val * 512 + (a : ℕ)) (h2 : (i 2 : ℕ) = 128 + (l : ℕ)) :
    blkP m c t (ix2 a l) = Cert.KvUpReferenceIdeal.Read.val_main_v10 (F := Ideal) (argC m c) (argP m c) (argU m c) i := by
  refine Eq.trans ?_ ((ref_k _ _ _ i).trans (dif_neg (by omega))).symm
  refine (pes m c _).trans (congrArg (argP m c) ?_)
  blk_ext [idx t, h1]

set_option maxHeartbeats 800000 in
/-- The kernel's tiles of the values are the reference's. -/
theorem point_v (c : Dev nD) (t : Fin cfg0.N) (y) :
    out0_5 (iblk m c 0 t) (iblk m c 1 t) (iblk m c 2 t) (iblk m c 3 t) y
      = Cert.KvUpReferenceIdeal.Read.val_main_v12 (F := Ideal) (argC m c) (argU m c) (((cfg0.win 5).blk t).view.emb y) := by
  have e0 : ((((cfg0.win 5).blk t).view.emb y) 0 : ℕ) = (y 0 : ℕ) := by blk_simp [idx t]
  have e1 : ((((cfg0.win 5).blk t).view.emb y) 1 : ℕ) = t.val * 512 + (y 1 : ℕ) := by blk_simp [idx t]
  have e2 : ((((cfg0.win 5).blk t).view.emb y) 2 : ℕ) = (y 2 : ℕ) := by blk_simp [idx t]
  generalize ((cfg0.win 5).blk t).view.emb y = i at e0 e1 e2
  canon_tiles x h
  all_goals
    open_payloads
    pointwise
    rw [h0] at e0
    rw [h1] at e1
    rw [h2] at e2
    refine core_v m c t (x 1) i _ _ e1 (fun k => rfl) ⟨⟨_, ?_⟩, ?_, fun k => rfl⟩
    · omega
    · dsimp only
      omega

set_option maxHeartbeats 800000 in
/-- The kernel's tiles of the keys are the reference's. -/
theorem point_k (c : Dev nD) (t : Fin cfg0.N) (y) :
    out0_4 (iblk m c 0 t) (iblk m c 1 t) (iblk m c 2 t) (iblk m c 3 t) y
      = Cert.KvUpReferenceIdeal.Read.val_main_v10 (F := Ideal) (argC m c) (argP m c) (argU m c) (((cfg0.win 4).blk t).view.emb y) := by
  have e0 : ((((cfg0.win 4).blk t).view.emb y) 0 : ℕ) = (y 0 : ℕ) := by blk_simp [idx t]
  have e1 : ((((cfg0.win 4).blk t).view.emb y) 1 : ℕ) = t.val * 512 + (y 1 : ℕ) := by blk_simp [idx t]
  have e2 : ((((cfg0.win 4).blk t).view.emb y) 2 : ℕ) = (y 2 : ℕ) := by blk_simp [idx t]
  generalize ((cfg0.win 4).blk t).view.emb y = i at e0 e1 e2
  canon_tiles x h
  all_goals
    open_payloads
    pointwise
    rw [h0] at e0
    rw [h1] at e1
    rw [h2] at e2
    first
      | exact core_p m c t (x 1) (x 2) i e1 (by omega)
      | refine core_k m c t (x 1) i _ _ e1 (by omega) (fun k => rfl) ⟨⟨_, ?_⟩, ?_, fun k => rfl⟩
        · omega
        · dsimp only
          omega

/-- The blocks tile the keys. -/
theorem final_k (c : Dev nD) :
    (dats m 0 c).arrAt 4 (cfgs 0).N = Cert.KvUpReferenceIdeal.Read.val_main_v10 (F := Ideal) (argC m c) (argP m c) (argU m c) := by
  refine (dats m 0 c).arrAt_eq_of_covers 4 _ (by decide +kernel) fun t _ y => ?_
  blk_simp
  rw [after0_4]
  exact point_k m c t y

/-- The blocks tile the values. -/
theorem final_v (c : Dev nD) :
    (dats m 0 c).arrAt 5 (cfgs 0).N = Cert.KvUpReferenceIdeal.Read.val_main_v12 (F := Ideal) (argC m c) (argU m c) := by
  refine (dats m 0 c).arrAt_eq_of_covers 5 _ (by decide +kernel) fun t _ y => ?_
  blk_simp
  rw [after0_5]
  exact point_v m c t y

end Cert.KvUpIdeal.Result

end
-- ==== Proof.Mask.lean ====
/-
  The rotary tables of a register whose first 64 lanes are rotated, as the host code cuts them out of tables of period 64.
-/
module

public import proofs.«01_k».proof.Proof.Proj

@[expose] public section

noncomputable section

namespace Cert.Proj

open Idealize.ShloMosaic

theorem lt64 : ∀ l : Fin 128, IntOp.cmpi .slt (BitVec.ofNat 32 (l : ℕ)) 64#32 = if (l : ℕ) < 64 then 1#1 else 0#1 := by decide +kernel

theorem in80 : ∀ l : Fin 128, IntOp.andi (IntOp.cmpi .sge (BitVec.ofNat 32 (l : ℕ)) 64#32) (IntOp.cmpi .slt (BitVec.ofNat 32 (l : ℕ)) 80#32)
    = if 64 ≤ (l : ℕ) ∧ (l : ℕ) < 80 then 1#1 else 0#1 := by decide +kernel

/-- A selection by whether the lane is one of the first 64. -/
theorem sel64 (l : Fin 128) (a b : EReal) :
    Scalar.select (IntOp.cmpi .slt (BitVec.ofNat 32 (l : ℕ)) 64#32) a b = if (l : ℕ) < 64 then a else b := by
  rw [lt64]
  by_cases h : (l : ℕ) < 64
  · rw [if_pos h, if_pos h]
    rfl
  · rw [if_neg h, if_neg h]
    rfl

/-- A selection by whether the lane is one of the 16 after them. -/
theorem sel80 (l : Fin 128) (a b : EReal) :
    Scalar.select (IntOp.andi (IntOp.cmpi .sge (BitVec.ofNat 32 (l : ℕ)) 64#32) (IntOp.cmpi .slt (BitVec.ofNat 32 (l : ℕ)) 80#32)) a b
      = if 64 ≤ (l : ℕ) ∧ (l : ℕ) < 80 then a else b := by
  rw [in80]
  by_cases h : 64 ≤ (l : ℕ) ∧ (l : ℕ) < 80
  · rw [if_pos h, if_pos h]
    rfl
  · rw [if_neg h, if_neg h]
    rfl

theorem masked_a (n : BitVec 32) (p : ℕ) (l : Fin 128) :
    (if (l : ℕ) < 64 then (if (l : ℕ) % 64 < 32 then -Ideal.sin (ang n p ((l : ℕ) % 64)) else if (l : ℕ) % 64 - 32 < 32 then 0 else 0) else 0)
      = tabA n 32 p l := by
  unfold tabA
  by_cases h : (l : ℕ) < 64
  · rw [if_pos h, Nat.mod_eq_of_lt h, ite_self]
  · rw [if_neg h, if_neg (by omega)]

theorem masked_b (n : BitVec 32) (p : ℕ) (l : Fin 128) :
    (if (l : ℕ) < 64 then (if (l : ℕ) % 64 < 32 then 0 else if (l : ℕ) % 64 - 32 < 32 then Ideal.sin (ang n p ((l : ℕ) % 64 - 32)) else 0) else 0)
      = tabB n 32 p l := by
  unfold tabB
  by_cases h : (l : ℕ) < 64
  · rw [if_pos h, Nat.mod_eq_of_lt h]
  · rw [if_neg h, if_neg (by omega), if_neg (by omega)]

theorem masked_c (n : BitVec 32) (p : ℕ) (l : Fin 128) :
    (if (l : ℕ) < 64 then (if (l : ℕ) % 64 < 32 then Ideal.cos (ang n p ((l : ℕ) % 64))
      else if (l : ℕ) % 64 - 32 < 32 then Ideal.cos (ang n p ((l : ℕ) % 64 - 32)) else 1) else 0)
      = if (l : ℕ) < 64 then tabC n 32 p l else 0 := by
  unfold tabC
  by_cases h : (l : ℕ) < 64
  · rw [if_pos h, if_pos h, Nat.mod_eq_of_lt h]
  · rw [if_neg h, if_neg h]

/-- Rotating by the cut tables: the first 64 lanes are turned, the others multiplied by what the first table holds there. -/
theorem rolled_cut (n : BitVec 32) (p : ℕ) (x : Fin 128 → EReal) (l : Fin 128) (s : EReal) :
    x l * (if (l : ℕ) < 64 then tabC n 32 p l else s) + x (up 32 l) * tabA n 32 p l + x (down 32 l) * tabB n 32 p l
      = if (l : ℕ) < 64 then rope n 32 p x l else x l * s := by
  by_cases h : (l : ℕ) < 64
  · rw [if_pos h, if_pos h, rolled]
  · unfold tabA tabB
    rw [if_neg h, if_neg h, if_neg (by omega), if_neg (by omega), if_neg (by omega), mul_zero, mul_zero, add_zero, add_zero]

end Cert.Proj

end
-- ==== Proof.Tail.lean ====
/-
  The projection to the rotary key and the indexer's weights: every block of the result is the reference's.
-/
module

public import proofs.«01_k».proof.Proof.Gen.TailIdeal.Frame
public import proofs.«01_k».proof.Proof.Gen.TailReferenceIdeal.Read
public import proofs.«01_k».proof.Proof.Mask
public import Idealize.ShloMosaic.Lib.Pipeline.ValueKit
public import Idealize.ShloMosaic.Lib.KernelVsHost
public import Idealize.ShloMosaic.Lib.StableHlo.RunRead
public import Idealize.ShloMosaic.Lib.Claim

@[expose] public section

set_option maxRecDepth 16384

noncomputable section

namespace Cert.TailIdeal.Result

open Cert.TailIdeal Cert.TailIdeal.Gen Cert.Proj
open Idealize.ShloMosaic Idealize.ShloMosaic.TcCoe Idealize.SL.Sem

variable (m : (ℓ : Loc nD τ sig) → Buf (Elt Ideal) ℓ)

abbrev argX (c : Dev nD) : FVec Ideal S2x4096x2048 .f32 := m ((c : Thread nD τ).loc main_arg0)
abbrev argW (c : Dev nD) : FVec Ideal S1x2048x10448 .f32 := m ((c : Thread nD τ).loc main_arg1)

/-- The indexer's weights' factor, as a float. -/
abbrev factor : EReal := Ideal.ofBits .f32 0x3CB504F3#32

open StableHlo in
/-- The rows that the kernel is given. -/
theorem rows (c : Dev nD) (i : S8192x2048.Idx) : V m c main_v73 i = argX m c (ix3 (seq (i 0)) (pos (i 0)) (i 1)) := by
  after_reads_simp
  pointwise

/-- Column `j` of the kernel's weights. -/
def col (W : FVec Ideal S1x2048x10448 .f32) (k : Fin 2048) (j : Fin 128) : EReal :=
  if h : (j : ℕ) < 64 then W (ix3 0 k ⟨1024 + (j : ℕ), by omega⟩) else if h : (j : ℕ) < 80 then W (ix3 0 k ⟨6272 + (j : ℕ), by omega⟩) else 0

open StableHlo in
/-- The columns that the kernel is given. -/
theorem cols (c : Dev nD) (i : S2048x128.Idx) : V m c main_v6 i = col (argW m c) (i 0) (i 1) := by
  after_reads_simp
  pointwise
  after_reads_simp
  pointwise
  unfold col
  split
  · rfl
  · by_cases g : (i 1 : ℕ) < 80
    · rw [dif_pos (by omega), dif_pos g]
      exact congrArg (argW m c) (by idx_ext)
    · rw [dif_neg (by omega), dif_neg g]

open StableHlo in
/-- The table of the other half's lanes further on. -/
theorem tab_a (c : Dev nD) (i : S8192x128.Idx) : V m c main_v59 i = tabA 1115684864#32 32 ((i 0 : ℕ) % 4096) (i 1) := by
  after_reads_simp
  simp -implicitDefEqProofs only [StableHlo.TRef.toBuf, StableHlo.TRef.ofBuf, cast_cast, cast_eq]
  pointwise
  after_reads_simp
  pointwise
  refine (sel64 (i 1) _ _).trans (Eq.trans ?_ (masked_a _ _ _))
  rw [show (id (constant (F := Ideal) S_ .f32 0#32) ix0 : EReal) = 0 from by simp only [id_eq]; pointwise]
  rfl

open StableHlo in
/-- The table of the other half's lanes further back. -/
theorem tab_b (c : Dev nD) (i : S8192x128.Idx) : V m c main_v65 i = tabB 1115684864#32 32 ((i 0 : ℕ) % 4096) (i 1) := by
  after_reads_simp
  simp -implicitDefEqProofs only [StableHlo.TRef.toBuf, StableHlo.TRef.ofBuf, cast_cast, cast_eq]
  pointwise
  after_reads_simp
  pointwise
  refine (sel64 (i 1) _ _).trans (Eq.trans ?_ (masked_b _ _ _))
  rw [show (id (constant (F := Ideal) S_ .f32 0#32) ix0 : EReal) = 0 from by simp only [id_eq]; pointwise]
  rfl

/-- What the first table holds outside the rotated lanes. -/
def rest (l : ℕ) : EReal := if l < 80 then factor else 0

/-- The first table: the rotated lanes', the factor, zeros. -/
def tabT (p l : ℕ) : EReal := if l < 64 then tabC 1115684864#32 32 p l else rest l

open StableHlo in
/-- The table of the lanes themselves. -/
theorem tab_c (c : Dev nD) (i : S8192x128.Idx) :
    V m c main_v71 i = tabT ((i 0 : ℕ) % 4096) (i 1) := by
  after_reads_simp
  simp -implicitDefEqProofs only [StableHlo.TRef.toBuf, StableHlo.TRef.ofBuf, cast_cast, cast_eq]
  pointwise
  after_reads_simp
  pointwise
  refine (sel80 (i 1) _ _).trans ?_
  rw [show (id (constant (F := Ideal) S_ .f32 0#32) ix0 : EReal) = 0 from by simp only [id_eq]; pointwise]
  refine (if_congr Iff.rfl rfl ((sel64 (i 1) _ _).trans (masked_c 1115684864#32 ((i 0 : ℕ) % 4096) (i 1)))).trans ?_
  unfold tabT rest
  by_cases h : (i 1 : ℕ) < 64
  · rw [if_pos h, if_neg (by omega), if_pos h]
  · by_cases g : (i 1 : ℕ) < 80
    · rw [if_pos (show 64 ≤ (i 1 : ℕ) ∧ (i 1 : ℕ) < 80 by omega), if_neg h, if_pos g]
      simp only [id_eq]
      pointwise
    · rw [if_neg h, if_neg g, if_neg (by omega), if_neg h]

/-- The windows' blocks at every grid point. -/
theorem idx : ∀ t : Fin cfg0.N, win0_0.index t = ![t.val, 0] ∧ win0_1.index t = ![0, 0] ∧ win0_2.index t = ![t.val, 0]
    ∧ win0_3.index t = ![t.val, 0] ∧ win0_4.index t = ![t.val, 0] ∧ win0_5.index t = ![t.val, 0] :=
  (by decide +kernel : ∀ t : Fin grid0.N, _)

/-- The projection's 128 lanes at a row. -/
def lanes (X : FVec Ideal S2x4096x2048 .f32) (W : FVec Ideal S1x2048x10448 .f32) (b : Fin 2) (p : Fin 4096) (q : Fin 128) : EReal :=
  ∑ k : Fin 2048, X (ix3 b p k) * col W k q

theorem lanes_key (X : FVec Ideal S2x4096x2048 .f32) (W : FVec Ideal S1x2048x10448 .f32) (b : Fin 2) (p : Fin 4096) (q : Fin 128)
    (h : (q : ℕ) < 64) : lanes X W b p q = proj X W b p ⟨1024 + (q : ℕ), by omega⟩ := by
  unfold lanes proj col
  exact Finset.sum_congr rfl fun k _ => Ideal.mul_congr rfl (dif_pos h)

theorem lanes_weight (X : FVec Ideal S2x4096x2048 .f32) (W : FVec Ideal S1x2048x10448 .f32) (b : Fin 2) (p : Fin 4096) (q : Fin 128)
    (h : ¬ (q : ℕ) < 64) (g : (q : ℕ) < 80) : lanes X W b p q = proj X W b p ⟨6272 + (q : ℕ), by omega⟩ := by
  unfold lanes proj col
  exact Finset.sum_congr rfl fun k _ => Ideal.mul_congr rfl ((dif_neg h).trans (dif_pos g))

abbrev blkX (c : Dev nD) (t : Fin cfg0.N) : FVec Ideal S1024x2048 .bf16 := iblk m c 0 t
abbrev blkW (c : Dev nD) (t : Fin cfg0.N) : FVec Ideal S2048x128 .bf16 := iblk m c 1 t

set_option maxHeartbeats 2000000 in
/-- The kernel's product is the projection. -/
theorem dot (c : Dev nD) (t : Fin cfg0.N) (a : Fin 1024) (q : Fin 128) (r : Fin 8192) (h0 : (r : ℕ) = t.val * 1024 + (a : ℕ)) :
    ∑ k : Fin 2048, blkX m c t (ix2 a k) * blkW m c t (ix2 k q) = lanes (argX m c) (argW m c) (seq r) (pos r) q := by
  unfold lanes
  refine Finset.sum_congr rfl fun k _ => Ideal.mul_congr ((rows m c _).trans (congrArg (argX m c) ?_))
    ((cols m c _).trans (congrArg₂ (col (argW m c)) ?_ ?_))
  · simp only [seq, pos]
    blk_ext [idx t, h0]
  · refine Fin.ext ?_
    blk_simp [idx t]
  · refine Fin.ext ?_
    blk_simp [idx t]

section
open Cert.TailReferenceIdeal.Read

/-- The reference's projection at an element. -/
theorem ref_dot (X : FVec Ideal Cert.TailReferenceIdeal.S2x4096x2048 .f32) (W : FVec Ideal Cert.TailReferenceIdeal.S1x2048x10448 .f32)
    (b : Fin 2) (p : Fin 4096) (j : Fin 10448) : val_main_v1 (F := Ideal) X W (ix3 b p j) = proj X W b p j := by
  rw [val_main_v1_apply]
  refine Finset.sum_congr rfl fun k _ => ?_
  rw [val_main_v0_apply]
  refine Ideal.mul_congr (congrArg X ?_) (congrArg W ?_) <;> idx_ext

/-- The reference's cosines and sines. -/
theorem ref_cos (b : Fin 1) (p : Fin 4096) (h : Fin 1) (l : Fin 32) :
    val_main_v34 (F := Ideal) (ix4 b p h l) = Ideal.cos (ang 1115684864#32 p l) := by
  pointwise [val_main_v34, val_main_v33, val_main_v32, val_main_v31, val_main_v30, val_main_v29, val_main_v28, val_main_v27, val_main_v26, val_main_v25, val_main_c, val_main_v24, val_main_v23, val_main_v22, val_main_cst_2, val_main_v21, val_main_v20, val_main_v19, val_main_cst_1, val_main_v18, val_main_v17, val_main_cst_0, val_main_v16, val_main_v15, val_main_cst, val_main_v14]
  rfl

theorem ref_sin (b : Fin 1) (p : Fin 4096) (h : Fin 1) (l : Fin 32) :
    val_main_v36 (F := Ideal) (ix4 b p h l) = Ideal.sin (ang 1115684864#32 p l) := by
  pointwise [val_main_v36, val_main_v35, val_main_v32, val_main_v31, val_main_v30, val_main_v29, val_main_v28, val_main_v27, val_main_v26, val_main_v25, val_main_c, val_main_v24, val_main_v23, val_main_v22, val_main_cst_2, val_main_v21, val_main_v20, val_main_v19, val_main_cst_1, val_main_v18, val_main_v17, val_main_cst_0, val_main_v16, val_main_v15, val_main_cst, val_main_v14]
  rfl

/-- The reference's rotary key. -/
theorem ref_key (X : FVec Ideal Cert.TailReferenceIdeal.S2x4096x2048 .f32) (W : FVec Ideal Cert.TailReferenceIdeal.S1x2048x10448 .f32)
    (b : Fin 2) (p : Fin 4096) (h : Fin 1) (l : Fin 64) :
    val_main_v50 (F := Ideal) X W (ix4 b p h l) = rope 1115684864#32 32 p (lanes X W b p) ⟨(l : ℕ), by omega⟩ := by
  pointwise [val_main_v50, val_main_v49, val_main_v48, val_main_v47, val_main_v46, val_main_v45, val_main_v44, val_main_v43, val_main_v42, val_main_v41, val_main_v40, val_main_v39, val_main_v38, val_main_v37, val_main_v13, val_main_v4]
  simp only [ref_cos, ref_sin, ref_dot]
  refine rope_ref _ 32 p _ ⟨(l : ℕ), by omega⟩ _ _ _ _ _ (fun a => ?_) (fun a => ?_) (fun a g => ?_) (fun a g => ?_) (fun a g => ?_)
  · exact Eq.trans (congrArg (proj X W b p) (Fin.ext (by dsimp only <;> omega))) (lanes_key X W b p _ (by dsimp only <;> omega)).symm
  · have a : (l : ℕ) < 32 := a
    exact Eq.trans (congrArg (proj X W b p) (Fin.ext (by dsimp only <;> omega))) (lanes_key X W b p _ (by dsimp only <;> omega)).symm
  · have a : ¬ (l : ℕ) < 32 := a
    exact Eq.trans (congrArg (proj X W b p) (Fin.ext (by dsimp only <;> omega))) (lanes_key X W b p _ (by dsimp only <;> omega)).symm
  · have a : ¬ (l : ℕ) < 32 := a
    exact Eq.trans (congrArg (proj X W _ p) (Fin.ext (by dsimp only <;> omega))) (lanes_key X W _ p _ (by dsimp only <;> omega)).symm
  · have a : ¬ (l : ℕ) < 32 := a
    have g : ¬ (l : ℕ) - 32 < 32 := g
    exact Eq.trans (congrArg (proj X W _ p) (Fin.ext (by dsimp only <;> omega))) (lanes_key X W _ p _ (by dsimp only <;> omega)).symm

/-- The reference at an element. -/
theorem ref (X : FVec Ideal Cert.TailReferenceIdeal.S2x4096x2048 .f32) (W : FVec Ideal Cert.TailReferenceIdeal.S1x2048x10448 .f32)
    (i : Cert.TailReferenceIdeal.S8192x128.Idx) :
    val_main_v56 (F := Ideal) X W i
      = if (i 1 : ℕ) < 64 then rope 1115684864#32 32 ((i 0 : ℕ) % 4096) (lanes X W (seq (i 0)) (pos (i 0))) (i 1)
        else lanes X W (seq (i 0)) (pos (i 0)) (i 1) * rest (i 1) := by
  have hi : (i 1 : ℕ) < 128 := (i 1).isLt
  rw [val_main_v56_apply]
  pointwise [val_main_v55, val_main_v52, val_main_v54, val_main_v53, val_main_v51, val_main_v10, val_main_cst_3, val_main_cst_4]
  have key : ∀ (b : Fin 2) (p : Fin 4096) (l : Fin 64), b = seq (i 0) → p = pos (i 0) → (l : ℕ) = (i 1 : ℕ) →
      val_main_v50 (F := Ideal) X W (ix4 b p 0 l)
        = rope 1115684864#32 32 ((i 0 : ℕ) % 4096) (lanes X W (seq (i 0)) (pos (i 0))) (i 1) := by
    rintro _ _ l rfl rfl hl
    exact (ref_key X W _ _ _ _).trans (rope_congr (fun _ => rfl) (Fin.ext hl))
  have weight : ∀ (b : Fin 2) (p : Fin 4096) (j : Fin 10448), b = seq (i 0) → p = pos (i 0) → (j : ℕ) = 6272 + (i 1 : ℕ) →
      ¬ (i 1 : ℕ) < 64 → (i 1 : ℕ) < 80 → val_main_v1 (F := Ideal) X W (ix3 b p j) = lanes X W (seq (i 0)) (pos (i 0)) (i 1) := by
    rintro _ _ j rfl rfl hj h g
    exact (ref_dot X W _ _ _).trans ((congrArg (proj X W _ _) (Fin.ext hj)).trans (lanes_weight X W _ _ (i 1) h g).symm)
  by_cases h : (i 1 : ℕ) < 64
  · have h' : ((i 0 : ℕ) * 128 + (i 1 : ℕ)) % 128 < 64 := by omega
    refine (dif_pos h').trans (Eq.trans ?_ (if_pos h).symm)
    refine key _ _ _ (Fin.ext ?_) (Fin.ext ?_) ?_ <;> (try dsimp only) <;> omega
  · have h' : ¬ ((i 0 : ℕ) * 128 + (i 1 : ℕ)) % 128 < 64 := by omega
    refine (dif_neg h').trans (Eq.trans ?_ (if_neg h).symm)
    unfold rest
    by_cases g : (i 1 : ℕ) < 80
    · have g' : ((i 0 : ℕ) * 128 + (i 1 : ℕ)) % 128 - 64 < 16 := by omega
      rw [if_pos g]
      refine (dif_pos g').trans (congrArg (· * _) (weight _ _ _ (Fin.ext ?_) (Fin.ext ?_) ?_ h g)) <;> (try dsimp only) <;> omega
    · have g' : ¬ ((i 0 : ℕ) * 128 + (i 1 : ℕ)) % 128 - 64 < 16 := by omega
      rw [if_neg g, mul_zero]
      exact dif_neg g'
end

set_option maxHeartbeats 2000000 in
/-- The tables' blocks at the row and lane of the result. -/
theorem tabs_blk (c : Dev nD) (t : Fin cfg0.N) (x : S1024x128.Idx) (i : S8192x128.Idx)
    (h0 : (i 0 : ℕ) = t.val * 1024 + (x 0 : ℕ)) :
    iblk m c 2 t x = tabT ((i 0 : ℕ) % 4096) (x 1)
      ∧ iblk m c 3 t x = tabA 1115684864#32 32 ((i 0 : ℕ) % 4096) (x 1)
      ∧ iblk m c 4 t x = tabB 1115684864#32 32 ((i 0 : ℕ) % 4096) (x 1) := by
  refine ⟨(tab_c m c _).trans (congrArg₂ tabT ?_ ?_),
    (tab_a m c _).trans (congrArg₂ (tabA _ _) ?_ ?_), (tab_b m c _).trans (congrArg₂ (tabB _ _) ?_ ?_)⟩ <;> blk_simp [idx t, h0]

/-- One element of the tile. -/
theorem core (c : Dev nD) (t : Fin cfg0.N) (a : Fin 1024) (l : Fin 128) (i : S8192x128.Idx)
    (h0 : (i 0 : ℕ) = t.val * 1024 + (a : ℕ)) (h1 : (i 1 : ℕ) = (l : ℕ)) (C A B : EReal)
    (h : C = tabT ((i 0 : ℕ) % 4096) l ∧ A = tabA 1115684864#32 32 ((i 0 : ℕ) % 4096) l
      ∧ B = tabB 1115684864#32 32 ((i 0 : ℕ) % 4096) l) :
    (∑ k : Fin 2048, blkX m c t (ix2 a k) * blkW m c t (ix2 k l)) * C
      + (∑ k : Fin 2048, blkX m c t (ix2 a k) * blkW m c t (ix2 k (up 32 l))) * A
      + (∑ k : Fin 2048, blkX m c t (ix2 a k) * blkW m c t (ix2 k (down 32 l))) * B
      = Cert.TailReferenceIdeal.Read.val_main_v56 (F := Ideal) (argX m c) (argW m c) i := by
  have d : ∀ q, ∑ k : Fin 2048, blkX m c t (ix2 a k) * blkW m c t (ix2 k q)
      = lanes (argX m c) (argW m c) (seq (i 0)) (pos (i 0)) q := fun q => dot m c t a q (i 0) h0
  have e : l = i 1 := Fin.ext h1.symm
  rw [d, d, d, h.1, h.2.1, h.2.2]
  unfold tabT
  rw [rolled_cut, ref, e]

/-- The kernel's tile is the reference's. -/
theorem point (c : Dev nD) (t : Fin cfg0.N) (y) :
    out0_5 (iblk m c 0 t) (iblk m c 1 t) (iblk m c 2 t) (iblk m c 3 t) (iblk m c 4 t) y
      = Cert.TailReferenceIdeal.Read.val_main_v56 (F := Ideal) (argX m c) (argW m c) (((cfg0.win 5).blk t).view.emb y) := by
  have e0 : ((((cfg0.win 5).blk t).view.emb y) 0 : ℕ) = t.val * 1024 + (y 0 : ℕ) := by blk_simp [idx t]
  have e1 : ((((cfg0.win 5).blk t).view.emb y) 1 : ℕ) = (y 1 : ℕ) := by blk_simp [idx t]
  generalize ((cfg0.win 5).blk t).view.emb y = i at e0 e1
  canon_tiles x h
  open_payloads
  pointwise
  rw [h0] at e0
  rw [h1] at e1
  exact core m c t (x 0) (x 1) i e0 e1 _ _ _ (tabs_blk m c t x i e0)

/-- The blocks tile the result. -/
theorem final (c : Dev nD) : (dats m 0 c).arrAt 5 (cfgs 0).N = Cert.TailReferenceIdeal.Read.val_main_v56 (F := Ideal) (argX m c) (argW m c) := by
  refine (dats m 0 c).arrAt_eq_of_covers 5 _ (by decide +kernel) fun t _ y => ?_
  blk_simp
  rw [after0_5]
  exact point m c t y

end Cert.TailIdeal.Result

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_finite
public import proofs.«01_k».proof.Proof.Gen.ReferenceIdeal.Run
public import proofs.«01_k».proof.Proof.KFrame
public import proofs.«01_k».proof.Proof.Attention
public import proofs.«01_k».proof.Proof.Gen.Ffn
public import proofs.«01_k».proof.Proof.Gen.FfnIdeal
public import proofs.«01_k».proof.Proof.Gen.FfnReferenceIdeal
public import proofs.«01_k».proof.Proof.Gen.Ffn.Frame
public import proofs.«01_k».proof.Proof.Gen.FfnIdeal.Frame
public import proofs.«01_k».proof.Proof.Gen.FfnIdeal.Value
public import proofs.«01_k».proof.Proof.Gen.FfnReferenceIdeal.Run
public import proofs.«01_k».proof.Proof.Gen.FfnReferenceIdeal.Read
public import proofs.«01_k».proof.Proof.Ffn
public import proofs.«01_k».proof.Proof.Gen.Merge
public import proofs.«01_k».proof.Proof.Gen.MergeIdeal
public import proofs.«01_k».proof.Proof.Gen.MergeReferenceIdeal
public import proofs.«01_k».proof.Proof.Gen.Merge.Frame
public import proofs.«01_k».proof.Proof.Gen.MergeIdeal.Frame
public import proofs.«01_k».proof.Proof.Gen.MergeIdeal.Value
public import proofs.«01_k».proof.Proof.Gen.MergeReferenceIdeal.Run
public import proofs.«01_k».proof.Proof.Gen.MergeReferenceIdeal.Read
public import proofs.«01_k».proof.Proof.Merge
public import proofs.«01_k».proof.Proof.Gen.OutLn
public import proofs.«01_k».proof.Proof.Gen.OutLnIdeal
public import proofs.«01_k».proof.Proof.Gen.OutLnReferenceIdeal
public import proofs.«01_k».proof.Proof.Gen.OutLn.Frame
public import proofs.«01_k».proof.Proof.Gen.OutLnIdeal.Frame
public import proofs.«01_k».proof.Proof.Gen.OutLnIdeal.Value
public import proofs.«01_k».proof.Proof.Gen.OutLnReferenceIdeal.Run
public import proofs.«01_k».proof.Proof.Gen.OutLnReferenceIdeal.Read
public import proofs.«01_k».proof.Proof.OutLn
public import proofs.«01_k».proof.Proof.Gen.ProjV
public import proofs.«01_k».proof.Proof.Gen.ProjVIdeal
public import proofs.«01_k».proof.Proof.Gen.ProjVReferenceIdeal
public import proofs.«01_k».proof.Proof.Gen.ProjV.Frame
public import proofs.«01_k».proof.Proof.Gen.ProjVIdeal.Frame
public import proofs.«01_k».proof.Proof.Gen.ProjVIdeal.Value
public import proofs.«01_k».proof.Proof.Gen.ProjVReferenceIdeal.Run
public import proofs.«01_k».proof.Proof.Gen.ProjVReferenceIdeal.Read
public import proofs.«01_k».proof.Proof.ProjV
public import proofs.«01_k».proof.Proof.Gen.Gates
public import proofs.«01_k».proof.Proof.Gen.GatesIdeal
public import proofs.«01_k».proof.Proof.Gen.GatesReferenceIdeal
public import proofs.«01_k».proof.Proof.Gen.Gates.Frame
public import proofs.«01_k».proof.Proof.Gen.GatesIdeal.Frame
public import proofs.«01_k».proof.Proof.Gen.GatesIdeal.Value
public import proofs.«01_k».proof.Proof.Gen.GatesReferenceIdeal.Run
public import proofs.«01_k».proof.Proof.Gen.GatesReferenceIdeal.Read
public import proofs.«01_k».proof.Proof.Gates
public import proofs.«01_k».proof.Proof.Gen.Lat
public import proofs.«01_k».proof.Proof.Gen.LatIdeal
public import proofs.«01_k».proof.Proof.Gen.LatReferenceIdeal
public import proofs.«01_k».proof.Proof.Gen.Lat.Frame
public import proofs.«01_k».proof.Proof.Gen.LatIdeal.Frame
public import proofs.«01_k».proof.Proof.Gen.LatIdeal.Value
public import proofs.«01_k».proof.Proof.Gen.LatReferenceIdeal.Run
public import proofs.«01_k».proof.Proof.Gen.LatReferenceIdeal.Read
public import proofs.«01_k».proof.Proof.Lat
public import proofs.«01_k».proof.Proof.Gen.Krope
public import proofs.«01_k».proof.Proof.Gen.KropeIdeal
public import proofs.«01_k».proof.Proof.Gen.KropeReferenceIdeal
public import proofs.«01_k».proof.Proof.Gen.Krope.Frame
public import proofs.«01_k».proof.Proof.Gen.KropeIdeal.Frame
public import proofs.«01_k».proof.Proof.Gen.KropeIdeal.Value
public import proofs.«01_k».proof.Proof.Gen.KropeReferenceIdeal.Run
public import proofs.«01_k».proof.Proof.Gen.KropeReferenceIdeal.Read
public import proofs.«01_k».proof.Proof.Krope
public import proofs.«01_k».proof.Proof.Gen.QHeads
public import proofs.«01_k».proof.Proof.Gen.QHeadsIdeal
public import proofs.«01_k».proof.Proof.Gen.QHeadsReferenceIdeal
public import proofs.«01_k».proof.Proof.Gen.QHeads.Frame
public import proofs.«01_k».proof.Proof.Gen.QHeadsIdeal.Frame
public import proofs.«01_k».proof.Proof.Gen.QHeadsIdeal.Value
public import proofs.«01_k».proof.Proof.Gen.QHeadsReferenceIdeal.Run
public import proofs.«01_k».proof.Proof.Gen.QHeadsReferenceIdeal.Read
public import proofs.«01_k».proof.Proof.QHeads
public import proofs.«01_k».proof.Proof.Gen.KvUp
public import proofs.«01_k».proof.Proof.Gen.KvUpIdeal
public import proofs.«01_k».proof.Proof.Gen.KvUpReferenceIdeal
public import proofs.«01_k».proof.Proof.Gen.KvUp.Frame
public import proofs.«01_k».proof.Proof.Gen.KvUpIdeal.Frame
public import proofs.«01_k».proof.Proof.Gen.KvUpIdeal.Value
public import proofs.«01_k».proof.Proof.Gen.KvUpReferenceIdeal.Run
public import proofs.«01_k».proof.Proof.Gen.KvUpReferenceIdeal.Read
public import proofs.«01_k».proof.Proof.KvUp
public import proofs.«01_k».proof.Proof.Gen.Tail
public import proofs.«01_k».proof.Proof.Gen.TailIdeal
public import proofs.«01_k».proof.Proof.Gen.TailReferenceIdeal
public import proofs.«01_k».proof.Proof.Gen.Tail.Frame
public import proofs.«01_k».proof.Proof.Gen.TailIdeal.Frame
public import proofs.«01_k».proof.Proof.Gen.TailIdeal.Value
public import proofs.«01_k».proof.Proof.Gen.TailReferenceIdeal.Run
public import proofs.«01_k».proof.Proof.Gen.TailReferenceIdeal.Read
public import proofs.«01_k».proof.Proof.Tail
public import Idealize.ShloMosaic.Lib.Quiescent

@[expose] public section

noncomputable section

namespace Cert.Proof

open Idealize.ShloMosaic Idealize.SL.Sem

/-- The reference's frame: its run at the arguments; it declares no semaphore. -/
theorem frame_reference : Cert.quiescent_ReferenceIdeal := fun m ρ _ =>
  (θ_run _ _ _).mono (fun r h => ⟨fun c => (h c).2, sem_eq_zero_of_no_sems (by decide) r.2⟩) (Cert.ReferenceIdeal.Value.run (F := Ideal) m ρ)

/-- The attention's value. -/
theorem value : Cert.algebraic_KernelIdeal_ReferenceIdeal_pre_finite := by
  intro m g m' g' hp hargs
  refine ⟨fun c => Cert.KernelIdeal.Result.out _ _ _, Cert.KernelIdeal.Result.run m g, ?_⟩
  refine (θ_run _ _ _).mono (fun r h c => ⟨(h c).1.trans ?_, (h c).2⟩) (Cert.ReferenceIdeal.Value.run (F := Ideal) m' g')
  obtain ⟨hQ, hK⟩ := Cert.Attention.real_of_pre _ _ _ (hp c)
  refine (Cert.ReferenceIdeal.Read.val_main_v31_eq m' c).trans ?_
  rw [(hargs c).1, (hargs c).2.1, (hargs c).2.2]
  exact (Cert.Attention.out_eq _ _ _ hQ hK).symm

/-- The frame of the feed-forward's reference. -/
theorem frame_Ffn : Cert.quiescent_FfnReferenceIdeal := fun m ρ _ =>
  (θ_run _ _ _).mono (fun r h => ⟨fun c => (h c).2, sem_eq_zero_of_no_sems (by decide) r.2⟩) (Cert.FfnReferenceIdeal.Value.run (F := Ideal) m ρ)

/-- The value of the feed-forward. -/
theorem value_Ffn : Cert.algebraic_FfnIdeal_FfnReferenceIdeal := by
  intro m g m' g' _ hargs
  refine ⟨fun c => (Cert.FfnIdeal.Gen.dats m 0 c).arrAt 5 (Cert.FfnIdeal.cfgs 0).N, Cert.FfnIdeal.Value.run_blocks m g, ?_⟩
  refine (θ_run _ _ _).mono (fun r h c => ⟨(h c).1.trans ?_, (h c).2⟩) (Cert.FfnReferenceIdeal.Value.run (F := Ideal) m' g')
  · refine (Cert.FfnReferenceIdeal.Read.val_main_v30_eq m' c).trans (Eq.trans ?_ (Cert.FfnIdeal.Result.final m c).symm)
    rw [(hargs c).1, (hargs c).2.1, (hargs c).2.2.1, (hargs c).2.2.2.1, (hargs c).2.2.2.2]

/-- The frame of the branches' merge's reference. -/
theorem frame_Merge : Cert.quiescent_MergeReferenceIdeal := fun m ρ _ =>
  (θ_run _ _ _).mono (fun r h => ⟨fun c => (h c).2, sem_eq_zero_of_no_sems (by decide) r.2⟩) (Cert.MergeReferenceIdeal.Value.run (F := Ideal) m ρ)

/-- The value of the branches' merge. -/
theorem value_Merge : Cert.algebraic_MergeIdeal_MergeReferenceIdeal := by
  intro m g m' g' _ hargs
  refine ⟨fun c => (Cert.MergeIdeal.Gen.dats m 0 c).arrAt 6 (Cert.MergeIdeal.cfgs 0).N, Cert.MergeIdeal.Value.run_blocks m g, ?_⟩
  refine (θ_run _ _ _).mono (fun r h c => ⟨(h c).1.trans ?_, (h c).2⟩) (Cert.MergeReferenceIdeal.Value.run (F := Ideal) m' g')
  · refine (Cert.MergeReferenceIdeal.Read.val_main_v11_eq _ _ _ _ _).trans (Eq.trans ?_ (Cert.MergeIdeal.Result.final m c).symm)
    rw [(hargs c).1, (hargs c).2.1, (hargs c).2.2.1, (hargs c).2.2.2.1, (hargs c).2.2.2.2]

/-- The frame of the output projection's reference. -/
theorem frame_OutLn : Cert.quiescent_OutLnReferenceIdeal := fun m ρ _ =>
  (θ_run _ _ _).mono (fun r h => ⟨fun c => (h c).2, sem_eq_zero_of_no_sems (by decide) r.2⟩) (Cert.OutLnReferenceIdeal.Value.run (F := Ideal) m ρ)

/-- The value of the output projection. -/
theorem value_OutLn : Cert.algebraic_OutLnIdeal_OutLnReferenceIdeal := by
  intro m g m' g' _ hargs
  refine ⟨fun c => (Cert.OutLnIdeal.Gen.dats m 0 c).arrAt 5 (Cert.OutLnIdeal.cfgs 0).N, Cert.OutLnIdeal.Value.run_blocks m g, ?_⟩
  refine (θ_run _ _ _).mono (fun r h c => ⟨(h c).1.trans ?_, (h c).2⟩) (Cert.OutLnReferenceIdeal.Value.run (F := Ideal) m' g')
  · refine (Cert.OutLnReferenceIdeal.Read.val_main_v27_eq _ _ _ _ _).trans (Eq.trans ?_ (Cert.OutLnIdeal.Result.final m c).symm)
    rw [(hargs c).1, (hargs c).2.1, (hargs c).2.2.1, (hargs c).2.2.2.1, (hargs c).2.2.2.2]

/-- The frame of the sparse branch's values's reference. -/
theorem frame_ProjV : Cert.quiescent_ProjVReferenceIdeal := fun m ρ _ =>
  (θ_run _ _ _).mono (fun r h => ⟨fun c => (h c).2, sem_eq_zero_of_no_sems (by decide) r.2⟩) (Cert.ProjVReferenceIdeal.Value.run (F := Ideal) m ρ)

/-- The value of the sparse branch's values. -/
theorem value_ProjV : Cert.algebraic_ProjVIdeal_ProjVReferenceIdeal := by
  intro m g m' g' _ hargs
  refine ⟨fun c => (Cert.ProjVIdeal.Gen.dats m 0 c).arrAt 2 (Cert.ProjVIdeal.cfgs 0).N, Cert.ProjVIdeal.Value.run_blocks m g, ?_⟩
  refine (θ_run _ _ _).mono (fun r h c => ⟨(h c).1.trans ?_, (h c).2⟩) (Cert.ProjVReferenceIdeal.Value.run (F := Ideal) m' g')
  · refine (Cert.ProjVReferenceIdeal.Read.val_main_v13_eq _ _).trans (Eq.trans ?_ (Cert.ProjVIdeal.Result.final m c).symm)
    rw [(hargs c).1, (hargs c).2]

/-- The frame of the gates's reference. -/
theorem frame_Gates : Cert.quiescent_GatesReferenceIdeal := fun m ρ _ =>
  (θ_run _ _ _).mono (fun r h => ⟨fun c => (h c).2, sem_eq_zero_of_no_sems (by decide) r.2⟩) (Cert.GatesReferenceIdeal.Value.run (F := Ideal) m ρ)

/-- The value of the gates. -/
theorem value_Gates : Cert.algebraic_GatesIdeal_GatesReferenceIdeal := by
  intro m g m' g' _ hargs
  refine ⟨fun c => (Cert.GatesIdeal.Gen.dats m 0 c).arrAt 2 (Cert.GatesIdeal.cfgs 0).N, Cert.GatesIdeal.Value.run_blocks m g, ?_⟩
  refine (θ_run _ _ _).mono (fun r h c => ⟨(h c).1.trans ?_, (h c).2⟩) (Cert.GatesReferenceIdeal.Value.run (F := Ideal) m' g')
  · refine (Cert.GatesReferenceIdeal.Read.val_main_v26_eq _ _).trans (Eq.trans ?_ (Cert.GatesIdeal.Result.final m c).symm)
    rw [(hargs c).1, (hargs c).2]

/-- The frame of the latents's reference. -/
theorem frame_Lat : Cert.quiescent_LatReferenceIdeal := fun m ρ _ =>
  (θ_run _ _ _).mono (fun r h => ⟨fun c => (h c).2, sem_eq_zero_of_no_sems (by decide) r.2⟩) (Cert.LatReferenceIdeal.Value.run (F := Ideal) m ρ)

/-- The value of the latents. -/
theorem value_Lat : Cert.algebraic_LatIdeal_LatReferenceIdeal := by
  intro m g m' g' _ hargs
  refine ⟨fun c => (Cert.LatIdeal.Gen.dats m 0 c).arrAt 3 (Cert.LatIdeal.cfgs 0).N, Cert.LatIdeal.Value.run_blocks m g, ?_⟩
  refine (θ_run _ _ _).mono (fun r h c => ⟨(h c).1.trans ?_, (h c).2⟩) (Cert.LatReferenceIdeal.Value.run (F := Ideal) m' g')
  · refine (Cert.LatReferenceIdeal.Read.val_main_v42_eq _ _ _ _).trans (Eq.trans ?_ (Cert.LatIdeal.Result.final m c).symm)
    rw [(hargs c).1, (hargs c).2.1, (hargs c).2.2.1, (hargs c).2.2.2]

/-- The frame of the sparse branch's keys's reference. -/
theorem frame_Krope : Cert.quiescent_KropeReferenceIdeal := fun m ρ _ =>
  (θ_run _ _ _).mono (fun r h => ⟨fun c => (h c).2, sem_eq_zero_of_no_sems (by decide) r.2⟩) (Cert.KropeReferenceIdeal.Value.run (F := Ideal) m ρ)

/-- The value of the sparse branch's keys. -/
theorem value_Krope : Cert.algebraic_KropeIdeal_KropeReferenceIdeal := by
  intro m g m' g' _ hargs
  refine ⟨fun c => (Cert.KropeIdeal.Gen.dats m 0 c).arrAt 5 (Cert.KropeIdeal.cfgs 0).N, Cert.KropeIdeal.Value.run_blocks m g, ?_⟩
  refine (θ_run _ _ _).mono (fun r h c => ⟨(h c).1.trans ?_, (h c).2⟩) (Cert.KropeReferenceIdeal.Value.run (F := Ideal) m' g')
  · refine (Cert.KropeReferenceIdeal.Read.val_main_v92_eq _ _).trans (Eq.trans ?_ (Cert.KropeIdeal.Result.final m c).symm)
    rw [(hargs c).1, (hargs c).2]

/-- The frame of the sparse branch's queries's reference. -/
theorem frame_QHeads : Cert.quiescent_QHeadsReferenceIdeal := fun m ρ _ =>
  (θ_run _ _ _).mono (fun r h => ⟨fun c => (h c).2, sem_eq_zero_of_no_sems (by decide) r.2⟩) (Cert.QHeadsReferenceIdeal.Value.run (F := Ideal) m ρ)

/-- The value of the sparse branch's queries. -/
theorem value_QHeads : Cert.algebraic_QHeadsIdeal_QHeadsReferenceIdeal := by
  intro m g m' g' _ hargs
  refine ⟨fun c => (Cert.QHeadsIdeal.Gen.dats m 0 c).arrAt 5 (Cert.QHeadsIdeal.cfgs 0).N, Cert.QHeadsIdeal.Value.run_blocks m g, ?_⟩
  refine (θ_run _ _ _).mono (fun r h c => ⟨(h c).1.trans ?_, (h c).2⟩) (Cert.QHeadsReferenceIdeal.Value.run (F := Ideal) m' g')
  · refine (Cert.QHeadsReferenceIdeal.Read.val_main_v94_eq _ _).trans (Eq.trans ?_ (Cert.QHeadsIdeal.Result.final m c).symm)
    rw [(hargs c).1, (hargs c).2]

/-- The frame of the latent attention's keys and values's reference. -/
theorem frame_KvUp : Cert.quiescent_KvUpReferenceIdeal := fun m ρ _ =>
  (θ_run _ _ _).mono (fun r h => ⟨fun c => (h c).2.2, sem_eq_zero_of_no_sems (by decide) r.2⟩) (Cert.KvUpReferenceIdeal.Value.run (F := Ideal) m ρ)

/-- The value of the latent attention's keys and values. -/
theorem value_KvUp : Cert.algebraic_KvUpIdeal_KvUpReferenceIdeal := by
  intro m g m' g' _ hargs
  refine ⟨fun c => (Cert.KvUpIdeal.Gen.dats m 0 c).arrAt 4 (Cert.KvUpIdeal.cfgs 0).N, fun c => (Cert.KvUpIdeal.Gen.dats m 0 c).arrAt 5 (Cert.KvUpIdeal.cfgs 0).N, Cert.KvUpIdeal.Value.run_blocks m g, ?_⟩
  refine (θ_run _ _ _).mono (fun r h c => ⟨(h c).1.trans ?_, (h c).2.1.trans ?_, (h c).2.2⟩) (Cert.KvUpReferenceIdeal.Value.run (F := Ideal) m' g')
  · refine (Cert.KvUpReferenceIdeal.Read.val_main_v10_eq _ _ _).trans (Eq.trans ?_ (Cert.KvUpIdeal.Result.final_k m c).symm)
    rw [(hargs c).1, (hargs c).2.1, (hargs c).2.2]
  · refine (Cert.KvUpReferenceIdeal.Read.val_main_v12_eq _ _).trans (Eq.trans ?_ (Cert.KvUpIdeal.Result.final_v m c).symm)
    rw [(hargs c).1, (hargs c).2.2]

/-- The frame of the rotary key and the indexer's weights's reference. -/
theorem frame_Tail : Cert.quiescent_TailReferenceIdeal := fun m ρ _ =>
  (θ_run _ _ _).mono (fun r h => ⟨fun c => (h c).2, sem_eq_zero_of_no_sems (by decide) r.2⟩) (Cert.TailReferenceIdeal.Value.run (F := Ideal) m ρ)

/-- The value of the rotary key and the indexer's weights. -/
theorem value_Tail : Cert.algebraic_TailIdeal_TailReferenceIdeal := by
  intro m g m' g' _ hargs
  refine ⟨fun c => (Cert.TailIdeal.Gen.dats m 0 c).arrAt 5 (Cert.TailIdeal.cfgs 0).N, Cert.TailIdeal.Value.run_blocks m g, ?_⟩
  refine (θ_run _ _ _).mono (fun r h c => ⟨(h c).1.trans ?_, (h c).2⟩) (Cert.TailReferenceIdeal.Value.run (F := Ideal) m' g')
  · refine (Cert.TailReferenceIdeal.Read.val_main_v56_eq _ _).trans (Eq.trans ?_ (Cert.TailIdeal.Result.final m c).symm)
    rw [(hargs c).1, (hargs c).2]

theorem claim : Cert.Claim :=
  ⟨Cert.Kernel.Gen.facts,
    Cert.KernelIdeal.Gen.facts,
    Cert.ReferenceIdeal.Gen.facts,
    Cert.Ffn.Gen.facts,
    Cert.FfnIdeal.Gen.facts,
    Cert.FfnReferenceIdeal.Gen.facts,
    Cert.Merge.Gen.facts,
    Cert.MergeIdeal.Gen.facts,
    Cert.MergeReferenceIdeal.Gen.facts,
    Cert.OutLn.Gen.facts,
    Cert.OutLnIdeal.Gen.facts,
    Cert.OutLnReferenceIdeal.Gen.facts,
    Cert.ProjV.Gen.facts,
    Cert.ProjVIdeal.Gen.facts,
    Cert.ProjVReferenceIdeal.Gen.facts,
    Cert.Gates.Gen.facts,
    Cert.GatesIdeal.Gen.facts,
    Cert.GatesReferenceIdeal.Gen.facts,
    Cert.Lat.Gen.facts,
    Cert.LatIdeal.Gen.facts,
    Cert.LatReferenceIdeal.Gen.facts,
    Cert.Krope.Gen.facts,
    Cert.KropeIdeal.Gen.facts,
    Cert.KropeReferenceIdeal.Gen.facts,
    Cert.QHeads.Gen.facts,
    Cert.QHeadsIdeal.Gen.facts,
    Cert.QHeadsReferenceIdeal.Gen.facts,
    Cert.KvUp.Gen.facts,
    Cert.KvUpIdeal.Gen.facts,
    Cert.KvUpReferenceIdeal.Gen.facts,
    Cert.Tail.Gen.facts,
    Cert.TailIdeal.Gen.facts,
    Cert.TailReferenceIdeal.Gen.facts,
    Cert.Pre_finite.Gen.facts,
    fun m ρ _ => Cert.Kernel.Whole.frame m ρ,
    fun m ρ _ => Cert.KernelIdeal.Whole.frame m ρ,
    fun m ρ _ => Cert.KernelIdeal.Whole.frame m ρ,
    frame_reference,
    fun m ρ _ => frame_reference m ρ trivial,
    fun m ρ _ => Cert.Ffn.Gen.frame m ρ,
    fun m ρ _ => Cert.FfnIdeal.Gen.frame m ρ,
    frame_Ffn,
    fun m ρ _ => Cert.Merge.Gen.frame m ρ,
    fun m ρ _ => Cert.MergeIdeal.Gen.frame m ρ,
    frame_Merge,
    fun m ρ _ => Cert.OutLn.Gen.frame m ρ,
    fun m ρ _ => Cert.OutLnIdeal.Gen.frame m ρ,
    frame_OutLn,
    fun m ρ _ => Cert.ProjV.Gen.frame m ρ,
    fun m ρ _ => Cert.ProjVIdeal.Gen.frame m ρ,
    frame_ProjV,
    fun m ρ _ => Cert.Gates.Gen.frame m ρ,
    fun m ρ _ => Cert.GatesIdeal.Gen.frame m ρ,
    frame_Gates,
    fun m ρ _ => Cert.Lat.Gen.frame m ρ,
    fun m ρ _ => Cert.LatIdeal.Gen.frame m ρ,
    frame_Lat,
    fun m ρ _ => Cert.Krope.Gen.frame m ρ,
    fun m ρ _ => Cert.KropeIdeal.Gen.frame m ρ,
    frame_Krope,
    fun m ρ _ => Cert.QHeads.Gen.frame m ρ,
    fun m ρ _ => Cert.QHeadsIdeal.Gen.frame m ρ,
    frame_QHeads,
    fun m ρ _ => Cert.KvUp.Gen.frame m ρ,
    fun m ρ _ => Cert.KvUpIdeal.Gen.frame m ρ,
    frame_KvUp,
    fun m ρ _ => Cert.Tail.Gen.frame m ρ,
    fun m ρ _ => Cert.TailIdeal.Gen.frame m ρ,
    frame_Tail,
    IdealRules.named_const.statement Cert.KernelIdeal.κ "mask" .f32 0xF149F2CA#32 _ rfl,
    value,
    trivial,
    value_Ffn,
    trivial,
    value_Merge,
    trivial,
    value_OutLn,
    trivial,
    value_ProjV,
    trivial,
    value_Gates,
    trivial,
    value_Lat,
    trivial,
    value_Krope,
    trivial,
    value_QHeads,
    trivial,
    value_KvUp,
    trivial,
    value_Tail⟩

end Cert.Proof

end
